-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Close (m : (ℓ : Loc Cert.Close.nD Cert.Close.τ Cert.Close.sig) → Buf (Elt Bits) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteReferenceIdeal (m : (ℓ : Loc Cert.RouteReferenceIdeal.nD Cert.RouteReferenceIdeal.τ Cert.RouteReferenceIdeal.sig) → Buf (Elt Ideal) ℓ) : Prop :=
  True

def Pre_Modulate (m : (ℓ : Loc Cert.Modulate.nD Cert.Modulate.τ Cert.Modulate.sig) → Buf (Elt Bits) ℓ) : Prop :=
  True

def Pre_ModulateIdeal (m : (ℓ : Loc Cert.ModulateIdeal.nD Cert.ModulateIdeal.τ Cert.ModulateIdeal.sig) → Buf (Elt Ideal) ℓ) : Prop :=
  True

def Pre_ModulateReferenceIdeal (m : (ℓ : Loc Cert.ModulateReferenceIdeal.nD Cert.ModulateReferenceIdeal.τ Cert.ModulateReferenceIdeal.sig) → Buf (Elt Ideal) ℓ) : Prop :=
  True

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_FinishReferenceIdeal (m : (ℓ : Loc Cert.FinishReferenceIdeal.nD Cert.FinishReferenceIdeal.τ Cert.FinishReferenceIdeal.sig) → Buf (Elt Ideal) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6)
      ∧ r.2.mem ((c.tc : Thread Cert.Project.nD Cert.Project.τ).loc Cert.Project.main_arg7) = m ((c.tc : Thread Cert.Project.nD Cert.Project.τ).loc Cert.Project.main_arg7))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5)
      ∧ r.2.mem ((c.tc : Thread Cert.ProjectReferenceIdeal.nD Cert.ProjectReferenceIdeal.τ).loc Cert.ProjectReferenceIdeal.main_arg6) = m ((c.tc : Thread Cert.ProjectReferenceIdeal.nD Cert.ProjectReferenceIdeal.τ).loc Cert.ProjectReferenceIdeal.main_arg6)
      ∧ r.2.mem ((c.tc : Thread Cert.ProjectReferenceIdeal.nD Cert.ProjectReferenceIdeal.τ).loc Cert.ProjectReferenceIdeal.main_arg7) = m ((c.tc : Thread Cert.ProjectReferenceIdeal.nD Cert.ProjectReferenceIdeal.τ).loc Cert.ProjectReferenceIdeal.main_arg7))
      ∧ r.2.sem = fun _ => 0)

def quiescent_Close [hClose : Cert.Close.Facts] : Prop :=
  ∀ (m : (ℓ : Loc Cert.Close.nD Cert.Close.τ Cert.Close.sig) → Buf (Elt Bits) ℓ) (g : Dev Cert.Close.nD → PrngReg), Pre_Close m →
    θ_run (Cert.Close.defs (F := Bits)) (onTc (τ := Cert.Close.τ) (Cert.Close.main (F := Bits))) ⟨m, fun _ => 0, g⟩ (fun r => (∀ c : Dev Cert.Close.nD,
      r.2.mem ((c.tc : Thread Cert.Close.nD Cert.Close.τ).loc Cert.Close.main_arg0) = m ((c.tc : Thread Cert.Close.nD Cert.Close.τ).loc Cert.Close.main_arg0)
      ∧ r.2.mem ((c.tc : Thread Cert.Close.nD Cert.Close.τ).loc Cert.Close.main_arg1) = m ((c.tc : Thread Cert.Close.nD Cert.Close.τ).loc Cert.Close.main_arg1)
      ∧ r.2.mem ((c.tc : Thread Cert.Close.nD Cert.Close.τ).loc Cert.Close.main_arg2) = m ((c.tc : Thread Cert.Close.nD Cert.Close.τ).loc Cert.Close.main_arg2)
      ∧ r.2.mem ((c.tc : Thread Cert.Close.nD Cert.Close.τ).loc Cert.Close.main_arg3) = m ((c.tc : Thread Cert.Close.nD Cert.Close.τ).loc Cert.Close.main_arg3)
      ∧ r.2.mem ((c.tc : Thread Cert.Close.nD Cert.Close.τ).loc Cert.Close.main_arg4) = m ((c.tc : Thread Cert.Close.nD Cert.Close.τ).loc Cert.Close.main_arg4)
      ∧ r.2.mem ((c.tc : Thread Cert.Close.nD Cert.Close.τ).loc Cert.Close.main_arg5) = m ((c.tc : Thread Cert.Close.nD Cert.Close.τ).loc Cert.Close.main_arg5)
      ∧ r.2.mem ((c.tc : Thread Cert.Close.nD Cert.Close.τ).loc Cert.Close.main_arg6) = m ((c.tc : Thread Cert.Close.nD Cert.Close.τ).loc Cert.Close.main_arg6)
      ∧ r.2.mem ((c.tc : Thread Cert.Close.nD Cert.Close.τ).loc Cert.Close.main_arg7) = m ((c.tc : Thread Cert.Close.nD Cert.Close.τ).loc Cert.Close.main_arg7)
      ∧ r.2.mem ((c.tc : Thread Cert.Close.nD Cert.Close.τ).loc Cert.Close.main_arg8) = m ((c.tc : Thread Cert.Close.nD Cert.Close.τ).loc Cert.Close.main_arg8))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3)
      ∧ r.2.mem ((c.tc : Thread Cert.Route.nD Cert.Route.τ).loc Cert.Route.main_arg4) = m ((c.tc : Thread Cert.Route.nD Cert.Route.τ).loc Cert.Route.main_arg4)
      ∧ r.2.mem ((c.tc : Thread Cert.Route.nD Cert.Route.τ).loc Cert.Route.main_arg5) = m ((c.tc : Thread Cert.Route.nD Cert.Route.τ).loc Cert.Route.main_arg5)
      ∧ r.2.mem ((c.tc : Thread Cert.Route.nD Cert.Route.τ).loc Cert.Route.main_arg6) = m ((c.tc : Thread Cert.Route.nD Cert.Route.τ).loc Cert.Route.main_arg6)
      ∧ r.2.mem ((c.tc : Thread Cert.Route.nD Cert.Route.τ).loc Cert.Route.main_arg7) = m ((c.tc : Thread Cert.Route.nD Cert.Route.τ).loc Cert.Route.main_arg7)
      ∧ r.2.mem ((c.tc : Thread Cert.Route.nD Cert.Route.τ).loc Cert.Route.main_arg8) = m ((c.tc : Thread Cert.Route.nD Cert.Route.τ).loc Cert.Route.main_arg8))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
      ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5)
      ∧ r.2.mem ((c.tc : Thread Cert.RouteIdeal.nD Cert.RouteIdeal.τ).loc Cert.RouteIdeal.main_arg6) = m ((c.tc : Thread Cert.RouteIdeal.nD Cert.RouteIdeal.τ).loc Cert.RouteIdeal.main_arg6)
      ∧ r.2.mem ((c.tc : Thread Cert.RouteIdeal.nD Cert.RouteIdeal.τ).loc Cert.RouteIdeal.main_arg7) = m ((c.tc : Thread Cert.RouteIdeal.nD Cert.RouteIdeal.τ).loc Cert.RouteIdeal.main_arg7)
      ∧ r.2.mem ((c.tc : Thread Cert.RouteIdeal.nD Cert.RouteIdeal.τ).loc Cert.RouteIdeal.main_arg8) = m ((c.tc : Thread Cert.RouteIdeal.nD Cert.RouteIdeal.τ).loc Cert.RouteIdeal.main_arg8))
      ∧ r.2.sem = fun _ => 0)

def quiescent_RouteReferenceIdeal [hRouteReferenceIdeal : Cert.RouteReferenceIdeal.Facts] : Prop :=
  ∀ (m : (ℓ : Loc Cert.RouteReferenceIdeal.nD Cert.RouteReferenceIdeal.τ Cert.RouteReferenceIdeal.sig) → Buf (Elt Ideal) ℓ) (g : Dev Cert.RouteReferenceIdeal.nD → PrngReg), Pre_RouteReferenceIdeal m →
    θ_run (Cert.RouteReferenceIdeal.defs (F := Ideal)) (onTc (τ := Cert.RouteReferenceIdeal.τ) (Cert.RouteReferenceIdeal.main (F := Ideal))) ⟨m, fun _ => 0, g⟩ (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0)
      ∧ r.2.mem ((c.tc : Thread Cert.RouteReferenceIdeal.nD Cert.RouteReferenceIdeal.τ).loc Cert.RouteReferenceIdeal.main_arg1) = m ((c.tc : Thread Cert.RouteReferenceIdeal.nD Cert.RouteReferenceIdeal.τ).loc Cert.RouteReferenceIdeal.main_arg1)
      ∧ r.2.mem ((c.tc : Thread Cert.RouteReferenceIdeal.nD Cert.RouteReferenceIdeal.τ).loc Cert.RouteReferenceIdeal.main_arg2) = m ((c.tc : Thread Cert.RouteReferenceIdeal.nD Cert.RouteReferenceIdeal.τ).loc Cert.RouteReferenceIdeal.main_arg2)
      ∧ r.2.mem ((c.tc : Thread Cert.RouteReferenceIdeal.nD Cert.RouteReferenceIdeal.τ).loc Cert.RouteReferenceIdeal.main_arg3) = m ((c.tc : Thread Cert.RouteReferenceIdeal.nD Cert.RouteReferenceIdeal.τ).loc Cert.RouteReferenceIdeal.main_arg3)
      ∧ r.2.mem ((c.tc : Thread Cert.RouteReferenceIdeal.nD Cert.RouteReferenceIdeal.τ).loc Cert.RouteReferenceIdeal.main_arg4) = m ((c.tc : Thread Cert.RouteReferenceIdeal.nD Cert.RouteReferenceIdeal.τ).loc Cert.RouteReferenceIdeal.main_arg4)
      ∧ r.2.mem ((c.tc : Thread Cert.RouteReferenceIdeal.nD Cert.RouteReferenceIdeal.τ).loc Cert.RouteReferenceIdeal.main_arg5) = m ((c.tc : Thread Cert.RouteReferenceIdeal.nD Cert.RouteReferenceIdeal.τ).loc Cert.RouteReferenceIdeal.main_arg5)
      ∧ r.2.mem ((c.tc : Thread Cert.RouteReferenceIdeal.nD Cert.RouteReferenceIdeal.τ).loc Cert.RouteReferenceIdeal.main_arg6) = m ((c.tc : Thread Cert.RouteReferenceIdeal.nD Cert.RouteReferenceIdeal.τ).loc Cert.RouteReferenceIdeal.main_arg6)
      ∧ r.2.mem ((c.tc : Thread Cert.RouteReferenceIdeal.nD Cert.RouteReferenceIdeal.τ).loc Cert.RouteReferenceIdeal.main_arg7) = m ((c.tc : Thread Cert.RouteReferenceIdeal.nD Cert.RouteReferenceIdeal.τ).loc Cert.RouteReferenceIdeal.main_arg7)
      ∧ r.2.mem ((c.tc : Thread Cert.RouteReferenceIdeal.nD Cert.RouteReferenceIdeal.τ).loc Cert.RouteReferenceIdeal.main_arg8) = m ((c.tc : Thread Cert.RouteReferenceIdeal.nD Cert.RouteReferenceIdeal.τ).loc Cert.RouteReferenceIdeal.main_arg8))
      ∧ r.2.sem = fun _ => 0)

def quiescent_Modulate [hModulate : Cert.Modulate.Facts] : Prop :=
  ∀ (m : (ℓ : Loc Cert.Modulate.nD Cert.Modulate.τ Cert.Modulate.sig) → Buf (Elt Bits) ℓ) (g : Dev Cert.Modulate.nD → PrngReg), Pre_Modulate m →
    θ_run (Cert.Modulate.defs (F := Bits)) (onTc (τ := Cert.Modulate.τ) (Cert.Modulate.main (F := Bits))) ⟨m, fun _ => 0, g⟩ (fun r => (∀ c : Dev Cert.Modulate.nD,
      r.2.mem ((c.tc : Thread Cert.Modulate.nD Cert.Modulate.τ).loc Cert.Modulate.main_arg0) = m ((c.tc : Thread Cert.Modulate.nD Cert.Modulate.τ).loc Cert.Modulate.main_arg0)
      ∧ r.2.mem ((c.tc : Thread Cert.Modulate.nD Cert.Modulate.τ).loc Cert.Modulate.main_arg1) = m ((c.tc : Thread Cert.Modulate.nD Cert.Modulate.τ).loc Cert.Modulate.main_arg1)
      ∧ r.2.mem ((c.tc : Thread Cert.Modulate.nD Cert.Modulate.τ).loc Cert.Modulate.main_arg2) = m ((c.tc : Thread Cert.Modulate.nD Cert.Modulate.τ).loc Cert.Modulate.main_arg2)
      ∧ r.2.mem ((c.tc : Thread Cert.Modulate.nD Cert.Modulate.τ).loc Cert.Modulate.main_arg3) = m ((c.tc : Thread Cert.Modulate.nD Cert.Modulate.τ).loc Cert.Modulate.main_arg3))
      ∧ r.2.sem = fun _ => 0)

def quiescent_ModulateIdeal [hModulateIdeal : Cert.ModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg), Pre_ModulateIdeal m →
    θ_run (Cert.ModulateIdeal.defs (F := Ideal)) (onTc (τ := Cert.ModulateIdeal.τ) (Cert.ModulateIdeal.main (F := Ideal))) ⟨m, fun _ => 0, g⟩ (fun r => (∀ c : Dev Cert.ModulateIdeal.nD,
      r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
      ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
      ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2)
      ∧ r.2.mem ((c.tc : Thread Cert.ModulateIdeal.nD Cert.ModulateIdeal.τ).loc Cert.ModulateIdeal.main_arg3) = m ((c.tc : Thread Cert.ModulateIdeal.nD Cert.ModulateIdeal.τ).loc Cert.ModulateIdeal.main_arg3))
      ∧ r.2.sem = fun _ => 0)

def quiescent_ModulateReferenceIdeal [hModulateReferenceIdeal : Cert.ModulateReferenceIdeal.Facts] : Prop :=
  ∀ (m : (ℓ : Loc Cert.ModulateReferenceIdeal.nD Cert.ModulateReferenceIdeal.τ Cert.ModulateReferenceIdeal.sig) → Buf (Elt Ideal) ℓ) (g : Dev Cert.ModulateReferenceIdeal.nD → PrngReg), Pre_ModulateReferenceIdeal m →
    θ_run (Cert.ModulateReferenceIdeal.defs (F := Ideal)) (onTc (τ := Cert.ModulateReferenceIdeal.τ) (Cert.ModulateReferenceIdeal.main (F := Ideal))) ⟨m, fun _ => 0, g⟩ (fun r => (∀ c : Dev Cert.ModulateReferenceIdeal.nD,
      r.2.mem ((c.tc : Thread Cert.ModulateReferenceIdeal.nD Cert.ModulateReferenceIdeal.τ).loc Cert.ModulateReferenceIdeal.main_arg0) = m ((c.tc : Thread Cert.ModulateReferenceIdeal.nD Cert.ModulateReferenceIdeal.τ).loc Cert.ModulateReferenceIdeal.main_arg0)
      ∧ r.2.mem ((c.tc : Thread Cert.ModulateReferenceIdeal.nD Cert.ModulateReferenceIdeal.τ).loc Cert.ModulateReferenceIdeal.main_arg1) = m ((c.tc : Thread Cert.ModulateReferenceIdeal.nD Cert.ModulateReferenceIdeal.τ).loc Cert.ModulateReferenceIdeal.main_arg1)
      ∧ r.2.mem ((c.tc : Thread Cert.ModulateReferenceIdeal.nD Cert.ModulateReferenceIdeal.τ).loc Cert.ModulateReferenceIdeal.main_arg2) = m ((c.tc : Thread Cert.ModulateReferenceIdeal.nD Cert.ModulateReferenceIdeal.τ).loc Cert.ModulateReferenceIdeal.main_arg2)
      ∧ r.2.mem ((c.tc : Thread Cert.ModulateReferenceIdeal.nD Cert.ModulateReferenceIdeal.τ).loc Cert.ModulateReferenceIdeal.main_arg3) = m ((c.tc : Thread Cert.ModulateReferenceIdeal.nD Cert.ModulateReferenceIdeal.τ).loc Cert.ModulateReferenceIdeal.main_arg3))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4))
      ∧ r.2.sem = fun _ => 0)

def quiescent_FinishReferenceIdeal [hFinishReferenceIdeal : Cert.FinishReferenceIdeal.Facts] : Prop :=
  ∀ (m : (ℓ : Loc Cert.FinishReferenceIdeal.nD Cert.FinishReferenceIdeal.τ Cert.FinishReferenceIdeal.sig) → Buf (Elt Ideal) ℓ) (g : Dev Cert.FinishReferenceIdeal.nD → PrngReg), Pre_FinishReferenceIdeal m →
    θ_run (Cert.FinishReferenceIdeal.defs (F := Ideal)) (onTc (τ := Cert.FinishReferenceIdeal.τ) (Cert.FinishReferenceIdeal.main (F := Ideal))) ⟨m, fun _ => 0, g⟩ (fun r => (∀ c : Dev Cert.FinishReferenceIdeal.nD,
      r.2.mem ((c.tc : Thread Cert.FinishReferenceIdeal.nD Cert.FinishReferenceIdeal.τ).loc Cert.FinishReferenceIdeal.main_arg0) = m ((c.tc : Thread Cert.FinishReferenceIdeal.nD Cert.FinishReferenceIdeal.τ).loc Cert.FinishReferenceIdeal.main_arg0)
      ∧ r.2.mem ((c.tc : Thread Cert.FinishReferenceIdeal.nD Cert.FinishReferenceIdeal.τ).loc Cert.FinishReferenceIdeal.main_arg1) = m ((c.tc : Thread Cert.FinishReferenceIdeal.nD Cert.FinishReferenceIdeal.τ).loc Cert.FinishReferenceIdeal.main_arg1)
      ∧ r.2.mem ((c.tc : Thread Cert.FinishReferenceIdeal.nD Cert.FinishReferenceIdeal.τ).loc Cert.FinishReferenceIdeal.main_arg2) = m ((c.tc : Thread Cert.FinishReferenceIdeal.nD Cert.FinishReferenceIdeal.τ).loc Cert.FinishReferenceIdeal.main_arg2)
      ∧ r.2.mem ((c.tc : Thread Cert.FinishReferenceIdeal.nD Cert.FinishReferenceIdeal.τ).loc Cert.FinishReferenceIdeal.main_arg3) = m ((c.tc : Thread Cert.FinishReferenceIdeal.nD Cert.FinishReferenceIdeal.τ).loc Cert.FinishReferenceIdeal.main_arg3)
      ∧ r.2.mem ((c.tc : Thread Cert.FinishReferenceIdeal.nD Cert.FinishReferenceIdeal.τ).loc Cert.FinishReferenceIdeal.main_arg4) = m ((c.tc : Thread Cert.FinishReferenceIdeal.nD Cert.FinishReferenceIdeal.τ).loc Cert.FinishReferenceIdeal.main_arg4))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)
      ∧ m' ((c.tc : Thread Cert.ProjectReferenceIdeal.nD Cert.ProjectReferenceIdeal.τ).loc Cert.ProjectReferenceIdeal.main_arg6) = m ((c.tc : Thread Cert.ProjectIdeal.nD Cert.ProjectIdeal.τ).loc Cert.ProjectIdeal.main_arg6)
      ∧ m' ((c.tc : Thread Cert.ProjectReferenceIdeal.nD Cert.ProjectReferenceIdeal.τ).loc Cert.ProjectReferenceIdeal.main_arg7) = m ((c.tc : Thread Cert.ProjectIdeal.nD Cert.ProjectIdeal.τ).loc Cert.ProjectIdeal.main_arg7)) →
    ∃ (v0 : (c : Dev Cert.ProjectIdeal.nD) → Buf (Elt Ideal) ((c.tc : Thread Cert.ProjectIdeal.nD Cert.ProjectIdeal.τ).loc Cert.ProjectIdeal.main_v15_0)) (v1 : (c : Dev Cert.ProjectIdeal.nD) → Buf (Elt Ideal) ((c.tc : Thread Cert.ProjectIdeal.nD Cert.ProjectIdeal.τ).loc Cert.ProjectIdeal.main_v15_1)) (v2 : (c : Dev Cert.ProjectIdeal.nD) → Buf (Elt Ideal) ((c.tc : Thread Cert.ProjectIdeal.nD Cert.ProjectIdeal.τ).loc Cert.ProjectIdeal.main_v15_2)) (v3 : (c : Dev Cert.ProjectIdeal.nD) → Buf (Elt Ideal) ((c.tc : Thread Cert.ProjectIdeal.nD Cert.ProjectIdeal.τ).loc Cert.ProjectIdeal.main_v15_3)) (v4 : (c : Dev Cert.ProjectIdeal.nD) → Buf (Elt Ideal) ((c.tc : Thread Cert.ProjectIdeal.nD Cert.ProjectIdeal.τ).loc Cert.ProjectIdeal.main_v15_4)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v15_0) = v0 c
          ∧ r.2.mem ((c.tc : Thread Cert.ProjectIdeal.nD Cert.ProjectIdeal.τ).loc Cert.ProjectIdeal.main_v15_1) = v1 c
          ∧ r.2.mem ((c.tc : Thread Cert.ProjectIdeal.nD Cert.ProjectIdeal.τ).loc Cert.ProjectIdeal.main_v15_2) = v2 c
          ∧ r.2.mem ((c.tc : Thread Cert.ProjectIdeal.nD Cert.ProjectIdeal.τ).loc Cert.ProjectIdeal.main_v15_3) = v3 c
          ∧ r.2.mem ((c.tc : Thread Cert.ProjectIdeal.nD Cert.ProjectIdeal.τ).loc Cert.ProjectIdeal.main_v15_4) = v4 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
          ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v110) = v0 c
          ∧ r.2.mem ((c.tc : Thread Cert.ProjectReferenceIdeal.nD Cert.ProjectReferenceIdeal.τ).loc Cert.ProjectReferenceIdeal.main_v111) = v1 c
          ∧ r.2.mem ((c.tc : Thread Cert.ProjectReferenceIdeal.nD Cert.ProjectReferenceIdeal.τ).loc Cert.ProjectReferenceIdeal.main_v112) = v2 c
          ∧ r.2.mem ((c.tc : Thread Cert.ProjectReferenceIdeal.nD Cert.ProjectReferenceIdeal.τ).loc Cert.ProjectReferenceIdeal.main_v113) = v3 c
          ∧ r.2.mem ((c.tc : Thread Cert.ProjectReferenceIdeal.nD Cert.ProjectReferenceIdeal.τ).loc Cert.ProjectReferenceIdeal.main_v114) = v4 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5)
          ∧ r.2.mem ((c.tc : Thread Cert.ProjectReferenceIdeal.nD Cert.ProjectReferenceIdeal.τ).loc Cert.ProjectReferenceIdeal.main_arg6) = m' ((c.tc : Thread Cert.ProjectReferenceIdeal.nD Cert.ProjectReferenceIdeal.τ).loc Cert.ProjectReferenceIdeal.main_arg6)
          ∧ r.2.mem ((c.tc : Thread Cert.ProjectReferenceIdeal.nD Cert.ProjectReferenceIdeal.τ).loc Cert.ProjectReferenceIdeal.main_arg7) = m' ((c.tc : Thread Cert.ProjectReferenceIdeal.nD Cert.ProjectReferenceIdeal.τ).loc Cert.ProjectReferenceIdeal.main_arg7))

def preserves_Route_RouteIdeal : Prop :=
  IdealRules.named_const.Statement Cert.RouteIdeal.κ "mask" .f32 0xF149F2CA#32 ⊥

def algebraic_RouteIdeal_RouteReferenceIdeal [hRouteIdeal : Cert.RouteIdeal.Facts] [hRouteReferenceIdeal : Cert.RouteReferenceIdeal.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteReferenceIdeal.nD Cert.RouteReferenceIdeal.τ Cert.RouteReferenceIdeal.sig) → Buf (Elt Ideal) ℓ) (g' : Dev Cert.RouteReferenceIdeal.nD → PrngReg), Pre_RouteIdeal m →
    (∀ c : Dev Cert.RouteIdeal.nD,
      m' ((c.tc : Thread Cert.RouteReferenceIdeal.nD Cert.RouteReferenceIdeal.τ).loc Cert.RouteReferenceIdeal.main_arg0) = m ((c.tc : Thread Cert.RouteIdeal.nD Cert.RouteIdeal.τ).loc Cert.RouteIdeal.main_arg0)
      ∧ m' ((c.tc : Thread Cert.RouteReferenceIdeal.nD Cert.RouteReferenceIdeal.τ).loc Cert.RouteReferenceIdeal.main_arg1) = m ((c.tc : Thread Cert.RouteIdeal.nD Cert.RouteIdeal.τ).loc Cert.RouteIdeal.main_arg1)
      ∧ m' ((c.tc : Thread Cert.RouteReferenceIdeal.nD Cert.RouteReferenceIdeal.τ).loc Cert.RouteReferenceIdeal.main_arg2) = m ((c.tc : Thread Cert.RouteIdeal.nD Cert.RouteIdeal.τ).loc Cert.RouteIdeal.main_arg2)
      ∧ m' ((c.tc : Thread Cert.RouteReferenceIdeal.nD Cert.RouteReferenceIdeal.τ).loc Cert.RouteReferenceIdeal.main_arg3) = m ((c.tc : Thread Cert.RouteIdeal.nD Cert.RouteIdeal.τ).loc Cert.RouteIdeal.main_arg3)
      ∧ m' ((c.tc : Thread Cert.RouteReferenceIdeal.nD Cert.RouteReferenceIdeal.τ).loc Cert.RouteReferenceIdeal.main_arg4) = m ((c.tc : Thread Cert.RouteIdeal.nD Cert.RouteIdeal.τ).loc Cert.RouteIdeal.main_arg4)
      ∧ m' ((c.tc : Thread Cert.RouteReferenceIdeal.nD Cert.RouteReferenceIdeal.τ).loc Cert.RouteReferenceIdeal.main_arg5) = m ((c.tc : Thread Cert.RouteIdeal.nD Cert.RouteIdeal.τ).loc Cert.RouteIdeal.main_arg5)
      ∧ m' ((c.tc : Thread Cert.RouteReferenceIdeal.nD Cert.RouteReferenceIdeal.τ).loc Cert.RouteReferenceIdeal.main_arg6) = m ((c.tc : Thread Cert.RouteIdeal.nD Cert.RouteIdeal.τ).loc Cert.RouteIdeal.main_arg6)
      ∧ m' ((c.tc : Thread Cert.RouteReferenceIdeal.nD Cert.RouteReferenceIdeal.τ).loc Cert.RouteReferenceIdeal.main_arg7) = m ((c.tc : Thread Cert.RouteIdeal.nD Cert.RouteIdeal.τ).loc Cert.RouteIdeal.main_arg7)
      ∧ m' ((c.tc : Thread Cert.RouteReferenceIdeal.nD Cert.RouteReferenceIdeal.τ).loc Cert.RouteReferenceIdeal.main_arg8) = m ((c.tc : Thread Cert.RouteIdeal.nD Cert.RouteIdeal.τ).loc Cert.RouteIdeal.main_arg8)) →
    ∃ (v0 : (c : Dev Cert.RouteIdeal.nD) → Buf (Elt Ideal) ((c.tc : Thread Cert.RouteIdeal.nD Cert.RouteIdeal.τ).loc Cert.RouteIdeal.main_v2_0)) (v1 : (c : Dev Cert.RouteIdeal.nD) → Buf (Elt Ideal) ((c.tc : Thread Cert.RouteIdeal.nD Cert.RouteIdeal.τ).loc Cert.RouteIdeal.main_v2_1)) (v2 : (c : Dev Cert.RouteIdeal.nD) → Buf (Elt Ideal) ((c.tc : Thread Cert.RouteIdeal.nD Cert.RouteIdeal.τ).loc Cert.RouteIdeal.main_v2_2)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v2_0) = v0 c
          ∧ r.2.mem ((c.tc : Thread Cert.RouteIdeal.nD Cert.RouteIdeal.τ).loc Cert.RouteIdeal.main_v2_1) = v1 c
          ∧ r.2.mem ((c.tc : Thread Cert.RouteIdeal.nD Cert.RouteIdeal.τ).loc Cert.RouteIdeal.main_v2_2) = v2 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
          ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
          ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5)
          ∧ r.2.mem ((c.tc : Thread Cert.RouteIdeal.nD Cert.RouteIdeal.τ).loc Cert.RouteIdeal.main_arg6) = m ((c.tc : Thread Cert.RouteIdeal.nD Cert.RouteIdeal.τ).loc Cert.RouteIdeal.main_arg6)
          ∧ r.2.mem ((c.tc : Thread Cert.RouteIdeal.nD Cert.RouteIdeal.τ).loc Cert.RouteIdeal.main_arg7) = m ((c.tc : Thread Cert.RouteIdeal.nD Cert.RouteIdeal.τ).loc Cert.RouteIdeal.main_arg7)
          ∧ r.2.mem ((c.tc : Thread Cert.RouteIdeal.nD Cert.RouteIdeal.τ).loc Cert.RouteIdeal.main_arg8) = m ((c.tc : Thread Cert.RouteIdeal.nD Cert.RouteIdeal.τ).loc Cert.RouteIdeal.main_arg8))
      ∧ θ_run (Cert.RouteReferenceIdeal.defs (F := Ideal)) (onTc (τ := Cert.RouteReferenceIdeal.τ) (Cert.RouteReferenceIdeal.main (F := Ideal))) ⟨m', fun _ => 0, g'⟩ (fun r => ∀ c : Dev Cert.RouteReferenceIdeal.nD,
          r.2.mem ((c.tc : Thread Cert.RouteReferenceIdeal.nD Cert.RouteReferenceIdeal.τ).loc Cert.RouteReferenceIdeal.main_v30) = v0 c
          ∧ r.2.mem ((c.tc : Thread Cert.RouteReferenceIdeal.nD Cert.RouteReferenceIdeal.τ).loc Cert.RouteReferenceIdeal.main_v68) = v1 c
          ∧ r.2.mem ((c.tc : Thread Cert.RouteReferenceIdeal.nD Cert.RouteReferenceIdeal.τ).loc Cert.RouteReferenceIdeal.main_v69) = v2 c
          ∧ r.2.mem ((c.tc : Thread Cert.RouteReferenceIdeal.nD Cert.RouteReferenceIdeal.τ).loc Cert.RouteReferenceIdeal.main_arg0) = m' ((c.tc : Thread Cert.RouteReferenceIdeal.nD Cert.RouteReferenceIdeal.τ).loc Cert.RouteReferenceIdeal.main_arg0)
          ∧ r.2.mem ((c.tc : Thread Cert.RouteReferenceIdeal.nD Cert.RouteReferenceIdeal.τ).loc Cert.RouteReferenceIdeal.main_arg1) = m' ((c.tc : Thread Cert.RouteReferenceIdeal.nD Cert.RouteReferenceIdeal.τ).loc Cert.RouteReferenceIdeal.main_arg1)
          ∧ r.2.mem ((c.tc : Thread Cert.RouteReferenceIdeal.nD Cert.RouteReferenceIdeal.τ).loc Cert.RouteReferenceIdeal.main_arg2) = m' ((c.tc : Thread Cert.RouteReferenceIdeal.nD Cert.RouteReferenceIdeal.τ).loc Cert.RouteReferenceIdeal.main_arg2)
          ∧ r.2.mem ((c.tc : Thread Cert.RouteReferenceIdeal.nD Cert.RouteReferenceIdeal.τ).loc Cert.RouteReferenceIdeal.main_arg3) = m' ((c.tc : Thread Cert.RouteReferenceIdeal.nD Cert.RouteReferenceIdeal.τ).loc Cert.RouteReferenceIdeal.main_arg3)
          ∧ r.2.mem ((c.tc : Thread Cert.RouteReferenceIdeal.nD Cert.RouteReferenceIdeal.τ).loc Cert.RouteReferenceIdeal.main_arg4) = m' ((c.tc : Thread Cert.RouteReferenceIdeal.nD Cert.RouteReferenceIdeal.τ).loc Cert.RouteReferenceIdeal.main_arg4)
          ∧ r.2.mem ((c.tc : Thread Cert.RouteReferenceIdeal.nD Cert.RouteReferenceIdeal.τ).loc Cert.RouteReferenceIdeal.main_arg5) = m' ((c.tc : Thread Cert.RouteReferenceIdeal.nD Cert.RouteReferenceIdeal.τ).loc Cert.RouteReferenceIdeal.main_arg5)
          ∧ r.2.mem ((c.tc : Thread Cert.RouteReferenceIdeal.nD Cert.RouteReferenceIdeal.τ).loc Cert.RouteReferenceIdeal.main_arg6) = m' ((c.tc : Thread Cert.RouteReferenceIdeal.nD Cert.RouteReferenceIdeal.τ).loc Cert.RouteReferenceIdeal.main_arg6)
          ∧ r.2.mem ((c.tc : Thread Cert.RouteReferenceIdeal.nD Cert.RouteReferenceIdeal.τ).loc Cert.RouteReferenceIdeal.main_arg7) = m' ((c.tc : Thread Cert.RouteReferenceIdeal.nD Cert.RouteReferenceIdeal.τ).loc Cert.RouteReferenceIdeal.main_arg7)
          ∧ r.2.mem ((c.tc : Thread Cert.RouteReferenceIdeal.nD Cert.RouteReferenceIdeal.τ).loc Cert.RouteReferenceIdeal.main_arg8) = m' ((c.tc : Thread Cert.RouteReferenceIdeal.nD Cert.RouteReferenceIdeal.τ).loc Cert.RouteReferenceIdeal.main_arg8))

def preserves_Modulate_ModulateIdeal : Prop :=
  True

def algebraic_ModulateIdeal_ModulateReferenceIdeal [hModulateIdeal : Cert.ModulateIdeal.Facts] [hModulateReferenceIdeal : Cert.ModulateReferenceIdeal.Facts] : Prop :=
  ∀ (m : (ℓ : Loc Cert.ModulateIdeal.nD Cert.ModulateIdeal.τ Cert.ModulateIdeal.sig) → Buf (Elt Ideal) ℓ) (g : Dev Cert.ModulateIdeal.nD → PrngReg)
    (m' : (ℓ : Loc Cert.ModulateReferenceIdeal.nD Cert.ModulateReferenceIdeal.τ Cert.ModulateReferenceIdeal.sig) → Buf (Elt Ideal) ℓ) (g' : Dev Cert.ModulateReferenceIdeal.nD → PrngReg), Pre_ModulateIdeal m →
    (∀ c : Dev Cert.ModulateIdeal.nD,
      m' ((c.tc : Thread Cert.ModulateReferenceIdeal.nD Cert.ModulateReferenceIdeal.τ).loc Cert.ModulateReferenceIdeal.main_arg0) = m ((c.tc : Thread Cert.ModulateIdeal.nD Cert.ModulateIdeal.τ).loc Cert.ModulateIdeal.main_arg0)
      ∧ m' ((c.tc : Thread Cert.ModulateReferenceIdeal.nD Cert.ModulateReferenceIdeal.τ).loc Cert.ModulateReferenceIdeal.main_arg1) = m ((c.tc : Thread Cert.ModulateIdeal.nD Cert.ModulateIdeal.τ).loc Cert.ModulateIdeal.main_arg1)
      ∧ m' ((c.tc : Thread Cert.ModulateReferenceIdeal.nD Cert.ModulateReferenceIdeal.τ).loc Cert.ModulateReferenceIdeal.main_arg2) = m ((c.tc : Thread Cert.ModulateIdeal.nD Cert.ModulateIdeal.τ).loc Cert.ModulateIdeal.main_arg2)
      ∧ m' ((c.tc : Thread Cert.ModulateReferenceIdeal.nD Cert.ModulateReferenceIdeal.τ).loc Cert.ModulateReferenceIdeal.main_arg3) = m ((c.tc : Thread Cert.ModulateIdeal.nD Cert.ModulateIdeal.τ).loc Cert.ModulateIdeal.main_arg3)) →
    ∃ (v0 : (c : Dev Cert.ModulateIdeal.nD) → Buf (Elt Ideal) ((c.tc : Thread Cert.ModulateIdeal.nD Cert.ModulateIdeal.τ).loc Cert.ModulateIdeal.main_v6)),
      θ_run (Cert.ModulateIdeal.defs (F := Ideal)) (onTc (τ := Cert.ModulateIdeal.τ) (Cert.ModulateIdeal.main (F := Ideal))) ⟨m, fun _ => 0, g⟩ (fun r => ∀ c : Dev Cert.ModulateIdeal.nD,
          r.2.mem ((c.tc : Thread Cert.ModulateIdeal.nD Cert.ModulateIdeal.τ).loc Cert.ModulateIdeal.main_v6) = v0 c
          ∧ r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
          ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
          ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2)
          ∧ r.2.mem ((c.tc : Thread Cert.ModulateIdeal.nD Cert.ModulateIdeal.τ).loc Cert.ModulateIdeal.main_arg3) = m ((c.tc : Thread Cert.ModulateIdeal.nD Cert.ModulateIdeal.τ).loc Cert.ModulateIdeal.main_arg3))
      ∧ θ_run (Cert.ModulateReferenceIdeal.defs (F := Ideal)) (onTc (τ := Cert.ModulateReferenceIdeal.τ) (Cert.ModulateReferenceIdeal.main (F := Ideal))) ⟨m', fun _ => 0, g'⟩ (fun r => ∀ c : Dev Cert.ModulateReferenceIdeal.nD,
          r.2.mem ((c.tc : Thread Cert.ModulateReferenceIdeal.nD Cert.ModulateReferenceIdeal.τ).loc Cert.ModulateReferenceIdeal.main_v12) = v0 c
          ∧ r.2.mem ((c.tc : Thread Cert.ModulateReferenceIdeal.nD Cert.ModulateReferenceIdeal.τ).loc Cert.ModulateReferenceIdeal.main_arg0) = m' ((c.tc : Thread Cert.ModulateReferenceIdeal.nD Cert.ModulateReferenceIdeal.τ).loc Cert.ModulateReferenceIdeal.main_arg0)
          ∧ r.2.mem ((c.tc : Thread Cert.ModulateReferenceIdeal.nD Cert.ModulateReferenceIdeal.τ).loc Cert.ModulateReferenceIdeal.main_arg1) = m' ((c.tc : Thread Cert.ModulateReferenceIdeal.nD Cert.ModulateReferenceIdeal.τ).loc Cert.ModulateReferenceIdeal.main_arg1)
          ∧ r.2.mem ((c.tc : Thread Cert.ModulateReferenceIdeal.nD Cert.ModulateReferenceIdeal.τ).loc Cert.ModulateReferenceIdeal.main_arg2) = m' ((c.tc : Thread Cert.ModulateReferenceIdeal.nD Cert.ModulateReferenceIdeal.τ).loc Cert.ModulateReferenceIdeal.main_arg2)
          ∧ r.2.mem ((c.tc : Thread Cert.ModulateReferenceIdeal.nD Cert.ModulateReferenceIdeal.τ).loc Cert.ModulateReferenceIdeal.main_arg3) = m' ((c.tc : Thread Cert.ModulateReferenceIdeal.nD Cert.ModulateReferenceIdeal.τ).loc Cert.ModulateReferenceIdeal.main_arg3))

def preserves_Finish_FinishIdeal : Prop :=
  True

def algebraic_FinishIdeal_FinishReferenceIdeal [hFinishIdeal : Cert.FinishIdeal.Facts] [hFinishReferenceIdeal : Cert.FinishReferenceIdeal.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishReferenceIdeal.nD Cert.FinishReferenceIdeal.τ Cert.FinishReferenceIdeal.sig) → Buf (Elt Ideal) ℓ) (g' : Dev Cert.FinishReferenceIdeal.nD → PrngReg), Pre_FinishIdeal m →
    (∀ c : Dev Cert.FinishIdeal.nD,
      m' ((c.tc : Thread Cert.FinishReferenceIdeal.nD Cert.FinishReferenceIdeal.τ).loc Cert.FinishReferenceIdeal.main_arg0) = m ((c.tc : Thread Cert.FinishIdeal.nD Cert.FinishIdeal.τ).loc Cert.FinishIdeal.main_arg0)
      ∧ m' ((c.tc : Thread Cert.FinishReferenceIdeal.nD Cert.FinishReferenceIdeal.τ).loc Cert.FinishReferenceIdeal.main_arg1) = m ((c.tc : Thread Cert.FinishIdeal.nD Cert.FinishIdeal.τ).loc Cert.FinishIdeal.main_arg1)
      ∧ m' ((c.tc : Thread Cert.FinishReferenceIdeal.nD Cert.FinishReferenceIdeal.τ).loc Cert.FinishReferenceIdeal.main_arg2) = m ((c.tc : Thread Cert.FinishIdeal.nD Cert.FinishIdeal.τ).loc Cert.FinishIdeal.main_arg2)
      ∧ m' ((c.tc : Thread Cert.FinishReferenceIdeal.nD Cert.FinishReferenceIdeal.τ).loc Cert.FinishReferenceIdeal.main_arg3) = m ((c.tc : Thread Cert.FinishIdeal.nD Cert.FinishIdeal.τ).loc Cert.FinishIdeal.main_arg3)
      ∧ m' ((c.tc : Thread Cert.FinishReferenceIdeal.nD Cert.FinishReferenceIdeal.τ).loc Cert.FinishReferenceIdeal.main_arg4) = m ((c.tc : Thread Cert.FinishIdeal.nD Cert.FinishIdeal.τ).loc Cert.FinishIdeal.main_arg4)) →
    ∃ (v0 : (c : Dev Cert.FinishIdeal.nD) → Buf (Elt Ideal) ((c.tc : Thread Cert.FinishIdeal.nD Cert.FinishIdeal.τ).loc Cert.FinishIdeal.main_v1)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v1) = v0 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4))
      ∧ θ_run (Cert.FinishReferenceIdeal.defs (F := Ideal)) (onTc (τ := Cert.FinishReferenceIdeal.τ) (Cert.FinishReferenceIdeal.main (F := Ideal))) ⟨m', fun _ => 0, g'⟩ (fun r => ∀ c : Dev Cert.FinishReferenceIdeal.nD,
          r.2.mem ((c.tc : Thread Cert.FinishReferenceIdeal.nD Cert.FinishReferenceIdeal.τ).loc Cert.FinishReferenceIdeal.main_v29) = v0 c
          ∧ r.2.mem ((c.tc : Thread Cert.FinishReferenceIdeal.nD Cert.FinishReferenceIdeal.τ).loc Cert.FinishReferenceIdeal.main_arg0) = m' ((c.tc : Thread Cert.FinishReferenceIdeal.nD Cert.FinishReferenceIdeal.τ).loc Cert.FinishReferenceIdeal.main_arg0)
          ∧ r.2.mem ((c.tc : Thread Cert.FinishReferenceIdeal.nD Cert.FinishReferenceIdeal.τ).loc Cert.FinishReferenceIdeal.main_arg1) = m' ((c.tc : Thread Cert.FinishReferenceIdeal.nD Cert.FinishReferenceIdeal.τ).loc Cert.FinishReferenceIdeal.main_arg1)
          ∧ r.2.mem ((c.tc : Thread Cert.FinishReferenceIdeal.nD Cert.FinishReferenceIdeal.τ).loc Cert.FinishReferenceIdeal.main_arg2) = m' ((c.tc : Thread Cert.FinishReferenceIdeal.nD Cert.FinishReferenceIdeal.τ).loc Cert.FinishReferenceIdeal.main_arg2)
          ∧ r.2.mem ((c.tc : Thread Cert.FinishReferenceIdeal.nD Cert.FinishReferenceIdeal.τ).loc Cert.FinishReferenceIdeal.main_arg3) = m' ((c.tc : Thread Cert.FinishReferenceIdeal.nD Cert.FinishReferenceIdeal.τ).loc Cert.FinishReferenceIdeal.main_arg3)
          ∧ r.2.mem ((c.tc : Thread Cert.FinishReferenceIdeal.nD Cert.FinishReferenceIdeal.τ).loc Cert.FinishReferenceIdeal.main_arg4) = m' ((c.tc : Thread Cert.FinishReferenceIdeal.nD Cert.FinishReferenceIdeal.τ).loc Cert.FinishReferenceIdeal.main_arg4))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)) →
    ∃ (v0 : (c : Dev Cert.DenseIdeal.nD) → Buf (Elt Ideal) ((c.tc : Thread Cert.DenseIdeal.nD Cert.DenseIdeal.τ).loc Cert.DenseIdeal.main_v0)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v0) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v18) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hProjectReferenceIdeal : Cert.ProjectReferenceIdeal.Facts) (hClose : Cert.Close.Facts) (hRoute : Cert.Route.Facts) (hRouteIdeal : Cert.RouteIdeal.Facts) (hRouteReferenceIdeal : Cert.RouteReferenceIdeal.Facts) (hModulate : Cert.Modulate.Facts) (hModulateIdeal : Cert.ModulateIdeal.Facts) (hModulateReferenceIdeal : Cert.ModulateReferenceIdeal.Facts) (hFinish : Cert.Finish.Facts) (hFinishIdeal : Cert.FinishIdeal.Facts) (hFinishReferenceIdeal : Cert.FinishReferenceIdeal.Facts) (hDense : Cert.Dense.Facts) (hDenseIdeal : Cert.DenseIdeal.Facts) (hDenseReferenceIdeal : Cert.DenseReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Project (hProject := hProject)
    ∧ quiescent_ProjectIdeal (hProjectIdeal := hProjectIdeal)
    ∧ quiescent_ProjectReferenceIdeal (hProjectReferenceIdeal := hProjectReferenceIdeal)
    ∧ quiescent_Close (hClose := hClose)
    ∧ quiescent_Route (hRoute := hRoute)
    ∧ quiescent_RouteIdeal (hRouteIdeal := hRouteIdeal)
    ∧ quiescent_RouteReferenceIdeal (hRouteReferenceIdeal := hRouteReferenceIdeal)
    ∧ quiescent_Modulate (hModulate := hModulate)
    ∧ quiescent_ModulateIdeal (hModulateIdeal := hModulateIdeal)
    ∧ quiescent_ModulateReferenceIdeal (hModulateReferenceIdeal := hModulateReferenceIdeal)
    ∧ quiescent_Finish (hFinish := hFinish)
    ∧ quiescent_FinishIdeal (hFinishIdeal := hFinishIdeal)
    ∧ quiescent_FinishReferenceIdeal (hFinishReferenceIdeal := hFinishReferenceIdeal)
    ∧ quiescent_Dense (hDense := hDense)
    ∧ quiescent_DenseIdeal (hDenseIdeal := hDenseIdeal)
    ∧ quiescent_DenseReferenceIdeal (hDenseReferenceIdeal := hDenseReferenceIdeal)
    ∧ preserves_Kernel_KernelIdeal
    ∧ algebraic_KernelIdeal_ReferenceIdeal (hKernelIdeal := hKernelIdeal) (hReferenceIdeal := hReferenceIdeal) (hPre_in_range := hPre_in_range)
    ∧ preserves_Project_ProjectIdeal
    ∧ algebraic_ProjectIdeal_ProjectReferenceIdeal (hProjectIdeal := hProjectIdeal) (hProjectReferenceIdeal := hProjectReferenceIdeal)
    ∧ preserves_Route_RouteIdeal
    ∧ algebraic_RouteIdeal_RouteReferenceIdeal (hRouteIdeal := hRouteIdeal) (hRouteReferenceIdeal := hRouteReferenceIdeal)
    ∧ preserves_Modulate_ModulateIdeal
    ∧ algebraic_ModulateIdeal_ModulateReferenceIdeal (hModulateIdeal := hModulateIdeal) (hModulateReferenceIdeal := hModulateReferenceIdeal)
    ∧ preserves_Finish_FinishIdeal
    ∧ algebraic_FinishIdeal_FinishReferenceIdeal (hFinishIdeal := hFinishIdeal) (hFinishReferenceIdeal := hFinishReferenceIdeal)
    ∧ preserves_Dense_DenseIdeal
    ∧ algebraic_DenseIdeal_DenseReferenceIdeal (hDenseIdeal := hDenseIdeal) (hDenseReferenceIdeal := hDenseReferenceIdeal)
-- ==== Pre_in_range.lean ====
abbrev S4x16x1024 : Shape := ⟨3, ![4, 16, 1024]⟩
abbrev S4x8192x512 : Shape := ⟨3, ![4, 8192, 512]⟩
abbrev S2x16x1024x512 : Shape := ⟨4, ![2, 16, 1024, 512]⟩
abbrev S2x16x512x1024 : Shape := ⟨4, ![2, 16, 512, 1024]⟩
abbrev S_ : Shape := ⟨0, ![]⟩

class Facts : Prop where
  bcast_S_S4x16x1024 : S_.BroadcastsInDim S4x16x1024 (![] : Fin 0 → Fin S4x16x1024.rank)
  reducesTo_S4x16x1024_S_d0_1_2 : S4x16x1024.ReducesTo [0, 1, 2] S_
  h_S_ : 0 < S_.numel

variable [Facts]

def fn {F : FTy → Type} [FloatOps F] (main_arg0 : IVec S4x16x1024 32) (main_arg1 : IVec S4x8192x512 32) (main_arg2 : FVec F S2x16x1024x512 .f32) (main_arg3 : FVec F S2x16x1024x512 .f32) (main_arg4 : FVec F S2x16x512x1024 .f32) : IVec S_ 1 :=
  let main_c : IVec S_ 32 := constantI S_ 32 0#32
  let main_v0 : IVec S4x16x1024 32 := broadcastInDim S4x16x1024 ![] bcast_S_S4x16x1024 main_c
  let main_v1 : IVec S4x16x1024 1 := cmpi .sge main_arg0 main_v0
  let main_c_0 : IVec S_ 32 := constantI S_ 32 8192#32
  let main_v2 : IVec S4x16x1024 32 := broadcastInDim S4x16x1024 ![] bcast_S_S4x16x1024 main_c_0
  let main_v3 : IVec S4x16x1024 1 := cmpi .slt main_arg0 main_v2
  let main_v4 : IVec S4x16x1024 1 := andi main_v1 main_v3
  let main_c_1 : IVec S_ 1 := constantI S_ 1 1#1
  let main_v5 : IVec S_ 1 := (fun x v => Host.reduce IntOp.andi x v reducesTo_S4x16x1024_S_d0_1_2 h_S_) main_v4 main_c_1
  main_v5
-- ==== Kernel.lean ====
abbrev S4x16x1024 : Shape := ⟨3, ![4, 16, 1024]⟩
abbrev S4x8192x512 : Shape := ⟨3, ![4, 8192, 512]⟩
abbrev S2x16x1024x512 : Shape := ⟨4, ![2, 16, 1024, 512]⟩
abbrev S2x16x512x1024 : Shape := ⟨4, ![2, 16, 512, 1024]⟩
abbrev S64x1x1024 : Shape := ⟨3, ![64, 1, 1024]⟩
abbrev S4x16x1024x1024 : Shape := ⟨4, ![4, 16, 1024, 1024]⟩
abbrev S1x1x1024 : Shape := ⟨3, ![1, 1, 1024]⟩
abbrev S1x8192x512 : Shape := ⟨3, ![1, 8192, 512]⟩
abbrev S1x1x1024x512 : Shape := ⟨4, ![1, 1, 1024, 512]⟩
abbrev S1x1x512x1024 : Shape := ⟨4, ![1, 1, 512, 1024]⟩
abbrev S1x1x1024x1024 : Shape := ⟨4, ![1, 1, 1024, 1024]⟩
abbrev S128x8x512 : Shape := ⟨3, ![128, 8, 512]⟩
abbrev S1x1x1 : Shape := ⟨3, ![1, 1, 1]⟩
abbrev S1x1x512 : Shape := ⟨3, ![1, 1, 512]⟩
abbrev S1x512 : Shape := ⟨2, ![1, 512]⟩
abbrev S1024x512 : Shape := ⟨2, ![1024, 512]⟩
abbrev S1024x1024 : Shape := ⟨2, ![1024, 1024]⟩
abbrev S1x1x1024x256 : Shape := ⟨4, ![1, 1, 1024, 256]⟩
abbrev S1024x256 : Shape := ⟨2, ![1024, 256]⟩
abbrev S1x1x512x256 : Shape := ⟨4, ![1, 1, 512, 256]⟩
abbrev S512x256 : Shape := ⟨2, ![512, 256]⟩

abbrev nBuf : Space → Nat
  | .hbm => 8
  | .vmem => 11
  | .smem => 4
  | _ => 0

abbrev bufTy : (tb : Table) → Fin (tcTables nBuf tb) → BufTy
  | .hbm, ⟨0, _⟩ => ⟨S4x16x1024, .i32⟩
  | .hbm, ⟨1, _⟩ => ⟨S4x8192x512, .i32⟩
  | .hbm, ⟨2, _⟩ => ⟨S2x16x1024x512, .f32⟩
  | .hbm, ⟨3, _⟩ => ⟨S2x16x1024x512, .f32⟩
  | .hbm, ⟨4, _⟩ => ⟨S2x16x512x1024, .f32⟩
  | .hbm, ⟨5, _⟩ => ⟨S64x1x1024, .i32⟩
  | .hbm, ⟨6, _⟩ => ⟨S64x1x1024, .i32⟩
  | .hbm, ⟨7, _⟩ => ⟨S4x16x1024x1024, .f32⟩
  | .local _ .vmem, ⟨0, _⟩ => ⟨S1x8192x512, .i32⟩
  | .local _ .vmem, ⟨1, _⟩ => ⟨S1x1x1024x512, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x512x1024, .f32⟩
  | .local _ .vmem, ⟨6, _⟩ => ⟨S1x1x512x1024, .f32⟩
  | .local _ .vmem, ⟨7, _⟩ => ⟨S1x1x1024x1024, .f32⟩
  | .local _ .vmem, ⟨8, _⟩ => ⟨S1x1x1024x1024, .f32⟩
  | .local _ .vmem, ⟨9, _⟩ => ⟨S128x8x512, .i32⟩
  | .local _ .vmem, ⟨10, _⟩ => ⟨S128x8x512, .i32⟩
  | .local _ .smem, ⟨0, _⟩ => ⟨S1x1x1024, .i32⟩
  | .local _ .smem, ⟨1, _⟩ => ⟨S1x1x1024, .i32⟩
  | .local _ .smem, ⟨2, _⟩ => ⟨S1x1x1024, .i32⟩
  | .local _ .smem, ⟨3, _⟩ => ⟨S1x1x1024, .i32⟩
  | _, _ => ⟨S4x16x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_15 : BitVec 32 := 0#32
  let c128_i32 : BitVec 32 := 128#32
  let v29 : BitVec 32 := Scalar.addi c0_i32_15 c128_i32
  let c1_i32_16 : BitVec 32 := 1#32
  ⟨c0_i32_15, v29, c1_i32_16⟩
def k0_off1 (k0_t1 : Fin k0_t1_loop.trips) : Fin 3 → Nat :=
  let c0 : Index := 0#32
  let c0_19 : Index := 0#32
  let c0_i32_15 : BitVec 32 := 0#32
  let c1_i32_16 : BitVec 32 := 1#32
  let arg11 : BitVec 32 := Scf.iv c0_i32_15 c1_i32_16 k0_t1
  let c8_i32 : BitVec 32 := 8#32
  let v30 : BitVec 32 := Scalar.muli arg11 c8_i32
  let c0_i32_18 : BitVec 32 := 0#32
  let v31 : BitVec 32 := Scalar.addi v30 c0_i32_18
  let v32 : Index := Scalar.indexCast v31
  ![0, 0, v32.toNat]
def k0_off2 (v33 : BitVec 32) : Fin 3 → Nat :=
  let c0_20 : Index := 0#32
  let v34 : Index := Scalar.indexCast v33
  let c0_21 : Index := 0#32
  ![0, v34.toNat, 0]

def k0_chk1 (i : grid0.Coords) (v33 : BitVec 32) : Prop :=
  (∀ (k0_h1 : k0_cond1 i = 1#1), ∀ a, (k0_off2 v33) a + S1x1x512.size a ≤ S1x8192x512.size a)
theorem k0_off2_inb : ∀ (i : grid0.Coords) (v33 : BitVec 32) (k0_hw1 : k0_chk1 i v33), ∀ (k0_h1 : k0_cond1 i = 1#1), ∀ a, (k0_off2 v33) a + S1x1x512.size a ≤ S1x8192x512.size a := fun i v33 k0_hw1 k0_h1 => k0_hw1 k0_h1

def k0_off3 (k0_t1 : Fin k0_t1_loop.trips) : Fin 3 → Nat :=
  let c0_i32_15 : BitVec 32 := 0#32
  let c1_i32_16 : BitVec 32 := 1#32
  let arg11 : BitVec 32 := Scf.iv c0_i32_15 c1_i32_16 k0_t1
  let v37 : Index := Scalar.indexCast arg11
  let c0_22 : Index := 0#32
  let c0_23 : Index := 0#32
  ![v37.toNat, 0, 0]
def k0_off4 (k0_t1 : Fin k0_t1_loop.trips) : Fin 3 → Nat :=
  let c0_26 : Index := 0#32
  let c0_27 : Index := 0#32
  let c0_i32_15 : BitVec 32 := 0#32
  let c1_i32_16 : BitVec 32 := 1#32
  let arg11 : BitVec 32 := Scf.iv c0_i32_15 c1_i32_16 k0_t1
  let c8_i32_24 : BitVec 32 := 8#32
  let v41 : BitVec 32 := Scalar.muli arg11 c8_i32_24
  let c1_i32_25 : BitVec 32 := 1#32
  let v42 : BitVec 32 := Scalar.addi v41 c1_i32_25
  let v43 : Index := Scalar.indexCast v42
  ![0, 0, v43.toNat]
def k0_off5 (v44 : BitVec 32) : Fin 3 → Nat :=
  let c0_28 : Index := 0#32
  let v45 : Index := Scalar.indexCast v44
  let c0_29 : Index := 0#32
  ![0, v45.toNat, 0]

def k0_chk2 (i : grid0.Coords) (v44 : BitVec 32) : Prop :=
  (∀ (k0_h1 : k0_cond1 i = 1#1), ∀ a, (k0_off5 v44) a + S1x1x512.size a ≤ S1x8192x512.size a)
theorem k0_off5_inb : ∀ (i : grid0.Coords) (v44 : BitVec 32) (k0_hw2 : k0_chk2 i v44), ∀ (k0_h1 : k0_cond1 i = 1#1), ∀ a, (k0_off5 v44) a + S1x1x512.size a ≤ S1x8192x512.size a := fun i v44 k0_hw2 k0_h1 => k0_hw2 k0_h1

def k0_off6 (k0_t1 : Fin k0_t1_loop.trips) : Fin 3 → Nat :=
  let c0_i32_15 : BitVec 32 := 0#32
  let c1_i32_16 : BitVec 32 := 1#32
  let arg11 : BitVec 32 := Scf.iv c0_i32_15 c1_i32_16 k0_t1
  let v48 : Index := Scalar.indexCast arg11
  let c1 : Index := 1#32
  let c0_30 : Index := 0#32
  ![v48.toNat, 1, 0]
def k0_off7 (k0_t1 : Fin k0_t1_loop.trips) : Fin 3 → Nat :=
  let c0_33 : Index := 0#32
  let c0_34 : Index := 0#32
  let c0_i32_15 : BitVec 32 := 0#32
  let c1_i32_16 : BitVec 32 := 1#32
  let arg11 : BitVec 32 := Scf.iv c0_i32_15 c1_i32_16 k0_t1
  let c8_i32_31 : BitVec 32 := 8#32
  let v52 : BitVec 32 := Scalar.muli arg11 c8_i32_31
  let c2_i32_32 : BitVec 32 := 2#32
  let v53 : BitVec 32 := Scalar.addi v52 c2_i32_32
  let v54 : Index := Scalar.indexCast v53
  ![0, 0, v54.toNat]
def k0_off8 (v55 : BitVec 32) : Fin 3 → Nat :=
  let c0_35 : Index := 0#32
  let v56 : Index := Scalar.indexCast v55
  let c0_36 : Index := 0#32
  ![0, v56.toNat, 0]

def k0_chk3 (i : grid0.Coords) (v55 : BitVec 32) : Prop :=
  (∀ (k0_h1 : k0_cond1 i = 1#1), ∀ a, (k0_off8 v55) a + S1x1x512.size a ≤ S1x8192x512.size a)
theorem k0_off8_inb : ∀ (i : grid0.Coords) (v55 : BitVec 32) (k0_hw3 : k0_chk3 i v55), ∀ (k0_h1 : k0_cond1 i = 1#1), ∀ a, (k0_off8 v55) a + S1x1x512.size a ≤ S1x8192x512.size a := fun i v55 k0_hw3 k0_h1 => k0_hw3 k0_h1

def k0_off9 (k0_t1 : Fin k0_t1_loop.trips) : Fin 3 → Nat :=
  let c0_i32_15 : BitVec 32 := 0#32
  let c1_i32_16 : BitVec 32 := 1#32
  let arg11 : BitVec 32 := Scf.iv c0_i32_15 c1_i32_16 k0_t1
  let v59 : Index := Scalar.indexCast arg11
  let c2 : Index := 2#32
  let c0_37 : Index := 0#32
  ![v59.toNat, 2, 0]
def k0_off10 (k0_t1 : Fin k0_t1_loop.trips) : Fin 3 → Nat :=
  let c0_39 : Index := 0#32
  let c0_40 : Index := 0#32
  let c0_i32_15 : BitVec 32 := 0#32
  let c1_i32_16 : BitVec 32 := 1#32
  let arg11 : BitVec 32 := Scf.iv c0_i32_15 c1_i32_16 k0_t1
  let c8_i32_38 : BitVec 32 := 8#32
  let v63 : BitVec 32 := Scalar.muli arg11 c8_i32_38
  let c3_i32 : BitVec 32 := 3#32
  let v64 : BitVec 32 := Scalar.addi v63 c3_i32
  let v65 : Index := Scalar.indexCast v64
  ![0, 0, v65.toNat]
def k0_off11 (v66 : BitVec 32) : Fin 3 → Nat :=
  let c0_41 : Index := 0#32
  let v67 : Index := Scalar.indexCast v66
  let c0_42 : Index := 0#32
  ![0, v67.toNat, 0]

def k0_chk4 (i : grid0.Coords) (v66 : BitVec 32) : Prop :=
  (∀ (k0_h1 : k0_cond1 i = 1#1), ∀ a, (k0_off11 v66) a + S1x1x512.size a ≤ S1x8192x512.size a)
theorem k0_off11_inb : ∀ (i : grid0.Coords) (v66 : BitVec 32) (k0_hw4 : k0_chk4 i v66), ∀ (k0_h1 : k0_cond1 i = 1#1), ∀ a, (k0_off11 v66) a + S1x1x512.size a ≤ S1x8192x512.size a := fun i v66 k0_hw4 k0_h1 => k0_hw4 k0_h1

def k0_off12 (k0_t1 : Fin k0_t1_loop.trips) : Fin 3 → Nat :=
  let c0_i32_15 : BitVec 32 := 0#32
  let c1_i32_16 : BitVec 32 := 1#32
  let arg11 : BitVec 32 := Scf.iv c0_i32_15 c1_i32_16 k0_t1
  let v70 : Index := Scalar.indexCast arg11
  let c3 : Index := 3#32
  let c0_43 : Index := 0#32
  ![v70.toNat, 3, 0]
def k0_off13 (k0_t1 : Fin k0_t1_loop.trips) : Fin 3 → Nat :=
  let c0_45 : Index := 0#32
  let c0_46 : Index := 0#32
  let c0_i32_15 : BitVec 32 := 0#32
  let c1_i32_16 : BitVec 32 := 1#32
  let arg11 : BitVec 32 := Scf.iv c0_i32_15 c1_i32_16 k0_t1
  let c8_i32_44 : BitVec 32 := 8#32
  let v74 : BitVec 32 := Scalar.muli arg11 c8_i32_44
  let c4_i32 : BitVec 32 := 4#32
  let v75 : BitVec 32 := Scalar.addi v74 c4_i32
  let v76 : Index := Scalar.indexCast v75
  ![0, 0, v76.toNat]
def k0_off14 (v77 : BitVec 32) : Fin 3 → Nat :=
  let c0_47 : Index := 0#32
  let v78 : Index := Scalar.indexCast v77
  let c0_48 : Index := 0#32
  ![0, v78.toNat, 0]

def k0_chk5 (i : grid0.Coords) (v77 : BitVec 32) : Prop :=
  (∀ (k0_h1 : k0_cond1 i = 1#1), ∀ a, (k0_off14 v77) a + S1x1x512.size a ≤ S1x8192x512.size a)
theorem k0_off14_inb : ∀ (i : grid0.Coords) (v77 : BitVec 32) (k0_hw5 : k0_chk5 i v77), ∀ (k0_h1 : k0_cond1 i = 1#1), ∀ a, (k0_off14 v77) a + S1x1x512.size a ≤ S1x8192x512.size a := fun i v77 k0_hw5 k0_h1 => k0_hw5 k0_h1

def k0_off15 (k0_t1 : Fin k0_t1_loop.trips) : Fin 3 → Nat :=
  let c0_i32_15 : BitVec 32 := 0#32
  let c1_i32_16 : BitVec 32 := 1#32
  let arg11 : BitVec 32 := Scf.iv c0_i32_15 c1_i32_16 k0_t1
  let v81 : Index := Scalar.indexCast arg11
  let c4 : Index := 4#32
  let c0_49 : Index := 0#32
  ![v81.toNat, 4, 0]
def k0_off16 (k0_t1 : Fin k0_t1_loop.trips) : Fin 3 → Nat :=
  let c0_51 : Index := 0#32
  let c0_52 : Index := 0#32
  let c0_i32_15 : BitVec 32 := 0#32
  let c1_i32_16 : BitVec 32 := 1#32
  let arg11 : BitVec 32 := Scf.iv c0_i32_15 c1_i32_16 k0_t1
  let c8_i32_50 : BitVec 32 := 8#32
  let v85 : BitVec 32 := Scalar.muli arg11 c8_i32_50
  let c5_i32 : BitVec 32 := 5#32
  let v86 : BitVec 32 := Scalar.addi v85 c5_i32
  let v87 : Index := Scalar.indexCast v86
  ![0, 0, v87.toNat]
def k0_off17 (v88 : BitVec 32) : Fin 3 → Nat :=
  let c0_53 : Index := 0#32
  let v89 : Index := Scalar.indexCast v88
  let c0_54 : Index := 0#32
  ![0, v89.toNat, 0]

def k0_chk6 (i : grid0.Coords) (v88 : BitVec 32) : Prop :=
  (∀ (k0_h1 : k0_cond1 i = 1#1), ∀ a, (k0_off17 v88) a + S1x1x512.size a ≤ S1x8192x512.size a)
theorem k0_off17_inb : ∀ (i : grid0.Coords) (v88 : BitVec 32) (k0_hw6 : k0_chk6 i v88), ∀ (k0_h1 : k0_cond1 i = 1#1), ∀ a, (k0_off17 v88) a + S1x1x512.size a ≤ S1x8192x512.size a := fun i v88 k0_hw6 k0_h1 => k0_hw6 k0_h1

def k0_off18 (k0_t1 : Fin k0_t1_loop.trips) : Fin 3 → Nat :=
  let c0_i32_15 : BitVec 32 := 0#32
  let c1_i32_16 : BitVec 32 := 1#32
  let arg11 : BitVec 32 := Scf.iv c0_i32_15 c1_i32_16 k0_t1
  let v92 : Index := Scalar.indexCast arg11
  let c5 : Index := 5#32
  let c0_55 : Index := 0#32
  ![v92.toNat, 5, 0]
def k0_off19 (k0_t1 : Fin k0_t1_loop.trips) : Fin 3 → Nat :=
  let c0_57 : Index := 0#32
  let c0_58 : Index := 0#32
  let c0_i32_15 : BitVec 32 := 0#32
  let c1_i32_16 : BitVec 32 := 1#32
  let arg11 : BitVec 32 := Scf.iv c0_i32_15 c1_i32_16 k0_t1
  let c8_i32_56 : BitVec 32 := 8#32
  let v96 : BitVec 32 := Scalar.muli arg11 c8_i32_56
  let c6_i32 : BitVec 32 := 6#32
  let v97 : BitVec 32 := Scalar.addi v96 c6_i32
  let v98 : Index := Scalar.indexCast v97
  ![0, 0, v98.toNat]
def k0_off20 (v99 : BitVec 32) : Fin 3 → Nat :=
  let c0_59 : Index := 0#32
  let v100 : Index := Scalar.indexCast v99
  let c0_60 : Index := 0#32
  ![0, v100.toNat, 0]

def k0_chk7 (i : grid0.Coords) (v99 : BitVec 32) : Prop :=
  (∀ (k0_h1 : k0_cond1 i = 1#1), ∀ a, (k0_off20 v99) a + S1x1x512.size a ≤ S1x8192x512.size a)
theorem k0_off20_inb : ∀ (i : grid0.Coords) (v99 : BitVec 32) (k0_hw7 : k0_chk7 i v99), ∀ (k0_h1 : k0_cond1 i = 1#1), ∀ a, (k0_off20 v99) a + S1x1x512.size a ≤ S1x8192x512.size a := fun i v99 k0_hw7 k0_h1 => k0_hw7 k0_h1

def k0_off21 (k0_t1 : Fin k0_t1_loop.trips) : Fin 3 → Nat :=
  let c0_i32_15 : BitVec 32 := 0#32
  let c1_i32_16 : BitVec 32 := 1#32
  let arg11 : BitVec 32 := Scf.iv c0_i32_15 c1_i32_16 k0_t1
  let v103 : Index := Scalar.indexCast arg11
  let c6 : Index := 6#32
  let c0_61 : Index := 0#32
  ![v103.toNat, 6, 0]
def k0_off22 (k0_t1 : Fin k0_t1_loop.trips) : Fin 3 → Nat :=
  let c0_63 : Index := 0#32
  let c0_64 : Index := 0#32
  let c0_i32_15 : BitVec 32 := 0#32
  let c1_i32_16 : BitVec 32 := 1#32
  let arg11 : BitVec 32 := Scf.iv c0_i32_15 c1_i32_16 k0_t1
  let c8_i32_62 : BitVec 32 := 8#32
  let v107 : BitVec 32 := Scalar.muli arg11 c8_i32_62
  let c7_i32 : BitVec 32 := 7#32
  let v108 : BitVec 32 := Scalar.addi v107 c7_i32
  let v109 : Index := Scalar.indexCast v108
  ![0, 0, v109.toNat]
def k0_off23 (v110 : BitVec 32) : Fin 3 → Nat :=
  let c0_65 : Index := 0#32
  let v111 : Index := Scalar.indexCast v110
  let c0_66 : Index := 0#32
  ![0, v111.toNat, 0]

def k0_chk8 (i : grid0.Coords) (v110 : BitVec 32) : Prop :=
  (∀ (k0_h1 : k0_cond1 i = 1#1), ∀ a, (k0_off23 v110) a + S1x1x512.size a ≤ S1x8192x512.size a)
theorem k0_off23_inb : ∀ (i : grid0.Coords) (v110 : BitVec 32) (k0_hw8 : k0_chk8 i v110), ∀ (k0_h1 : k0_cond1 i = 1#1), ∀ a, (k0_off23 v110) a + S1x1x512.size a ≤ S1x8192x512.size a := fun i v110 k0_hw8 k0_h1 => k0_hw8 k0_h1

def k0_off24 (k0_t1 : Fin k0_t1_loop.trips) : Fin 3 → Nat :=
  let c0_i32_15 : BitVec 32 := 0#32
  let c1_i32_16 : BitVec 32 := 1#32
  let arg11 : BitVec 32 := Scf.iv c0_i32_15 c1_i32_16 k0_t1
  let v114 : Index := Scalar.indexCast arg11
  let c7 : Index := 7#32
  let c0_67 : Index := 0#32
  ![v114.toNat, 7, 0]
def k0_cond2 (i : grid0.Coords) : BitVec 1 :=
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

@[reducible] def k0_t2_loop : Scf.Loop 32 :=
  let c0_i32_21 : BitVec 32 := 0#32
  let c16_i32 : BitVec 32 := 16#32
  let v40 : BitVec 32 := Scalar.addi c0_i32_21 c16_i32
  let c1_i32_22 : BitVec 32 := 1#32
  ⟨c0_i32_21, v40, c1_i32_22⟩
def k0_off25 (k0_t2 : Fin k0_t2_loop.trips) : Fin 3 → Nat :=
  let c0_95 : Index := 0#32
  let c0_96 : Index := 0#32
  let c0_i32_21 : BitVec 32 := 0#32
  let c1_i32_22 : BitVec 32 := 1#32
  let arg11 : BitVec 32 := Scf.iv c0_i32_21 c1_i32_22 k0_t2
  let c8_i32 : BitVec 32 := 8#32
  let v97 : BitVec 32 := Scalar.muli arg11 c8_i32
  let c0_i32_94 : BitVec 32 := 0#32
  let v98 : BitVec 32 := Scalar.addi v97 c0_i32_94
  let v99 : Index := Scalar.indexCast v98
  ![0, 0, v99.toNat]
def k0_off26 (v100 : BitVec 32) : Fin 3 → Nat :=
  let c0_97 : Index := 0#32
  let v101 : Index := Scalar.indexCast v100
  let c0_98 : Index := 0#32
  ![0, v101.toNat, 0]

def k0_chk9 (i : grid0.Coords) (v100 : BitVec 32) : Prop :=
  (∀ (k0_h2 : k0_cond2 i = 1#1), ∀ a, (k0_off26 v100) a + S1x1x512.size a ≤ S1x8192x512.size a)
theorem k0_off26_inb : ∀ (i : grid0.Coords) (v100 : BitVec 32) (k0_hw9 : k0_chk9 i v100), ∀ (k0_h2 : k0_cond2 i = 1#1), ∀ a, (k0_off26 v100) a + S1x1x512.size a ≤ S1x8192x512.size a := fun i v100 k0_hw9 k0_h2 => k0_hw9 k0_h2

def k0_off27 (k0_t2 : Fin k0_t2_loop.trips) : Fin 3 → Nat :=
  let c0_i32_21 : BitVec 32 := 0#32
  let c1_i32_22 : BitVec 32 := 1#32
  let arg11 : BitVec 32 := Scf.iv c0_i32_21 c1_i32_22 k0_t2
  let v104 : Index := Scalar.indexCast arg11
  let c0_99 : Index := 0#32
  let c0_100 : Index := 0#32
  ![v104.toNat, 0, 0]
def k0_off28 (k0_t2 : Fin k0_t2_loop.trips) : Fin 3 → Nat :=
  let c0_103 : Index := 0#32
  let c0_104 : Index := 0#32
  let c0_i32_21 : BitVec 32 := 0#32
  let c1_i32_22 : BitVec 32 := 1#32
  let arg11 : BitVec 32 := Scf.iv c0_i32_21 c1_i32_22 k0_t2
  let c8_i32_101 : BitVec 32 := 8#32
  let v108 : BitVec 32 := Scalar.muli arg11 c8_i32_101
  let c1_i32_102 : BitVec 32 := 1#32
  let v109 : BitVec 32 := Scalar.addi v108 c1_i32_102
  let v110 : Index := Scalar.indexCast v109
  ![0, 0, v110.toNat]
def k0_off29 (v111 : BitVec 32) : Fin 3 → Nat :=
  let c0_105 : Index := 0#32
  let v112 : Index := Scalar.indexCast v111
  let c0_106 : Index := 0#32
  ![0, v112.toNat, 0]

def k0_chk10 (i : grid0.Coords) (v111 : BitVec 32) : Prop :=
  (∀ (k0_h2 : k0_cond2 i = 1#1), ∀ a, (k0_off29 v111) a + S1x1x512.size a ≤ S1x8192x512.size a)
theorem k0_off29_inb : ∀ (i : grid0.Coords) (v111 : BitVec 32) (k0_hw10 : k0_chk10 i v111), ∀ (k0_h2 : k0_cond2 i = 1#1), ∀ a, (k0_off29 v111) a + S1x1x512.size a ≤ S1x8192x512.size a := fun i v111 k0_hw10 k0_h2 => k0_hw10 k0_h2

def k0_off30 (k0_t2 : Fin k0_t2_loop.trips) : Fin 3 → Nat :=
  let c0_i32_21 : BitVec 32 := 0#32
  let c1_i32_22 : BitVec 32 := 1#32
  let arg11 : BitVec 32 := Scf.iv c0_i32_21 c1_i32_22 k0_t2
  let v115 : Index := Scalar.indexCast arg11
  let c1 : Index := 1#32
  let c0_107 : Index := 0#32
  ![v115.toNat, 1, 0]
def k0_off31 (k0_t2 : Fin k0_t2_loop.trips) : Fin 3 → Nat :=
  let c0_110 : Index := 0#32
  let c0_111 : Index := 0#32
  let c0_i32_21 : BitVec 32 := 0#32
  let c1_i32_22 : BitVec 32 := 1#32
  let arg11 : BitVec 32 := Scf.iv c0_i32_21 c1_i32_22 k0_t2
  let c8_i32_108 : BitVec 32 := 8#32
  let v119 : BitVec 32 := Scalar.muli arg11 c8_i32_108
  let c2_i32_109 : BitVec 32 := 2#32
  let v120 : BitVec 32 := Scalar.addi v119 c2_i32_109
  let v121 : Index := Scalar.indexCast v120
  ![0, 0, v121.toNat]
def k0_off32 (v122 : BitVec 32) : Fin 3 → Nat :=
  let c0_112 : Index := 0#32
  let v123 : Index := Scalar.indexCast v122
  let c0_113 : Index := 0#32
  ![0, v123.toNat, 0]

def k0_chk11 (i : grid0.Coords) (v122 : BitVec 32) : Prop :=
  (∀ (k0_h2 : k0_cond2 i = 1#1), ∀ a, (k0_off32 v122) a + S1x1x512.size a ≤ S1x8192x512.size a)
theorem k0_off32_inb : ∀ (i : grid0.Coords) (v122 : BitVec 32) (k0_hw11 : k0_chk11 i v122), ∀ (k0_h2 : k0_cond2 i = 1#1), ∀ a, (k0_off32 v122) a + S1x1x512.size a ≤ S1x8192x512.size a := fun i v122 k0_hw11 k0_h2 => k0_hw11 k0_h2

def k0_off33 (k0_t2 : Fin k0_t2_loop.trips) : Fin 3 → Nat :=
  let c0_i32_21 : BitVec 32 := 0#32
  let c1_i32_22 : BitVec 32 := 1#32
  let arg11 : BitVec 32 := Scf.iv c0_i32_21 c1_i32_22 k0_t2
  let v126 : Index := Scalar.indexCast arg11
  let c2 : Index := 2#32
  let c0_114 : Index := 0#32
  ![v126.toNat, 2, 0]
def k0_off34 (k0_t2 : Fin k0_t2_loop.trips) : Fin 3 → Nat :=
  let c0_116 : Index := 0#32
  let c0_117 : Index := 0#32
  let c0_i32_21 : BitVec 32 := 0#32
  let c1_i32_22 : BitVec 32 := 1#32
  let arg11 : BitVec 32 := Scf.iv c0_i32_21 c1_i32_22 k0_t2
  let c8_i32_115 : BitVec 32 := 8#32
  let v130 : BitVec 32 := Scalar.muli arg11 c8_i32_115
  let c3_i32 : BitVec 32 := 3#32
  let v131 : BitVec 32 := Scalar.addi v130 c3_i32
  let v132 : Index := Scalar.indexCast v131
  ![0, 0, v132.toNat]
def k0_off35 (v133 : BitVec 32) : Fin 3 → Nat :=
  let c0_118 : Index := 0#32
  let v134 : Index := Scalar.indexCast v133
  let c0_119 : Index := 0#32
  ![0, v134.toNat, 0]

def k0_chk12 (i : grid0.Coords) (v133 : BitVec 32) : Prop :=
  (∀ (k0_h2 : k0_cond2 i = 1#1), ∀ a, (k0_off35 v133) a + S1x1x512.size a ≤ S1x8192x512.size a)
theorem k0_off35_inb : ∀ (i : grid0.Coords) (v133 : BitVec 32) (k0_hw12 : k0_chk12 i v133), ∀ (k0_h2 : k0_cond2 i = 1#1), ∀ a, (k0_off35 v133) a + S1x1x512.size a ≤ S1x8192x512.size a := fun i v133 k0_hw12 k0_h2 => k0_hw12 k0_h2

def k0_off36 (k0_t2 : Fin k0_t2_loop.trips) : Fin 3 → Nat :=
  let c0_i32_21 : BitVec 32 := 0#32
  let c1_i32_22 : BitVec 32 := 1#32
  let arg11 : BitVec 32 := Scf.iv c0_i32_21 c1_i32_22 k0_t2
  let v137 : Index := Scalar.indexCast arg11
  let c3 : Index := 3#32
  let c0_120 : Index := 0#32
  ![v137.toNat, 3, 0]
def k0_off37 (k0_t2 : Fin k0_t2_loop.trips) : Fin 3 → Nat :=
  let c0_122 : Index := 0#32
  let c0_123 : Index := 0#32
  let c0_i32_21 : BitVec 32 := 0#32
  let c1_i32_22 : BitVec 32 := 1#32
  let arg11 : BitVec 32 := Scf.iv c0_i32_21 c1_i32_22 k0_t2
  let c8_i32_121 : BitVec 32 := 8#32
  let v141 : BitVec 32 := Scalar.muli arg11 c8_i32_121
  let c4_i32 : BitVec 32 := 4#32
  let v142 : BitVec 32 := Scalar.addi v141 c4_i32
  let v143 : Index := Scalar.indexCast v142
  ![0, 0, v143.toNat]
def k0_off38 (v144 : BitVec 32) : Fin 3 → Nat :=
  let c0_124 : Index := 0#32
  let v145 : Index := Scalar.indexCast v144
  let c0_125 : Index := 0#32
  ![0, v145.toNat, 0]

def k0_chk13 (i : grid0.Coords) (v144 : BitVec 32) : Prop :=
  (∀ (k0_h2 : k0_cond2 i = 1#1), ∀ a, (k0_off38 v144) a + S1x1x512.size a ≤ S1x8192x512.size a)
theorem k0_off38_inb : ∀ (i : grid0.Coords) (v144 : BitVec 32) (k0_hw13 : k0_chk13 i v144), ∀ (k0_h2 : k0_cond2 i = 1#1), ∀ a, (k0_off38 v144) a + S1x1x512.size a ≤ S1x8192x512.size a := fun i v144 k0_hw13 k0_h2 => k0_hw13 k0_h2

def k0_off39 (k0_t2 : Fin k0_t2_loop.trips) : Fin 3 → Nat :=
  let c0_i32_21 : BitVec 32 := 0#32
  let c1_i32_22 : BitVec 32 := 1#32
  let arg11 : BitVec 32 := Scf.iv c0_i32_21 c1_i32_22 k0_t2
  let v148 : Index := Scalar.indexCast arg11
  let c4 : Index := 4#32
  let c0_126 : Index := 0#32
  ![v148.toNat, 4, 0]
def k0_off40 (k0_t2 : Fin k0_t2_loop.trips) : Fin 3 → Nat :=
  let c0_128 : Index := 0#32
  let c0_129 : Index := 0#32
  let c0_i32_21 : BitVec 32 := 0#32
  let c1_i32_22 : BitVec 32 := 1#32
  let arg11 : BitVec 32 := Scf.iv c0_i32_21 c1_i32_22 k0_t2
  let c8_i32_127 : BitVec 32 := 8#32
  let v152 : BitVec 32 := Scalar.muli arg11 c8_i32_127
  let c5_i32 : BitVec 32 := 5#32
  let v153 : BitVec 32 := Scalar.addi v152 c5_i32
  let v154 : Index := Scalar.indexCast v153
  ![0, 0, v154.toNat]
def k0_off41 (v155 : BitVec 32) : Fin 3 → Nat :=
  let c0_130 : Index := 0#32
  let v156 : Index := Scalar.indexCast v155
  let c0_131 : Index := 0#32
  ![0, v156.toNat, 0]

def k0_chk14 (i : grid0.Coords) (v155 : BitVec 32) : Prop :=
  (∀ (k0_h2 : k0_cond2 i = 1#1), ∀ a, (k0_off41 v155) a + S1x1x512.size a ≤ S1x8192x512.size a)
theorem k0_off41_inb : ∀ (i : grid0.Coords) (v155 : BitVec 32) (k0_hw14 : k0_chk14 i v155), ∀ (k0_h2 : k0_cond2 i = 1#1), ∀ a, (k0_off41 v155) a + S1x1x512.size a ≤ S1x8192x512.size a := fun i v155 k0_hw14 k0_h2 => k0_hw14 k0_h2

def k0_off42 (k0_t2 : Fin k0_t2_loop.trips) : Fin 3 → Nat :=
  let c0_i32_21 : BitVec 32 := 0#32
  let c1_i32_22 : BitVec 32 := 1#32
  let arg11 : BitVec 32 := Scf.iv c0_i32_21 c1_i32_22 k0_t2
  let v159 : Index := Scalar.indexCast arg11
  let c5 : Index := 5#32
  let c0_132 : Index := 0#32
  ![v159.toNat, 5, 0]
def k0_off43 (k0_t2 : Fin k0_t2_loop.trips) : Fin 3 → Nat :=
  let c0_134 : Index := 0#32
  let c0_135 : Index := 0#32
  let c0_i32_21 : BitVec 32 := 0#32
  let c1_i32_22 : BitVec 32 := 1#32
  let arg11 : BitVec 32 := Scf.iv c0_i32_21 c1_i32_22 k0_t2
  let c8_i32_133 : BitVec 32 := 8#32
  let v163 : BitVec 32 := Scalar.muli arg11 c8_i32_133
  let c6_i32 : BitVec 32 := 6#32
  let v164 : BitVec 32 := Scalar.addi v163 c6_i32
  let v165 : Index := Scalar.indexCast v164
  ![0, 0, v165.toNat]
def k0_off44 (v166 : BitVec 32) : Fin 3 → Nat :=
  let c0_136 : Index := 0#32
  let v167 : Index := Scalar.indexCast v166
  let c0_137 : Index := 0#32
  ![0, v167.toNat, 0]

def k0_chk15 (i : grid0.Coords) (v166 : BitVec 32) : Prop :=
  (∀ (k0_h2 : k0_cond2 i = 1#1), ∀ a, (k0_off44 v166) a + S1x1x512.size a ≤ S1x8192x512.size a)
theorem k0_off44_inb : ∀ (i : grid0.Coords) (v166 : BitVec 32) (k0_hw15 : k0_chk15 i v166), ∀ (k0_h2 : k0_cond2 i = 1#1), ∀ a, (k0_off44 v166) a + S1x1x512.size a ≤ S1x8192x512.size a := fun i v166 k0_hw15 k0_h2 => k0_hw15 k0_h2

def k0_off45 (k0_t2 : Fin k0_t2_loop.trips) : Fin 3 → Nat :=
  let c0_i32_21 : BitVec 32 := 0#32
  let c1_i32_22 : BitVec 32 := 1#32
  let arg11 : BitVec 32 := Scf.iv c0_i32_21 c1_i32_22 k0_t2
  let v170 : Index := Scalar.indexCast arg11
  let c6 : Index := 6#32
  let c0_138 : Index := 0#32
  ![v170.toNat, 6, 0]
def k0_off46 (k0_t2 : Fin k0_t2_loop.trips) : Fin 3 → Nat :=
  let c0_140 : Index := 0#32
  let c0_141 : Index := 0#32
  let c0_i32_21 : BitVec 32 := 0#32
  let c1_i32_22 : BitVec 32 := 1#32
  let arg11 : BitVec 32 := Scf.iv c0_i32_21 c1_i32_22 k0_t2
  let c8_i32_139 : BitVec 32 := 8#32
  let v174 : BitVec 32 := Scalar.muli arg11 c8_i32_139
  let c7_i32 : BitVec 32 := 7#32
  let v175 : BitVec 32 := Scalar.addi v174 c7_i32
  let v176 : Index := Scalar.indexCast v175
  ![0, 0, v176.toNat]
def k0_off47 (v177 : BitVec 32) : Fin 3 → Nat :=
  let c0_142 : Index := 0#32
  let v178 : Index := Scalar.indexCast v177
  let c0_143 : Index := 0#32
  ![0, v178.toNat, 0]

def k0_chk16 (i : grid0.Coords) (v177 : BitVec 32) : Prop :=
  (∀ (k0_h2 : k0_cond2 i = 1#1), ∀ a, (k0_off47 v177) a + S1x1x512.size a ≤ S1x8192x512.size a)
theorem k0_off47_inb : ∀ (i : grid0.Coords) (v177 : BitVec 32) (k0_hw16 : k0_chk16 i v177), ∀ (k0_h2 : k0_cond2 i = 1#1), ∀ a, (k0_off47 v177) a + S1x1x512.size a ≤ S1x8192x512.size a := fun i v177 k0_hw16 k0_h2 => k0_hw16 k0_h2

def k0_off48 (k0_t2 : Fin k0_t2_loop.trips) : Fin 3 → Nat :=
  let c0_i32_21 : BitVec 32 := 0#32
  let c1_i32_22 : BitVec 32 := 1#32
  let arg11 : BitVec 32 := Scf.iv c0_i32_21 c1_i32_22 k0_t2
  let v181 : Index := Scalar.indexCast arg11
  let c7 : Index := 7#32
  let c0_144 : Index := 0#32
  ![v181.toNat, 7, 0]
@[reducible] def k0_t3_loop : Scf.Loop 32 :=
  let c16_i32_29 : BitVec 32 := 16#32
  let c16_i32_30 : BitVec 32 := 16#32
  let v45 : BitVec 32 := Scalar.addi c16_i32_29 c16_i32_30
  let c1_i32_31 : BitVec 32 := 1#32
  ⟨c16_i32_29, v45, c1_i32_31⟩
def k0_off49 (k0_t3 : Fin k0_t3_loop.trips) : Fin 3 → Nat :=
  let c0_95 : Index := 0#32
  let c0_96 : Index := 0#32
  let c16_i32_29 : BitVec 32 := 16#32
  let c1_i32_31 : BitVec 32 := 1#32
  let arg11 : BitVec 32 := Scf.iv c16_i32_29 c1_i32_31 k0_t3
  let c8_i32 : BitVec 32 := 8#32
  let v97 : BitVec 32 := Scalar.muli arg11 c8_i32
  let c0_i32_94 : BitVec 32 := 0#32
  let v98 : BitVec 32 := Scalar.addi v97 c0_i32_94
  let v99 : Index := Scalar.indexCast v98
  ![0, 0, v99.toNat]
def k0_off50 (v100 : BitVec 32) : Fin 3 → Nat :=
  let c0_97 : Index := 0#32
  let v101 : Index := Scalar.indexCast v100
  let c0_98 : Index := 0#32
  ![0, v101.toNat, 0]

def k0_chk17 (i : grid0.Coords) (v100 : BitVec 32) : Prop :=
  (∀ (k0_h2 : k0_cond2 i = 1#1), ∀ a, (k0_off50 v100) a + S1x1x512.size a ≤ S1x8192x512.size a)
theorem k0_off50_inb : ∀ (i : grid0.Coords) (v100 : BitVec 32) (k0_hw17 : k0_chk17 i v100), ∀ (k0_h2 : k0_cond2 i = 1#1), ∀ a, (k0_off50 v100) a + S1x1x512.size a ≤ S1x8192x512.size a := fun i v100 k0_hw17 k0_h2 => k0_hw17 k0_h2

def k0_off51 (k0_t3 : Fin k0_t3_loop.trips) : Fin 3 → Nat :=
  let c16_i32_29 : BitVec 32 := 16#32
  let c1_i32_31 : BitVec 32 := 1#32
  let arg11 : BitVec 32 := Scf.iv c16_i32_29 c1_i32_31 k0_t3
  let v104 : Index := Scalar.indexCast arg11
  let c0_99 : Index := 0#32
  let c0_100 : Index := 0#32
  ![v104.toNat, 0, 0]
def k0_off52 (k0_t3 : Fin k0_t3_loop.trips) : Fin 3 → Nat :=
  let c0_103 : Index := 0#32
  let c0_104 : Index := 0#32
  let c16_i32_29 : BitVec 32 := 16#32
  let c1_i32_31 : BitVec 32 := 1#32
  let arg11 : BitVec 32 := Scf.iv c16_i32_29 c1_i32_31 k0_t3
  let c8_i32_101 : BitVec 32 := 8#32
  let v108 : BitVec 32 := Scalar.muli arg11 c8_i32_101
  let c1_i32_102 : BitVec 32 := 1#32
  let v109 : BitVec 32 := Scalar.addi v108 c1_i32_102
  let v110 : Index := Scalar.indexCast v109
  ![0, 0, v110.toNat]
def k0_off53 (v111 : BitVec 32) : Fin 3 → Nat :=
  let c0_105 : Index := 0#32
  let v112 : Index := Scalar.indexCast v111
  let c0_106 : Index := 0#32
  ![0, v112.toNat, 0]

def k0_chk18 (i : grid0.Coords) (v111 : BitVec 32) : Prop :=
  (∀ (k0_h2 : k0_cond2 i = 1#1), ∀ a, (k0_off53 v111) a + S1x1x512.size a ≤ S1x8192x512.size a)
theorem k0_off53_inb : ∀ (i : grid0.Coords) (v111 : BitVec 32) (k0_hw18 : k0_chk18 i v111), ∀ (k0_h2 : k0_cond2 i = 1#1), ∀ a, (k0_off53 v111) a + S1x1x512.size a ≤ S1x8192x512.size a := fun i v111 k0_hw18 k0_h2 => k0_hw18 k0_h2

def k0_off54 (k0_t3 : Fin k0_t3_loop.trips) : Fin 3 → Nat :=
  let c16_i32_29 : BitVec 32 := 16#32
  let c1_i32_31 : BitVec 32 := 1#32
  let arg11 : BitVec 32 := Scf.iv c16_i32_29 c1_i32_31 k0_t3
  let v115 : Index := Scalar.indexCast arg11
  let c1 : Index := 1#32
  let c0_107 : Index := 0#32
  ![v115.toNat, 1, 0]
def k0_off55 (k0_t3 : Fin k0_t3_loop.trips) : Fin 3 → Nat :=
  let c0_110 : Index := 0#32
  let c0_111 : Index := 0#32
  let c16_i32_29 : BitVec 32 := 16#32
  let c1_i32_31 : BitVec 32 := 1#32
  let arg11 : BitVec 32 := Scf.iv c16_i32_29 c1_i32_31 k0_t3
  let c8_i32_108 : BitVec 32 := 8#32
  let v119 : BitVec 32 := Scalar.muli arg11 c8_i32_108
  let c2_i32_109 : BitVec 32 := 2#32
  let v120 : BitVec 32 := Scalar.addi v119 c2_i32_109
  let v121 : Index := Scalar.indexCast v120
  ![0, 0, v121.toNat]
def k0_off56 (v122 : BitVec 32) : Fin 3 → Nat :=
  let c0_112 : Index := 0#32
  let v123 : Index := Scalar.indexCast v122
  let c0_113 : Index := 0#32
  ![0, v123.toNat, 0]

def k0_chk19 (i : grid0.Coords) (v122 : BitVec 32) : Prop :=
  (∀ (k0_h2 : k0_cond2 i = 1#1), ∀ a, (k0_off56 v122) a + S1x1x512.size a ≤ S1x8192x512.size a)
theorem k0_off56_inb : ∀ (i : grid0.Coords) (v122 : BitVec 32) (k0_hw19 : k0_chk19 i v122), ∀ (k0_h2 : k0_cond2 i = 1#1), ∀ a, (k0_off56 v122) a + S1x1x512.size a ≤ S1x8192x512.size a := fun i v122 k0_hw19 k0_h2 => k0_hw19 k0_h2

def k0_off57 (k0_t3 : Fin k0_t3_loop.trips) : Fin 3 → Nat :=
  let c16_i32_29 : BitVec 32 := 16#32
  let c1_i32_31 : BitVec 32 := 1#32
  let arg11 : BitVec 32 := Scf.iv c16_i32_29 c1_i32_31 k0_t3
  let v126 : Index := Scalar.indexCast arg11
  let c2 : Index := 2#32
  let c0_114 : Index := 0#32
  ![v126.toNat, 2, 0]
def k0_off58 (k0_t3 : Fin k0_t3_loop.trips) : Fin 3 → Nat :=
  let c0_116 : Index := 0#32
  let c0_117 : Index := 0#32
  let c16_i32_29 : BitVec 32 := 16#32
  let c1_i32_31 : BitVec 32 := 1#32
  let arg11 : BitVec 32 := Scf.iv c16_i32_29 c1_i32_31 k0_t3
  let c8_i32_115 : BitVec 32 := 8#32
  let v130 : BitVec 32 := Scalar.muli arg11 c8_i32_115
  let c3_i32 : BitVec 32 := 3#32
  let v131 : BitVec 32 := Scalar.addi v130 c3_i32
  let v132 : Index := Scalar.indexCast v131
  ![0, 0, v132.toNat]
def k0_off59 (v133 : BitVec 32) : Fin 3 → Nat :=
  let c0_118 : Index := 0#32
  let v134 : Index := Scalar.indexCast v133
  let c0_119 : Index := 0#32
  ![0, v134.toNat, 0]

def k0_chk20 (i : grid0.Coords) (v133 : BitVec 32) : Prop :=
  (∀ (k0_h2 : k0_cond2 i = 1#1), ∀ a, (k0_off59 v133) a + S1x1x512.size a ≤ S1x8192x512.size a)
theorem k0_off59_inb : ∀ (i : grid0.Coords) (v133 : BitVec 32) (k0_hw20 : k0_chk20 i v133), ∀ (k0_h2 : k0_cond2 i = 1#1), ∀ a, (k0_off59 v133) a + S1x1x512.size a ≤ S1x8192x512.size a := fun i v133 k0_hw20 k0_h2 => k0_hw20 k0_h2

def k0_off60 (k0_t3 : Fin k0_t3_loop.trips) : Fin 3 → Nat :=
  let c16_i32_29 : BitVec 32 := 16#32
  let c1_i32_31 : BitVec 32 := 1#32
  let arg11 : BitVec 32 := Scf.iv c16_i32_29 c1_i32_31 k0_t3
  let v137 : Index := Scalar.indexCast arg11
  let c3 : Index := 3#32
  let c0_120 : Index := 0#32
  ![v137.toNat, 3, 0]
def k0_off61 (k0_t3 : Fin k0_t3_loop.trips) : Fin 3 → Nat :=
  let c0_122 : Index := 0#32
  let c0_123 : Index := 0#32
  let c16_i32_29 : BitVec 32 := 16#32
  let c1_i32_31 : BitVec 32 := 1#32
  let arg11 : BitVec 32 := Scf.iv c16_i32_29 c1_i32_31 k0_t3
  let c8_i32_121 : BitVec 32 := 8#32
  let v141 : BitVec 32 := Scalar.muli arg11 c8_i32_121
  let c4_i32 : BitVec 32 := 4#32
  let v142 : BitVec 32 := Scalar.addi v141 c4_i32
  let v143 : Index := Scalar.indexCast v142
  ![0, 0, v143.toNat]
def k0_off62 (v144 : BitVec 32) : Fin 3 → Nat :=
  let c0_124 : Index := 0#32
  let v145 : Index := Scalar.indexCast v144
  let c0_125 : Index := 0#32
  ![0, v145.toNat, 0]

def k0_chk21 (i : grid0.Coords) (v144 : BitVec 32) : Prop :=
  (∀ (k0_h2 : k0_cond2 i = 1#1), ∀ a, (k0_off62 v144) a + S1x1x512.size a ≤ S1x8192x512.size a)
theorem k0_off62_inb : ∀ (i : grid0.Coords) (v144 : BitVec 32) (k0_hw21 : k0_chk21 i v144), ∀ (k0_h2 : k0_cond2 i = 1#1), ∀ a, (k0_off62 v144) a + S1x1x512.size a ≤ S1x8192x512.size a := fun i v144 k0_hw21 k0_h2 => k0_hw21 k0_h2

def k0_off63 (k0_t3 : Fin k0_t3_loop.trips) : Fin 3 → Nat :=
  let c16_i32_29 : BitVec 32 := 16#32
  let c1_i32_31 : BitVec 32 := 1#32
  let arg11 : BitVec 32 := Scf.iv c16_i32_29 c1_i32_31 k0_t3
  let v148 : Index := Scalar.indexCast arg11
  let c4 : Index := 4#32
  let c0_126 : Index := 0#32
  ![v148.toNat, 4, 0]
def k0_off64 (k0_t3 : Fin k0_t3_loop.trips) : Fin 3 → Nat :=
  let c0_128 : Index := 0#32
  let c0_129 : Index := 0#32
  let c16_i32_29 : BitVec 32 := 16#32
  let c1_i32_31 : BitVec 32 := 1#32
  let arg11 : BitVec 32 := Scf.iv c16_i32_29 c1_i32_31 k0_t3
  let c8_i32_127 : BitVec 32 := 8#32
  let v152 : BitVec 32 := Scalar.muli arg11 c8_i32_127
  let c5_i32 : BitVec 32 := 5#32
  let v153 : BitVec 32 := Scalar.addi v152 c5_i32
  let v154 : Index := Scalar.indexCast v153
  ![0, 0, v154.toNat]
def k0_off65 (v155 : BitVec 32) : Fin 3 → Nat :=
  let c0_130 : Index := 0#32
  let v156 : Index := Scalar.indexCast v155
  let c0_131 : Index := 0#32
  ![0, v156.toNat, 0]

def k0_chk22 (i : grid0.Coords) (v155 : BitVec 32) : Prop :=
  (∀ (k0_h2 : k0_cond2 i = 1#1), ∀ a, (k0_off65 v155) a + S1x1x512.size a ≤ S1x8192x512.size a)
theorem k0_off65_inb : ∀ (i : grid0.Coords) (v155 : BitVec 32) (k0_hw22 : k0_chk22 i v155), ∀ (k0_h2 : k0_cond2 i = 1#1), ∀ a, (k0_off65 v155) a + S1x1x512.size a ≤ S1x8192x512.size a := fun i v155 k0_hw22 k0_h2 => k0_hw22 k0_h2

def k0_off66 (k0_t3 : Fin k0_t3_loop.trips) : Fin 3 → Nat :=
  let c16_i32_29 : BitVec 32 := 16#32
  let c1_i32_31 : BitVec 32 := 1#32
  let arg11 : BitVec 32 := Scf.iv c16_i32_29 c1_i32_31 k0_t3
  let v159 : Index := Scalar.indexCast arg11
  let c5 : Index := 5#32
  let c0_132 : Index := 0#32
  ![v159.toNat, 5, 0]
def k0_off67 (k0_t3 : Fin k0_t3_loop.trips) : Fin 3 → Nat :=
  let c0_134 : Index := 0#32
  let c0_135 : Index := 0#32
  let c16_i32_29 : BitVec 32 := 16#32
  let c1_i32_31 : BitVec 32 := 1#32
  let arg11 : BitVec 32 := Scf.iv c16_i32_29 c1_i32_31 k0_t3
  let c8_i32_133 : BitVec 32 := 8#32
  let v163 : BitVec 32 := Scalar.muli arg11 c8_i32_133
  let c6_i32 : BitVec 32 := 6#32
  let v164 : BitVec 32 := Scalar.addi v163 c6_i32
  let v165 : Index := Scalar.indexCast v164
  ![0, 0, v165.toNat]
def k0_off68 (v166 : BitVec 32) : Fin 3 → Nat :=
  let c0_136 : Index := 0#32
  let v167 : Index := Scalar.indexCast v166
  let c0_137 : Index := 0#32
  ![0, v167.toNat, 0]

def k0_chk23 (i : grid0.Coords) (v166 : BitVec 32) : Prop :=
  (∀ (k0_h2 : k0_cond2 i = 1#1), ∀ a, (k0_off68 v166) a + S1x1x512.size a ≤ S1x8192x512.size a)
theorem k0_off68_inb : ∀ (i : grid0.Coords) (v166 : BitVec 32) (k0_hw23 : k0_chk23 i v166), ∀ (k0_h2 : k0_cond2 i = 1#1), ∀ a, (k0_off68 v166) a + S1x1x512.size a ≤ S1x8192x512.size a := fun i v166 k0_hw23 k0_h2 => k0_hw23 k0_h2

def k0_off69 (k0_t3 : Fin k0_t3_loop.trips) : Fin 3 → Nat :=
  let c16_i32_29 : BitVec 32 := 16#32
  let c1_i32_31 : BitVec 32 := 1#32
  let arg11 : BitVec 32 := Scf.iv c16_i32_29 c1_i32_31 k0_t3
  let v170 : Index := Scalar.indexCast arg11
  let c6 : Index := 6#32
  let c0_138 : Index := 0#32
  ![v170.toNat, 6, 0]
def k0_off70 (k0_t3 : Fin k0_t3_loop.trips) : Fin 3 → Nat :=
  let c0_140 : Index := 0#32
  let c0_141 : Index := 0#32
  let c16_i32_29 : BitVec 32 := 16#32
  let c1_i32_31 : BitVec 32 := 1#32
  let arg11 : BitVec 32 := Scf.iv c16_i32_29 c1_i32_31 k0_t3
  let c8_i32_139 : BitVec 32 := 8#32
  let v174 : BitVec 32 := Scalar.muli arg11 c8_i32_139
  let c7_i32 : BitVec 32 := 7#32
  let v175 : BitVec 32 := Scalar.addi v174 c7_i32
  let v176 : Index := Scalar.indexCast v175
  ![0, 0, v176.toNat]
def k0_off71 (v177 : BitVec 32) : Fin 3 → Nat :=
  let c0_142 : Index := 0#32
  let v178 : Index := Scalar.indexCast v177
  let c0_143 : Index := 0#32
  ![0, v178.toNat, 0]

def k0_chk24 (i : grid0.Coords) (v177 : BitVec 32) : Prop :=
  (∀ (k0_h2 : k0_cond2 i = 1#1), ∀ a, (k0_off71 v177) a + S1x1x512.size a ≤ S1x8192x512.size a)
theorem k0_off71_inb : ∀ (i : grid0.Coords) (v177 : BitVec 32) (k0_hw24 : k0_chk24 i v177), ∀ (k0_h2 : k0_cond2 i = 1#1), ∀ a, (k0_off71 v177) a + S1x1x512.size a ≤ S1x8192x512.size a := fun i v177 k0_hw24 k0_h2 => k0_hw24 k0_h2

def k0_off72 (k0_t3 : Fin k0_t3_loop.trips) : Fin 3 → Nat :=
  let c16_i32_29 : BitVec 32 := 16#32
  let c1_i32_31 : BitVec 32 := 1#32
  let arg11 : BitVec 32 := Scf.iv c16_i32_29 c1_i32_31 k0_t3
  let v181 : Index := Scalar.indexCast arg11
  let c7 : Index := 7#32
  let c0_144 : Index := 0#32
  ![v181.toNat, 7, 0]
@[reducible] def k0_t4_loop : Scf.Loop 32 :=
  let c32_i32 : BitVec 32 := 32#32
  let c16_i32_37 : BitVec 32 := 16#32
  let v54 : BitVec 32 := Scalar.addi c32_i32 c16_i32_37
  let c1_i32_38 : BitVec 32 := 1#32
  ⟨c32_i32, v54, c1_i32_38⟩
def k0_off73 (k0_t4 : Fin k0_t4_loop.trips) : Fin 3 → Nat :=
  let c0_95 : Index := 0#32
  let c0_96 : Index := 0#32
  let c32_i32 : BitVec 32 := 32#32
  let c1_i32_38 : BitVec 32 := 1#32
  let arg11 : BitVec 32 := Scf.iv c32_i32 c1_i32_38 k0_t4
  let c8_i32 : BitVec 32 := 8#32
  let v97 : BitVec 32 := Scalar.muli arg11 c8_i32
  let c0_i32_94 : BitVec 32 := 0#32
  let v98 : BitVec 32 := Scalar.addi v97 c0_i32_94
  let v99 : Index := Scalar.indexCast v98
  ![0, 0, v99.toNat]
def k0_off74 (v100 : BitVec 32) : Fin 3 → Nat :=
  let c0_97 : Index := 0#32
  let v101 : Index := Scalar.indexCast v100
  let c0_98 : Index := 0#32
  ![0, v101.toNat, 0]

def k0_chk25 (i : grid0.Coords) (v100 : BitVec 32) : Prop :=
  (∀ (k0_h2 : k0_cond2 i = 1#1), ∀ a, (k0_off74 v100) a + S1x1x512.size a ≤ S1x8192x512.size a)
theorem k0_off74_inb : ∀ (i : grid0.Coords) (v100 : BitVec 32) (k0_hw25 : k0_chk25 i v100), ∀ (k0_h2 : k0_cond2 i = 1#1), ∀ a, (k0_off74 v100) a + S1x1x512.size a ≤ S1x8192x512.size a := fun i v100 k0_hw25 k0_h2 => k0_hw25 k0_h2

def k0_off75 (k0_t4 : Fin k0_t4_loop.trips) : Fin 3 → Nat :=
  let c32_i32 : BitVec 32 := 32#32
  let c1_i32_38 : BitVec 32 := 1#32
  let arg11 : BitVec 32 := Scf.iv c32_i32 c1_i32_38 k0_t4
  let v104 : Index := Scalar.indexCast arg11
  let c0_99 : Index := 0#32
  let c0_100 : Index := 0#32
  ![v104.toNat, 0, 0]
def k0_off76 (k0_t4 : Fin k0_t4_loop.trips) : Fin 3 → Nat :=
  let c0_103 : Index := 0#32
  let c0_104 : Index := 0#32
  let c32_i32 : BitVec 32 := 32#32
  let c1_i32_38 : BitVec 32 := 1#32
  let arg11 : BitVec 32 := Scf.iv c32_i32 c1_i32_38 k0_t4
  let c8_i32_101 : BitVec 32 := 8#32
  let v108 : BitVec 32 := Scalar.muli arg11 c8_i32_101
  let c1_i32_102 : BitVec 32 := 1#32
  let v109 : BitVec 32 := Scalar.addi v108 c1_i32_102
  let v110 : Index := Scalar.indexCast v109
  ![0, 0, v110.toNat]
def k0_off77 (v111 : BitVec 32) : Fin 3 → Nat :=
  let c0_105 : Index := 0#32
  let v112 : Index := Scalar.indexCast v111
  let c0_106 : Index := 0#32
  ![0, v112.toNat, 0]

def k0_chk26 (i : grid0.Coords) (v111 : BitVec 32) : Prop :=
  (∀ (k0_h2 : k0_cond2 i = 1#1), ∀ a, (k0_off77 v111) a + S1x1x512.size a ≤ S1x8192x512.size a)
theorem k0_off77_inb : ∀ (i : grid0.Coords) (v111 : BitVec 32) (k0_hw26 : k0_chk26 i v111), ∀ (k0_h2 : k0_cond2 i = 1#1), ∀ a, (k0_off77 v111) a + S1x1x512.size a ≤ S1x8192x512.size a := fun i v111 k0_hw26 k0_h2 => k0_hw26 k0_h2

def k0_off78 (k0_t4 : Fin k0_t4_loop.trips) : Fin 3 → Nat :=
  let c32_i32 : BitVec 32 := 32#32
  let c1_i32_38 : BitVec 32 := 1#32
  let arg11 : BitVec 32 := Scf.iv c32_i32 c1_i32_38 k0_t4
  let v115 : Index := Scalar.indexCast arg11
  let c1 : Index := 1#32
  let c0_107 : Index := 0#32
  ![v115.toNat, 1, 0]
def k0_off79 (k0_t4 : Fin k0_t4_loop.trips) : Fin 3 → Nat :=
  let c0_110 : Index := 0#32
  let c0_111 : Index := 0#32
  let c32_i32 : BitVec 32 := 32#32
  let c1_i32_38 : BitVec 32 := 1#32
  let arg11 : BitVec 32 := Scf.iv c32_i32 c1_i32_38 k0_t4
  let c8_i32_108 : BitVec 32 := 8#32
  let v119 : BitVec 32 := Scalar.muli arg11 c8_i32_108
  let c2_i32_109 : BitVec 32 := 2#32
  let v120 : BitVec 32 := Scalar.addi v119 c2_i32_109
  let v121 : Index := Scalar.indexCast v120
  ![0, 0, v121.toNat]
def k0_off80 (v122 : BitVec 32) : Fin 3 → Nat :=
  let c0_112 : Index := 0#32
  let v123 : Index := Scalar.indexCast v122
  let c0_113 : Index := 0#32
  ![0, v123.toNat, 0]

def k0_chk27 (i : grid0.Coords) (v122 : BitVec 32) : Prop :=
  (∀ (k0_h2 : k0_cond2 i = 1#1), ∀ a, (k0_off80 v122) a + S1x1x512.size a ≤ S1x8192x512.size a)
theorem k0_off80_inb : ∀ (i : grid0.Coords) (v122 : BitVec 32) (k0_hw27 : k0_chk27 i v122), ∀ (k0_h2 : k0_cond2 i = 1#1), ∀ a, (k0_off80 v122) a + S1x1x512.size a ≤ S1x8192x512.size a := fun i v122 k0_hw27 k0_h2 => k0_hw27 k0_h2

def k0_off81 (k0_t4 : Fin k0_t4_loop.trips) : Fin 3 → Nat :=
  let c32_i32 : BitVec 32 := 32#32
  let c1_i32_38 : BitVec 32 := 1#32
  let arg11 : BitVec 32 := Scf.iv c32_i32 c1_i32_38 k0_t4
  let v126 : Index := Scalar.indexCast arg11
  let c2 : Index := 2#32
  let c0_114 : Index := 0#32
  ![v126.toNat, 2, 0]
def k0_off82 (k0_t4 : Fin k0_t4_loop.trips) : Fin 3 → Nat :=
  let c0_116 : Index := 0#32
  let c0_117 : Index := 0#32
  let c32_i32 : BitVec 32 := 32#32
  let c1_i32_38 : BitVec 32 := 1#32
  let arg11 : BitVec 32 := Scf.iv c32_i32 c1_i32_38 k0_t4
  let c8_i32_115 : BitVec 32 := 8#32
  let v130 : BitVec 32 := Scalar.muli arg11 c8_i32_115
  let c3_i32 : BitVec 32 := 3#32
  let v131 : BitVec 32 := Scalar.addi v130 c3_i32
  let v132 : Index := Scalar.indexCast v131
  ![0, 0, v132.toNat]
def k0_off83 (v133 : BitVec 32) : Fin 3 → Nat :=
  let c0_118 : Index := 0#32
  let v134 : Index := Scalar.indexCast v133
  let c0_119 : Index := 0#32
  ![0, v134.toNat, 0]

def k0_chk28 (i : grid0.Coords) (v133 : BitVec 32) : Prop :=
  (∀ (k0_h2 : k0_cond2 i = 1#1), ∀ a, (k0_off83 v133) a + S1x1x512.size a ≤ S1x8192x512.size a)
theorem k0_off83_inb : ∀ (i : grid0.Coords) (v133 : BitVec 32) (k0_hw28 : k0_chk28 i v133), ∀ (k0_h2 : k0_cond2 i = 1#1), ∀ a, (k0_off83 v133) a + S1x1x512.size a ≤ S1x8192x512.size a := fun i v133 k0_hw28 k0_h2 => k0_hw28 k0_h2

def k0_off84 (k0_t4 : Fin k0_t4_loop.trips) : Fin 3 → Nat :=
  let c32_i32 : BitVec 32 := 32#32
  let c1_i32_38 : BitVec 32 := 1#32
  let arg11 : BitVec 32 := Scf.iv c32_i32 c1_i32_38 k0_t4
  let v137 : Index := Scalar.indexCast arg11
  let c3 : Index := 3#32
  let c0_120 : Index := 0#32
  ![v137.toNat, 3, 0]
def k0_off85 (k0_t4 : Fin k0_t4_loop.trips) : Fin 3 → Nat :=
  let c0_122 : Index := 0#32
  let c0_123 : Index := 0#32
  let c32_i32 : BitVec 32 := 32#32
  let c1_i32_38 : BitVec 32 := 1#32
  let arg11 : BitVec 32 := Scf.iv c32_i32 c1_i32_38 k0_t4
  let c8_i32_121 : BitVec 32 := 8#32
  let v141 : BitVec 32 := Scalar.muli arg11 c8_i32_121
  let c4_i32 : BitVec 32 := 4#32
  let v142 : BitVec 32 := Scalar.addi v141 c4_i32
  let v143 : Index := Scalar.indexCast v142
  ![0, 0, v143.toNat]
def k0_off86 (v144 : BitVec 32) : Fin 3 → Nat :=
  let c0_124 : Index := 0#32
  let v145 : Index := Scalar.indexCast v144
  let c0_125 : Index := 0#32
  ![0, v145.toNat, 0]

def k0_chk29 (i : grid0.Coords) (v144 : BitVec 32) : Prop :=
  (∀ (k0_h2 : k0_cond2 i = 1#1), ∀ a, (k0_off86 v144) a + S1x1x512.size a ≤ S1x8192x512.size a)
theorem k0_off86_inb : ∀ (i : grid0.Coords) (v144 : BitVec 32) (k0_hw29 : k0_chk29 i v144), ∀ (k0_h2 : k0_cond2 i = 1#1), ∀ a, (k0_off86 v144) a + S1x1x512.size a ≤ S1x8192x512.size a := fun i v144 k0_hw29 k0_h2 => k0_hw29 k0_h2

def k0_off87 (k0_t4 : Fin k0_t4_loop.trips) : Fin 3 → Nat :=
  let c32_i32 : BitVec 32 := 32#32
  let c1_i32_38 : BitVec 32 := 1#32
  let arg11 : BitVec 32 := Scf.iv c32_i32 c1_i32_38 k0_t4
  let v148 : Index := Scalar.indexCast arg11
  let c4 : Index := 4#32
  let c0_126 : Index := 0#32
  ![v148.toNat, 4, 0]
def k0_off88 (k0_t4 : Fin k0_t4_loop.trips) : Fin 3 → Nat :=
  let c0_128 : Index := 0#32
  let c0_129 : Index := 0#32
  let c32_i32 : BitVec 32 := 32#32
  let c1_i32_38 : BitVec 32 := 1#32
  let arg11 : BitVec 32 := Scf.iv c32_i32 c1_i32_38 k0_t4
  let c8_i32_127 : BitVec 32 := 8#32
  let v152 : BitVec 32 := Scalar.muli arg11 c8_i32_127
  let c5_i32 : BitVec 32 := 5#32
  let v153 : BitVec 32 := Scalar.addi v152 c5_i32
  let v154 : Index := Scalar.indexCast v153
  ![0, 0, v154.toNat]
def k0_off89 (v155 : BitVec 32) : Fin 3 → Nat :=
  let c0_130 : Index := 0#32
  let v156 : Index := Scalar.indexCast v155
  let c0_131 : Index := 0#32
  ![0, v156.toNat, 0]

def k0_chk30 (i : grid0.Coords) (v155 : BitVec 32) : Prop :=
  (∀ (k0_h2 : k0_cond2 i = 1#1), ∀ a, (k0_off89 v155) a + S1x1x512.size a ≤ S1x8192x512.size a)
theorem k0_off89_inb : ∀ (i : grid0.Coords) (v155 : BitVec 32) (k0_hw30 : k0_chk30 i v155), ∀ (k0_h2 : k0_cond2 i = 1#1), ∀ a, (k0_off89 v155) a + S1x1x512.size a ≤ S1x8192x512.size a := fun i v155 k0_hw30 k0_h2 => k0_hw30 k0_h2

def k0_off90 (k0_t4 : Fin k0_t4_loop.trips) : Fin 3 → Nat :=
  let c32_i32 : BitVec 32 := 32#32
  let c1_i32_38 : BitVec 32 := 1#32
  let arg11 : BitVec 32 := Scf.iv c32_i32 c1_i32_38 k0_t4
  let v159 : Index := Scalar.indexCast arg11
  let c5 : Index := 5#32
  let c0_132 : Index := 0#32
  ![v159.toNat, 5, 0]
def k0_off91 (k0_t4 : Fin k0_t4_loop.trips) : Fin 3 → Nat :=
  let c0_134 : Index := 0#32
  let c0_135 : Index := 0#32
  let c32_i32 : BitVec 32 := 32#32
  let c1_i32_38 : BitVec 32 := 1#32
  let arg11 : BitVec 32 := Scf.iv c32_i32 c1_i32_38 k0_t4
  let c8_i32_133 : BitVec 32 := 8#32
  let v163 : BitVec 32 := Scalar.muli arg11 c8_i32_133
  let c6_i32 : BitVec 32 := 6#32
  let v164 : BitVec 32 := Scalar.addi v163 c6_i32
  let v165 : Index := Scalar.indexCast v164
  ![0, 0, v165.toNat]
def k0_off92 (v166 : BitVec 32) : Fin 3 → Nat :=
  let c0_136 : Index := 0#32
  let v167 : Index := Scalar.indexCast v166
  let c0_137 : Index := 0#32
  ![0, v167.toNat, 0]

def k0_chk31 (i : grid0.Coords) (v166 : BitVec 32) : Prop :=
  (∀ (k0_h2 : k0_cond2 i = 1#1), ∀ a, (k0_off92 v166) a + S1x1x512.size a ≤ S1x8192x512.size a)
theorem k0_off92_inb : ∀ (i : grid0.Coords) (v166 : BitVec 32) (k0_hw31 : k0_chk31 i v166), ∀ (k0_h2 : k0_cond2 i = 1#1), ∀ a, (k0_off92 v166) a + S1x1x512.size a ≤ S1x8192x512.size a := fun i v166 k0_hw31 k0_h2 => k0_hw31 k0_h2

def k0_off93 (k0_t4 : Fin k0_t4_loop.trips) : Fin 3 → Nat :=
  let c32_i32 : BitVec 32 := 32#32
  let c1_i32_38 : BitVec 32 := 1#32
  let arg11 : BitVec 32 := Scf.iv c32_i32 c1_i32_38 k0_t4
  let v170 : Index := Scalar.indexCast arg11
  let c6 : Index := 6#32
  let c0_138 : Index := 0#32
  ![v170.toNat, 6, 0]
def k0_off94 (k0_t4 : Fin k0_t4_loop.trips) : Fin 3 → Nat :=
  let c0_140 : Index := 0#32
  let c0_141 : Index := 0#32
  let c32_i32 : BitVec 32 := 32#32
  let c1_i32_38 : BitVec 32 := 1#32
  let arg11 : BitVec 32 := Scf.iv c32_i32 c1_i32_38 k0_t4
  let c8_i32_139 : BitVec 32 := 8#32
  let v174 : BitVec 32 := Scalar.muli arg11 c8_i32_139
  let c7_i32 : BitVec 32 := 7#32
  let v175 : BitVec 32 := Scalar.addi v174 c7_i32
  let v176 : Index := Scalar.indexCast v175
  ![0, 0, v176.toNat]
def k0_off95 (v177 : BitVec 32) : Fin 3 → Nat :=
  let c0_142 : Index := 0#32
  let v178 : Index := Scalar.indexCast v177
  let c0_143 : Index := 0#32
  ![0, v178.toNat, 0]

def k0_chk32 (i : grid0.Coords) (v177 : BitVec 32) : Prop :=
  (∀ (k0_h2 : k0_cond2 i = 1#1), ∀ a, (k0_off95 v177) a + S1x1x512.size a ≤ S1x8192x512.size a)
theorem k0_off95_inb : ∀ (i : grid0.Coords) (v177 : BitVec 32) (k0_hw32 : k0_chk32 i v177), ∀ (k0_h2 : k0_cond2 i = 1#1), ∀ a, (k0_off95 v177) a + S1x1x512.size a ≤ S1x8192x512.size a := fun i v177 k0_hw32 k0_h2 => k0_hw32 k0_h2

def k0_off96 (k0_t4 : Fin k0_t4_loop.trips) : Fin 3 → Nat :=
  let c32_i32 : BitVec 32 := 32#32
  let c1_i32_38 : BitVec 32 := 1#32
  let arg11 : BitVec 32 := Scf.iv c32_i32 c1_i32_38 k0_t4
  let v181 : Index := Scalar.indexCast arg11
  let c7 : Index := 7#32
  let c0_144 : Index := 0#32
  ![v181.toNat, 7, 0]
@[reducible] def k0_t5_loop : Scf.Loop 32 :=
  let c48_i32 : BitVec 32 := 48#32
  let c16_i32_45 : BitVec 32 := 16#32
  let v59 : BitVec 32 := Scalar.addi c48_i32 c16_i32_45
  let c1_i32_46 : BitVec 32 := 1#32
  ⟨c48_i32, v59, c1_i32_46⟩
def k0_off97 (k0_t5 : Fin k0_t5_loop.trips) : Fin 3 → Nat :=
  let c0_95 : Index := 0#32
  let c0_96 : Index := 0#32
  let c48_i32 : BitVec 32 := 48#32
  let c1_i32_46 : BitVec 32 := 1#32
  let arg11 : BitVec 32 := Scf.iv c48_i32 c1_i32_46 k0_t5
  let c8_i32 : BitVec 32 := 8#32
  let v97 : BitVec 32 := Scalar.muli arg11 c8_i32
  let c0_i32_94 : BitVec 32 := 0#32
  let v98 : BitVec 32 := Scalar.addi v97 c0_i32_94
  let v99 : Index := Scalar.indexCast v98
  ![0, 0, v99.toNat]
def k0_off98 (v100 : BitVec 32) : Fin 3 → Nat :=
  let c0_97 : Index := 0#32
  let v101 : Index := Scalar.indexCast v100
  let c0_98 : Index := 0#32
  ![0, v101.toNat, 0]

def k0_chk33 (i : grid0.Coords) (v100 : BitVec 32) : Prop :=
  (∀ (k0_h2 : k0_cond2 i = 1#1), ∀ a, (k0_off98 v100) a + S1x1x512.size a ≤ S1x8192x512.size a)
theorem k0_off98_inb : ∀ (i : grid0.Coords) (v100 : BitVec 32) (k0_hw33 : k0_chk33 i v100), ∀ (k0_h2 : k0_cond2 i = 1#1), ∀ a, (k0_off98 v100) a + S1x1x512.size a ≤ S1x8192x512.size a := fun i v100 k0_hw33 k0_h2 => k0_hw33 k0_h2

def k0_off99 (k0_t5 : Fin k0_t5_loop.trips) : Fin 3 → Nat :=
  let c48_i32 : BitVec 32 := 48#32
  let c1_i32_46 : BitVec 32 := 1#32
  let arg11 : BitVec 32 := Scf.iv c48_i32 c1_i32_46 k0_t5
  let v104 : Index := Scalar.indexCast arg11
  let c0_99 : Index := 0#32
  let c0_100 : Index := 0#32
  ![v104.toNat, 0, 0]
def k0_off100 (k0_t5 : Fin k0_t5_loop.trips) : Fin 3 → Nat :=
  let c0_103 : Index := 0#32
  let c0_104 : Index := 0#32
  let c48_i32 : BitVec 32 := 48#32
  let c1_i32_46 : BitVec 32 := 1#32
  let arg11 : BitVec 32 := Scf.iv c48_i32 c1_i32_46 k0_t5
  let c8_i32_101 : BitVec 32 := 8#32
  let v108 : BitVec 32 := Scalar.muli arg11 c8_i32_101
  let c1_i32_102 : BitVec 32 := 1#32
  let v109 : BitVec 32 := Scalar.addi v108 c1_i32_102
  let v110 : Index := Scalar.indexCast v109
  ![0, 0, v110.toNat]
def k0_off101 (v111 : BitVec 32) : Fin 3 → Nat :=
  let c0_105 : Index := 0#32
  let v112 : Index := Scalar.indexCast v111
  let c0_106 : Index := 0#32
  ![0, v112.toNat, 0]

def k0_chk34 (i : grid0.Coords) (v111 : BitVec 32) : Prop :=
  (∀ (k0_h2 : k0_cond2 i = 1#1), ∀ a, (k0_off101 v111) a + S1x1x512.size a ≤ S1x8192x512.size a)
theorem k0_off101_inb : ∀ (i : grid0.Coords) (v111 : BitVec 32) (k0_hw34 : k0_chk34 i v111), ∀ (k0_h2 : k0_cond2 i = 1#1), ∀ a, (k0_off101 v111) a + S1x1x512.size a ≤ S1x8192x512.size a := fun i v111 k0_hw34 k0_h2 => k0_hw34 k0_h2

def k0_off102 (k0_t5 : Fin k0_t5_loop.trips) : Fin 3 → Nat :=
  let c48_i32 : BitVec 32 := 48#32
  let c1_i32_46 : BitVec 32 := 1#32
  let arg11 : BitVec 32 := Scf.iv c48_i32 c1_i32_46 k0_t5
  let v115 : Index := Scalar.indexCast arg11
  let c1 : Index := 1#32
  let c0_107 : Index := 0#32
  ![v115.toNat, 1, 0]
def k0_off103 (k0_t5 : Fin k0_t5_loop.trips) : Fin 3 → Nat :=
  let c0_110 : Index := 0#32
  let c0_111 : Index := 0#32
  let c48_i32 : BitVec 32 := 48#32
  let c1_i32_46 : BitVec 32 := 1#32
  let arg11 : BitVec 32 := Scf.iv c48_i32 c1_i32_46 k0_t5
  let c8_i32_108 : BitVec 32 := 8#32
  let v119 : BitVec 32 := Scalar.muli arg11 c8_i32_108
  let c2_i32_109 : BitVec 32 := 2#32
  let v120 : BitVec 32 := Scalar.addi v119 c2_i32_109
  let v121 : Index := Scalar.indexCast v120
  ![0, 0, v121.toNat]
def k0_off104 (v122 : BitVec 32) : Fin 3 → Nat :=
  let c0_112 : Index := 0#32
  let v123 : Index := Scalar.indexCast v122
  let c0_113 : Index := 0#32
  ![0, v123.toNat, 0]

def k0_chk35 (i : grid0.Coords) (v122 : BitVec 32) : Prop :=
  (∀ (k0_h2 : k0_cond2 i = 1#1), ∀ a, (k0_off104 v122) a + S1x1x512.size a ≤ S1x8192x512.size a)
theorem k0_off104_inb : ∀ (i : grid0.Coords) (v122 : BitVec 32) (k0_hw35 : k0_chk35 i v122), ∀ (k0_h2 : k0_cond2 i = 1#1), ∀ a, (k0_off104 v122) a + S1x1x512.size a ≤ S1x8192x512.size a := fun i v122 k0_hw35 k0_h2 => k0_hw35 k0_h2

def k0_off105 (k0_t5 : Fin k0_t5_loop.trips) : Fin 3 → Nat :=
  let c48_i32 : BitVec 32 := 48#32
  let c1_i32_46 : BitVec 32 := 1#32
  let arg11 : BitVec 32 := Scf.iv c48_i32 c1_i32_46 k0_t5
  let v126 : Index := Scalar.indexCast arg11
  let c2 : Index := 2#32
  let c0_114 : Index := 0#32
  ![v126.toNat, 2, 0]
def k0_off106 (k0_t5 : Fin k0_t5_loop.trips) : Fin 3 → Nat :=
  let c0_116 : Index := 0#32
  let c0_117 : Index := 0#32
  let c48_i32 : BitVec 32 := 48#32
  let c1_i32_46 : BitVec 32 := 1#32
  let arg11 : BitVec 32 := Scf.iv c48_i32 c1_i32_46 k0_t5
  let c8_i32_115 : BitVec 32 := 8#32
  let v130 : BitVec 32 := Scalar.muli arg11 c8_i32_115
  let c3_i32 : BitVec 32 := 3#32
  let v131 : BitVec 32 := Scalar.addi v130 c3_i32
  let v132 : Index := Scalar.indexCast v131
  ![0, 0, v132.toNat]
def k0_off107 (v133 : BitVec 32) : Fin 3 → Nat :=
  let c0_118 : Index := 0#32
  let v134 : Index := Scalar.indexCast v133
  let c0_119 : Index := 0#32
  ![0, v134.toNat, 0]

def k0_chk36 (i : grid0.Coords) (v133 : BitVec 32) : Prop :=
  (∀ (k0_h2 : k0_cond2 i = 1#1), ∀ a, (k0_off107 v133) a + S1x1x512.size a ≤ S1x8192x512.size a)
theorem k0_off107_inb : ∀ (i : grid0.Coords) (v133 : BitVec 32) (k0_hw36 : k0_chk36 i v133), ∀ (k0_h2 : k0_cond2 i = 1#1), ∀ a, (k0_off107 v133) a + S1x1x512.size a ≤ S1x8192x512.size a := fun i v133 k0_hw36 k0_h2 => k0_hw36 k0_h2

def k0_off108 (k0_t5 : Fin k0_t5_loop.trips) : Fin 3 → Nat :=
  let c48_i32 : BitVec 32 := 48#32
  let c1_i32_46 : BitVec 32 := 1#32
  let arg11 : BitVec 32 := Scf.iv c48_i32 c1_i32_46 k0_t5
  let v137 : Index := Scalar.indexCast arg11
  let c3 : Index := 3#32
  let c0_120 : Index := 0#32
  ![v137.toNat, 3, 0]
def k0_off109 (k0_t5 : Fin k0_t5_loop.trips) : Fin 3 → Nat :=
  let c0_122 : Index := 0#32
  let c0_123 : Index := 0#32
  let c48_i32 : BitVec 32 := 48#32
  let c1_i32_46 : BitVec 32 := 1#32
  let arg11 : BitVec 32 := Scf.iv c48_i32 c1_i32_46 k0_t5
  let c8_i32_121 : BitVec 32 := 8#32
  let v141 : BitVec 32 := Scalar.muli arg11 c8_i32_121
  let c4_i32 : BitVec 32 := 4#32
  let v142 : BitVec 32 := Scalar.addi v141 c4_i32
  let v143 : Index := Scalar.indexCast v142
  ![0, 0, v143.toNat]
def k0_off110 (v144 : BitVec 32) : Fin 3 → Nat :=
  let c0_124 : Index := 0#32
  let v145 : Index := Scalar.indexCast v144
  let c0_125 : Index := 0#32
  ![0, v145.toNat, 0]

def k0_chk37 (i : grid0.Coords) (v144 : BitVec 32) : Prop :=
  (∀ (k0_h2 : k0_cond2 i = 1#1), ∀ a, (k0_off110 v144) a + S1x1x512.size a ≤ S1x8192x512.size a)
theorem k0_off110_inb : ∀ (i : grid0.Coords) (v144 : BitVec 32) (k0_hw37 : k0_chk37 i v144), ∀ (k0_h2 : k0_cond2 i = 1#1), ∀ a, (k0_off110 v144) a + S1x1x512.size a ≤ S1x8192x512.size a := fun i v144 k0_hw37 k0_h2 => k0_hw37 k0_h2

def k0_off111 (k0_t5 : Fin k0_t5_loop.trips) : Fin 3 → Nat :=
  let c48_i32 : BitVec 32 := 48#32
  let c1_i32_46 : BitVec 32 := 1#32
  let arg11 : BitVec 32 := Scf.iv c48_i32 c1_i32_46 k0_t5
  let v148 : Index := Scalar.indexCast arg11
  let c4 : Index := 4#32
  let c0_126 : Index := 0#32
  ![v148.toNat, 4, 0]
def k0_off112 (k0_t5 : Fin k0_t5_loop.trips) : Fin 3 → Nat :=
  let c0_128 : Index := 0#32
  let c0_129 : Index := 0#32
  let c48_i32 : BitVec 32 := 48#32
  let c1_i32_46 : BitVec 32 := 1#32
  let arg11 : BitVec 32 := Scf.iv c48_i32 c1_i32_46 k0_t5
  let c8_i32_127 : BitVec 32 := 8#32
  let v152 : BitVec 32 := Scalar.muli arg11 c8_i32_127
  let c5_i32 : BitVec 32 := 5#32
  let v153 : BitVec 32 := Scalar.addi v152 c5_i32
  let v154 : Index := Scalar.indexCast v153
  ![0, 0, v154.toNat]
def k0_off113 (v155 : BitVec 32) : Fin 3 → Nat :=
  let c0_130 : Index := 0#32
  let v156 : Index := Scalar.indexCast v155
  let c0_131 : Index := 0#32
  ![0, v156.toNat, 0]

def k0_chk38 (i : grid0.Coords) (v155 : BitVec 32) : Prop :=
  (∀ (k0_h2 : k0_cond2 i = 1#1), ∀ a, (k0_off113 v155) a + S1x1x512.size a ≤ S1x8192x512.size a)
theorem k0_off113_inb : ∀ (i : grid0.Coords) (v155 : BitVec 32) (k0_hw38 : k0_chk38 i v155), ∀ (k0_h2 : k0_cond2 i = 1#1), ∀ a, (k0_off113 v155) a + S1x1x512.size a ≤ S1x8192x512.size a := fun i v155 k0_hw38 k0_h2 => k0_hw38 k0_h2

def k0_off114 (k0_t5 : Fin k0_t5_loop.trips) : Fin 3 → Nat :=
  let c48_i32 : BitVec 32 := 48#32
  let c1_i32_46 : BitVec 32 := 1#32
  let arg11 : BitVec 32 := Scf.iv c48_i32 c1_i32_46 k0_t5
  let v159 : Index := Scalar.indexCast arg11
  let c5 : Index := 5#32
  let c0_132 : Index := 0#32
  ![v159.toNat, 5, 0]
def k0_off115 (k0_t5 : Fin k0_t5_loop.trips) : Fin 3 → Nat :=
  let c0_134 : Index := 0#32
  let c0_135 : Index := 0#32
  let c48_i32 : BitVec 32 := 48#32
  let c1_i32_46 : BitVec 32 := 1#32
  let arg11 : BitVec 32 := Scf.iv c48_i32 c1_i32_46 k0_t5
  let c8_i32_133 : BitVec 32 := 8#32
  let v163 : BitVec 32 := Scalar.muli arg11 c8_i32_133
  let c6_i32 : BitVec 32 := 6#32
  let v164 : BitVec 32 := Scalar.addi v163 c6_i32
  let v165 : Index := Scalar.indexCast v164
  ![0, 0, v165.toNat]
def k0_off116 (v166 : BitVec 32) : Fin 3 → Nat :=
  let c0_136 : Index := 0#32
  let v167 : Index := Scalar.indexCast v166
  let c0_137 : Index := 0#32
  ![0, v167.toNat, 0]

def k0_chk39 (i : grid0.Coords) (v166 : BitVec 32) : Prop :=
  (∀ (k0_h2 : k0_cond2 i = 1#1), ∀ a, (k0_off116 v166) a + S1x1x512.size a ≤ S1x8192x512.size a)
theorem k0_off116_inb : ∀ (i : grid0.Coords) (v166 : BitVec 32) (k0_hw39 : k0_chk39 i v166), ∀ (k0_h2 : k0_cond2 i = 1#1), ∀ a, (k0_off116 v166) a + S1x1x512.size a ≤ S1x8192x512.size a := fun i v166 k0_hw39 k0_h2 => k0_hw39 k0_h2

def k0_off117 (k0_t5 : Fin k0_t5_loop.trips) : Fin 3 → Nat :=
  let c48_i32 : BitVec 32 := 48#32
  let c1_i32_46 : BitVec 32 := 1#32
  let arg11 : BitVec 32 := Scf.iv c48_i32 c1_i32_46 k0_t5
  let v170 : Index := Scalar.indexCast arg11
  let c6 : Index := 6#32
  let c0_138 : Index := 0#32
  ![v170.toNat, 6, 0]
def k0_off118 (k0_t5 : Fin k0_t5_loop.trips) : Fin 3 → Nat :=
  let c0_140 : Index := 0#32
  let c0_141 : Index := 0#32
  let c48_i32 : BitVec 32 := 48#32
  let c1_i32_46 : BitVec 32 := 1#32
  let arg11 : BitVec 32 := Scf.iv c48_i32 c1_i32_46 k0_t5
  let c8_i32_139 : BitVec 32 := 8#32
  let v174 : BitVec 32 := Scalar.muli arg11 c8_i32_139
  let c7_i32 : BitVec 32 := 7#32
  let v175 : BitVec 32 := Scalar.addi v174 c7_i32
  let v176 : Index := Scalar.indexCast v175
  ![0, 0, v176.toNat]
def k0_off119 (v177 : BitVec 32) : Fin 3 → Nat :=
  let c0_142 : Index := 0#32
  let v178 : Index := Scalar.indexCast v177
  let c0_143 : Index := 0#32
  ![0, v178.toNat, 0]

def k0_chk40 (i : grid0.Coords) (v177 : BitVec 32) : Prop :=
  (∀ (k0_h2 : k0_cond2 i = 1#1), ∀ a, (k0_off119 v177) a + S1x1x512.size a ≤ S1x8192x512.size a)
theorem k0_off119_inb : ∀ (i : grid0.Coords) (v177 : BitVec 32) (k0_hw40 : k0_chk40 i v177), ∀ (k0_h2 : k0_cond2 i = 1#1), ∀ a, (k0_off119 v177) a + S1x1x512.size a ≤ S1x8192x512.size a := fun i v177 k0_hw40 k0_h2 => k0_hw40 k0_h2

def k0_off120 (k0_t5 : Fin k0_t5_loop.trips) : Fin 3 → Nat :=
  let c48_i32 : BitVec 32 := 48#32
  let c1_i32_46 : BitVec 32 := 1#32
  let arg11 : BitVec 32 := Scf.iv c48_i32 c1_i32_46 k0_t5
  let v181 : Index := Scalar.indexCast arg11
  let c7 : Index := 7#32
  let c0_144 : Index := 0#32
  ![v181.toNat, 7, 0]
@[reducible] def k0_t6_loop : Scf.Loop 32 :=
  let c64_i32 : BitVec 32 := 64#32
  let c16_i32_57 : BitVec 32 := 16#32
  let v72 : BitVec 32 := Scalar.addi c64_i32 c16_i32_57
  let c1_i32_58 : BitVec 32 := 1#32
  ⟨c64_i32, v72, c1_i32_58⟩
def k0_off121 (k0_t6 : Fin k0_t6_loop.trips) : Fin 3 → Nat :=
  let c0_95 : Index := 0#32
  let c0_96 : Index := 0#32
  let c64_i32 : BitVec 32 := 64#32
  let c1_i32_58 : BitVec 32 := 1#32
  let arg11 : BitVec 32 := Scf.iv c64_i32 c1_i32_58 k0_t6
  let c8_i32 : BitVec 32 := 8#32
  let v97 : BitVec 32 := Scalar.muli arg11 c8_i32
  let c0_i32_94 : BitVec 32 := 0#32
  let v98 : BitVec 32 := Scalar.addi v97 c0_i32_94
  let v99 : Index := Scalar.indexCast v98
  ![0, 0, v99.toNat]
def k0_off122 (v100 : BitVec 32) : Fin 3 → Nat :=
  let c0_97 : Index := 0#32
  let v101 : Index := Scalar.indexCast v100
  let c0_98 : Index := 0#32
  ![0, v101.toNat, 0]

def k0_chk41 (i : grid0.Coords) (v100 : BitVec 32) : Prop :=
  (∀ (k0_h2 : k0_cond2 i = 1#1), ∀ a, (k0_off122 v100) a + S1x1x512.size a ≤ S1x8192x512.size a)
theorem k0_off122_inb : ∀ (i : grid0.Coords) (v100 : BitVec 32) (k0_hw41 : k0_chk41 i v100), ∀ (k0_h2 : k0_cond2 i = 1#1), ∀ a, (k0_off122 v100) a + S1x1x512.size a ≤ S1x8192x512.size a := fun i v100 k0_hw41 k0_h2 => k0_hw41 k0_h2

def k0_off123 (k0_t6 : Fin k0_t6_loop.trips) : Fin 3 → Nat :=
  let c64_i32 : BitVec 32 := 64#32
  let c1_i32_58 : BitVec 32 := 1#32
  let arg11 : BitVec 32 := Scf.iv c64_i32 c1_i32_58 k0_t6
  let v104 : Index := Scalar.indexCast arg11
  let c0_99 : Index := 0#32
  let c0_100 : Index := 0#32
  ![v104.toNat, 0, 0]
def k0_off124 (k0_t6 : Fin k0_t6_loop.trips) : Fin 3 → Nat :=
  let c0_103 : Index := 0#32
  let c0_104 : Index := 0#32
  let c64_i32 : BitVec 32 := 64#32
  let c1_i32_58 : BitVec 32 := 1#32
  let arg11 : BitVec 32 := Scf.iv c64_i32 c1_i32_58 k0_t6
  let c8_i32_101 : BitVec 32 := 8#32
  let v108 : BitVec 32 := Scalar.muli arg11 c8_i32_101
  let c1_i32_102 : BitVec 32 := 1#32
  let v109 : BitVec 32 := Scalar.addi v108 c1_i32_102
  let v110 : Index := Scalar.indexCast v109
  ![0, 0, v110.toNat]
def k0_off125 (v111 : BitVec 32) : Fin 3 → Nat :=
  let c0_105 : Index := 0#32
  let v112 : Index := Scalar.indexCast v111
  let c0_106 : Index := 0#32
  ![0, v112.toNat, 0]

def k0_chk42 (i : grid0.Coords) (v111 : BitVec 32) : Prop :=
  (∀ (k0_h2 : k0_cond2 i = 1#1), ∀ a, (k0_off125 v111) a + S1x1x512.size a ≤ S1x8192x512.size a)
theorem k0_off125_inb : ∀ (i : grid0.Coords) (v111 : BitVec 32) (k0_hw42 : k0_chk42 i v111), ∀ (k0_h2 : k0_cond2 i = 1#1), ∀ a, (k0_off125 v111) a + S1x1x512.size a ≤ S1x8192x512.size a := fun i v111 k0_hw42 k0_h2 => k0_hw42 k0_h2

def k0_off126 (k0_t6 : Fin k0_t6_loop.trips) : Fin 3 → Nat :=
  let c64_i32 : BitVec 32 := 64#32
  let c1_i32_58 : BitVec 32 := 1#32
  let arg11 : BitVec 32 := Scf.iv c64_i32 c1_i32_58 k0_t6
  let v115 : Index := Scalar.indexCast arg11
  let c1 : Index := 1#32
  let c0_107 : Index := 0#32
  ![v115.toNat, 1, 0]
def k0_off127 (k0_t6 : Fin k0_t6_loop.trips) : Fin 3 → Nat :=
  let c0_110 : Index := 0#32
  let c0_111 : Index := 0#32
  let c64_i32 : BitVec 32 := 64#32
  let c1_i32_58 : BitVec 32 := 1#32
  let arg11 : BitVec 32 := Scf.iv c64_i32 c1_i32_58 k0_t6
  let c8_i32_108 : BitVec 32 := 8#32
  let v119 : BitVec 32 := Scalar.muli arg11 c8_i32_108
  let c2_i32_109 : BitVec 32 := 2#32
  let v120 : BitVec 32 := Scalar.addi v119 c2_i32_109
  let v121 : Index := Scalar.indexCast v120
  ![0, 0, v121.toNat]
def k0_off128 (v122 : BitVec 32) : Fin 3 → Nat :=
  let c0_112 : Index := 0#32
  let v123 : Index := Scalar.indexCast v122
  let c0_113 : Index := 0#32
  ![0, v123.toNat, 0]

def k0_chk43 (i : grid0.Coords) (v122 : BitVec 32) : Prop :=
  (∀ (k0_h2 : k0_cond2 i = 1#1), ∀ a, (k0_off128 v122) a + S1x1x512.size a ≤ S1x8192x512.size a)
theorem k0_off128_inb : ∀ (i : grid0.Coords) (v122 : BitVec 32) (k0_hw43 : k0_chk43 i v122), ∀ (k0_h2 : k0_cond2 i = 1#1), ∀ a, (k0_off128 v122) a + S1x1x512.size a ≤ S1x8192x512.size a := fun i v122 k0_hw43 k0_h2 => k0_hw43 k0_h2

def k0_off129 (k0_t6 : Fin k0_t6_loop.trips) : Fin 3 → Nat :=
  let c64_i32 : BitVec 32 := 64#32
  let c1_i32_58 : BitVec 32 := 1#32
  let arg11 : BitVec 32 := Scf.iv c64_i32 c1_i32_58 k0_t6
  let v126 : Index := Scalar.indexCast arg11
  let c2 : Index := 2#32
  let c0_114 : Index := 0#32
  ![v126.toNat, 2, 0]
def k0_off130 (k0_t6 : Fin k0_t6_loop.trips) : Fin 3 → Nat :=
  let c0_116 : Index := 0#32
  let c0_117 : Index := 0#32
  let c64_i32 : BitVec 32 := 64#32
  let c1_i32_58 : BitVec 32 := 1#32
  let arg11 : BitVec 32 := Scf.iv c64_i32 c1_i32_58 k0_t6
  let c8_i32_115 : BitVec 32 := 8#32
  let v130 : BitVec 32 := Scalar.muli arg11 c8_i32_115
  let c3_i32 : BitVec 32 := 3#32
  let v131 : BitVec 32 := Scalar.addi v130 c3_i32
  let v132 : Index := Scalar.indexCast v131
  ![0, 0, v132.toNat]
def k0_off131 (v133 : BitVec 32) : Fin 3 → Nat :=
  let c0_118 : Index := 0#32
  let v134 : Index := Scalar.indexCast v133
  let c0_119 : Index := 0#32
  ![0, v134.toNat, 0]

def k0_chk44 (i : grid0.Coords) (v133 : BitVec 32) : Prop :=
  (∀ (k0_h2 : k0_cond2 i = 1#1), ∀ a, (k0_off131 v133) a + S1x1x512.size a ≤ S1x8192x512.size a)
theorem k0_off131_inb : ∀ (i : grid0.Coords) (v133 : BitVec 32) (k0_hw44 : k0_chk44 i v133), ∀ (k0_h2 : k0_cond2 i = 1#1), ∀ a, (k0_off131 v133) a + S1x1x512.size a ≤ S1x8192x512.size a := fun i v133 k0_hw44 k0_h2 => k0_hw44 k0_h2

def k0_off132 (k0_t6 : Fin k0_t6_loop.trips) : Fin 3 → Nat :=
  let c64_i32 : BitVec 32 := 64#32
  let c1_i32_58 : BitVec 32 := 1#32
  let arg11 : BitVec 32 := Scf.iv c64_i32 c1_i32_58 k0_t6
  let v137 : Index := Scalar.indexCast arg11
  let c3 : Index := 3#32
  let c0_120 : Index := 0#32
  ![v137.toNat, 3, 0]
def k0_off133 (k0_t6 : Fin k0_t6_loop.trips) : Fin 3 → Nat :=
  let c0_122 : Index := 0#32
  let c0_123 : Index := 0#32
  let c64_i32 : BitVec 32 := 64#32
  let c1_i32_58 : BitVec 32 := 1#32
  let arg11 : BitVec 32 := Scf.iv c64_i32 c1_i32_58 k0_t6
  let c8_i32_121 : BitVec 32 := 8#32
  let v141 : BitVec 32 := Scalar.muli arg11 c8_i32_121
  let c4_i32 : BitVec 32 := 4#32
  let v142 : BitVec 32 := Scalar.addi v141 c4_i32
  let v143 : Index := Scalar.indexCast v142
  ![0, 0, v143.toNat]
def k0_off134 (v144 : BitVec 32) : Fin 3 → Nat :=
  let c0_124 : Index := 0#32
  let v145 : Index := Scalar.indexCast v144
  let c0_125 : Index := 0#32
  ![0, v145.toNat, 0]

def k0_chk45 (i : grid0.Coords) (v144 : BitVec 32) : Prop :=
  (∀ (k0_h2 : k0_cond2 i = 1#1), ∀ a, (k0_off134 v144) a + S1x1x512.size a ≤ S1x8192x512.size a)
theorem k0_off134_inb : ∀ (i : grid0.Coords) (v144 : BitVec 32) (k0_hw45 : k0_chk45 i v144), ∀ (k0_h2 : k0_cond2 i = 1#1), ∀ a, (k0_off134 v144) a + S1x1x512.size a ≤ S1x8192x512.size a := fun i v144 k0_hw45 k0_h2 => k0_hw45 k0_h2

def k0_off135 (k0_t6 : Fin k0_t6_loop.trips) : Fin 3 → Nat :=
  let c64_i32 : BitVec 32 := 64#32
  let c1_i32_58 : BitVec 32 := 1#32
  let arg11 : BitVec 32 := Scf.iv c64_i32 c1_i32_58 k0_t6
  let v148 : Index := Scalar.indexCast arg11
  let c4 : Index := 4#32
  let c0_126 : Index := 0#32
  ![v148.toNat, 4, 0]
def k0_off136 (k0_t6 : Fin k0_t6_loop.trips) : Fin 3 → Nat :=
  let c0_128 : Index := 0#32
  let c0_129 : Index := 0#32
  let c64_i32 : BitVec 32 := 64#32
  let c1_i32_58 : BitVec 32 := 1#32
  let arg11 : BitVec 32 := Scf.iv c64_i32 c1_i32_58 k0_t6
  let c8_i32_127 : BitVec 32 := 8#32
  let v152 : BitVec 32 := Scalar.muli arg11 c8_i32_127
  let c5_i32 : BitVec 32 := 5#32
  let v153 : BitVec 32 := Scalar.addi v152 c5_i32
  let v154 : Index := Scalar.indexCast v153
  ![0, 0, v154.toNat]
def k0_off137 (v155 : BitVec 32) : Fin 3 → Nat :=
  let c0_130 : Index := 0#32
  let v156 : Index := Scalar.indexCast v155
  let c0_131 : Index := 0#32
  ![0, v156.toNat, 0]

def k0_chk46 (i : grid0.Coords) (v155 : BitVec 32) : Prop :=
  (∀ (k0_h2 : k0_cond2 i = 1#1), ∀ a, (k0_off137 v155) a + S1x1x512.size a ≤ S1x8192x512.size a)
theorem k0_off137_inb : ∀ (i : grid0.Coords) (v155 : BitVec 32) (k0_hw46 : k0_chk46 i v155), ∀ (k0_h2 : k0_cond2 i = 1#1), ∀ a, (k0_off137 v155) a + S1x1x512.size a ≤ S1x8192x512.size a := fun i v155 k0_hw46 k0_h2 => k0_hw46 k0_h2

def k0_off138 (k0_t6 : Fin k0_t6_loop.trips) : Fin 3 → Nat :=
  let c64_i32 : BitVec 32 := 64#32
  let c1_i32_58 : BitVec 32 := 1#32
  let arg11 : BitVec 32 := Scf.iv c64_i32 c1_i32_58 k0_t6
  let v159 : Index := Scalar.indexCast arg11
  let c5 : Index := 5#32
  let c0_132 : Index := 0#32
  ![v159.toNat, 5, 0]
def k0_off139 (k0_t6 : Fin k0_t6_loop.trips) : Fin 3 → Nat :=
  let c0_134 : Index := 0#32
  let c0_135 : Index := 0#32
  let c64_i32 : BitVec 32 := 64#32
  let c1_i32_58 : BitVec 32 := 1#32
  let arg11 : BitVec 32 := Scf.iv c64_i32 c1_i32_58 k0_t6
  let c8_i32_133 : BitVec 32 := 8#32
  let v163 : BitVec 32 := Scalar.muli arg11 c8_i32_133
  let c6_i32 : BitVec 32 := 6#32
  let v164 : BitVec 32 := Scalar.addi v163 c6_i32
  let v165 : Index := Scalar.indexCast v164
  ![0, 0, v165.toNat]
def k0_off140 (v166 : BitVec 32) : Fin 3 → Nat :=
  let c0_136 : Index := 0#32
  let v167 : Index := Scalar.indexCast v166
  let c0_137 : Index := 0#32
  ![0, v167.toNat, 0]

def k0_chk47 (i : grid0.Coords) (v166 : BitVec 32) : Prop :=
  (∀ (k0_h2 : k0_cond2 i = 1#1), ∀ a, (k0_off140 v166) a + S1x1x512.size a ≤ S1x8192x512.size a)
theorem k0_off140_inb : ∀ (i : grid0.Coords) (v166 : BitVec 32) (k0_hw47 : k0_chk47 i v166), ∀ (k0_h2 : k0_cond2 i = 1#1), ∀ a, (k0_off140 v166) a + S1x1x512.size a ≤ S1x8192x512.size a := fun i v166 k0_hw47 k0_h2 => k0_hw47 k0_h2

def k0_off141 (k0_t6 : Fin k0_t6_loop.trips) : Fin 3 → Nat :=
  let c64_i32 : BitVec 32 := 64#32
  let c1_i32_58 : BitVec 32 := 1#32
  let arg11 : BitVec 32 := Scf.iv c64_i32 c1_i32_58 k0_t6
  let v170 : Index := Scalar.indexCast arg11
  let c6 : Index := 6#32
  let c0_138 : Index := 0#32
  ![v170.toNat, 6, 0]
def k0_off142 (k0_t6 : Fin k0_t6_loop.trips) : Fin 3 → Nat :=
  let c0_140 : Index := 0#32
  let c0_141 : Index := 0#32
  let c64_i32 : BitVec 32 := 64#32
  let c1_i32_58 : BitVec 32 := 1#32
  let arg11 : BitVec 32 := Scf.iv c64_i32 c1_i32_58 k0_t6
  let c8_i32_139 : BitVec 32 := 8#32
  let v174 : BitVec 32 := Scalar.muli arg11 c8_i32_139
  let c7_i32 : BitVec 32 := 7#32
  let v175 : BitVec 32 := Scalar.addi v174 c7_i32
  let v176 : Index := Scalar.indexCast v175
  ![0, 0, v176.toNat]
def k0_off143 (v177 : BitVec 32) : Fin 3 → Nat :=
  let c0_142 : Index := 0#32
  let v178 : Index := Scalar.indexCast v177
  let c0_143 : Index := 0#32
  ![0, v178.toNat, 0]

def k0_chk48 (i : grid0.Coords) (v177 : BitVec 32) : Prop :=
  (∀ (k0_h2 : k0_cond2 i = 1#1), ∀ a, (k0_off143 v177) a + S1x1x512.size a ≤ S1x8192x512.size a)
theorem k0_off143_inb : ∀ (i : grid0.Coords) (v177 : BitVec 32) (k0_hw48 : k0_chk48 i v177), ∀ (k0_h2 : k0_cond2 i = 1#1), ∀ a, (k0_off143 v177) a + S1x1x512.size a ≤ S1x8192x512.size a := fun i v177 k0_hw48 k0_h2 => k0_hw48 k0_h2

def k0_off144 (k0_t6 : Fin k0_t6_loop.trips) : Fin 3 → Nat :=
  let c64_i32 : BitVec 32 := 64#32
  let c1_i32_58 : BitVec 32 := 1#32
  let arg11 : BitVec 32 := Scf.iv c64_i32 c1_i32_58 k0_t6
  let v181 : Index := Scalar.indexCast arg11
  let c7 : Index := 7#32
  let c0_144 : Index := 0#32
  ![v181.toNat, 7, 0]
@[reducible] def k0_t7_loop : Scf.Loop 32 :=
  let c80_i32 : BitVec 32 := 80#32
  let c16_i32_69 : BitVec 32 := 16#32
  let v80 : BitVec 32 := Scalar.addi c80_i32 c16_i32_69
  let c1_i32_70 : BitVec 32 := 1#32
  ⟨c80_i32, v80, c1_i32_70⟩
def k0_off145 (k0_t7 : Fin k0_t7_loop.trips) : Fin 3 → Nat :=
  let c0_95 : Index := 0#32
  let c0_96 : Index := 0#32
  let c80_i32 : BitVec 32 := 80#32
  let c1_i32_70 : BitVec 32 := 1#32
  let arg11 : BitVec 32 := Scf.iv c80_i32 c1_i32_70 k0_t7
  let c8_i32 : BitVec 32 := 8#32
  let v97 : BitVec 32 := Scalar.muli arg11 c8_i32
  let c0_i32_94 : BitVec 32 := 0#32
  let v98 : BitVec 32 := Scalar.addi v97 c0_i32_94
  let v99 : Index := Scalar.indexCast v98
  ![0, 0, v99.toNat]
def k0_off146 (v100 : BitVec 32) : Fin 3 → Nat :=
  let c0_97 : Index := 0#32
  let v101 : Index := Scalar.indexCast v100
  let c0_98 : Index := 0#32
  ![0, v101.toNat, 0]

def k0_chk49 (i : grid0.Coords) (v100 : BitVec 32) : Prop :=
  (∀ (k0_h2 : k0_cond2 i = 1#1), ∀ a, (k0_off146 v100) a + S1x1x512.size a ≤ S1x8192x512.size a)
theorem k0_off146_inb : ∀ (i : grid0.Coords) (v100 : BitVec 32) (k0_hw49 : k0_chk49 i v100), ∀ (k0_h2 : k0_cond2 i = 1#1), ∀ a, (k0_off146 v100) a + S1x1x512.size a ≤ S1x8192x512.size a := fun i v100 k0_hw49 k0_h2 => k0_hw49 k0_h2

def k0_off147 (k0_t7 : Fin k0_t7_loop.trips) : Fin 3 → Nat :=
  let c80_i32 : BitVec 32 := 80#32
  let c1_i32_70 : BitVec 32 := 1#32
  let arg11 : BitVec 32 := Scf.iv c80_i32 c1_i32_70 k0_t7
  let v104 : Index := Scalar.indexCast arg11
  let c0_99 : Index := 0#32
  let c0_100 : Index := 0#32
  ![v104.toNat, 0, 0]
def k0_off148 (k0_t7 : Fin k0_t7_loop.trips) : Fin 3 → Nat :=
  let c0_103 : Index := 0#32
  let c0_104 : Index := 0#32
  let c80_i32 : BitVec 32 := 80#32
  let c1_i32_70 : BitVec 32 := 1#32
  let arg11 : BitVec 32 := Scf.iv c80_i32 c1_i32_70 k0_t7
  let c8_i32_101 : BitVec 32 := 8#32
  let v108 : BitVec 32 := Scalar.muli arg11 c8_i32_101
  let c1_i32_102 : BitVec 32 := 1#32
  let v109 : BitVec 32 := Scalar.addi v108 c1_i32_102
  let v110 : Index := Scalar.indexCast v109
  ![0, 0, v110.toNat]
def k0_off149 (v111 : BitVec 32) : Fin 3 → Nat :=
  let c0_105 : Index := 0#32
  let v112 : Index := Scalar.indexCast v111
  let c0_106 : Index := 0#32
  ![0, v112.toNat, 0]

def k0_chk50 (i : grid0.Coords) (v111 : BitVec 32) : Prop :=
  (∀ (k0_h2 : k0_cond2 i = 1#1), ∀ a, (k0_off149 v111) a + S1x1x512.size a ≤ S1x8192x512.size a)
theorem k0_off149_inb : ∀ (i : grid0.Coords) (v111 : BitVec 32) (k0_hw50 : k0_chk50 i v111), ∀ (k0_h2 : k0_cond2 i = 1#1), ∀ a, (k0_off149 v111) a + S1x1x512.size a ≤ S1x8192x512.size a := fun i v111 k0_hw50 k0_h2 => k0_hw50 k0_h2

def k0_off150 (k0_t7 : Fin k0_t7_loop.trips) : Fin 3 → Nat :=
  let c80_i32 : BitVec 32 := 80#32
  let c1_i32_70 : BitVec 32 := 1#32
  let arg11 : BitVec 32 := Scf.iv c80_i32 c1_i32_70 k0_t7
  let v115 : Index := Scalar.indexCast arg11
  let c1 : Index := 1#32
  let c0_107 : Index := 0#32
  ![v115.toNat, 1, 0]
def k0_off151 (k0_t7 : Fin k0_t7_loop.trips) : Fin 3 → Nat :=
  let c0_110 : Index := 0#32
  let c0_111 : Index := 0#32
  let c80_i32 : BitVec 32 := 80#32
  let c1_i32_70 : BitVec 32 := 1#32
  let arg11 : BitVec 32 := Scf.iv c80_i32 c1_i32_70 k0_t7
  let c8_i32_108 : BitVec 32 := 8#32
  let v119 : BitVec 32 := Scalar.muli arg11 c8_i32_108
  let c2_i32_109 : BitVec 32 := 2#32
  let v120 : BitVec 32 := Scalar.addi v119 c2_i32_109
  let v121 : Index := Scalar.indexCast v120
  ![0, 0, v121.toNat]
def k0_off152 (v122 : BitVec 32) : Fin 3 → Nat :=
  let c0_112 : Index := 0#32
  let v123 : Index := Scalar.indexCast v122
  let c0_113 : Index := 0#32
  ![0, v123.toNat, 0]

def k0_chk51 (i : grid0.Coords) (v122 : BitVec 32) : Prop :=
  (∀ (k0_h2 : k0_cond2 i = 1#1), ∀ a, (k0_off152 v122) a + S1x1x512.size a ≤ S1x8192x512.size a)
theorem k0_off152_inb : ∀ (i : grid0.Coords) (v122 : BitVec 32) (k0_hw51 : k0_chk51 i v122), ∀ (k0_h2 : k0_cond2 i = 1#1), ∀ a, (k0_off152 v122) a + S1x1x512.size a ≤ S1x8192x512.size a := fun i v122 k0_hw51 k0_h2 => k0_hw51 k0_h2

def k0_off153 (k0_t7 : Fin k0_t7_loop.trips) : Fin 3 → Nat :=
  let c80_i32 : BitVec 32 := 80#32
  let c1_i32_70 : BitVec 32 := 1#32
  let arg11 : BitVec 32 := Scf.iv c80_i32 c1_i32_70 k0_t7
  let v126 : Index := Scalar.indexCast arg11
  let c2 : Index := 2#32
  let c0_114 : Index := 0#32
  ![v126.toNat, 2, 0]
def k0_off154 (k0_t7 : Fin k0_t7_loop.trips) : Fin 3 → Nat :=
  let c0_116 : Index := 0#32
  let c0_117 : Index := 0#32
  let c80_i32 : BitVec 32 := 80#32
  let c1_i32_70 : BitVec 32 := 1#32
  let arg11 : BitVec 32 := Scf.iv c80_i32 c1_i32_70 k0_t7
  let c8_i32_115 : BitVec 32 := 8#32
  let v130 : BitVec 32 := Scalar.muli arg11 c8_i32_115
  let c3_i32 : BitVec 32 := 3#32
  let v131 : BitVec 32 := Scalar.addi v130 c3_i32
  let v132 : Index := Scalar.indexCast v131
  ![0, 0, v132.toNat]
def k0_off155 (v133 : BitVec 32) : Fin 3 → Nat :=
  let c0_118 : Index := 0#32
  let v134 : Index := Scalar.indexCast v133
  let c0_119 : Index := 0#32
  ![0, v134.toNat, 0]

def k0_chk52 (i : grid0.Coords) (v133 : BitVec 32) : Prop :=
  (∀ (k0_h2 : k0_cond2 i = 1#1), ∀ a, (k0_off155 v133) a + S1x1x512.size a ≤ S1x8192x512.size a)
theorem k0_off155_inb : ∀ (i : grid0.Coords) (v133 : BitVec 32) (k0_hw52 : k0_chk52 i v133), ∀ (k0_h2 : k0_cond2 i = 1#1), ∀ a, (k0_off155 v133) a + S1x1x512.size a ≤ S1x8192x512.size a := fun i v133 k0_hw52 k0_h2 => k0_hw52 k0_h2

def k0_off156 (k0_t7 : Fin k0_t7_loop.trips) : Fin 3 → Nat :=
  let c80_i32 : BitVec 32 := 80#32
  let c1_i32_70 : BitVec 32 := 1#32
  let arg11 : BitVec 32 := Scf.iv c80_i32 c1_i32_70 k0_t7
  let v137 : Index := Scalar.indexCast arg11
  let c3 : Index := 3#32
  let c0_120 : Index := 0#32
  ![v137.toNat, 3, 0]
def k0_off157 (k0_t7 : Fin k0_t7_loop.trips) : Fin 3 → Nat :=
  let c0_122 : Index := 0#32
  let c0_123 : Index := 0#32
  let c80_i32 : BitVec 32 := 80#32
  let c1_i32_70 : BitVec 32 := 1#32
  let arg11 : BitVec 32 := Scf.iv c80_i32 c1_i32_70 k0_t7
  let c8_i32_121 : BitVec 32 := 8#32
  let v141 : BitVec 32 := Scalar.muli arg11 c8_i32_121
  let c4_i32 : BitVec 32 := 4#32
  let v142 : BitVec 32 := Scalar.addi v141 c4_i32
  let v143 : Index := Scalar.indexCast v142
  ![0, 0, v143.toNat]
def k0_off158 (v144 : BitVec 32) : Fin 3 → Nat :=
  let c0_124 : Index := 0#32
  let v145 : Index := Scalar.indexCast v144
  let c0_125 : Index := 0#32
  ![0, v145.toNat, 0]

def k0_chk53 (i : grid0.Coords) (v144 : BitVec 32) : Prop :=
  (∀ (k0_h2 : k0_cond2 i = 1#1), ∀ a, (k0_off158 v144) a + S1x1x512.size a ≤ S1x8192x512.size a)
theorem k0_off158_inb : ∀ (i : grid0.Coords) (v144 : BitVec 32) (k0_hw53 : k0_chk53 i v144), ∀ (k0_h2 : k0_cond2 i = 1#1), ∀ a, (k0_off158 v144) a + S1x1x512.size a ≤ S1x8192x512.size a := fun i v144 k0_hw53 k0_h2 => k0_hw53 k0_h2

def k0_off159 (k0_t7 : Fin k0_t7_loop.trips) : Fin 3 → Nat :=
  let c80_i32 : BitVec 32 := 80#32
  let c1_i32_70 : BitVec 32 := 1#32
  let arg11 : BitVec 32 := Scf.iv c80_i32 c1_i32_70 k0_t7
  let v148 : Index := Scalar.indexCast arg11
  let c4 : Index := 4#32
  let c0_126 : Index := 0#32
  ![v148.toNat, 4, 0]
def k0_off160 (k0_t7 : Fin k0_t7_loop.trips) : Fin 3 → Nat :=
  let c0_128 : Index := 0#32
  let c0_129 : Index := 0#32
  let c80_i32 : BitVec 32 := 80#32
  let c1_i32_70 : BitVec 32 := 1#32
  let arg11 : BitVec 32 := Scf.iv c80_i32 c1_i32_70 k0_t7
  let c8_i32_127 : BitVec 32 := 8#32
  let v152 : BitVec 32 := Scalar.muli arg11 c8_i32_127
  let c5_i32 : BitVec 32 := 5#32
  let v153 : BitVec 32 := Scalar.addi v152 c5_i32
  let v154 : Index := Scalar.indexCast v153
  ![0, 0, v154.toNat]
def k0_off161 (v155 : BitVec 32) : Fin 3 → Nat :=
  let c0_130 : Index := 0#32
  let v156 : Index := Scalar.indexCast v155
  let c0_131 : Index := 0#32
  ![0, v156.toNat, 0]

def k0_chk54 (i : grid0.Coords) (v155 : BitVec 32) : Prop :=
  (∀ (k0_h2 : k0_cond2 i = 1#1), ∀ a, (k0_off161 v155) a + S1x1x512.size a ≤ S1x8192x512.size a)
theorem k0_off161_inb : ∀ (i : grid0.Coords) (v155 : BitVec 32) (k0_hw54 : k0_chk54 i v155), ∀ (k0_h2 : k0_cond2 i = 1#1), ∀ a, (k0_off161 v155) a + S1x1x512.size a ≤ S1x8192x512.size a := fun i v155 k0_hw54 k0_h2 => k0_hw54 k0_h2

def k0_off162 (k0_t7 : Fin k0_t7_loop.trips) : Fin 3 → Nat :=
  let c80_i32 : BitVec 32 := 80#32
  let c1_i32_70 : BitVec 32 := 1#32
  let arg11 : BitVec 32 := Scf.iv c80_i32 c1_i32_70 k0_t7
  let v159 : Index := Scalar.indexCast arg11
  let c5 : Index := 5#32
  let c0_132 : Index := 0#32
  ![v159.toNat, 5, 0]
def k0_off163 (k0_t7 : Fin k0_t7_loop.trips) : Fin 3 → Nat :=
  let c0_134 : Index := 0#32
  let c0_135 : Index := 0#32
  let c80_i32 : BitVec 32 := 80#32
  let c1_i32_70 : BitVec 32 := 1#32
  let arg11 : BitVec 32 := Scf.iv c80_i32 c1_i32_70 k0_t7
  let c8_i32_133 : BitVec 32 := 8#32
  let v163 : BitVec 32 := Scalar.muli arg11 c8_i32_133
  let c6_i32 : BitVec 32 := 6#32
  let v164 : BitVec 32 := Scalar.addi v163 c6_i32
  let v165 : Index := Scalar.indexCast v164
  ![0, 0, v165.toNat]
def k0_off164 (v166 : BitVec 32) : Fin 3 → Nat :=
  let c0_136 : Index := 0#32
  let v167 : Index := Scalar.indexCast v166
  let c0_137 : Index := 0#32
  ![0, v167.toNat, 0]

def k0_chk55 (i : grid0.Coords) (v166 : BitVec 32) : Prop :=
  (∀ (k0_h2 : k0_cond2 i = 1#1), ∀ a, (k0_off164 v166) a + S1x1x512.size a ≤ S1x8192x512.size a)
theorem k0_off164_inb : ∀ (i : grid0.Coords) (v166 : BitVec 32) (k0_hw55 : k0_chk55 i v166), ∀ (k0_h2 : k0_cond2 i = 1#1), ∀ a, (k0_off164 v166) a + S1x1x512.size a ≤ S1x8192x512.size a := fun i v166 k0_hw55 k0_h2 => k0_hw55 k0_h2

def k0_off165 (k0_t7 : Fin k0_t7_loop.trips) : Fin 3 → Nat :=
  let c80_i32 : BitVec 32 := 80#32
  let c1_i32_70 : BitVec 32 := 1#32
  let arg11 : BitVec 32 := Scf.iv c80_i32 c1_i32_70 k0_t7
  let v170 : Index := Scalar.indexCast arg11
  let c6 : Index := 6#32
  let c0_138 : Index := 0#32
  ![v170.toNat, 6, 0]
def k0_off166 (k0_t7 : Fin k0_t7_loop.trips) : Fin 3 → Nat :=
  let c0_140 : Index := 0#32
  let c0_141 : Index := 0#32
  let c80_i32 : BitVec 32 := 80#32
  let c1_i32_70 : BitVec 32 := 1#32
  let arg11 : BitVec 32 := Scf.iv c80_i32 c1_i32_70 k0_t7
  let c8_i32_139 : BitVec 32 := 8#32
  let v174 : BitVec 32 := Scalar.muli arg11 c8_i32_139
  let c7_i32 : BitVec 32 := 7#32
  let v175 : BitVec 32 := Scalar.addi v174 c7_i32
  let v176 : Index := Scalar.indexCast v175
  ![0, 0, v176.toNat]
def k0_off167 (v177 : BitVec 32) : Fin 3 → Nat :=
  let c0_142 : Index := 0#32
  let v178 : Index := Scalar.indexCast v177
  let c0_143 : Index := 0#32
  ![0, v178.toNat, 0]

def k0_chk56 (i : grid0.Coords) (v177 : BitVec 32) : Prop :=
  (∀ (k0_h2 : k0_cond2 i = 1#1), ∀ a, (k0_off167 v177) a + S1x1x512.size a ≤ S1x8192x512.size a)
theorem k0_off167_inb : ∀ (i : grid0.Coords) (v177 : BitVec 32) (k0_hw56 : k0_chk56 i v177), ∀ (k0_h2 : k0_cond2 i = 1#1), ∀ a, (k0_off167 v177) a + S1x1x512.size a ≤ S1x8192x512.size a := fun i v177 k0_hw56 k0_h2 => k0_hw56 k0_h2

def k0_off168 (k0_t7 : Fin k0_t7_loop.trips) : Fin 3 → Nat :=
  let c80_i32 : BitVec 32 := 80#32
  let c1_i32_70 : BitVec 32 := 1#32
  let arg11 : BitVec 32 := Scf.iv c80_i32 c1_i32_70 k0_t7
  let v181 : Index := Scalar.indexCast arg11
  let c7 : Index := 7#32
  let c0_144 : Index := 0#32
  ![v181.toNat, 7, 0]
@[reducible] def k0_t8_loop : Scf.Loop 32 :=
  let c96_i32 : BitVec 32 := 96#32
  let c16_i32_80 : BitVec 32 := 16#32
  let v88 : BitVec 32 := Scalar.addi c96_i32 c16_i32_80
  let c1_i32_81 : BitVec 32 := 1#32
  ⟨c96_i32, v88, c1_i32_81⟩
def k0_off169 (k0_t8 : Fin k0_t8_loop.trips) : Fin 3 → Nat :=
  let c0_95 : Index := 0#32
  let c0_96 : Index := 0#32
  let c96_i32 : BitVec 32 := 96#32
  let c1_i32_81 : BitVec 32 := 1#32
  let arg11 : BitVec 32 := Scf.iv c96_i32 c1_i32_81 k0_t8
  let c8_i32 : BitVec 32 := 8#32
  let v97 : BitVec 32 := Scalar.muli arg11 c8_i32
  let c0_i32_94 : BitVec 32 := 0#32
  let v98 : BitVec 32 := Scalar.addi v97 c0_i32_94
  let v99 : Index := Scalar.indexCast v98
  ![0, 0, v99.toNat]
def k0_off170 (v100 : BitVec 32) : Fin 3 → Nat :=
  let c0_97 : Index := 0#32
  let v101 : Index := Scalar.indexCast v100
  let c0_98 : Index := 0#32
  ![0, v101.toNat, 0]

def k0_chk57 (i : grid0.Coords) (v100 : BitVec 32) : Prop :=
  (∀ (k0_h2 : k0_cond2 i = 1#1), ∀ a, (k0_off170 v100) a + S1x1x512.size a ≤ S1x8192x512.size a)
theorem k0_off170_inb : ∀ (i : grid0.Coords) (v100 : BitVec 32) (k0_hw57 : k0_chk57 i v100), ∀ (k0_h2 : k0_cond2 i = 1#1), ∀ a, (k0_off170 v100) a + S1x1x512.size a ≤ S1x8192x512.size a := fun i v100 k0_hw57 k0_h2 => k0_hw57 k0_h2

def k0_off171 (k0_t8 : Fin k0_t8_loop.trips) : Fin 3 → Nat :=
  let c96_i32 : BitVec 32 := 96#32
  let c1_i32_81 : BitVec 32 := 1#32
  let arg11 : BitVec 32 := Scf.iv c96_i32 c1_i32_81 k0_t8
  let v104 : Index := Scalar.indexCast arg11
  let c0_99 : Index := 0#32
  let c0_100 : Index := 0#32
  ![v104.toNat, 0, 0]
def k0_off172 (k0_t8 : Fin k0_t8_loop.trips) : Fin 3 → Nat :=
  let c0_103 : Index := 0#32
  let c0_104 : Index := 0#32
  let c96_i32 : BitVec 32 := 96#32
  let c1_i32_81 : BitVec 32 := 1#32
  let arg11 : BitVec 32 := Scf.iv c96_i32 c1_i32_81 k0_t8
  let c8_i32_101 : BitVec 32 := 8#32
  let v108 : BitVec 32 := Scalar.muli arg11 c8_i32_101
  let c1_i32_102 : BitVec 32 := 1#32
  let v109 : BitVec 32 := Scalar.addi v108 c1_i32_102
  let v110 : Index := Scalar.indexCast v109
  ![0, 0, v110.toNat]
def k0_off173 (v111 : BitVec 32) : Fin 3 → Nat :=
  let c0_105 : Index := 0#32
  let v112 : Index := Scalar.indexCast v111
  let c0_106 : Index := 0#32
  ![0, v112.toNat, 0]

def k0_chk58 (i : grid0.Coords) (v111 : BitVec 32) : Prop :=
  (∀ (k0_h2 : k0_cond2 i = 1#1), ∀ a, (k0_off173 v111) a + S1x1x512.size a ≤ S1x8192x512.size a)
theorem k0_off173_inb : ∀ (i : grid0.Coords) (v111 : BitVec 32) (k0_hw58 : k0_chk58 i v111), ∀ (k0_h2 : k0_cond2 i = 1#1), ∀ a, (k0_off173 v111) a + S1x1x512.size a ≤ S1x8192x512.size a := fun i v111 k0_hw58 k0_h2 => k0_hw58 k0_h2

def k0_off174 (k0_t8 : Fin k0_t8_loop.trips) : Fin 3 → Nat :=
  let c96_i32 : BitVec 32 := 96#32
  let c1_i32_81 : BitVec 32 := 1#32
  let arg11 : BitVec 32 := Scf.iv c96_i32 c1_i32_81 k0_t8
  let v115 : Index := Scalar.indexCast arg11
  let c1 : Index := 1#32
  let c0_107 : Index := 0#32
  ![v115.toNat, 1, 0]
def k0_off175 (k0_t8 : Fin k0_t8_loop.trips) : Fin 3 → Nat :=
  let c0_110 : Index := 0#32
  let c0_111 : Index := 0#32
  let c96_i32 : BitVec 32 := 96#32
  let c1_i32_81 : BitVec 32 := 1#32
  let arg11 : BitVec 32 := Scf.iv c96_i32 c1_i32_81 k0_t8
  let c8_i32_108 : BitVec 32 := 8#32
  let v119 : BitVec 32 := Scalar.muli arg11 c8_i32_108
  let c2_i32_109 : BitVec 32 := 2#32
  let v120 : BitVec 32 := Scalar.addi v119 c2_i32_109
  let v121 : Index := Scalar.indexCast v120
  ![0, 0, v121.toNat]
def k0_off176 (v122 : BitVec 32) : Fin 3 → Nat :=
  let c0_112 : Index := 0#32
  let v123 : Index := Scalar.indexCast v122
  let c0_113 : Index := 0#32
  ![0, v123.toNat, 0]

def k0_chk59 (i : grid0.Coords) (v122 : BitVec 32) : Prop :=
  (∀ (k0_h2 : k0_cond2 i = 1#1), ∀ a, (k0_off176 v122) a + S1x1x512.size a ≤ S1x8192x512.size a)
theorem k0_off176_inb : ∀ (i : grid0.Coords) (v122 : BitVec 32) (k0_hw59 : k0_chk59 i v122), ∀ (k0_h2 : k0_cond2 i = 1#1), ∀ a, (k0_off176 v122) a + S1x1x512.size a ≤ S1x8192x512.size a := fun i v122 k0_hw59 k0_h2 => k0_hw59 k0_h2

def k0_off177 (k0_t8 : Fin k0_t8_loop.trips) : Fin 3 → Nat :=
  let c96_i32 : BitVec 32 := 96#32
  let c1_i32_81 : BitVec 32 := 1#32
  let arg11 : BitVec 32 := Scf.iv c96_i32 c1_i32_81 k0_t8
  let v126 : Index := Scalar.indexCast arg11
  let c2 : Index := 2#32
  let c0_114 : Index := 0#32
  ![v126.toNat, 2, 0]
def k0_off178 (k0_t8 : Fin k0_t8_loop.trips) : Fin 3 → Nat :=
  let c0_116 : Index := 0#32
  let c0_117 : Index := 0#32
  let c96_i32 : BitVec 32 := 96#32
  let c1_i32_81 : BitVec 32 := 1#32
  let arg11 : BitVec 32 := Scf.iv c96_i32 c1_i32_81 k0_t8
  let c8_i32_115 : BitVec 32 := 8#32
  let v130 : BitVec 32 := Scalar.muli arg11 c8_i32_115
  let c3_i32 : BitVec 32 := 3#32
  let v131 : BitVec 32 := Scalar.addi v130 c3_i32
  let v132 : Index := Scalar.indexCast v131
  ![0, 0, v132.toNat]
def k0_off179 (v133 : BitVec 32) : Fin 3 → Nat :=
  let c0_118 : Index := 0#32
  let v134 : Index := Scalar.indexCast v133
  let c0_119 : Index := 0#32
  ![0, v134.toNat, 0]

def k0_chk60 (i : grid0.Coords) (v133 : BitVec 32) : Prop :=
  (∀ (k0_h2 : k0_cond2 i = 1#1), ∀ a, (k0_off179 v133) a + S1x1x512.size a ≤ S1x8192x512.size a)
theorem k0_off179_inb : ∀ (i : grid0.Coords) (v133 : BitVec 32) (k0_hw60 : k0_chk60 i v133), ∀ (k0_h2 : k0_cond2 i = 1#1), ∀ a, (k0_off179 v133) a + S1x1x512.size a ≤ S1x8192x512.size a := fun i v133 k0_hw60 k0_h2 => k0_hw60 k0_h2

def k0_off180 (k0_t8 : Fin k0_t8_loop.trips) : Fin 3 → Nat :=
  let c96_i32 : BitVec 32 := 96#32
  let c1_i32_81 : BitVec 32 := 1#32
  let arg11 : BitVec 32 := Scf.iv c96_i32 c1_i32_81 k0_t8
  let v137 : Index := Scalar.indexCast arg11
  let c3 : Index := 3#32
  let c0_120 : Index := 0#32
  ![v137.toNat, 3, 0]
def k0_off181 (k0_t8 : Fin k0_t8_loop.trips) : Fin 3 → Nat :=
  let c0_122 : Index := 0#32
  let c0_123 : Index := 0#32
  let c96_i32 : BitVec 32 := 96#32
  let c1_i32_81 : BitVec 32 := 1#32
  let arg11 : BitVec 32 := Scf.iv c96_i32 c1_i32_81 k0_t8
  let c8_i32_121 : BitVec 32 := 8#32
  let v141 : BitVec 32 := Scalar.muli arg11 c8_i32_121
  let c4_i32 : BitVec 32 := 4#32
  let v142 : BitVec 32 := Scalar.addi v141 c4_i32
  let v143 : Index := Scalar.indexCast v142
  ![0, 0, v143.toNat]
def k0_off182 (v144 : BitVec 32) : Fin 3 → Nat :=
  let c0_124 : Index := 0#32
  let v145 : Index := Scalar.indexCast v144
  let c0_125 : Index := 0#32
  ![0, v145.toNat, 0]

def k0_chk61 (i : grid0.Coords) (v144 : BitVec 32) : Prop :=
  (∀ (k0_h2 : k0_cond2 i = 1#1), ∀ a, (k0_off182 v144) a + S1x1x512.size a ≤ S1x8192x512.size a)
theorem k0_off182_inb : ∀ (i : grid0.Coords) (v144 : BitVec 32) (k0_hw61 : k0_chk61 i v144), ∀ (k0_h2 : k0_cond2 i = 1#1), ∀ a, (k0_off182 v144) a + S1x1x512.size a ≤ S1x8192x512.size a := fun i v144 k0_hw61 k0_h2 => k0_hw61 k0_h2

def k0_off183 (k0_t8 : Fin k0_t8_loop.trips) : Fin 3 → Nat :=
  let c96_i32 : BitVec 32 := 96#32
  let c1_i32_81 : BitVec 32 := 1#32
  let arg11 : BitVec 32 := Scf.iv c96_i32 c1_i32_81 k0_t8
  let v148 : Index := Scalar.indexCast arg11
  let c4 : Index := 4#32
  let c0_126 : Index := 0#32
  ![v148.toNat, 4, 0]
def k0_off184 (k0_t8 : Fin k0_t8_loop.trips) : Fin 3 → Nat :=
  let c0_128 : Index := 0#32
  let c0_129 : Index := 0#32
  let c96_i32 : BitVec 32 := 96#32
  let c1_i32_81 : BitVec 32 := 1#32
  let arg11 : BitVec 32 := Scf.iv c96_i32 c1_i32_81 k0_t8
  let c8_i32_127 : BitVec 32 := 8#32
  let v152 : BitVec 32 := Scalar.muli arg11 c8_i32_127
  let c5_i32 : BitVec 32 := 5#32
  let v153 : BitVec 32 := Scalar.addi v152 c5_i32
  let v154 : Index := Scalar.indexCast v153
  ![0, 0, v154.toNat]
def k0_off185 (v155 : BitVec 32) : Fin 3 → Nat :=
  let c0_130 : Index := 0#32
  let v156 : Index := Scalar.indexCast v155
  let c0_131 : Index := 0#32
  ![0, v156.toNat, 0]

def k0_chk62 (i : grid0.Coords) (v155 : BitVec 32) : Prop :=
  (∀ (k0_h2 : k0_cond2 i = 1#1), ∀ a, (k0_off185 v155) a + S1x1x512.size a ≤ S1x8192x512.size a)
theorem k0_off185_inb : ∀ (i : grid0.Coords) (v155 : BitVec 32) (k0_hw62 : k0_chk62 i v155), ∀ (k0_h2 : k0_cond2 i = 1#1), ∀ a, (k0_off185 v155) a + S1x1x512.size a ≤ S1x8192x512.size a := fun i v155 k0_hw62 k0_h2 => k0_hw62 k0_h2

def k0_off186 (k0_t8 : Fin k0_t8_loop.trips) : Fin 3 → Nat :=
  let c96_i32 : BitVec 32 := 96#32
  let c1_i32_81 : BitVec 32 := 1#32
  let arg11 : BitVec 32 := Scf.iv c96_i32 c1_i32_81 k0_t8
  let v159 : Index := Scalar.indexCast arg11
  let c5 : Index := 5#32
  let c0_132 : Index := 0#32
  ![v159.toNat, 5, 0]
def k0_off187 (k0_t8 : Fin k0_t8_loop.trips) : Fin 3 → Nat :=
  let c0_134 : Index := 0#32
  let c0_135 : Index := 0#32
  let c96_i32 : BitVec 32 := 96#32
  let c1_i32_81 : BitVec 32 := 1#32
  let arg11 : BitVec 32 := Scf.iv c96_i32 c1_i32_81 k0_t8
  let c8_i32_133 : BitVec 32 := 8#32
  let v163 : BitVec 32 := Scalar.muli arg11 c8_i32_133
  let c6_i32 : BitVec 32 := 6#32
  let v164 : BitVec 32 := Scalar.addi v163 c6_i32
  let v165 : Index := Scalar.indexCast v164
  ![0, 0, v165.toNat]
def k0_off188 (v166 : BitVec 32) : Fin 3 → Nat :=
  let c0_136 : Index := 0#32
  let v167 : Index := Scalar.indexCast v166
  let c0_137 : Index := 0#32
  ![0, v167.toNat, 0]

def k0_chk63 (i : grid0.Coords) (v166 : BitVec 32) : Prop :=
  (∀ (k0_h2 : k0_cond2 i = 1#1), ∀ a, (k0_off188 v166) a + S1x1x512.size a ≤ S1x8192x512.size a)
theorem k0_off188_inb : ∀ (i : grid0.Coords) (v166 : BitVec 32) (k0_hw63 : k0_chk63 i v166), ∀ (k0_h2 : k0_cond2 i = 1#1), ∀ a, (k0_off188 v166) a + S1x1x512.size a ≤ S1x8192x512.size a := fun i v166 k0_hw63 k0_h2 => k0_hw63 k0_h2

def k0_off189 (k0_t8 : Fin k0_t8_loop.trips) : Fin 3 → Nat :=
  let c96_i32 : BitVec 32 := 96#32
  let c1_i32_81 : BitVec 32 := 1#32
  let arg11 : BitVec 32 := Scf.iv c96_i32 c1_i32_81 k0_t8
  let v170 : Index := Scalar.indexCast arg11
  let c6 : Index := 6#32
  let c0_138 : Index := 0#32
  ![v170.toNat, 6, 0]
def k0_off190 (k0_t8 : Fin k0_t8_loop.trips) : Fin 3 → Nat :=
  let c0_140 : Index := 0#32
  let c0_141 : Index := 0#32
  let c96_i32 : BitVec 32 := 96#32
  let c1_i32_81 : BitVec 32 := 1#32
  let arg11 : BitVec 32 := Scf.iv c96_i32 c1_i32_81 k0_t8
  let c8_i32_139 : BitVec 32 := 8#32
  let v174 : BitVec 32 := Scalar.muli arg11 c8_i32_139
  let c7_i32 : BitVec 32 := 7#32
  let v175 : BitVec 32 := Scalar.addi v174 c7_i32
  let v176 : Index := Scalar.indexCast v175
  ![0, 0, v176.toNat]
def k0_off191 (v177 : BitVec 32) : Fin 3 → Nat :=
  let c0_142 : Index := 0#32
  let v178 : Index := Scalar.indexCast v177
  let c0_143 : Index := 0#32
  ![0, v178.toNat, 0]

def k0_chk64 (i : grid0.Coords) (v177 : BitVec 32) : Prop :=
  (∀ (k0_h2 : k0_cond2 i = 1#1), ∀ a, (k0_off191 v177) a + S1x1x512.size a ≤ S1x8192x512.size a)
theorem k0_off191_inb : ∀ (i : grid0.Coords) (v177 : BitVec 32) (k0_hw64 : k0_chk64 i v177), ∀ (k0_h2 : k0_cond2 i = 1#1), ∀ a, (k0_off191 v177) a + S1x1x512.size a ≤ S1x8192x512.size a := fun i v177 k0_hw64 k0_h2 => k0_hw64 k0_h2

def k0_off192 (k0_t8 : Fin k0_t8_loop.trips) : Fin 3 → Nat :=
  let c96_i32 : BitVec 32 := 96#32
  let c1_i32_81 : BitVec 32 := 1#32
  let arg11 : BitVec 32 := Scf.iv c96_i32 c1_i32_81 k0_t8
  let v181 : Index := Scalar.indexCast arg11
  let c7 : Index := 7#32
  let c0_144 : Index := 0#32
  ![v181.toNat, 7, 0]
@[reducible] def k0_t9_loop : Scf.Loop 32 :=
  let c112_i32 : BitVec 32 := 112#32
  let c16_i32_91 : BitVec 32 := 16#32
  let v96 : BitVec 32 := Scalar.addi c112_i32 c16_i32_91
  let c1_i32_92 : BitVec 32 := 1#32
  ⟨c112_i32, v96, c1_i32_92⟩
def k0_off193 (k0_t9 : Fin k0_t9_loop.trips) : Fin 3 → Nat :=
  let c0_95 : Index := 0#32
  let c0_96 : Index := 0#32
  let c112_i32 : BitVec 32 := 112#32
  let c1_i32_92 : BitVec 32 := 1#32
  let arg11 : BitVec 32 := Scf.iv c112_i32 c1_i32_92 k0_t9
  let c8_i32 : BitVec 32 := 8#32
  let v97 : BitVec 32 := Scalar.muli arg11 c8_i32
  let c0_i32_94 : BitVec 32 := 0#32
  let v98 : BitVec 32 := Scalar.addi v97 c0_i32_94
  let v99 : Index := Scalar.indexCast v98
  ![0, 0, v99.toNat]
def k0_off194 (v100 : BitVec 32) : Fin 3 → Nat :=
  let c0_97 : Index := 0#32
  let v101 : Index := Scalar.indexCast v100
  let c0_98 : Index := 0#32
  ![0, v101.toNat, 0]

def k0_chk65 (i : grid0.Coords) (v100 : BitVec 32) : Prop :=
  (∀ (k0_h2 : k0_cond2 i = 1#1), ∀ a, (k0_off194 v100) a + S1x1x512.size a ≤ S1x8192x512.size a)
theorem k0_off194_inb : ∀ (i : grid0.Coords) (v100 : BitVec 32) (k0_hw65 : k0_chk65 i v100), ∀ (k0_h2 : k0_cond2 i = 1#1), ∀ a, (k0_off194 v100) a + S1x1x512.size a ≤ S1x8192x512.size a := fun i v100 k0_hw65 k0_h2 => k0_hw65 k0_h2

def k0_off195 (k0_t9 : Fin k0_t9_loop.trips) : Fin 3 → Nat :=
  let c112_i32 : BitVec 32 := 112#32
  let c1_i32_92 : BitVec 32 := 1#32
  let arg11 : BitVec 32 := Scf.iv c112_i32 c1_i32_92 k0_t9
  let v104 : Index := Scalar.indexCast arg11
  let c0_99 : Index := 0#32
  let c0_100 : Index := 0#32
  ![v104.toNat, 0, 0]
def k0_off196 (k0_t9 : Fin k0_t9_loop.trips) : Fin 3 → Nat :=
  let c0_103 : Index := 0#32
  let c0_104 : Index := 0#32
  let c112_i32 : BitVec 32 := 112#32
  let c1_i32_92 : BitVec 32 := 1#32
  let arg11 : BitVec 32 := Scf.iv c112_i32 c1_i32_92 k0_t9
  let c8_i32_101 : BitVec 32 := 8#32
  let v108 : BitVec 32 := Scalar.muli arg11 c8_i32_101
  let c1_i32_102 : BitVec 32 := 1#32
  let v109 : BitVec 32 := Scalar.addi v108 c1_i32_102
  let v110 : Index := Scalar.indexCast v109
  ![0, 0, v110.toNat]
def k0_off197 (v111 : BitVec 32) : Fin 3 → Nat :=
  let c0_105 : Index := 0#32
  let v112 : Index := Scalar.indexCast v111
  let c0_106 : Index := 0#32
  ![0, v112.toNat, 0]

def k0_chk66 (i : grid0.Coords) (v111 : BitVec 32) : Prop :=
  (∀ (k0_h2 : k0_cond2 i = 1#1), ∀ a, (k0_off197 v111) a + S1x1x512.size a ≤ S1x8192x512.size a)
theorem k0_off197_inb : ∀ (i : grid0.Coords) (v111 : BitVec 32) (k0_hw66 : k0_chk66 i v111), ∀ (k0_h2 : k0_cond2 i = 1#1), ∀ a, (k0_off197 v111) a + S1x1x512.size a ≤ S1x8192x512.size a := fun i v111 k0_hw66 k0_h2 => k0_hw66 k0_h2

def k0_off198 (k0_t9 : Fin k0_t9_loop.trips) : Fin 3 → Nat :=
  let c112_i32 : BitVec 32 := 112#32
  let c1_i32_92 : BitVec 32 := 1#32
  let arg11 : BitVec 32 := Scf.iv c112_i32 c1_i32_92 k0_t9
  let v115 : Index := Scalar.indexCast arg11
  let c1 : Index := 1#32
  let c0_107 : Index := 0#32
  ![v115.toNat, 1, 0]
def k0_off199 (k0_t9 : Fin k0_t9_loop.trips) : Fin 3 → Nat :=
  let c0_110 : Index := 0#32
  let c0_111 : Index := 0#32
  let c112_i32 : BitVec 32 := 112#32
  let c1_i32_92 : BitVec 32 := 1#32
  let arg11 : BitVec 32 := Scf.iv c112_i32 c1_i32_92 k0_t9
  let c8_i32_108 : BitVec 32 := 8#32
  let v119 : BitVec 32 := Scalar.muli arg11 c8_i32_108
  let c2_i32_109 : BitVec 32 := 2#32
  let v120 : BitVec 32 := Scalar.addi v119 c2_i32_109
  let v121 : Index := Scalar.indexCast v120
  ![0, 0, v121.toNat]
def k0_off200 (v122 : BitVec 32) : Fin 3 → Nat :=
  let c0_112 : Index := 0#32
  let v123 : Index := Scalar.indexCast v122
  let c0_113 : Index := 0#32
  ![0, v123.toNat, 0]

def k0_chk67 (i : grid0.Coords) (v122 : BitVec 32) : Prop :=
  (∀ (k0_h2 : k0_cond2 i = 1#1), ∀ a, (k0_off200 v122) a + S1x1x512.size a ≤ S1x8192x512.size a)
theorem k0_off200_inb : ∀ (i : grid0.Coords) (v122 : BitVec 32) (k0_hw67 : k0_chk67 i v122), ∀ (k0_h2 : k0_cond2 i = 1#1), ∀ a, (k0_off200 v122) a + S1x1x512.size a ≤ S1x8192x512.size a := fun i v122 k0_hw67 k0_h2 => k0_hw67 k0_h2

def k0_off201 (k0_t9 : Fin k0_t9_loop.trips) : Fin 3 → Nat :=
  let c112_i32 : BitVec 32 := 112#32
  let c1_i32_92 : BitVec 32 := 1#32
  let arg11 : BitVec 32 := Scf.iv c112_i32 c1_i32_92 k0_t9
  let v126 : Index := Scalar.indexCast arg11
  let c2 : Index := 2#32
  let c0_114 : Index := 0#32
  ![v126.toNat, 2, 0]
def k0_off202 (k0_t9 : Fin k0_t9_loop.trips) : Fin 3 → Nat :=
  let c0_116 : Index := 0#32
  let c0_117 : Index := 0#32
  let c112_i32 : BitVec 32 := 112#32
  let c1_i32_92 : BitVec 32 := 1#32
  let arg11 : BitVec 32 := Scf.iv c112_i32 c1_i32_92 k0_t9
  let c8_i32_115 : BitVec 32 := 8#32
  let v130 : BitVec 32 := Scalar.muli arg11 c8_i32_115
  let c3_i32 : BitVec 32 := 3#32
  let v131 : BitVec 32 := Scalar.addi v130 c3_i32
  let v132 : Index := Scalar.indexCast v131
  ![0, 0, v132.toNat]
def k0_off203 (v133 : BitVec 32) : Fin 3 → Nat :=
  let c0_118 : Index := 0#32
  let v134 : Index := Scalar.indexCast v133
  let c0_119 : Index := 0#32
  ![0, v134.toNat, 0]

def k0_chk68 (i : grid0.Coords) (v133 : BitVec 32) : Prop :=
  (∀ (k0_h2 : k0_cond2 i = 1#1), ∀ a, (k0_off203 v133) a + S1x1x512.size a ≤ S1x8192x512.size a)
theorem k0_off203_inb : ∀ (i : grid0.Coords) (v133 : BitVec 32) (k0_hw68 : k0_chk68 i v133), ∀ (k0_h2 : k0_cond2 i = 1#1), ∀ a, (k0_off203 v133) a + S1x1x512.size a ≤ S1x8192x512.size a := fun i v133 k0_hw68 k0_h2 => k0_hw68 k0_h2

def k0_off204 (k0_t9 : Fin k0_t9_loop.trips) : Fin 3 → Nat :=
  let c112_i32 : BitVec 32 := 112#32
  let c1_i32_92 : BitVec 32 := 1#32
  let arg11 : BitVec 32 := Scf.iv c112_i32 c1_i32_92 k0_t9
  let v137 : Index := Scalar.indexCast arg11
  let c3 : Index := 3#32
  let c0_120 : Index := 0#32
  ![v137.toNat, 3, 0]
def k0_off205 (k0_t9 : Fin k0_t9_loop.trips) : Fin 3 → Nat :=
  let c0_122 : Index := 0#32
  let c0_123 : Index := 0#32
  let c112_i32 : BitVec 32 := 112#32
  let c1_i32_92 : BitVec 32 := 1#32
  let arg11 : BitVec 32 := Scf.iv c112_i32 c1_i32_92 k0_t9
  let c8_i32_121 : BitVec 32 := 8#32
  let v141 : BitVec 32 := Scalar.muli arg11 c8_i32_121
  let c4_i32 : BitVec 32 := 4#32
  let v142 : BitVec 32 := Scalar.addi v141 c4_i32
  let v143 : Index := Scalar.indexCast v142
  ![0, 0, v143.toNat]
def k0_off206 (v144 : BitVec 32) : Fin 3 → Nat :=
  let c0_124 : Index := 0#32
  let v145 : Index := Scalar.indexCast v144
  let c0_125 : Index := 0#32
  ![0, v145.toNat, 0]

def k0_chk69 (i : grid0.Coords) (v144 : BitVec 32) : Prop :=
  (∀ (k0_h2 : k0_cond2 i = 1#1), ∀ a, (k0_off206 v144) a + S1x1x512.size a ≤ S1x8192x512.size a)
theorem k0_off206_inb : ∀ (i : grid0.Coords) (v144 : BitVec 32) (k0_hw69 : k0_chk69 i v144), ∀ (k0_h2 : k0_cond2 i = 1#1), ∀ a, (k0_off206 v144) a + S1x1x512.size a ≤ S1x8192x512.size a := fun i v144 k0_hw69 k0_h2 => k0_hw69 k0_h2

def k0_off207 (k0_t9 : Fin k0_t9_loop.trips) : Fin 3 → Nat :=
  let c112_i32 : BitVec 32 := 112#32
  let c1_i32_92 : BitVec 32 := 1#32
  let arg11 : BitVec 32 := Scf.iv c112_i32 c1_i32_92 k0_t9
  let v148 : Index := Scalar.indexCast arg11
  let c4 : Index := 4#32
  let c0_126 : Index := 0#32
  ![v148.toNat, 4, 0]
def k0_off208 (k0_t9 : Fin k0_t9_loop.trips) : Fin 3 → Nat :=
  let c0_128 : Index := 0#32
  let c0_129 : Index := 0#32
  let c112_i32 : BitVec 32 := 112#32
  let c1_i32_92 : BitVec 32 := 1#32
  let arg11 : BitVec 32 := Scf.iv c112_i32 c1_i32_92 k0_t9
  let c8_i32_127 : BitVec 32 := 8#32
  let v152 : BitVec 32 := Scalar.muli arg11 c8_i32_127
  let c5_i32 : BitVec 32 := 5#32
  let v153 : BitVec 32 := Scalar.addi v152 c5_i32
  let v154 : Index := Scalar.indexCast v153
  ![0, 0, v154.toNat]
def k0_off209 (v155 : BitVec 32) : Fin 3 → Nat :=
  let c0_130 : Index := 0#32
  let v156 : Index := Scalar.indexCast v155
  let c0_131 : Index := 0#32
  ![0, v156.toNat, 0]

def k0_chk70 (i : grid0.Coords) (v155 : BitVec 32) : Prop :=
  (∀ (k0_h2 : k0_cond2 i = 1#1), ∀ a, (k0_off209 v155) a + S1x1x512.size a ≤ S1x8192x512.size a)
theorem k0_off209_inb : ∀ (i : grid0.Coords) (v155 : BitVec 32) (k0_hw70 : k0_chk70 i v155), ∀ (k0_h2 : k0_cond2 i = 1#1), ∀ a, (k0_off209 v155) a + S1x1x512.size a ≤ S1x8192x512.size a := fun i v155 k0_hw70 k0_h2 => k0_hw70 k0_h2

def k0_off210 (k0_t9 : Fin k0_t9_loop.trips) : Fin 3 → Nat :=
  let c112_i32 : BitVec 32 := 112#32
  let c1_i32_92 : BitVec 32 := 1#32
  let arg11 : BitVec 32 := Scf.iv c112_i32 c1_i32_92 k0_t9
  let v159 : Index := Scalar.indexCast arg11
  let c5 : Index := 5#32
  let c0_132 : Index := 0#32
  ![v159.toNat, 5, 0]
def k0_off211 (k0_t9 : Fin k0_t9_loop.trips) : Fin 3 → Nat :=
  let c0_134 : Index := 0#32
  let c0_135 : Index := 0#32
  let c112_i32 : BitVec 32 := 112#32
  let c1_i32_92 : BitVec 32 := 1#32
  let arg11 : BitVec 32 := Scf.iv c112_i32 c1_i32_92 k0_t9
  let c8_i32_133 : BitVec 32 := 8#32
  let v163 : BitVec 32 := Scalar.muli arg11 c8_i32_133
  let c6_i32 : BitVec 32 := 6#32
  let v164 : BitVec 32 := Scalar.addi v163 c6_i32
  let v165 : Index := Scalar.indexCast v164
  ![0, 0, v165.toNat]
def k0_off212 (v166 : BitVec 32) : Fin 3 → Nat :=
  let c0_136 : Index := 0#32
  let v167 : Index := Scalar.indexCast v166
  let c0_137 : Index := 0#32
  ![0, v167.toNat, 0]

def k0_chk71 (i : grid0.Coords) (v166 : BitVec 32) : Prop :=
  (∀ (k0_h2 : k0_cond2 i = 1#1), ∀ a, (k0_off212 v166) a + S1x1x512.size a ≤ S1x8192x512.size a)
theorem k0_off212_inb : ∀ (i : grid0.Coords) (v166 : BitVec 32) (k0_hw71 : k0_chk71 i v166), ∀ (k0_h2 : k0_cond2 i = 1#1), ∀ a, (k0_off212 v166) a + S1x1x512.size a ≤ S1x8192x512.size a := fun i v166 k0_hw71 k0_h2 => k0_hw71 k0_h2

def k0_off213 (k0_t9 : Fin k0_t9_loop.trips) : Fin 3 → Nat :=
  let c112_i32 : BitVec 32 := 112#32
  let c1_i32_92 : BitVec 32 := 1#32
  let arg11 : BitVec 32 := Scf.iv c112_i32 c1_i32_92 k0_t9
  let v170 : Index := Scalar.indexCast arg11
  let c6 : Index := 6#32
  let c0_138 : Index := 0#32
  ![v170.toNat, 6, 0]
def k0_off214 (k0_t9 : Fin k0_t9_loop.trips) : Fin 3 → Nat :=
  let c0_140 : Index := 0#32
  let c0_141 : Index := 0#32
  let c112_i32 : BitVec 32 := 112#32
  let c1_i32_92 : BitVec 32 := 1#32
  let arg11 : BitVec 32 := Scf.iv c112_i32 c1_i32_92 k0_t9
  let c8_i32_139 : BitVec 32 := 8#32
  let v174 : BitVec 32 := Scalar.muli arg11 c8_i32_139
  let c7_i32 : BitVec 32 := 7#32
  let v175 : BitVec 32 := Scalar.addi v174 c7_i32
  let v176 : Index := Scalar.indexCast v175
  ![0, 0, v176.toNat]
def k0_off215 (v177 : BitVec 32) : Fin 3 → Nat :=
  let c0_142 : Index := 0#32
  let v178 : Index := Scalar.indexCast v177
  let c0_143 : Index := 0#32
  ![0, v178.toNat, 0]

def k0_chk72 (i : grid0.Coords) (v177 : BitVec 32) : Prop :=
  (∀ (k0_h2 : k0_cond2 i = 1#1), ∀ a, (k0_off215 v177) a + S1x1x512.size a ≤ S1x8192x512.size a)
theorem k0_off215_inb : ∀ (i : grid0.Coords) (v177 : BitVec 32) (k0_hw72 : k0_chk72 i v177), ∀ (k0_h2 : k0_cond2 i = 1#1), ∀ a, (k0_off215 v177) a + S1x1x512.size a ≤ S1x8192x512.size a := fun i v177 k0_hw72 k0_h2 => k0_hw72 k0_h2

def k0_off216 (k0_t9 : Fin k0_t9_loop.trips) : Fin 3 → Nat :=
  let c112_i32 : BitVec 32 := 112#32
  let c1_i32_92 : BitVec 32 := 1#32
  let arg11 : BitVec 32 := Scf.iv c112_i32 c1_i32_92 k0_t9
  let v181 : Index := Scalar.indexCast arg11
  let c7 : Index := 7#32
  let c0_144 : Index := 0#32
  ![v181.toNat, 7, 0]
def k0_cond3 (i : grid0.Coords) : BitVec 1 :=
  let arg1 : BitVec 32 := BitVec.ofNat 32 (i 1).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg1 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

@[reducible] def k0_t10_loop : Scf.Loop 32 :=
  let c0_i32_21 : BitVec 32 := 0#32
  let c16_i32 : BitVec 32 := 16#32
  let v40 : BitVec 32 := Scalar.addi c0_i32_21 c16_i32
  let c1_i32_22 : BitVec 32 := 1#32
  ⟨c0_i32_21, v40, c1_i32_22⟩
def k0_off217 (k0_t10 : Fin k0_t10_loop.trips) : Fin 3 → Nat :=
  let c0_95 : Index := 0#32
  let c0_96 : Index := 0#32
  let c0_i32_21 : BitVec 32 := 0#32
  let c1_i32_22 : BitVec 32 := 1#32
  let arg11 : BitVec 32 := Scf.iv c0_i32_21 c1_i32_22 k0_t10
  let c8_i32 : BitVec 32 := 8#32
  let v97 : BitVec 32 := Scalar.muli arg11 c8_i32
  let c0_i32_94 : BitVec 32 := 0#32
  let v98 : BitVec 32 := Scalar.addi v97 c0_i32_94
  let v99 : Index := Scalar.indexCast v98
  ![0, 0, v99.toNat]
def k0_off218 (v100 : BitVec 32) : Fin 3 → Nat :=
  let c0_97 : Index := 0#32
  let v101 : Index := Scalar.indexCast v100
  let c0_98 : Index := 0#32
  ![0, v101.toNat, 0]

def k0_chk73 (i : grid0.Coords) (v100 : BitVec 32) : Prop :=
  (∀ (k0_h3 : k0_cond3 i = 1#1), ∀ a, (k0_off218 v100) a + S1x1x512.size a ≤ S1x8192x512.size a)
theorem k0_off218_inb : ∀ (i : grid0.Coords) (v100 : BitVec 32) (k0_hw73 : k0_chk73 i v100), ∀ (k0_h3 : k0_cond3 i = 1#1), ∀ a, (k0_off218 v100) a + S1x1x512.size a ≤ S1x8192x512.size a := fun i v100 k0_hw73 k0_h3 => k0_hw73 k0_h3

def k0_off219 (k0_t10 : Fin k0_t10_loop.trips) : Fin 3 → Nat :=
  let c0_i32_21 : BitVec 32 := 0#32
  let c1_i32_22 : BitVec 32 := 1#32
  let arg11 : BitVec 32 := Scf.iv c0_i32_21 c1_i32_22 k0_t10
  let v104 : Index := Scalar.indexCast arg11
  let c0_99 : Index := 0#32
  let c0_100 : Index := 0#32
  ![v104.toNat, 0, 0]
def k0_off220 (k0_t10 : Fin k0_t10_loop.trips) : Fin 3 → Nat :=
  let c0_103 : Index := 0#32
  let c0_104 : Index := 0#32
  let c0_i32_21 : BitVec 32 := 0#32
  let c1_i32_22 : BitVec 32 := 1#32
  let arg11 : BitVec 32 := Scf.iv c0_i32_21 c1_i32_22 k0_t10
  let c8_i32_101 : BitVec 32 := 8#32
  let v108 : BitVec 32 := Scalar.muli arg11 c8_i32_101
  let c1_i32_102 : BitVec 32 := 1#32
  let v109 : BitVec 32 := Scalar.addi v108 c1_i32_102
  let v110 : Index := Scalar.indexCast v109
  ![0, 0, v110.toNat]
def k0_off221 (v111 : BitVec 32) : Fin 3 → Nat :=
  let c0_105 : Index := 0#32
  let v112 : Index := Scalar.indexCast v111
  let c0_106 : Index := 0#32
  ![0, v112.toNat, 0]

def k0_chk74 (i : grid0.Coords) (v111 : BitVec 32) : Prop :=
  (∀ (k0_h3 : k0_cond3 i = 1#1), ∀ a, (k0_off221 v111) a + S1x1x512.size a ≤ S1x8192x512.size a)
theorem k0_off221_inb : ∀ (i : grid0.Coords) (v111 : BitVec 32) (k0_hw74 : k0_chk74 i v111), ∀ (k0_h3 : k0_cond3 i = 1#1), ∀ a, (k0_off221 v111) a + S1x1x512.size a ≤ S1x8192x512.size a := fun i v111 k0_hw74 k0_h3 => k0_hw74 k0_h3

def k0_off222 (k0_t10 : Fin k0_t10_loop.trips) : Fin 3 → Nat :=
  let c0_i32_21 : BitVec 32 := 0#32
  let c1_i32_22 : BitVec 32 := 1#32
  let arg11 : BitVec 32 := Scf.iv c0_i32_21 c1_i32_22 k0_t10
  let v115 : Index := Scalar.indexCast arg11
  let c1 : Index := 1#32
  let c0_107 : Index := 0#32
  ![v115.toNat, 1, 0]
def k0_off223 (k0_t10 : Fin k0_t10_loop.trips) : Fin 3 → Nat :=
  let c0_110 : Index := 0#32
  let c0_111 : Index := 0#32
  let c0_i32_21 : BitVec 32 := 0#32
  let c1_i32_22 : BitVec 32 := 1#32
  let arg11 : BitVec 32 := Scf.iv c0_i32_21 c1_i32_22 k0_t10
  let c8_i32_108 : BitVec 32 := 8#32
  let v119 : BitVec 32 := Scalar.muli arg11 c8_i32_108
  let c2_i32_109 : BitVec 32 := 2#32
  let v120 : BitVec 32 := Scalar.addi v119 c2_i32_109
  let v121 : Index := Scalar.indexCast v120
  ![0, 0, v121.toNat]
def k0_off224 (v122 : BitVec 32) : Fin 3 → Nat :=
  let c0_112 : Index := 0#32
  let v123 : Index := Scalar.indexCast v122
  let c0_113 : Index := 0#32
  ![0, v123.toNat, 0]

def k0_chk75 (i : grid0.Coords) (v122 : BitVec 32) : Prop :=
  (∀ (k0_h3 : k0_cond3 i = 1#1), ∀ a, (k0_off224 v122) a + S1x1x512.size a ≤ S1x8192x512.size a)
theorem k0_off224_inb : ∀ (i : grid0.Coords) (v122 : BitVec 32) (k0_hw75 : k0_chk75 i v122), ∀ (k0_h3 : k0_cond3 i = 1#1), ∀ a, (k0_off224 v122) a + S1x1x512.size a ≤ S1x8192x512.size a := fun i v122 k0_hw75 k0_h3 => k0_hw75 k0_h3

def k0_off225 (k0_t10 : Fin k0_t10_loop.trips) : Fin 3 → Nat :=
  let c0_i32_21 : BitVec 32 := 0#32
  let c1_i32_22 : BitVec 32 := 1#32
  let arg11 : BitVec 32 := Scf.iv c0_i32_21 c1_i32_22 k0_t10
  let v126 : Index := Scalar.indexCast arg11
  let c2 : Index := 2#32
  let c0_114 : Index := 0#32
  ![v126.toNat, 2, 0]
def k0_off226 (k0_t10 : Fin k0_t10_loop.trips) : Fin 3 → Nat :=
  let c0_116 : Index := 0#32
  let c0_117 : Index := 0#32
  let c0_i32_21 : BitVec 32 := 0#32
  let c1_i32_22 : BitVec 32 := 1#32
  let arg11 : BitVec 32 := Scf.iv c0_i32_21 c1_i32_22 k0_t10
  let c8_i32_115 : BitVec 32 := 8#32
  let v130 : BitVec 32 := Scalar.muli arg11 c8_i32_115
  let c3_i32 : BitVec 32 := 3#32
  let v131 : BitVec 32 := Scalar.addi v130 c3_i32
  let v132 : Index := Scalar.indexCast v131
  ![0, 0, v132.toNat]
def k0_off227 (v133 : BitVec 32) : Fin 3 → Nat :=
  let c0_118 : Index := 0#32
  let v134 : Index := Scalar.indexCast v133
  let c0_119 : Index := 0#32
  ![0, v134.toNat, 0]

def k0_chk76 (i : grid0.Coords) (v133 : BitVec 32) : Prop :=
  (∀ (k0_h3 : k0_cond3 i = 1#1), ∀ a, (k0_off227 v133) a + S1x1x512.size a ≤ S1x8192x512.size a)
theorem k0_off227_inb : ∀ (i : grid0.Coords) (v133 : BitVec 32) (k0_hw76 : k0_chk76 i v133), ∀ (k0_h3 : k0_cond3 i = 1#1), ∀ a, (k0_off227 v133) a + S1x1x512.size a ≤ S1x8192x512.size a := fun i v133 k0_hw76 k0_h3 => k0_hw76 k0_h3

def k0_off228 (k0_t10 : Fin k0_t10_loop.trips) : Fin 3 → Nat :=
  let c0_i32_21 : BitVec 32 := 0#32
  let c1_i32_22 : BitVec 32 := 1#32
  let arg11 : BitVec 32 := Scf.iv c0_i32_21 c1_i32_22 k0_t10
  let v137 : Index := Scalar.indexCast arg11
  let c3 : Index := 3#32
  let c0_120 : Index := 0#32
  ![v137.toNat, 3, 0]
def k0_off229 (k0_t10 : Fin k0_t10_loop.trips) : Fin 3 → Nat :=
  let c0_122 : Index := 0#32
  let c0_123 : Index := 0#32
  let c0_i32_21 : BitVec 32 := 0#32
  let c1_i32_22 : BitVec 32 := 1#32
  let arg11 : BitVec 32 := Scf.iv c0_i32_21 c1_i32_22 k0_t10
  let c8_i32_121 : BitVec 32 := 8#32
  let v141 : BitVec 32 := Scalar.muli arg11 c8_i32_121
  let c4_i32 : BitVec 32 := 4#32
  let v142 : BitVec 32 := Scalar.addi v141 c4_i32
  let v143 : Index := Scalar.indexCast v142
  ![0, 0, v143.toNat]
def k0_off230 (v144 : BitVec 32) : Fin 3 → Nat :=
  let c0_124 : Index := 0#32
  let v145 : Index := Scalar.indexCast v144
  let c0_125 : Index := 0#32
  ![0, v145.toNat, 0]

def k0_chk77 (i : grid0.Coords) (v144 : BitVec 32) : Prop :=
  (∀ (k0_h3 : k0_cond3 i = 1#1), ∀ a, (k0_off230 v144) a + S1x1x512.size a ≤ S1x8192x512.size a)
theorem k0_off230_inb : ∀ (i : grid0.Coords) (v144 : BitVec 32) (k0_hw77 : k0_chk77 i v144), ∀ (k0_h3 : k0_cond3 i = 1#1), ∀ a, (k0_off230 v144) a + S1x1x512.size a ≤ S1x8192x512.size a := fun i v144 k0_hw77 k0_h3 => k0_hw77 k0_h3

def k0_off231 (k0_t10 : Fin k0_t10_loop.trips) : Fin 3 → Nat :=
  let c0_i32_21 : BitVec 32 := 0#32
  let c1_i32_22 : BitVec 32 := 1#32
  let arg11 : BitVec 32 := Scf.iv c0_i32_21 c1_i32_22 k0_t10
  let v148 : Index := Scalar.indexCast arg11
  let c4 : Index := 4#32
  let c0_126 : Index := 0#32
  ![v148.toNat, 4, 0]
def k0_off232 (k0_t10 : Fin k0_t10_loop.trips) : Fin 3 → Nat :=
  let c0_128 : Index := 0#32
  let c0_129 : Index := 0#32
  let c0_i32_21 : BitVec 32 := 0#32
  let c1_i32_22 : BitVec 32 := 1#32
  let arg11 : BitVec 32 := Scf.iv c0_i32_21 c1_i32_22 k0_t10
  let c8_i32_127 : BitVec 32 := 8#32
  let v152 : BitVec 32 := Scalar.muli arg11 c8_i32_127
  let c5_i32 : BitVec 32 := 5#32
  let v153 : BitVec 32 := Scalar.addi v152 c5_i32
  let v154 : Index := Scalar.indexCast v153
  ![0, 0, v154.toNat]
def k0_off233 (v155 : BitVec 32) : Fin 3 → Nat :=
  let c0_130 : Index := 0#32
  let v156 : Index := Scalar.indexCast v155
  let c0_131 : Index := 0#32
  ![0, v156.toNat, 0]

def k0_chk78 (i : grid0.Coords) (v155 : BitVec 32) : Prop :=
  (∀ (k0_h3 : k0_cond3 i = 1#1), ∀ a, (k0_off233 v155) a + S1x1x512.size a ≤ S1x8192x512.size a)
theorem k0_off233_inb : ∀ (i : grid0.Coords) (v155 : BitVec 32) (k0_hw78 : k0_chk78 i v155), ∀ (k0_h3 : k0_cond3 i = 1#1), ∀ a, (k0_off233 v155) a + S1x1x512.size a ≤ S1x8192x512.size a := fun i v155 k0_hw78 k0_h3 => k0_hw78 k0_h3

def k0_off234 (k0_t10 : Fin k0_t10_loop.trips) : Fin 3 → Nat :=
  let c0_i32_21 : BitVec 32 := 0#32
  let c1_i32_22 : BitVec 32 := 1#32
  let arg11 : BitVec 32 := Scf.iv c0_i32_21 c1_i32_22 k0_t10
  let v159 : Index := Scalar.indexCast arg11
  let c5 : Index := 5#32
  let c0_132 : Index := 0#32
  ![v159.toNat, 5, 0]
def k0_off235 (k0_t10 : Fin k0_t10_loop.trips) : Fin 3 → Nat :=
  let c0_134 : Index := 0#32
  let c0_135 : Index := 0#32
  let c0_i32_21 : BitVec 32 := 0#32
  let c1_i32_22 : BitVec 32 := 1#32
  let arg11 : BitVec 32 := Scf.iv c0_i32_21 c1_i32_22 k0_t10
  let c8_i32_133 : BitVec 32 := 8#32
  let v163 : BitVec 32 := Scalar.muli arg11 c8_i32_133
  let c6_i32 : BitVec 32 := 6#32
  let v164 : BitVec 32 := Scalar.addi v163 c6_i32
  let v165 : Index := Scalar.indexCast v164
  ![0, 0, v165.toNat]
def k0_off236 (v166 : BitVec 32) : Fin 3 → Nat :=
  let c0_136 : Index := 0#32
  let v167 : Index := Scalar.indexCast v166
  let c0_137 : Index := 0#32
  ![0, v167.toNat, 0]

def k0_chk79 (i : grid0.Coords) (v166 : BitVec 32) : Prop :=
  (∀ (k0_h3 : k0_cond3 i = 1#1), ∀ a, (k0_off236 v166) a + S1x1x512.size a ≤ S1x8192x512.size a)
theorem k0_off236_inb : ∀ (i : grid0.Coords) (v166 : BitVec 32) (k0_hw79 : k0_chk79 i v166), ∀ (k0_h3 : k0_cond3 i = 1#1), ∀ a, (k0_off236 v166) a + S1x1x512.size a ≤ S1x8192x512.size a := fun i v166 k0_hw79 k0_h3 => k0_hw79 k0_h3

def k0_off237 (k0_t10 : Fin k0_t10_loop.trips) : Fin 3 → Nat :=
  let c0_i32_21 : BitVec 32 := 0#32
  let c1_i32_22 : BitVec 32 := 1#32
  let arg11 : BitVec 32 := Scf.iv c0_i32_21 c1_i32_22 k0_t10
  let v170 : Index := Scalar.indexCast arg11
  let c6 : Index := 6#32
  let c0_138 : Index := 0#32
  ![v170.toNat, 6, 0]
def k0_off238 (k0_t10 : Fin k0_t10_loop.trips) : Fin 3 → Nat :=
  let c0_140 : Index := 0#32
  let c0_141 : Index := 0#32
  let c0_i32_21 : BitVec 32 := 0#32
  let c1_i32_22 : BitVec 32 := 1#32
  let arg11 : BitVec 32 := Scf.iv c0_i32_21 c1_i32_22 k0_t10
  let c8_i32_139 : BitVec 32 := 8#32
  let v174 : BitVec 32 := Scalar.muli arg11 c8_i32_139
  let c7_i32 : BitVec 32 := 7#32
  let v175 : BitVec 32 := Scalar.addi v174 c7_i32
  let v176 : Index := Scalar.indexCast v175
  ![0, 0, v176.toNat]
def k0_off239 (v177 : BitVec 32) : Fin 3 → Nat :=
  let c0_142 : Index := 0#32
  let v178 : Index := Scalar.indexCast v177
  let c0_143 : Index := 0#32
  ![0, v178.toNat, 0]

def k0_chk80 (i : grid0.Coords) (v177 : BitVec 32) : Prop :=
  (∀ (k0_h3 : k0_cond3 i = 1#1), ∀ a, (k0_off239 v177) a + S1x1x512.size a ≤ S1x8192x512.size a)
theorem k0_off239_inb : ∀ (i : grid0.Coords) (v177 : BitVec 32) (k0_hw80 : k0_chk80 i v177), ∀ (k0_h3 : k0_cond3 i = 1#1), ∀ a, (k0_off239 v177) a + S1x1x512.size a ≤ S1x8192x512.size a := fun i v177 k0_hw80 k0_h3 => k0_hw80 k0_h3

def k0_off240 (k0_t10 : Fin k0_t10_loop.trips) : Fin 3 → Nat :=
  let c0_i32_21 : BitVec 32 := 0#32
  let c1_i32_22 : BitVec 32 := 1#32
  let arg11 : BitVec 32 := Scf.iv c0_i32_21 c1_i32_22 k0_t10
  let v181 : Index := Scalar.indexCast arg11
  let c7 : Index := 7#32
  let c0_144 : Index := 0#32
  ![v181.toNat, 7, 0]
@[reducible] def k0_t11_loop : Scf.Loop 32 :=
  let c16_i32_29 : BitVec 32 := 16#32
  let c16_i32_30 : BitVec 32 := 16#32
  let v45 : BitVec 32 := Scalar.addi c16_i32_29 c16_i32_30
  let c1_i32_31 : BitVec 32 := 1#32
  ⟨c16_i32_29, v45, c1_i32_31⟩
def k0_off241 (k0_t11 : Fin k0_t11_loop.trips) : Fin 3 → Nat :=
  let c0_95 : Index := 0#32
  let c0_96 : Index := 0#32
  let c16_i32_29 : BitVec 32 := 16#32
  let c1_i32_31 : BitVec 32 := 1#32
  let arg11 : BitVec 32 := Scf.iv c16_i32_29 c1_i32_31 k0_t11
  let c8_i32 : BitVec 32 := 8#32
  let v97 : BitVec 32 := Scalar.muli arg11 c8_i32
  let c0_i32_94 : BitVec 32 := 0#32
  let v98 : BitVec 32 := Scalar.addi v97 c0_i32_94
  let v99 : Index := Scalar.indexCast v98
  ![0, 0, v99.toNat]
def k0_off242 (v100 : BitVec 32) : Fin 3 → Nat :=
  let c0_97 : Index := 0#32
  let v101 : Index := Scalar.indexCast v100
  let c0_98 : Index := 0#32
  ![0, v101.toNat, 0]

def k0_chk81 (i : grid0.Coords) (v100 : BitVec 32) : Prop :=
  (∀ (k0_h3 : k0_cond3 i = 1#1), ∀ a, (k0_off242 v100) a + S1x1x512.size a ≤ S1x8192x512.size a)
theorem k0_off242_inb : ∀ (i : grid0.Coords) (v100 : BitVec 32) (k0_hw81 : k0_chk81 i v100), ∀ (k0_h3 : k0_cond3 i = 1#1), ∀ a, (k0_off242 v100) a + S1x1x512.size a ≤ S1x8192x512.size a := fun i v100 k0_hw81 k0_h3 => k0_hw81 k0_h3

def k0_off243 (k0_t11 : Fin k0_t11_loop.trips) : Fin 3 → Nat :=
  let c16_i32_29 : BitVec 32 := 16#32
  let c1_i32_31 : BitVec 32 := 1#32
  let arg11 : BitVec 32 := Scf.iv c16_i32_29 c1_i32_31 k0_t11
  let v104 : Index := Scalar.indexCast arg11
  let c0_99 : Index := 0#32
  let c0_100 : Index := 0#32
  ![v104.toNat, 0, 0]
def k0_off244 (k0_t11 : Fin k0_t11_loop.trips) : Fin 3 → Nat :=
  let c0_103 : Index := 0#32
  let c0_104 : Index := 0#32
  let c16_i32_29 : BitVec 32 := 16#32
  let c1_i32_31 : BitVec 32 := 1#32
  let arg11 : BitVec 32 := Scf.iv c16_i32_29 c1_i32_31 k0_t11
  let c8_i32_101 : BitVec 32 := 8#32
  let v108 : BitVec 32 := Scalar.muli arg11 c8_i32_101
  let c1_i32_102 : BitVec 32 := 1#32
  let v109 : BitVec 32 := Scalar.addi v108 c1_i32_102
  let v110 : Index := Scalar.indexCast v109
  ![0, 0, v110.toNat]
def k0_off245 (v111 : BitVec 32) : Fin 3 → Nat :=
  let c0_105 : Index := 0#32
  let v112 : Index := Scalar.indexCast v111
  let c0_106 : Index := 0#32
  ![0, v112.toNat, 0]

def k0_chk82 (i : grid0.Coords) (v111 : BitVec 32) : Prop :=
  (∀ (k0_h3 : k0_cond3 i = 1#1), ∀ a, (k0_off245 v111) a + S1x1x512.size a ≤ S1x8192x512.size a)
theorem k0_off245_inb : ∀ (i : grid0.Coords) (v111 : BitVec 32) (k0_hw82 : k0_chk82 i v111), ∀ (k0_h3 : k0_cond3 i = 1#1), ∀ a, (k0_off245 v111) a + S1x1x512.size a ≤ S1x8192x512.size a := fun i v111 k0_hw82 k0_h3 => k0_hw82 k0_h3

def k0_off246 (k0_t11 : Fin k0_t11_loop.trips) : Fin 3 → Nat :=
  let c16_i32_29 : BitVec 32 := 16#32
  let c1_i32_31 : BitVec 32 := 1#32
  let arg11 : BitVec 32 := Scf.iv c16_i32_29 c1_i32_31 k0_t11
  let v115 : Index := Scalar.indexCast arg11
  let c1 : Index := 1#32
  let c0_107 : Index := 0#32
  ![v115.toNat, 1, 0]
def k0_off247 (k0_t11 : Fin k0_t11_loop.trips) : Fin 3 → Nat :=
  let c0_110 : Index := 0#32
  let c0_111 : Index := 0#32
  let c16_i32_29 : BitVec 32 := 16#32
  let c1_i32_31 : BitVec 32 := 1#32
  let arg11 : BitVec 32 := Scf.iv c16_i32_29 c1_i32_31 k0_t11
  let c8_i32_108 : BitVec 32 := 8#32
  let v119 : BitVec 32 := Scalar.muli arg11 c8_i32_108
  let c2_i32_109 : BitVec 32 := 2#32
  let v120 : BitVec 32 := Scalar.addi v119 c2_i32_109
  let v121 : Index := Scalar.indexCast v120
  ![0, 0, v121.toNat]
def k0_off248 (v122 : BitVec 32) : Fin 3 → Nat :=
  let c0_112 : Index := 0#32
  let v123 : Index := Scalar.indexCast v122
  let c0_113 : Index := 0#32
  ![0, v123.toNat, 0]

def k0_chk83 (i : grid0.Coords) (v122 : BitVec 32) : Prop :=
  (∀ (k0_h3 : k0_cond3 i = 1#1), ∀ a, (k0_off248 v122) a + S1x1x512.size a ≤ S1x8192x512.size a)
theorem k0_off248_inb : ∀ (i : grid0.Coords) (v122 : BitVec 32) (k0_hw83 : k0_chk83 i v122), ∀ (k0_h3 : k0_cond3 i = 1#1), ∀ a, (k0_off248 v122) a + S1x1x512.size a ≤ S1x8192x512.size a := fun i v122 k0_hw83 k0_h3 => k0_hw83 k0_h3

def k0_off249 (k0_t11 : Fin k0_t11_loop.trips) : Fin 3 → Nat :=
  let c16_i32_29 : BitVec 32 := 16#32
  let c1_i32_31 : BitVec 32 := 1#32
  let arg11 : BitVec 32 := Scf.iv c16_i32_29 c1_i32_31 k0_t11
  let v126 : Index := Scalar.indexCast arg11
  let c2 : Index := 2#32
  let c0_114 : Index := 0#32
  ![v126.toNat, 2, 0]
def k0_off250 (k0_t11 : Fin k0_t11_loop.trips) : Fin 3 → Nat :=
  let c0_116 : Index := 0#32
  let c0_117 : Index := 0#32
  let c16_i32_29 : BitVec 32 := 16#32
  let c1_i32_31 : BitVec 32 := 1#32
  let arg11 : BitVec 32 := Scf.iv c16_i32_29 c1_i32_31 k0_t11
  let c8_i32_115 : BitVec 32 := 8#32
  let v130 : BitVec 32 := Scalar.muli arg11 c8_i32_115
  let c3_i32 : BitVec 32 := 3#32
  let v131 : BitVec 32 := Scalar.addi v130 c3_i32
  let v132 : Index := Scalar.indexCast v131
  ![0, 0, v132.toNat]
def k0_off251 (v133 : BitVec 32) : Fin 3 → Nat :=
  let c0_118 : Index := 0#32
  let v134 : Index := Scalar.indexCast v133
  let c0_119 : Index := 0#32
  ![0, v134.toNat, 0]

def k0_chk84 (i : grid0.Coords) (v133 : BitVec 32) : Prop :=
  (∀ (k0_h3 : k0_cond3 i = 1#1), ∀ a, (k0_off251 v133) a + S1x1x512.size a ≤ S1x8192x512.size a)
theorem k0_off251_inb : ∀ (i : grid0.Coords) (v133 : BitVec 32) (k0_hw84 : k0_chk84 i v133), ∀ (k0_h3 : k0_cond3 i = 1#1), ∀ a, (k0_off251 v133) a + S1x1x512.size a ≤ S1x8192x512.size a := fun i v133 k0_hw84 k0_h3 => k0_hw84 k0_h3

def k0_off252 (k0_t11 : Fin k0_t11_loop.trips) : Fin 3 → Nat :=
  let c16_i32_29 : BitVec 32 := 16#32
  let c1_i32_31 : BitVec 32 := 1#32
  let arg11 : BitVec 32 := Scf.iv c16_i32_29 c1_i32_31 k0_t11
  let v137 : Index := Scalar.indexCast arg11
  let c3 : Index := 3#32
  let c0_120 : Index := 0#32
  ![v137.toNat, 3, 0]
def k0_off253 (k0_t11 : Fin k0_t11_loop.trips) : Fin 3 → Nat :=
  let c0_122 : Index := 0#32
  let c0_123 : Index := 0#32
  let c16_i32_29 : BitVec 32 := 16#32
  let c1_i32_31 : BitVec 32 := 1#32
  let arg11 : BitVec 32 := Scf.iv c16_i32_29 c1_i32_31 k0_t11
  let c8_i32_121 : BitVec 32 := 8#32
  let v141 : BitVec 32 := Scalar.muli arg11 c8_i32_121
  let c4_i32 : BitVec 32 := 4#32
  let v142 : BitVec 32 := Scalar.addi v141 c4_i32
  let v143 : Index := Scalar.indexCast v142
  ![0, 0, v143.toNat]
def k0_off254 (v144 : BitVec 32) : Fin 3 → Nat :=
  let c0_124 : Index := 0#32
  let v145 : Index := Scalar.indexCast v144
  let c0_125 : Index := 0#32
  ![0, v145.toNat, 0]

def k0_chk85 (i : grid0.Coords) (v144 : BitVec 32) : Prop :=
  (∀ (k0_h3 : k0_cond3 i = 1#1), ∀ a, (k0_off254 v144) a + S1x1x512.size a ≤ S1x8192x512.size a)
theorem k0_off254_inb : ∀ (i : grid0.Coords) (v144 : BitVec 32) (k0_hw85 : k0_chk85 i v144), ∀ (k0_h3 : k0_cond3 i = 1#1), ∀ a, (k0_off254 v144) a + S1x1x512.size a ≤ S1x8192x512.size a := fun i v144 k0_hw85 k0_h3 => k0_hw85 k0_h3

def k0_off255 (k0_t11 : Fin k0_t11_loop.trips) : Fin 3 → Nat :=
  let c16_i32_29 : BitVec 32 := 16#32
  let c1_i32_31 : BitVec 32 := 1#32
  let arg11 : BitVec 32 := Scf.iv c16_i32_29 c1_i32_31 k0_t11
  let v148 : Index := Scalar.indexCast arg11
  let c4 : Index := 4#32
  let c0_126 : Index := 0#32
  ![v148.toNat, 4, 0]
def k0_off256 (k0_t11 : Fin k0_t11_loop.trips) : Fin 3 → Nat :=
  let c0_128 : Index := 0#32
  let c0_129 : Index := 0#32
  let c16_i32_29 : BitVec 32 := 16#32
  let c1_i32_31 : BitVec 32 := 1#32
  let arg11 : BitVec 32 := Scf.iv c16_i32_29 c1_i32_31 k0_t11
  let c8_i32_127 : BitVec 32 := 8#32
  let v152 : BitVec 32 := Scalar.muli arg11 c8_i32_127
  let c5_i32 : BitVec 32 := 5#32
  let v153 : BitVec 32 := Scalar.addi v152 c5_i32
  let v154 : Index := Scalar.indexCast v153
  ![0, 0, v154.toNat]
def k0_off257 (v155 : BitVec 32) : Fin 3 → Nat :=
  let c0_130 : Index := 0#32
  let v156 : Index := Scalar.indexCast v155
  let c0_131 : Index := 0#32
  ![0, v156.toNat, 0]

def k0_chk86 (i : grid0.Coords) (v155 : BitVec 32) : Prop :=
  (∀ (k0_h3 : k0_cond3 i = 1#1), ∀ a, (k0_off257 v155) a + S1x1x512.size a ≤ S1x8192x512.size a)
theorem k0_off257_inb : ∀ (i : grid0.Coords) (v155 : BitVec 32) (k0_hw86 : k0_chk86 i v155), ∀ (k0_h3 : k0_cond3 i = 1#1), ∀ a, (k0_off257 v155) a + S1x1x512.size a ≤ S1x8192x512.size a := fun i v155 k0_hw86 k0_h3 => k0_hw86 k0_h3

def k0_off258 (k0_t11 : Fin k0_t11_loop.trips) : Fin 3 → Nat :=
  let c16_i32_29 : BitVec 32 := 16#32
  let c1_i32_31 : BitVec 32 := 1#32
  let arg11 : BitVec 32 := Scf.iv c16_i32_29 c1_i32_31 k0_t11
  let v159 : Index := Scalar.indexCast arg11
  let c5 : Index := 5#32
  let c0_132 : Index := 0#32
  ![v159.toNat, 5, 0]
def k0_off259 (k0_t11 : Fin k0_t11_loop.trips) : Fin 3 → Nat :=
  let c0_134 : Index := 0#32
  let c0_135 : Index := 0#32
  let c16_i32_29 : BitVec 32 := 16#32
  let c1_i32_31 : BitVec 32 := 1#32
  let arg11 : BitVec 32 := Scf.iv c16_i32_29 c1_i32_31 k0_t11
  let c8_i32_133 : BitVec 32 := 8#32
  let v163 : BitVec 32 := Scalar.muli arg11 c8_i32_133
  let c6_i32 : BitVec 32 := 6#32
  let v164 : BitVec 32 := Scalar.addi v163 c6_i32
  let v165 : Index := Scalar.indexCast v164
  ![0, 0, v165.toNat]
def k0_off260 (v166 : BitVec 32) : Fin 3 → Nat :=
  let c0_136 : Index := 0#32
  let v167 : Index := Scalar.indexCast v166
  let c0_137 : Index := 0#32
  ![0, v167.toNat, 0]

def k0_chk87 (i : grid0.Coords) (v166 : BitVec 32) : Prop :=
  (∀ (k0_h3 : k0_cond3 i = 1#1), ∀ a, (k0_off260 v166) a + S1x1x512.size a ≤ S1x8192x512.size a)
theorem k0_off260_inb : ∀ (i : grid0.Coords) (v166 : BitVec 32) (k0_hw87 : k0_chk87 i v166), ∀ (k0_h3 : k0_cond3 i = 1#1), ∀ a, (k0_off260 v166) a + S1x1x512.size a ≤ S1x8192x512.size a := fun i v166 k0_hw87 k0_h3 => k0_hw87 k0_h3

def k0_off261 (k0_t11 : Fin k0_t11_loop.trips) : Fin 3 → Nat :=
  let c16_i32_29 : BitVec 32 := 16#32
  let c1_i32_31 : BitVec 32 := 1#32
  let arg11 : BitVec 32 := Scf.iv c16_i32_29 c1_i32_31 k0_t11
  let v170 : Index := Scalar.indexCast arg11
  let c6 : Index := 6#32
  let c0_138 : Index := 0#32
  ![v170.toNat, 6, 0]
def k0_off262 (k0_t11 : Fin k0_t11_loop.trips) : Fin 3 → Nat :=
  let c0_140 : Index := 0#32
  let c0_141 : Index := 0#32
  let c16_i32_29 : BitVec 32 := 16#32
  let c1_i32_31 : BitVec 32 := 1#32
  let arg11 : BitVec 32 := Scf.iv c16_i32_29 c1_i32_31 k0_t11
  let c8_i32_139 : BitVec 32 := 8#32
  let v174 : BitVec 32 := Scalar.muli arg11 c8_i32_139
  let c7_i32 : BitVec 32 := 7#32
  let v175 : BitVec 32 := Scalar.addi v174 c7_i32
  let v176 : Index := Scalar.indexCast v175
  ![0, 0, v176.toNat]
def k0_off263 (v177 : BitVec 32) : Fin 3 → Nat :=
  let c0_142 : Index := 0#32
  let v178 : Index := Scalar.indexCast v177
  let c0_143 : Index := 0#32
  ![0, v178.toNat, 0]

def k0_chk88 (i : grid0.Coords) (v177 : BitVec 32) : Prop :=
  (∀ (k0_h3 : k0_cond3 i = 1#1), ∀ a, (k0_off263 v177) a + S1x1x512.size a ≤ S1x8192x512.size a)
theorem k0_off263_inb : ∀ (i : grid0.Coords) (v177 : BitVec 32) (k0_hw88 : k0_chk88 i v177), ∀ (k0_h3 : k0_cond3 i = 1#1), ∀ a, (k0_off263 v177) a + S1x1x512.size a ≤ S1x8192x512.size a := fun i v177 k0_hw88 k0_h3 => k0_hw88 k0_h3

def k0_off264 (k0_t11 : Fin k0_t11_loop.trips) : Fin 3 → Nat :=
  let c16_i32_29 : BitVec 32 := 16#32
  let c1_i32_31 : BitVec 32 := 1#32
  let arg11 : BitVec 32 := Scf.iv c16_i32_29 c1_i32_31 k0_t11
  let v181 : Index := Scalar.indexCast arg11
  let c7 : Index := 7#32
  let c0_144 : Index := 0#32
  ![v181.toNat, 7, 0]
@[reducible] def k0_t12_loop : Scf.Loop 32 :=
  let c32_i32 : BitVec 32 := 32#32
  let c16_i32_37 : BitVec 32 := 16#32
  let v54 : BitVec 32 := Scalar.addi c32_i32 c16_i32_37
  let c1_i32_38 : BitVec 32 := 1#32
  ⟨c32_i32, v54, c1_i32_38⟩
def k0_off265 (k0_t12 : Fin k0_t12_loop.trips) : Fin 3 → Nat :=
  let c0_95 : Index := 0#32
  let c0_96 : Index := 0#32
  let c32_i32 : BitVec 32 := 32#32
  let c1_i32_38 : BitVec 32 := 1#32
  let arg11 : BitVec 32 := Scf.iv c32_i32 c1_i32_38 k0_t12
  let c8_i32 : BitVec 32 := 8#32
  let v97 : BitVec 32 := Scalar.muli arg11 c8_i32
  let c0_i32_94 : BitVec 32 := 0#32
  let v98 : BitVec 32 := Scalar.addi v97 c0_i32_94
  let v99 : Index := Scalar.indexCast v98
  ![0, 0, v99.toNat]
def k0_off266 (v100 : BitVec 32) : Fin 3 → Nat :=
  let c0_97 : Index := 0#32
  let v101 : Index := Scalar.indexCast v100
  let c0_98 : Index := 0#32
  ![0, v101.toNat, 0]

def k0_chk89 (i : grid0.Coords) (v100 : BitVec 32) : Prop :=
  (∀ (k0_h3 : k0_cond3 i = 1#1), ∀ a, (k0_off266 v100) a + S1x1x512.size a ≤ S1x8192x512.size a)
theorem k0_off266_inb : ∀ (i : grid0.Coords) (v100 : BitVec 32) (k0_hw89 : k0_chk89 i v100), ∀ (k0_h3 : k0_cond3 i = 1#1), ∀ a, (k0_off266 v100) a + S1x1x512.size a ≤ S1x8192x512.size a := fun i v100 k0_hw89 k0_h3 => k0_hw89 k0_h3

def k0_off267 (k0_t12 : Fin k0_t12_loop.trips) : Fin 3 → Nat :=
  let c32_i32 : BitVec 32 := 32#32
  let c1_i32_38 : BitVec 32 := 1#32
  let arg11 : BitVec 32 := Scf.iv c32_i32 c1_i32_38 k0_t12
  let v104 : Index := Scalar.indexCast arg11
  let c0_99 : Index := 0#32
  let c0_100 : Index := 0#32
  ![v104.toNat, 0, 0]
def k0_off268 (k0_t12 : Fin k0_t12_loop.trips) : Fin 3 → Nat :=
  let c0_103 : Index := 0#32
  let c0_104 : Index := 0#32
  let c32_i32 : BitVec 32 := 32#32
  let c1_i32_38 : BitVec 32 := 1#32
  let arg11 : BitVec 32 := Scf.iv c32_i32 c1_i32_38 k0_t12
  let c8_i32_101 : BitVec 32 := 8#32
  let v108 : BitVec 32 := Scalar.muli arg11 c8_i32_101
  let c1_i32_102 : BitVec 32 := 1#32
  let v109 : BitVec 32 := Scalar.addi v108 c1_i32_102
  let v110 : Index := Scalar.indexCast v109
  ![0, 0, v110.toNat]
def k0_off269 (v111 : BitVec 32) : Fin 3 → Nat :=
  let c0_105 : Index := 0#32
  let v112 : Index := Scalar.indexCast v111
  let c0_106 : Index := 0#32
  ![0, v112.toNat, 0]

def k0_chk90 (i : grid0.Coords) (v111 : BitVec 32) : Prop :=
  (∀ (k0_h3 : k0_cond3 i = 1#1), ∀ a, (k0_off269 v111) a + S1x1x512.size a ≤ S1x8192x512.size a)
theorem k0_off269_inb : ∀ (i : grid0.Coords) (v111 : BitVec 32) (k0_hw90 : k0_chk90 i v111), ∀ (k0_h3 : k0_cond3 i = 1#1), ∀ a, (k0_off269 v111) a + S1x1x512.size a ≤ S1x8192x512.size a := fun i v111 k0_hw90 k0_h3 => k0_hw90 k0_h3

def k0_off270 (k0_t12 : Fin k0_t12_loop.trips) : Fin 3 → Nat :=
  let c32_i32 : BitVec 32 := 32#32
  let c1_i32_38 : BitVec 32 := 1#32
  let arg11 : BitVec 32 := Scf.iv c32_i32 c1_i32_38 k0_t12
  let v115 : Index := Scalar.indexCast arg11
  let c1 : Index := 1#32
  let c0_107 : Index := 0#32
  ![v115.toNat, 1, 0]
def k0_off271 (k0_t12 : Fin k0_t12_loop.trips) : Fin 3 → Nat :=
  let c0_110 : Index := 0#32
  let c0_111 : Index := 0#32
  let c32_i32 : BitVec 32 := 32#32
  let c1_i32_38 : BitVec 32 := 1#32
  let arg11 : BitVec 32 := Scf.iv c32_i32 c1_i32_38 k0_t12
  let c8_i32_108 : BitVec 32 := 8#32
  let v119 : BitVec 32 := Scalar.muli arg11 c8_i32_108
  let c2_i32_109 : BitVec 32 := 2#32
  let v120 : BitVec 32 := Scalar.addi v119 c2_i32_109
  let v121 : Index := Scalar.indexCast v120
  ![0, 0, v121.toNat]
def k0_off272 (v122 : BitVec 32) : Fin 3 → Nat :=
  let c0_112 : Index := 0#32
  let v123 : Index := Scalar.indexCast v122
  let c0_113 : Index := 0#32
  ![0, v123.toNat, 0]

def k0_chk91 (i : grid0.Coords) (v122 : BitVec 32) : Prop :=
  (∀ (k0_h3 : k0_cond3 i = 1#1), ∀ a, (k0_off272 v122) a + S1x1x512.size a ≤ S1x8192x512.size a)
theorem k0_off272_inb : ∀ (i : grid0.Coords) (v122 : BitVec 32) (k0_hw91 : k0_chk91 i v122), ∀ (k0_h3 : k0_cond3 i = 1#1), ∀ a, (k0_off272 v122) a + S1x1x512.size a ≤ S1x8192x512.size a := fun i v122 k0_hw91 k0_h3 => k0_hw91 k0_h3

def k0_off273 (k0_t12 : Fin k0_t12_loop.trips) : Fin 3 → Nat :=
  let c32_i32 : BitVec 32 := 32#32
  let c1_i32_38 : BitVec 32 := 1#32
  let arg11 : BitVec 32 := Scf.iv c32_i32 c1_i32_38 k0_t12
  let v126 : Index := Scalar.indexCast arg11
  let c2 : Index := 2#32
  let c0_114 : Index := 0#32
  ![v126.toNat, 2, 0]
def k0_off274 (k0_t12 : Fin k0_t12_loop.trips) : Fin 3 → Nat :=
  let c0_116 : Index := 0#32
  let c0_117 : Index := 0#32
  let c32_i32 : BitVec 32 := 32#32
  let c1_i32_38 : BitVec 32 := 1#32
  let arg11 : BitVec 32 := Scf.iv c32_i32 c1_i32_38 k0_t12
  let c8_i32_115 : BitVec 32 := 8#32
  let v130 : BitVec 32 := Scalar.muli arg11 c8_i32_115
  let c3_i32 : BitVec 32 := 3#32
  let v131 : BitVec 32 := Scalar.addi v130 c3_i32
  let v132 : Index := Scalar.indexCast v131
  ![0, 0, v132.toNat]
def k0_off275 (v133 : BitVec 32) : Fin 3 → Nat :=
  let c0_118 : Index := 0#32
  let v134 : Index := Scalar.indexCast v133
  let c0_119 : Index := 0#32
  ![0, v134.toNat, 0]

def k0_chk92 (i : grid0.Coords) (v133 : BitVec 32) : Prop :=
  (∀ (k0_h3 : k0_cond3 i = 1#1), ∀ a, (k0_off275 v133) a + S1x1x512.size a ≤ S1x8192x512.size a)
theorem k0_off275_inb : ∀ (i : grid0.Coords) (v133 : BitVec 32) (k0_hw92 : k0_chk92 i v133), ∀ (k0_h3 : k0_cond3 i = 1#1), ∀ a, (k0_off275 v133) a + S1x1x512.size a ≤ S1x8192x512.size a := fun i v133 k0_hw92 k0_h3 => k0_hw92 k0_h3

def k0_off276 (k0_t12 : Fin k0_t12_loop.trips) : Fin 3 → Nat :=
  let c32_i32 : BitVec 32 := 32#32
  let c1_i32_38 : BitVec 32 := 1#32
  let arg11 : BitVec 32 := Scf.iv c32_i32 c1_i32_38 k0_t12
  let v137 : Index := Scalar.indexCast arg11
  let c3 : Index := 3#32
  let c0_120 : Index := 0#32
  ![v137.toNat, 3, 0]
def k0_off277 (k0_t12 : Fin k0_t12_loop.trips) : Fin 3 → Nat :=
  let c0_122 : Index := 0#32
  let c0_123 : Index := 0#32
  let c32_i32 : BitVec 32 := 32#32
  let c1_i32_38 : BitVec 32 := 1#32
  let arg11 : BitVec 32 := Scf.iv c32_i32 c1_i32_38 k0_t12
  let c8_i32_121 : BitVec 32 := 8#32
  let v141 : BitVec 32 := Scalar.muli arg11 c8_i32_121
  let c4_i32 : BitVec 32 := 4#32
  let v142 : BitVec 32 := Scalar.addi v141 c4_i32
  let v143 : Index := Scalar.indexCast v142
  ![0, 0, v143.toNat]
def k0_off278 (v144 : BitVec 32) : Fin 3 → Nat :=
  let c0_124 : Index := 0#32
  let v145 : Index := Scalar.indexCast v144
  let c0_125 : Index := 0#32
  ![0, v145.toNat, 0]

def k0_chk93 (i : grid0.Coords) (v144 : BitVec 32) : Prop :=
  (∀ (k0_h3 : k0_cond3 i = 1#1), ∀ a, (k0_off278 v144) a + S1x1x512.size a ≤ S1x8192x512.size a)
theorem k0_off278_inb : ∀ (i : grid0.Coords) (v144 : BitVec 32) (k0_hw93 : k0_chk93 i v144), ∀ (k0_h3 : k0_cond3 i = 1#1), ∀ a, (k0_off278 v144) a + S1x1x512.size a ≤ S1x8192x512.size a := fun i v144 k0_hw93 k0_h3 => k0_hw93 k0_h3

def k0_off279 (k0_t12 : Fin k0_t12_loop.trips) : Fin 3 → Nat :=
  let c32_i32 : BitVec 32 := 32#32
  let c1_i32_38 : BitVec 32 := 1#32
  let arg11 : BitVec 32 := Scf.iv c32_i32 c1_i32_38 k0_t12
  let v148 : Index := Scalar.indexCast arg11
  let c4 : Index := 4#32
  let c0_126 : Index := 0#32
  ![v148.toNat, 4, 0]
def k0_off280 (k0_t12 : Fin k0_t12_loop.trips) : Fin 3 → Nat :=
  let c0_128 : Index := 0#32
  let c0_129 : Index := 0#32
  let c32_i32 : BitVec 32 := 32#32
  let c1_i32_38 : BitVec 32 := 1#32
  let arg11 : BitVec 32 := Scf.iv c32_i32 c1_i32_38 k0_t12
  let c8_i32_127 : BitVec 32 := 8#32
  let v152 : BitVec 32 := Scalar.muli arg11 c8_i32_127
  let c5_i32 : BitVec 32 := 5#32
  let v153 : BitVec 32 := Scalar.addi v152 c5_i32
  let v154 : Index := Scalar.indexCast v153
  ![0, 0, v154.toNat]
def k0_off281 (v155 : BitVec 32) : Fin 3 → Nat :=
  let c0_130 : Index := 0#32
  let v156 : Index := Scalar.indexCast v155
  let c0_131 : Index := 0#32
  ![0, v156.toNat, 0]

def k0_chk94 (i : grid0.Coords) (v155 : BitVec 32) : Prop :=
  (∀ (k0_h3 : k0_cond3 i = 1#1), ∀ a, (k0_off281 v155) a + S1x1x512.size a ≤ S1x8192x512.size a)
theorem k0_off281_inb : ∀ (i : grid0.Coords) (v155 : BitVec 32) (k0_hw94 : k0_chk94 i v155), ∀ (k0_h3 : k0_cond3 i = 1#1), ∀ a, (k0_off281 v155) a + S1x1x512.size a ≤ S1x8192x512.size a := fun i v155 k0_hw94 k0_h3 => k0_hw94 k0_h3

def k0_off282 (k0_t12 : Fin k0_t12_loop.trips) : Fin 3 → Nat :=
  let c32_i32 : BitVec 32 := 32#32
  let c1_i32_38 : BitVec 32 := 1#32
  let arg11 : BitVec 32 := Scf.iv c32_i32 c1_i32_38 k0_t12
  let v159 : Index := Scalar.indexCast arg11
  let c5 : Index := 5#32
  let c0_132 : Index := 0#32
  ![v159.toNat, 5, 0]
def k0_off283 (k0_t12 : Fin k0_t12_loop.trips) : Fin 3 → Nat :=
  let c0_134 : Index := 0#32
  let c0_135 : Index := 0#32
  let c32_i32 : BitVec 32 := 32#32
  let c1_i32_38 : BitVec 32 := 1#32
  let arg11 : BitVec 32 := Scf.iv c32_i32 c1_i32_38 k0_t12
  let c8_i32_133 : BitVec 32 := 8#32
  let v163 : BitVec 32 := Scalar.muli arg11 c8_i32_133
  let c6_i32 : BitVec 32 := 6#32
  let v164 : BitVec 32 := Scalar.addi v163 c6_i32
  let v165 : Index := Scalar.indexCast v164
  ![0, 0, v165.toNat]
def k0_off284 (v166 : BitVec 32) : Fin 3 → Nat :=
  let c0_136 : Index := 0#32
  let v167 : Index := Scalar.indexCast v166
  let c0_137 : Index := 0#32
  ![0, v167.toNat, 0]

def k0_chk95 (i : grid0.Coords) (v166 : BitVec 32) : Prop :=
  (∀ (k0_h3 : k0_cond3 i = 1#1), ∀ a, (k0_off284 v166) a + S1x1x512.size a ≤ S1x8192x512.size a)
theorem k0_off284_inb : ∀ (i : grid0.Coords) (v166 : BitVec 32) (k0_hw95 : k0_chk95 i v166), ∀ (k0_h3 : k0_cond3 i = 1#1), ∀ a, (k0_off284 v166) a + S1x1x512.size a ≤ S1x8192x512.size a := fun i v166 k0_hw95 k0_h3 => k0_hw95 k0_h3

def k0_off285 (k0_t12 : Fin k0_t12_loop.trips) : Fin 3 → Nat :=
  let c32_i32 : BitVec 32 := 32#32
  let c1_i32_38 : BitVec 32 := 1#32
  let arg11 : BitVec 32 := Scf.iv c32_i32 c1_i32_38 k0_t12
  let v170 : Index := Scalar.indexCast arg11
  let c6 : Index := 6#32
  let c0_138 : Index := 0#32
  ![v170.toNat, 6, 0]
def k0_off286 (k0_t12 : Fin k0_t12_loop.trips) : Fin 3 → Nat :=
  let c0_140 : Index := 0#32
  let c0_141 : Index := 0#32
  let c32_i32 : BitVec 32 := 32#32
  let c1_i32_38 : BitVec 32 := 1#32
  let arg11 : BitVec 32 := Scf.iv c32_i32 c1_i32_38 k0_t12
  let c8_i32_139 : BitVec 32 := 8#32
  let v174 : BitVec 32 := Scalar.muli arg11 c8_i32_139
  let c7_i32 : BitVec 32 := 7#32
  let v175 : BitVec 32 := Scalar.addi v174 c7_i32
  let v176 : Index := Scalar.indexCast v175
  ![0, 0, v176.toNat]
def k0_off287 (v177 : BitVec 32) : Fin 3 → Nat :=
  let c0_142 : Index := 0#32
  let v178 : Index := Scalar.indexCast v177
  let c0_143 : Index := 0#32
  ![0, v178.toNat, 0]

def k0_chk96 (i : grid0.Coords) (v177 : BitVec 32) : Prop :=
  (∀ (k0_h3 : k0_cond3 i = 1#1), ∀ a, (k0_off287 v177) a + S1x1x512.size a ≤ S1x8192x512.size a)
theorem k0_off287_inb : ∀ (i : grid0.Coords) (v177 : BitVec 32) (k0_hw96 : k0_chk96 i v177), ∀ (k0_h3 : k0_cond3 i = 1#1), ∀ a, (k0_off287 v177) a + S1x1x512.size a ≤ S1x8192x512.size a := fun i v177 k0_hw96 k0_h3 => k0_hw96 k0_h3

def k0_off288 (k0_t12 : Fin k0_t12_loop.trips) : Fin 3 → Nat :=
  let c32_i32 : BitVec 32 := 32#32
  let c1_i32_38 : BitVec 32 := 1#32
  let arg11 : BitVec 32 := Scf.iv c32_i32 c1_i32_38 k0_t12
  let v181 : Index := Scalar.indexCast arg11
  let c7 : Index := 7#32
  let c0_144 : Index := 0#32
  ![v181.toNat, 7, 0]
@[reducible] def k0_t13_loop : Scf.Loop 32 :=
  let c48_i32 : BitVec 32 := 48#32
  let c16_i32_45 : BitVec 32 := 16#32
  let v59 : BitVec 32 := Scalar.addi c48_i32 c16_i32_45
  let c1_i32_46 : BitVec 32 := 1#32
  ⟨c48_i32, v59, c1_i32_46⟩
def k0_off289 (k0_t13 : Fin k0_t13_loop.trips) : Fin 3 → Nat :=
  let c0_95 : Index := 0#32
  let c0_96 : Index := 0#32
  let c48_i32 : BitVec 32 := 48#32
  let c1_i32_46 : BitVec 32 := 1#32
  let arg11 : BitVec 32 := Scf.iv c48_i32 c1_i32_46 k0_t13
  let c8_i32 : BitVec 32 := 8#32
  let v97 : BitVec 32 := Scalar.muli arg11 c8_i32
  let c0_i32_94 : BitVec 32 := 0#32
  let v98 : BitVec 32 := Scalar.addi v97 c0_i32_94
  let v99 : Index := Scalar.indexCast v98
  ![0, 0, v99.toNat]
def k0_off290 (v100 : BitVec 32) : Fin 3 → Nat :=
  let c0_97 : Index := 0#32
  let v101 : Index := Scalar.indexCast v100
  let c0_98 : Index := 0#32
  ![0, v101.toNat, 0]

def k0_chk97 (i : grid0.Coords) (v100 : BitVec 32) : Prop :=
  (∀ (k0_h3 : k0_cond3 i = 1#1), ∀ a, (k0_off290 v100) a + S1x1x512.size a ≤ S1x8192x512.size a)
theorem k0_off290_inb : ∀ (i : grid0.Coords) (v100 : BitVec 32) (k0_hw97 : k0_chk97 i v100), ∀ (k0_h3 : k0_cond3 i = 1#1), ∀ a, (k0_off290 v100) a + S1x1x512.size a ≤ S1x8192x512.size a := fun i v100 k0_hw97 k0_h3 => k0_hw97 k0_h3

def k0_off291 (k0_t13 : Fin k0_t13_loop.trips) : Fin 3 → Nat :=
  let c48_i32 : BitVec 32 := 48#32
  let c1_i32_46 : BitVec 32 := 1#32
  let arg11 : BitVec 32 := Scf.iv c48_i32 c1_i32_46 k0_t13
  let v104 : Index := Scalar.indexCast arg11
  let c0_99 : Index := 0#32
  let c0_100 : Index := 0#32
  ![v104.toNat, 0, 0]
def k0_off292 (k0_t13 : Fin k0_t13_loop.trips) : Fin 3 → Nat :=
  let c0_103 : Index := 0#32
  let c0_104 : Index := 0#32
  let c48_i32 : BitVec 32 := 48#32
  let c1_i32_46 : BitVec 32 := 1#32
  let arg11 : BitVec 32 := Scf.iv c48_i32 c1_i32_46 k0_t13
  let c8_i32_101 : BitVec 32 := 8#32
  let v108 : BitVec 32 := Scalar.muli arg11 c8_i32_101
  let c1_i32_102 : BitVec 32 := 1#32
  let v109 : BitVec 32 := Scalar.addi v108 c1_i32_102
  let v110 : Index := Scalar.indexCast v109
  ![0, 0, v110.toNat]
def k0_off293 (v111 : BitVec 32) : Fin 3 → Nat :=
  let c0_105 : Index := 0#32
  let v112 : Index := Scalar.indexCast v111
  let c0_106 : Index := 0#32
  ![0, v112.toNat, 0]

def k0_chk98 (i : grid0.Coords) (v111 : BitVec 32) : Prop :=
  (∀ (k0_h3 : k0_cond3 i = 1#1), ∀ a, (k0_off293 v111) a + S1x1x512.size a ≤ S1x8192x512.size a)
theorem k0_off293_inb : ∀ (i : grid0.Coords) (v111 : BitVec 32) (k0_hw98 : k0_chk98 i v111), ∀ (k0_h3 : k0_cond3 i = 1#1), ∀ a, (k0_off293 v111) a + S1x1x512.size a ≤ S1x8192x512.size a := fun i v111 k0_hw98 k0_h3 => k0_hw98 k0_h3

def k0_off294 (k0_t13 : Fin k0_t13_loop.trips) : Fin 3 → Nat :=
  let c48_i32 : BitVec 32 := 48#32
  let c1_i32_46 : BitVec 32 := 1#32
  let arg11 : BitVec 32 := Scf.iv c48_i32 c1_i32_46 k0_t13
  let v115 : Index := Scalar.indexCast arg11
  let c1 : Index := 1#32
  let c0_107 : Index := 0#32
  ![v115.toNat, 1, 0]
def k0_off295 (k0_t13 : Fin k0_t13_loop.trips) : Fin 3 → Nat :=
  let c0_110 : Index := 0#32
  let c0_111 : Index := 0#32
  let c48_i32 : BitVec 32 := 48#32
  let c1_i32_46 : BitVec 32 := 1#32
  let arg11 : BitVec 32 := Scf.iv c48_i32 c1_i32_46 k0_t13
  let c8_i32_108 : BitVec 32 := 8#32
  let v119 : BitVec 32 := Scalar.muli arg11 c8_i32_108
  let c2_i32_109 : BitVec 32 := 2#32
  let v120 : BitVec 32 := Scalar.addi v119 c2_i32_109
  let v121 : Index := Scalar.indexCast v120
  ![0, 0, v121.toNat]
def k0_off296 (v122 : BitVec 32) : Fin 3 → Nat :=
  let c0_112 : Index := 0#32
  let v123 : Index := Scalar.indexCast v122
  let c0_113 : Index := 0#32
  ![0, v123.toNat, 0]

def k0_chk99 (i : grid0.Coords) (v122 : BitVec 32) : Prop :=
  (∀ (k0_h3 : k0_cond3 i = 1#1), ∀ a, (k0_off296 v122) a + S1x1x512.size a ≤ S1x8192x512.size a)
theorem k0_off296_inb : ∀ (i : grid0.Coords) (v122 : BitVec 32) (k0_hw99 : k0_chk99 i v122), ∀ (k0_h3 : k0_cond3 i = 1#1), ∀ a, (k0_off296 v122) a + S1x1x512.size a ≤ S1x8192x512.size a := fun i v122 k0_hw99 k0_h3 => k0_hw99 k0_h3

def k0_off297 (k0_t13 : Fin k0_t13_loop.trips) : Fin 3 → Nat :=
  let c48_i32 : BitVec 32 := 48#32
  let c1_i32_46 : BitVec 32 := 1#32
  let arg11 : BitVec 32 := Scf.iv c48_i32 c1_i32_46 k0_t13
  let v126 : Index := Scalar.indexCast arg11
  let c2 : Index := 2#32
  let c0_114 : Index := 0#32
  ![v126.toNat, 2, 0]
def k0_off298 (k0_t13 : Fin k0_t13_loop.trips) : Fin 3 → Nat :=
  let c0_116 : Index := 0#32
  let c0_117 : Index := 0#32
  let c48_i32 : BitVec 32 := 48#32
  let c1_i32_46 : BitVec 32 := 1#32
  let arg11 : BitVec 32 := Scf.iv c48_i32 c1_i32_46 k0_t13
  let c8_i32_115 : BitVec 32 := 8#32
  let v130 : BitVec 32 := Scalar.muli arg11 c8_i32_115
  let c3_i32 : BitVec 32 := 3#32
  let v131 : BitVec 32 := Scalar.addi v130 c3_i32
  let v132 : Index := Scalar.indexCast v131
  ![0, 0, v132.toNat]
def k0_off299 (v133 : BitVec 32) : Fin 3 → Nat :=
  let c0_118 : Index := 0#32
  let v134 : Index := Scalar.indexCast v133
  let c0_119 : Index := 0#32
  ![0, v134.toNat, 0]

def k0_chk100 (i : grid0.Coords) (v133 : BitVec 32) : Prop :=
  (∀ (k0_h3 : k0_cond3 i = 1#1), ∀ a, (k0_off299 v133) a + S1x1x512.size a ≤ S1x8192x512.size a)
theorem k0_off299_inb : ∀ (i : grid0.Coords) (v133 : BitVec 32) (k0_hw100 : k0_chk100 i v133), ∀ (k0_h3 : k0_cond3 i = 1#1), ∀ a, (k0_off299 v133) a + S1x1x512.size a ≤ S1x8192x512.size a := fun i v133 k0_hw100 k0_h3 => k0_hw100 k0_h3

def k0_off300 (k0_t13 : Fin k0_t13_loop.trips) : Fin 3 → Nat :=
  let c48_i32 : BitVec 32 := 48#32
  let c1_i32_46 : BitVec 32 := 1#32
  let arg11 : BitVec 32 := Scf.iv c48_i32 c1_i32_46 k0_t13
  let v137 : Index := Scalar.indexCast arg11
  let c3 : Index := 3#32
  let c0_120 : Index := 0#32
  ![v137.toNat, 3, 0]
def k0_off301 (k0_t13 : Fin k0_t13_loop.trips) : Fin 3 → Nat :=
  let c0_122 : Index := 0#32
  let c0_123 : Index := 0#32
  let c48_i32 : BitVec 32 := 48#32
  let c1_i32_46 : BitVec 32 := 1#32
  let arg11 : BitVec 32 := Scf.iv c48_i32 c1_i32_46 k0_t13
  let c8_i32_121 : BitVec 32 := 8#32
  let v141 : BitVec 32 := Scalar.muli arg11 c8_i32_121
  let c4_i32 : BitVec 32 := 4#32
  let v142 : BitVec 32 := Scalar.addi v141 c4_i32
  let v143 : Index := Scalar.indexCast v142
  ![0, 0, v143.toNat]
def k0_off302 (v144 : BitVec 32) : Fin 3 → Nat :=
  let c0_124 : Index := 0#32
  let v145 : Index := Scalar.indexCast v144
  let c0_125 : Index := 0#32
  ![0, v145.toNat, 0]

def k0_chk101 (i : grid0.Coords) (v144 : BitVec 32) : Prop :=
  (∀ (k0_h3 : k0_cond3 i = 1#1), ∀ a, (k0_off302 v144) a + S1x1x512.size a ≤ S1x8192x512.size a)
theorem k0_off302_inb : ∀ (i : grid0.Coords) (v144 : BitVec 32) (k0_hw101 : k0_chk101 i v144), ∀ (k0_h3 : k0_cond3 i = 1#1), ∀ a, (k0_off302 v144) a + S1x1x512.size a ≤ S1x8192x512.size a := fun i v144 k0_hw101 k0_h3 => k0_hw101 k0_h3

def k0_off303 (k0_t13 : Fin k0_t13_loop.trips) : Fin 3 → Nat :=
  let c48_i32 : BitVec 32 := 48#32
  let c1_i32_46 : BitVec 32 := 1#32
  let arg11 : BitVec 32 := Scf.iv c48_i32 c1_i32_46 k0_t13
  let v148 : Index := Scalar.indexCast arg11
  let c4 : Index := 4#32
  let c0_126 : Index := 0#32
  ![v148.toNat, 4, 0]
def k0_off304 (k0_t13 : Fin k0_t13_loop.trips) : Fin 3 → Nat :=
  let c0_128 : Index := 0#32
  let c0_129 : Index := 0#32
  let c48_i32 : BitVec 32 := 48#32
  let c1_i32_46 : BitVec 32 := 1#32
  let arg11 : BitVec 32 := Scf.iv c48_i32 c1_i32_46 k0_t13
  let c8_i32_127 : BitVec 32 := 8#32
  let v152 : BitVec 32 := Scalar.muli arg11 c8_i32_127
  let c5_i32 : BitVec 32 := 5#32
  let v153 : BitVec 32 := Scalar.addi v152 c5_i32
  let v154 : Index := Scalar.indexCast v153
  ![0, 0, v154.toNat]
def k0_off305 (v155 : BitVec 32) : Fin 3 → Nat :=
  let c0_130 : Index := 0#32
  let v156 : Index := Scalar.indexCast v155
  let c0_131 : Index := 0#32
  ![0, v156.toNat, 0]

def k0_chk102 (i : grid0.Coords) (v155 : BitVec 32) : Prop :=
  (∀ (k0_h3 : k0_cond3 i = 1#1), ∀ a, (k0_off305 v155) a + S1x1x512.size a ≤ S1x8192x512.size a)
theorem k0_off305_inb : ∀ (i : grid0.Coords) (v155 : BitVec 32) (k0_hw102 : k0_chk102 i v155), ∀ (k0_h3 : k0_cond3 i = 1#1), ∀ a, (k0_off305 v155) a + S1x1x512.size a ≤ S1x8192x512.size a := fun i v155 k0_hw102 k0_h3 => k0_hw102 k0_h3

def k0_off306 (k0_t13 : Fin k0_t13_loop.trips) : Fin 3 → Nat :=
  let c48_i32 : BitVec 32 := 48#32
  let c1_i32_46 : BitVec 32 := 1#32
  let arg11 : BitVec 32 := Scf.iv c48_i32 c1_i32_46 k0_t13
  let v159 : Index := Scalar.indexCast arg11
  let c5 : Index := 5#32
  let c0_132 : Index := 0#32
  ![v159.toNat, 5, 0]
def k0_off307 (k0_t13 : Fin k0_t13_loop.trips) : Fin 3 → Nat :=
  let c0_134 : Index := 0#32
  let c0_135 : Index := 0#32
  let c48_i32 : BitVec 32 := 48#32
  let c1_i32_46 : BitVec 32 := 1#32
  let arg11 : BitVec 32 := Scf.iv c48_i32 c1_i32_46 k0_t13
  let c8_i32_133 : BitVec 32 := 8#32
  let v163 : BitVec 32 := Scalar.muli arg11 c8_i32_133
  let c6_i32 : BitVec 32 := 6#32
  let v164 : BitVec 32 := Scalar.addi v163 c6_i32
  let v165 : Index := Scalar.indexCast v164
  ![0, 0, v165.toNat]
def k0_off308 (v166 : BitVec 32) : Fin 3 → Nat :=
  let c0_136 : Index := 0#32
  let v167 : Index := Scalar.indexCast v166
  let c0_137 : Index := 0#32
  ![0, v167.toNat, 0]

def k0_chk103 (i : grid0.Coords) (v166 : BitVec 32) : Prop :=
  (∀ (k0_h3 : k0_cond3 i = 1#1), ∀ a, (k0_off308 v166) a + S1x1x512.size a ≤ S1x8192x512.size a)
theorem k0_off308_inb : ∀ (i : grid0.Coords) (v166 : BitVec 32) (k0_hw103 : k0_chk103 i v166), ∀ (k0_h3 : k0_cond3 i = 1#1), ∀ a, (k0_off308 v166) a + S1x1x512.size a ≤ S1x8192x512.size a := fun i v166 k0_hw103 k0_h3 => k0_hw103 k0_h3

def k0_off309 (k0_t13 : Fin k0_t13_loop.trips) : Fin 3 → Nat :=
  let c48_i32 : BitVec 32 := 48#32
  let c1_i32_46 : BitVec 32 := 1#32
  let arg11 : BitVec 32 := Scf.iv c48_i32 c1_i32_46 k0_t13
  let v170 : Index := Scalar.indexCast arg11
  let c6 : Index := 6#32
  let c0_138 : Index := 0#32
  ![v170.toNat, 6, 0]
def k0_off310 (k0_t13 : Fin k0_t13_loop.trips) : Fin 3 → Nat :=
  let c0_140 : Index := 0#32
  let c0_141 : Index := 0#32
  let c48_i32 : BitVec 32 := 48#32
  let c1_i32_46 : BitVec 32 := 1#32
  let arg11 : BitVec 32 := Scf.iv c48_i32 c1_i32_46 k0_t13
  let c8_i32_139 : BitVec 32 := 8#32
  let v174 : BitVec 32 := Scalar.muli arg11 c8_i32_139
  let c7_i32 : BitVec 32 := 7#32
  let v175 : BitVec 32 := Scalar.addi v174 c7_i32
  let v176 : Index := Scalar.indexCast v175
  ![0, 0, v176.toNat]
def k0_off311 (v177 : BitVec 32) : Fin 3 → Nat :=
  let c0_142 : Index := 0#32
  let v178 : Index := Scalar.indexCast v177
  let c0_143 : Index := 0#32
  ![0, v178.toNat, 0]

def k0_chk104 (i : grid0.Coords) (v177 : BitVec 32) : Prop :=
  (∀ (k0_h3 : k0_cond3 i = 1#1), ∀ a, (k0_off311 v177) a + S1x1x512.size a ≤ S1x8192x512.size a)
theorem k0_off311_inb : ∀ (i : grid0.Coords) (v177 : BitVec 32) (k0_hw104 : k0_chk104 i v177), ∀ (k0_h3 : k0_cond3 i = 1#1), ∀ a, (k0_off311 v177) a + S1x1x512.size a ≤ S1x8192x512.size a := fun i v177 k0_hw104 k0_h3 => k0_hw104 k0_h3

def k0_off312 (k0_t13 : Fin k0_t13_loop.trips) : Fin 3 → Nat :=
  let c48_i32 : BitVec 32 := 48#32
  let c1_i32_46 : BitVec 32 := 1#32
  let arg11 : BitVec 32 := Scf.iv c48_i32 c1_i32_46 k0_t13
  let v181 : Index := Scalar.indexCast arg11
  let c7 : Index := 7#32
  let c0_144 : Index := 0#32
  ![v181.toNat, 7, 0]
@[reducible] def k0_t14_loop : Scf.Loop 32 :=
  let c64_i32 : BitVec 32 := 64#32
  let c16_i32_57 : BitVec 32 := 16#32
  let v72 : BitVec 32 := Scalar.addi c64_i32 c16_i32_57
  let c1_i32_58 : BitVec 32 := 1#32
  ⟨c64_i32, v72, c1_i32_58⟩
def k0_off313 (k0_t14 : Fin k0_t14_loop.trips) : Fin 3 → Nat :=
  let c0_95 : Index := 0#32
  let c0_96 : Index := 0#32
  let c64_i32 : BitVec 32 := 64#32
  let c1_i32_58 : BitVec 32 := 1#32
  let arg11 : BitVec 32 := Scf.iv c64_i32 c1_i32_58 k0_t14
  let c8_i32 : BitVec 32 := 8#32
  let v97 : BitVec 32 := Scalar.muli arg11 c8_i32
  let c0_i32_94 : BitVec 32 := 0#32
  let v98 : BitVec 32 := Scalar.addi v97 c0_i32_94
  let v99 : Index := Scalar.indexCast v98
  ![0, 0, v99.toNat]
def k0_off314 (v100 : BitVec 32) : Fin 3 → Nat :=
  let c0_97 : Index := 0#32
  let v101 : Index := Scalar.indexCast v100
  let c0_98 : Index := 0#32
  ![0, v101.toNat, 0]

def k0_chk105 (i : grid0.Coords) (v100 : BitVec 32) : Prop :=
  (∀ (k0_h3 : k0_cond3 i = 1#1), ∀ a, (k0_off314 v100) a + S1x1x512.size a ≤ S1x8192x512.size a)
theorem k0_off314_inb : ∀ (i : grid0.Coords) (v100 : BitVec 32) (k0_hw105 : k0_chk105 i v100), ∀ (k0_h3 : k0_cond3 i = 1#1), ∀ a, (k0_off314 v100) a + S1x1x512.size a ≤ S1x8192x512.size a := fun i v100 k0_hw105 k0_h3 => k0_hw105 k0_h3

def k0_off315 (k0_t14 : Fin k0_t14_loop.trips) : Fin 3 → Nat :=
  let c64_i32 : BitVec 32 := 64#32
  let c1_i32_58 : BitVec 32 := 1#32
  let arg11 : BitVec 32 := Scf.iv c64_i32 c1_i32_58 k0_t14
  let v104 : Index := Scalar.indexCast arg11
  let c0_99 : Index := 0#32
  let c0_100 : Index := 0#32
  ![v104.toNat, 0, 0]
def k0_off316 (k0_t14 : Fin k0_t14_loop.trips) : Fin 3 → Nat :=
  let c0_103 : Index := 0#32
  let c0_104 : Index := 0#32
  let c64_i32 : BitVec 32 := 64#32
  let c1_i32_58 : BitVec 32 := 1#32
  let arg11 : BitVec 32 := Scf.iv c64_i32 c1_i32_58 k0_t14
  let c8_i32_101 : BitVec 32 := 8#32
  let v108 : BitVec 32 := Scalar.muli arg11 c8_i32_101
  let c1_i32_102 : BitVec 32 := 1#32
  let v109 : BitVec 32 := Scalar.addi v108 c1_i32_102
  let v110 : Index := Scalar.indexCast v109
  ![0, 0, v110.toNat]
def k0_off317 (v111 : BitVec 32) : Fin 3 → Nat :=
  let c0_105 : Index := 0#32
  let v112 : Index := Scalar.indexCast v111
  let c0_106 : Index := 0#32
  ![0, v112.toNat, 0]

def k0_chk106 (i : grid0.Coords) (v111 : BitVec 32) : Prop :=
  (∀ (k0_h3 : k0_cond3 i = 1#1), ∀ a, (k0_off317 v111) a + S1x1x512.size a ≤ S1x8192x512.size a)
theorem k0_off317_inb : ∀ (i : grid0.Coords) (v111 : BitVec 32) (k0_hw106 : k0_chk106 i v111), ∀ (k0_h3 : k0_cond3 i = 1#1), ∀ a, (k0_off317 v111) a + S1x1x512.size a ≤ S1x8192x512.size a := fun i v111 k0_hw106 k0_h3 => k0_hw106 k0_h3

def k0_off318 (k0_t14 : Fin k0_t14_loop.trips) : Fin 3 → Nat :=
  let c64_i32 : BitVec 32 := 64#32
  let c1_i32_58 : BitVec 32 := 1#32
  let arg11 : BitVec 32 := Scf.iv c64_i32 c1_i32_58 k0_t14
  let v115 : Index := Scalar.indexCast arg11
  let c1 : Index := 1#32
  let c0_107 : Index := 0#32
  ![v115.toNat, 1, 0]
def k0_off319 (k0_t14 : Fin k0_t14_loop.trips) : Fin 3 → Nat :=
  let c0_110 : Index := 0#32
  let c0_111 : Index := 0#32
  let c64_i32 : BitVec 32 := 64#32
  let c1_i32_58 : BitVec 32 := 1#32
  let arg11 : BitVec 32 := Scf.iv c64_i32 c1_i32_58 k0_t14
  let c8_i32_108 : BitVec 32 := 8#32
  let v119 : BitVec 32 := Scalar.muli arg11 c8_i32_108
  let c2_i32_109 : BitVec 32 := 2#32
  let v120 : BitVec 32 := Scalar.addi v119 c2_i32_109
  let v121 : Index := Scalar.indexCast v120
  ![0, 0, v121.toNat]
def k0_off320 (v122 : BitVec 32) : Fin 3 → Nat :=
  let c0_112 : Index := 0#32
  let v123 : Index := Scalar.indexCast v122
  let c0_113 : Index := 0#32
  ![0, v123.toNat, 0]

def k0_chk107 (i : grid0.Coords) (v122 : BitVec 32) : Prop :=
  (∀ (k0_h3 : k0_cond3 i = 1#1), ∀ a, (k0_off320 v122) a + S1x1x512.size a ≤ S1x8192x512.size a)
theorem k0_off320_inb : ∀ (i : grid0.Coords) (v122 : BitVec 32) (k0_hw107 : k0_chk107 i v122), ∀ (k0_h3 : k0_cond3 i = 1#1), ∀ a, (k0_off320 v122) a + S1x1x512.size a ≤ S1x8192x512.size a := fun i v122 k0_hw107 k0_h3 => k0_hw107 k0_h3

def k0_off321 (k0_t14 : Fin k0_t14_loop.trips) : Fin 3 → Nat :=
  let c64_i32 : BitVec 32 := 64#32
  let c1_i32_58 : BitVec 32 := 1#32
  let arg11 : BitVec 32 := Scf.iv c64_i32 c1_i32_58 k0_t14
  let v126 : Index := Scalar.indexCast arg11
  let c2 : Index := 2#32
  let c0_114 : Index := 0#32
  ![v126.toNat, 2, 0]
def k0_off322 (k0_t14 : Fin k0_t14_loop.trips) : Fin 3 → Nat :=
  let c0_116 : Index := 0#32
  let c0_117 : Index := 0#32
  let c64_i32 : BitVec 32 := 64#32
  let c1_i32_58 : BitVec 32 := 1#32
  let arg11 : BitVec 32 := Scf.iv c64_i32 c1_i32_58 k0_t14
  let c8_i32_115 : BitVec 32 := 8#32
  let v130 : BitVec 32 := Scalar.muli arg11 c8_i32_115
  let c3_i32 : BitVec 32 := 3#32
  let v131 : BitVec 32 := Scalar.addi v130 c3_i32
  let v132 : Index := Scalar.indexCast v131
  ![0, 0, v132.toNat]
def k0_off323 (v133 : BitVec 32) : Fin 3 → Nat :=
  let c0_118 : Index := 0#32
  let v134 : Index := Scalar.indexCast v133
  let c0_119 : Index := 0#32
  ![0, v134.toNat, 0]

def k0_chk108 (i : grid0.Coords) (v133 : BitVec 32) : Prop :=
  (∀ (k0_h3 : k0_cond3 i = 1#1), ∀ a, (k0_off323 v133) a + S1x1x512.size a ≤ S1x8192x512.size a)
theorem k0_off323_inb : ∀ (i : grid0.Coords) (v133 : BitVec 32) (k0_hw108 : k0_chk108 i v133), ∀ (k0_h3 : k0_cond3 i = 1#1), ∀ a, (k0_off323 v133) a + S1x1x512.size a ≤ S1x8192x512.size a := fun i v133 k0_hw108 k0_h3 => k0_hw108 k0_h3

def k0_off324 (k0_t14 : Fin k0_t14_loop.trips) : Fin 3 → Nat :=
  let c64_i32 : BitVec 32 := 64#32
  let c1_i32_58 : BitVec 32 := 1#32
  let arg11 : BitVec 32 := Scf.iv c64_i32 c1_i32_58 k0_t14
  let v137 : Index := Scalar.indexCast arg11
  let c3 : Index := 3#32
  let c0_120 : Index := 0#32
  ![v137.toNat, 3, 0]
def k0_off325 (k0_t14 : Fin k0_t14_loop.trips) : Fin 3 → Nat :=
  let c0_122 : Index := 0#32
  let c0_123 : Index := 0#32
  let c64_i32 : BitVec 32 := 64#32
  let c1_i32_58 : BitVec 32 := 1#32
  let arg11 : BitVec 32 := Scf.iv c64_i32 c1_i32_58 k0_t14
  let c8_i32_121 : BitVec 32 := 8#32
  let v141 : BitVec 32 := Scalar.muli arg11 c8_i32_121
  let c4_i32 : BitVec 32 := 4#32
  let v142 : BitVec 32 := Scalar.addi v141 c4_i32
  let v143 : Index := Scalar.indexCast v142
  ![0, 0, v143.toNat]
def k0_off326 (v144 : BitVec 32) : Fin 3 → Nat :=
  let c0_124 : Index := 0#32
  let v145 : Index := Scalar.indexCast v144
  let c0_125 : Index := 0#32
  ![0, v145.toNat, 0]

def k0_chk109 (i : grid0.Coords) (v144 : BitVec 32) : Prop :=
  (∀ (k0_h3 : k0_cond3 i = 1#1), ∀ a, (k0_off326 v144) a + S1x1x512.size a ≤ S1x8192x512.size a)
theorem k0_off326_inb : ∀ (i : grid0.Coords) (v144 : BitVec 32) (k0_hw109 : k0_chk109 i v144), ∀ (k0_h3 : k0_cond3 i = 1#1), ∀ a, (k0_off326 v144) a + S1x1x512.size a ≤ S1x8192x512.size a := fun i v144 k0_hw109 k0_h3 => k0_hw109 k0_h3

def k0_off327 (k0_t14 : Fin k0_t14_loop.trips) : Fin 3 → Nat :=
  let c64_i32 : BitVec 32 := 64#32
  let c1_i32_58 : BitVec 32 := 1#32
  let arg11 : BitVec 32 := Scf.iv c64_i32 c1_i32_58 k0_t14
  let v148 : Index := Scalar.indexCast arg11
  let c4 : Index := 4#32
  let c0_126 : Index := 0#32
  ![v148.toNat, 4, 0]
def k0_off328 (k0_t14 : Fin k0_t14_loop.trips) : Fin 3 → Nat :=
  let c0_128 : Index := 0#32
  let c0_129 : Index := 0#32
  let c64_i32 : BitVec 32 := 64#32
  let c1_i32_58 : BitVec 32 := 1#32
  let arg11 : BitVec 32 := Scf.iv c64_i32 c1_i32_58 k0_t14
  let c8_i32_127 : BitVec 32 := 8#32
  let v152 : BitVec 32 := Scalar.muli arg11 c8_i32_127
  let c5_i32 : BitVec 32 := 5#32
  let v153 : BitVec 32 := Scalar.addi v152 c5_i32
  let v154 : Index := Scalar.indexCast v153
  ![0, 0, v154.toNat]
def k0_off329 (v155 : BitVec 32) : Fin 3 → Nat :=
  let c0_130 : Index := 0#32
  let v156 : Index := Scalar.indexCast v155
  let c0_131 : Index := 0#32
  ![0, v156.toNat, 0]

def k0_chk110 (i : grid0.Coords) (v155 : BitVec 32) : Prop :=
  (∀ (k0_h3 : k0_cond3 i = 1#1), ∀ a, (k0_off329 v155) a + S1x1x512.size a ≤ S1x8192x512.size a)
theorem k0_off329_inb : ∀ (i : grid0.Coords) (v155 : BitVec 32) (k0_hw110 : k0_chk110 i v155), ∀ (k0_h3 : k0_cond3 i = 1#1), ∀ a, (k0_off329 v155) a + S1x1x512.size a ≤ S1x8192x512.size a := fun i v155 k0_hw110 k0_h3 => k0_hw110 k0_h3

def k0_off330 (k0_t14 : Fin k0_t14_loop.trips) : Fin 3 → Nat :=
  let c64_i32 : BitVec 32 := 64#32
  let c1_i32_58 : BitVec 32 := 1#32
  let arg11 : BitVec 32 := Scf.iv c64_i32 c1_i32_58 k0_t14
  let v159 : Index := Scalar.indexCast arg11
  let c5 : Index := 5#32
  let c0_132 : Index := 0#32
  ![v159.toNat, 5, 0]
def k0_off331 (k0_t14 : Fin k0_t14_loop.trips) : Fin 3 → Nat :=
  let c0_134 : Index := 0#32
  let c0_135 : Index := 0#32
  let c64_i32 : BitVec 32 := 64#32
  let c1_i32_58 : BitVec 32 := 1#32
  let arg11 : BitVec 32 := Scf.iv c64_i32 c1_i32_58 k0_t14
  let c8_i32_133 : BitVec 32 := 8#32
  let v163 : BitVec 32 := Scalar.muli arg11 c8_i32_133
  let c6_i32 : BitVec 32 := 6#32
  let v164 : BitVec 32 := Scalar.addi v163 c6_i32
  let v165 : Index := Scalar.indexCast v164
  ![0, 0, v165.toNat]
def k0_off332 (v166 : BitVec 32) : Fin 3 → Nat :=
  let c0_136 : Index := 0#32
  let v167 : Index := Scalar.indexCast v166
  let c0_137 : Index := 0#32
  ![0, v167.toNat, 0]

def k0_chk111 (i : grid0.Coords) (v166 : BitVec 32) : Prop :=
  (∀ (k0_h3 : k0_cond3 i = 1#1), ∀ a, (k0_off332 v166) a + S1x1x512.size a ≤ S1x8192x512.size a)
theorem k0_off332_inb : ∀ (i : grid0.Coords) (v166 : BitVec 32) (k0_hw111 : k0_chk111 i v166), ∀ (k0_h3 : k0_cond3 i = 1#1), ∀ a, (k0_off332 v166) a + S1x1x512.size a ≤ S1x8192x512.size a := fun i v166 k0_hw111 k0_h3 => k0_hw111 k0_h3

def k0_off333 (k0_t14 : Fin k0_t14_loop.trips) : Fin 3 → Nat :=
  let c64_i32 : BitVec 32 := 64#32
  let c1_i32_58 : BitVec 32 := 1#32
  let arg11 : BitVec 32 := Scf.iv c64_i32 c1_i32_58 k0_t14
  let v170 : Index := Scalar.indexCast arg11
  let c6 : Index := 6#32
  let c0_138 : Index := 0#32
  ![v170.toNat, 6, 0]
def k0_off334 (k0_t14 : Fin k0_t14_loop.trips) : Fin 3 → Nat :=
  let c0_140 : Index := 0#32
  let c0_141 : Index := 0#32
  let c64_i32 : BitVec 32 := 64#32
  let c1_i32_58 : BitVec 32 := 1#32
  let arg11 : BitVec 32 := Scf.iv c64_i32 c1_i32_58 k0_t14
  let c8_i32_139 : BitVec 32 := 8#32
  let v174 : BitVec 32 := Scalar.muli arg11 c8_i32_139
  let c7_i32 : BitVec 32 := 7#32
  let v175 : BitVec 32 := Scalar.addi v174 c7_i32
  let v176 : Index := Scalar.indexCast v175
  ![0, 0, v176.toNat]
def k0_off335 (v177 : BitVec 32) : Fin 3 → Nat :=
  let c0_142 : Index := 0#32
  let v178 : Index := Scalar.indexCast v177
  let c0_143 : Index := 0#32
  ![0, v178.toNat, 0]

def k0_chk112 (i : grid0.Coords) (v177 : BitVec 32) : Prop :=
  (∀ (k0_h3 : k0_cond3 i = 1#1), ∀ a, (k0_off335 v177) a + S1x1x512.size a ≤ S1x8192x512.size a)
theorem k0_off335_inb : ∀ (i : grid0.Coords) (v177 : BitVec 32) (k0_hw112 : k0_chk112 i v177), ∀ (k0_h3 : k0_cond3 i = 1#1), ∀ a, (k0_off335 v177) a + S1x1x512.size a ≤ S1x8192x512.size a := fun i v177 k0_hw112 k0_h3 => k0_hw112 k0_h3

def k0_off336 (k0_t14 : Fin k0_t14_loop.trips) : Fin 3 → Nat :=
  let c64_i32 : BitVec 32 := 64#32
  let c1_i32_58 : BitVec 32 := 1#32
  let arg11 : BitVec 32 := Scf.iv c64_i32 c1_i32_58 k0_t14
  let v181 : Index := Scalar.indexCast arg11
  let c7 : Index := 7#32
  let c0_144 : Index := 0#32
  ![v181.toNat, 7, 0]
@[reducible] def k0_t15_loop : Scf.Loop 32 :=
  let c80_i32 : BitVec 32 := 80#32
  let c16_i32_69 : BitVec 32 := 16#32
  let v80 : BitVec 32 := Scalar.addi c80_i32 c16_i32_69
  let c1_i32_70 : BitVec 32 := 1#32
  ⟨c80_i32, v80, c1_i32_70⟩
def k0_off337 (k0_t15 : Fin k0_t15_loop.trips) : Fin 3 → Nat :=
  let c0_95 : Index := 0#32
  let c0_96 : Index := 0#32
  let c80_i32 : BitVec 32 := 80#32
  let c1_i32_70 : BitVec 32 := 1#32
  let arg11 : BitVec 32 := Scf.iv c80_i32 c1_i32_70 k0_t15
  let c8_i32 : BitVec 32 := 8#32
  let v97 : BitVec 32 := Scalar.muli arg11 c8_i32
  let c0_i32_94 : BitVec 32 := 0#32
  let v98 : BitVec 32 := Scalar.addi v97 c0_i32_94
  let v99 : Index := Scalar.indexCast v98
  ![0, 0, v99.toNat]
def k0_off338 (v100 : BitVec 32) : Fin 3 → Nat :=
  let c0_97 : Index := 0#32
  let v101 : Index := Scalar.indexCast v100
  let c0_98 : Index := 0#32
  ![0, v101.toNat, 0]

def k0_chk113 (i : grid0.Coords) (v100 : BitVec 32) : Prop :=
  (∀ (k0_h3 : k0_cond3 i = 1#1), ∀ a, (k0_off338 v100) a + S1x1x512.size a ≤ S1x8192x512.size a)
theorem k0_off338_inb : ∀ (i : grid0.Coords) (v100 : BitVec 32) (k0_hw113 : k0_chk113 i v100), ∀ (k0_h3 : k0_cond3 i = 1#1), ∀ a, (k0_off338 v100) a + S1x1x512.size a ≤ S1x8192x512.size a := fun i v100 k0_hw113 k0_h3 => k0_hw113 k0_h3

def k0_off339 (k0_t15 : Fin k0_t15_loop.trips) : Fin 3 → Nat :=
  let c80_i32 : BitVec 32 := 80#32
  let c1_i32_70 : BitVec 32 := 1#32
  let arg11 : BitVec 32 := Scf.iv c80_i32 c1_i32_70 k0_t15
  let v104 : Index := Scalar.indexCast arg11
  let c0_99 : Index := 0#32
  let c0_100 : Index := 0#32
  ![v104.toNat, 0, 0]
def k0_off340 (k0_t15 : Fin k0_t15_loop.trips) : Fin 3 → Nat :=
  let c0_103 : Index := 0#32
  let c0_104 : Index := 0#32
  let c80_i32 : BitVec 32 := 80#32
  let c1_i32_70 : BitVec 32 := 1#32
  let arg11 : BitVec 32 := Scf.iv c80_i32 c1_i32_70 k0_t15
  let c8_i32_101 : BitVec 32 := 8#32
  let v108 : BitVec 32 := Scalar.muli arg11 c8_i32_101
  let c1_i32_102 : BitVec 32 := 1#32
  let v109 : BitVec 32 := Scalar.addi v108 c1_i32_102
  let v110 : Index := Scalar.indexCast v109
  ![0, 0, v110.toNat]
def k0_off341 (v111 : BitVec 32) : Fin 3 → Nat :=
  let c0_105 : Index := 0#32
  let v112 : Index := Scalar.indexCast v111
  let c0_106 : Index := 0#32
  ![0, v112.toNat, 0]

def k0_chk114 (i : grid0.Coords) (v111 : BitVec 32) : Prop :=
  (∀ (k0_h3 : k0_cond3 i = 1#1), ∀ a, (k0_off341 v111) a + S1x1x512.size a ≤ S1x8192x512.size a)
theorem k0_off341_inb : ∀ (i : grid0.Coords) (v111 : BitVec 32) (k0_hw114 : k0_chk114 i v111), ∀ (k0_h3 : k0_cond3 i = 1#1), ∀ a, (k0_off341 v111) a + S1x1x512.size a ≤ S1x8192x512.size a := fun i v111 k0_hw114 k0_h3 => k0_hw114 k0_h3

def k0_off342 (k0_t15 : Fin k0_t15_loop.trips) : Fin 3 → Nat :=
  let c80_i32 : BitVec 32 := 80#32
  let c1_i32_70 : BitVec 32 := 1#32
  let arg11 : BitVec 32 := Scf.iv c80_i32 c1_i32_70 k0_t15
  let v115 : Index := Scalar.indexCast arg11
  let c1 : Index := 1#32
  let c0_107 : Index := 0#32
  ![v115.toNat, 1, 0]
def k0_off343 (k0_t15 : Fin k0_t15_loop.trips) : Fin 3 → Nat :=
  let c0_110 : Index := 0#32
  let c0_111 : Index := 0#32
  let c80_i32 : BitVec 32 := 80#32
  let c1_i32_70 : BitVec 32 := 1#32
  let arg11 : BitVec 32 := Scf.iv c80_i32 c1_i32_70 k0_t15
  let c8_i32_108 : BitVec 32 := 8#32
  let v119 : BitVec 32 := Scalar.muli arg11 c8_i32_108
  let c2_i32_109 : BitVec 32 := 2#32
  let v120 : BitVec 32 := Scalar.addi v119 c2_i32_109
  let v121 : Index := Scalar.indexCast v120
  ![0, 0, v121.toNat]
def k0_off344 (v122 : BitVec 32) : Fin 3 → Nat :=
  let c0_112 : Index := 0#32
  let v123 : Index := Scalar.indexCast v122
  let c0_113 : Index := 0#32
  ![0, v123.toNat, 0]

def k0_chk115 (i : grid0.Coords) (v122 : BitVec 32) : Prop :=
  (∀ (k0_h3 : k0_cond3 i = 1#1), ∀ a, (k0_off344 v122) a + S1x1x512.size a ≤ S1x8192x512.size a)
theorem k0_off344_inb : ∀ (i : grid0.Coords) (v122 : BitVec 32) (k0_hw115 : k0_chk115 i v122), ∀ (k0_h3 : k0_cond3 i = 1#1), ∀ a, (k0_off344 v122) a + S1x1x512.size a ≤ S1x8192x512.size a := fun i v122 k0_hw115 k0_h3 => k0_hw115 k0_h3

def k0_off345 (k0_t15 : Fin k0_t15_loop.trips) : Fin 3 → Nat :=
  let c80_i32 : BitVec 32 := 80#32
  let c1_i32_70 : BitVec 32 := 1#32
  let arg11 : BitVec 32 := Scf.iv c80_i32 c1_i32_70 k0_t15
  let v126 : Index := Scalar.indexCast arg11
  let c2 : Index := 2#32
  let c0_114 : Index := 0#32
  ![v126.toNat, 2, 0]
def k0_off346 (k0_t15 : Fin k0_t15_loop.trips) : Fin 3 → Nat :=
  let c0_116 : Index := 0#32
  let c0_117 : Index := 0#32
  let c80_i32 : BitVec 32 := 80#32
  let c1_i32_70 : BitVec 32 := 1#32
  let arg11 : BitVec 32 := Scf.iv c80_i32 c1_i32_70 k0_t15
  let c8_i32_115 : BitVec 32 := 8#32
  let v130 : BitVec 32 := Scalar.muli arg11 c8_i32_115
  let c3_i32 : BitVec 32 := 3#32
  let v131 : BitVec 32 := Scalar.addi v130 c3_i32
  let v132 : Index := Scalar.indexCast v131
  ![0, 0, v132.toNat]
def k0_off347 (v133 : BitVec 32) : Fin 3 → Nat :=
  let c0_118 : Index := 0#32
  let v134 : Index := Scalar.indexCast v133
  let c0_119 : Index := 0#32
  ![0, v134.toNat, 0]

def k0_chk116 (i : grid0.Coords) (v133 : BitVec 32) : Prop :=
  (∀ (k0_h3 : k0_cond3 i = 1#1), ∀ a, (k0_off347 v133) a + S1x1x512.size a ≤ S1x8192x512.size a)
theorem k0_off347_inb : ∀ (i : grid0.Coords) (v133 : BitVec 32) (k0_hw116 : k0_chk116 i v133), ∀ (k0_h3 : k0_cond3 i = 1#1), ∀ a, (k0_off347 v133) a + S1x1x512.size a ≤ S1x8192x512.size a := fun i v133 k0_hw116 k0_h3 => k0_hw116 k0_h3

def k0_off348 (k0_t15 : Fin k0_t15_loop.trips) : Fin 3 → Nat :=
  let c80_i32 : BitVec 32 := 80#32
  let c1_i32_70 : BitVec 32 := 1#32
  let arg11 : BitVec 32 := Scf.iv c80_i32 c1_i32_70 k0_t15
  let v137 : Index := Scalar.indexCast arg11
  let c3 : Index := 3#32
  let c0_120 : Index := 0#32
  ![v137.toNat, 3, 0]
def k0_off349 (k0_t15 : Fin k0_t15_loop.trips) : Fin 3 → Nat :=
  let c0_122 : Index := 0#32
  let c0_123 : Index := 0#32
  let c80_i32 : BitVec 32 := 80#32
  let c1_i32_70 : BitVec 32 := 1#32
  let arg11 : BitVec 32 := Scf.iv c80_i32 c1_i32_70 k0_t15
  let c8_i32_121 : BitVec 32 := 8#32
  let v141 : BitVec 32 := Scalar.muli arg11 c8_i32_121
  let c4_i32 : BitVec 32 := 4#32
  let v142 : BitVec 32 := Scalar.addi v141 c4_i32
  let v143 : Index := Scalar.indexCast v142
  ![0, 0, v143.toNat]
def k0_off350 (v144 : BitVec 32) : Fin 3 → Nat :=
  let c0_124 : Index := 0#32
  let v145 : Index := Scalar.indexCast v144
  let c0_125 : Index := 0#32
  ![0, v145.toNat, 0]

def k0_chk117 (i : grid0.Coords) (v144 : BitVec 32) : Prop :=
  (∀ (k0_h3 : k0_cond3 i = 1#1), ∀ a, (k0_off350 v144) a + S1x1x512.size a ≤ S1x8192x512.size a)
theorem k0_off350_inb : ∀ (i : grid0.Coords) (v144 : BitVec 32) (k0_hw117 : k0_chk117 i v144), ∀ (k0_h3 : k0_cond3 i = 1#1), ∀ a, (k0_off350 v144) a + S1x1x512.size a ≤ S1x8192x512.size a := fun i v144 k0_hw117 k0_h3 => k0_hw117 k0_h3

def k0_off351 (k0_t15 : Fin k0_t15_loop.trips) : Fin 3 → Nat :=
  let c80_i32 : BitVec 32 := 80#32
  let c1_i32_70 : BitVec 32 := 1#32
  let arg11 : BitVec 32 := Scf.iv c80_i32 c1_i32_70 k0_t15
  let v148 : Index := Scalar.indexCast arg11
  let c4 : Index := 4#32
  let c0_126 : Index := 0#32
  ![v148.toNat, 4, 0]
def k0_off352 (k0_t15 : Fin k0_t15_loop.trips) : Fin 3 → Nat :=
  let c0_128 : Index := 0#32
  let c0_129 : Index := 0#32
  let c80_i32 : BitVec 32 := 80#32
  let c1_i32_70 : BitVec 32 := 1#32
  let arg11 : BitVec 32 := Scf.iv c80_i32 c1_i32_70 k0_t15
  let c8_i32_127 : BitVec 32 := 8#32
  let v152 : BitVec 32 := Scalar.muli arg11 c8_i32_127
  let c5_i32 : BitVec 32 := 5#32
  let v153 : BitVec 32 := Scalar.addi v152 c5_i32
  let v154 : Index := Scalar.indexCast v153
  ![0, 0, v154.toNat]
def k0_off353 (v155 : BitVec 32) : Fin 3 → Nat :=
  let c0_130 : Index := 0#32
  let v156 : Index := Scalar.indexCast v155
  let c0_131 : Index := 0#32
  ![0, v156.toNat, 0]

def k0_chk118 (i : grid0.Coords) (v155 : BitVec 32) : Prop :=
  (∀ (k0_h3 : k0_cond3 i = 1#1), ∀ a, (k0_off353 v155) a + S1x1x512.size a ≤ S1x8192x512.size a)
theorem k0_off353_inb : ∀ (i : grid0.Coords) (v155 : BitVec 32) (k0_hw118 : k0_chk118 i v155), ∀ (k0_h3 : k0_cond3 i = 1#1), ∀ a, (k0_off353 v155) a + S1x1x512.size a ≤ S1x8192x512.size a := fun i v155 k0_hw118 k0_h3 => k0_hw118 k0_h3

def k0_off354 (k0_t15 : Fin k0_t15_loop.trips) : Fin 3 → Nat :=
  let c80_i32 : BitVec 32 := 80#32
  let c1_i32_70 : BitVec 32 := 1#32
  let arg11 : BitVec 32 := Scf.iv c80_i32 c1_i32_70 k0_t15
  let v159 : Index := Scalar.indexCast arg11
  let c5 : Index := 5#32
  let c0_132 : Index := 0#32
  ![v159.toNat, 5, 0]
def k0_off355 (k0_t15 : Fin k0_t15_loop.trips) : Fin 3 → Nat :=
  let c0_134 : Index := 0#32
  let c0_135 : Index := 0#32
  let c80_i32 : BitVec 32 := 80#32
  let c1_i32_70 : BitVec 32 := 1#32
  let arg11 : BitVec 32 := Scf.iv c80_i32 c1_i32_70 k0_t15
  let c8_i32_133 : BitVec 32 := 8#32
  let v163 : BitVec 32 := Scalar.muli arg11 c8_i32_133
  let c6_i32 : BitVec 32 := 6#32
  let v164 : BitVec 32 := Scalar.addi v163 c6_i32
  let v165 : Index := Scalar.indexCast v164
  ![0, 0, v165.toNat]
def k0_off356 (v166 : BitVec 32) : Fin 3 → Nat :=
  let c0_136 : Index := 0#32
  let v167 : Index := Scalar.indexCast v166
  let c0_137 : Index := 0#32
  ![0, v167.toNat, 0]

def k0_chk119 (i : grid0.Coords) (v166 : BitVec 32) : Prop :=
  (∀ (k0_h3 : k0_cond3 i = 1#1), ∀ a, (k0_off356 v166) a + S1x1x512.size a ≤ S1x8192x512.size a)
theorem k0_off356_inb : ∀ (i : grid0.Coords) (v166 : BitVec 32) (k0_hw119 : k0_chk119 i v166), ∀ (k0_h3 : k0_cond3 i = 1#1), ∀ a, (k0_off356 v166) a + S1x1x512.size a ≤ S1x8192x512.size a := fun i v166 k0_hw119 k0_h3 => k0_hw119 k0_h3

def k0_off357 (k0_t15 : Fin k0_t15_loop.trips) : Fin 3 → Nat :=
  let c80_i32 : BitVec 32 := 80#32
  let c1_i32_70 : BitVec 32 := 1#32
  let arg11 : BitVec 32 := Scf.iv c80_i32 c1_i32_70 k0_t15
  let v170 : Index := Scalar.indexCast arg11
  let c6 : Index := 6#32
  let c0_138 : Index := 0#32
  ![v170.toNat, 6, 0]
def k0_off358 (k0_t15 : Fin k0_t15_loop.trips) : Fin 3 → Nat :=
  let c0_140 : Index := 0#32
  let c0_141 : Index := 0#32
  let c80_i32 : BitVec 32 := 80#32
  let c1_i32_70 : BitVec 32 := 1#32
  let arg11 : BitVec 32 := Scf.iv c80_i32 c1_i32_70 k0_t15
  let c8_i32_139 : BitVec 32 := 8#32
  let v174 : BitVec 32 := Scalar.muli arg11 c8_i32_139
  let c7_i32 : BitVec 32 := 7#32
  let v175 : BitVec 32 := Scalar.addi v174 c7_i32
  let v176 : Index := Scalar.indexCast v175
  ![0, 0, v176.toNat]
def k0_off359 (v177 : BitVec 32) : Fin 3 → Nat :=
  let c0_142 : Index := 0#32
  let v178 : Index := Scalar.indexCast v177
  let c0_143 : Index := 0#32
  ![0, v178.toNat, 0]

def k0_chk120 (i : grid0.Coords) (v177 : BitVec 32) : Prop :=
  (∀ (k0_h3 : k0_cond3 i = 1#1), ∀ a, (k0_off359 v177) a + S1x1x512.size a ≤ S1x8192x512.size a)
theorem k0_off359_inb : ∀ (i : grid0.Coords) (v177 : BitVec 32) (k0_hw120 : k0_chk120 i v177), ∀ (k0_h3 : k0_cond3 i = 1#1), ∀ a, (k0_off359 v177) a + S1x1x512.size a ≤ S1x8192x512.size a := fun i v177 k0_hw120 k0_h3 => k0_hw120 k0_h3

def k0_off360 (k0_t15 : Fin k0_t15_loop.trips) : Fin 3 → Nat :=
  let c80_i32 : BitVec 32 := 80#32
  let c1_i32_70 : BitVec 32 := 1#32
  let arg11 : BitVec 32 := Scf.iv c80_i32 c1_i32_70 k0_t15
  let v181 : Index := Scalar.indexCast arg11
  let c7 : Index := 7#32
  let c0_144 : Index := 0#32
  ![v181.toNat, 7, 0]
@[reducible] def k0_t16_loop : Scf.Loop 32 :=
  let c96_i32 : BitVec 32 := 96#32
  let c16_i32_80 : BitVec 32 := 16#32
  let v88 : BitVec 32 := Scalar.addi c96_i32 c16_i32_80
  let c1_i32_81 : BitVec 32 := 1#32
  ⟨c96_i32, v88, c1_i32_81⟩
def k0_off361 (k0_t16 : Fin k0_t16_loop.trips) : Fin 3 → Nat :=
  let c0_95 : Index := 0#32
  let c0_96 : Index := 0#32
  let c96_i32 : BitVec 32 := 96#32
  let c1_i32_81 : BitVec 32 := 1#32
  let arg11 : BitVec 32 := Scf.iv c96_i32 c1_i32_81 k0_t16
  let c8_i32 : BitVec 32 := 8#32
  let v97 : BitVec 32 := Scalar.muli arg11 c8_i32
  let c0_i32_94 : BitVec 32 := 0#32
  let v98 : BitVec 32 := Scalar.addi v97 c0_i32_94
  let v99 : Index := Scalar.indexCast v98
  ![0, 0, v99.toNat]
def k0_off362 (v100 : BitVec 32) : Fin 3 → Nat :=
  let c0_97 : Index := 0#32
  let v101 : Index := Scalar.indexCast v100
  let c0_98 : Index := 0#32
  ![0, v101.toNat, 0]

def k0_chk121 (i : grid0.Coords) (v100 : BitVec 32) : Prop :=
  (∀ (k0_h3 : k0_cond3 i = 1#1), ∀ a, (k0_off362 v100) a + S1x1x512.size a ≤ S1x8192x512.size a)
theorem k0_off362_inb : ∀ (i : grid0.Coords) (v100 : BitVec 32) (k0_hw121 : k0_chk121 i v100), ∀ (k0_h3 : k0_cond3 i = 1#1), ∀ a, (k0_off362 v100) a + S1x1x512.size a ≤ S1x8192x512.size a := fun i v100 k0_hw121 k0_h3 => k0_hw121 k0_h3

def k0_off363 (k0_t16 : Fin k0_t16_loop.trips) : Fin 3 → Nat :=
  let c96_i32 : BitVec 32 := 96#32
  let c1_i32_81 : BitVec 32 := 1#32
  let arg11 : BitVec 32 := Scf.iv c96_i32 c1_i32_81 k0_t16
  let v104 : Index := Scalar.indexCast arg11
  let c0_99 : Index := 0#32
  let c0_100 : Index := 0#32
  ![v104.toNat, 0, 0]
def k0_off364 (k0_t16 : Fin k0_t16_loop.trips) : Fin 3 → Nat :=
  let c0_103 : Index := 0#32
  let c0_104 : Index := 0#32
  let c96_i32 : BitVec 32 := 96#32
  let c1_i32_81 : BitVec 32 := 1#32
  let arg11 : BitVec 32 := Scf.iv c96_i32 c1_i32_81 k0_t16
  let c8_i32_101 : BitVec 32 := 8#32
  let v108 : BitVec 32 := Scalar.muli arg11 c8_i32_101
  let c1_i32_102 : BitVec 32 := 1#32
  let v109 : BitVec 32 := Scalar.addi v108 c1_i32_102
  let v110 : Index := Scalar.indexCast v109
  ![0, 0, v110.toNat]
def k0_off365 (v111 : BitVec 32) : Fin 3 → Nat :=
  let c0_105 : Index := 0#32
  let v112 : Index := Scalar.indexCast v111
  let c0_106 : Index := 0#32
  ![0, v112.toNat, 0]

def k0_chk122 (i : grid0.Coords) (v111 : BitVec 32) : Prop :=
  (∀ (k0_h3 : k0_cond3 i = 1#1), ∀ a, (k0_off365 v111) a + S1x1x512.size a ≤ S1x8192x512.size a)
theorem k0_off365_inb : ∀ (i : grid0.Coords) (v111 : BitVec 32) (k0_hw122 : k0_chk122 i v111), ∀ (k0_h3 : k0_cond3 i = 1#1), ∀ a, (k0_off365 v111) a + S1x1x512.size a ≤ S1x8192x512.size a := fun i v111 k0_hw122 k0_h3 => k0_hw122 k0_h3

def k0_off366 (k0_t16 : Fin k0_t16_loop.trips) : Fin 3 → Nat :=
  let c96_i32 : BitVec 32 := 96#32
  let c1_i32_81 : BitVec 32 := 1#32
  let arg11 : BitVec 32 := Scf.iv c96_i32 c1_i32_81 k0_t16
  let v115 : Index := Scalar.indexCast arg11
  let c1 : Index := 1#32
  let c0_107 : Index := 0#32
  ![v115.toNat, 1, 0]
def k0_off367 (k0_t16 : Fin k0_t16_loop.trips) : Fin 3 → Nat :=
  let c0_110 : Index := 0#32
  let c0_111 : Index := 0#32
  let c96_i32 : BitVec 32 := 96#32
  let c1_i32_81 : BitVec 32 := 1#32
  let arg11 : BitVec 32 := Scf.iv c96_i32 c1_i32_81 k0_t16
  let c8_i32_108 : BitVec 32 := 8#32
  let v119 : BitVec 32 := Scalar.muli arg11 c8_i32_108
  let c2_i32_109 : BitVec 32 := 2#32
  let v120 : BitVec 32 := Scalar.addi v119 c2_i32_109
  let v121 : Index := Scalar.indexCast v120
  ![0, 0, v121.toNat]
def k0_off368 (v122 : BitVec 32) : Fin 3 → Nat :=
  let c0_112 : Index := 0#32
  let v123 : Index := Scalar.indexCast v122
  let c0_113 : Index := 0#32
  ![0, v123.toNat, 0]

def k0_chk123 (i : grid0.Coords) (v122 : BitVec 32) : Prop :=
  (∀ (k0_h3 : k0_cond3 i = 1#1), ∀ a, (k0_off368 v122) a + S1x1x512.size a ≤ S1x8192x512.size a)
theorem k0_off368_inb : ∀ (i : grid0.Coords) (v122 : BitVec 32) (k0_hw123 : k0_chk123 i v122), ∀ (k0_h3 : k0_cond3 i = 1#1), ∀ a, (k0_off368 v122) a + S1x1x512.size a ≤ S1x8192x512.size a := fun i v122 k0_hw123 k0_h3 => k0_hw123 k0_h3

def k0_off369 (k0_t16 : Fin k0_t16_loop.trips) : Fin 3 → Nat :=
  let c96_i32 : BitVec 32 := 96#32
  let c1_i32_81 : BitVec 32 := 1#32
  let arg11 : BitVec 32 := Scf.iv c96_i32 c1_i32_81 k0_t16
  let v126 : Index := Scalar.indexCast arg11
  let c2 : Index := 2#32
  let c0_114 : Index := 0#32
  ![v126.toNat, 2, 0]
def k0_off370 (k0_t16 : Fin k0_t16_loop.trips) : Fin 3 → Nat :=
  let c0_116 : Index := 0#32
  let c0_117 : Index := 0#32
  let c96_i32 : BitVec 32 := 96#32
  let c1_i32_81 : BitVec 32 := 1#32
  let arg11 : BitVec 32 := Scf.iv c96_i32 c1_i32_81 k0_t16
  let c8_i32_115 : BitVec 32 := 8#32
  let v130 : BitVec 32 := Scalar.muli arg11 c8_i32_115
  let c3_i32 : BitVec 32 := 3#32
  let v131 : BitVec 32 := Scalar.addi v130 c3_i32
  let v132 : Index := Scalar.indexCast v131
  ![0, 0, v132.toNat]
def k0_off371 (v133 : BitVec 32) : Fin 3 → Nat :=
  let c0_118 : Index := 0#32
  let v134 : Index := Scalar.indexCast v133
  let c0_119 : Index := 0#32
  ![0, v134.toNat, 0]

def k0_chk124 (i : grid0.Coords) (v133 : BitVec 32) : Prop :=
  (∀ (k0_h3 : k0_cond3 i = 1#1), ∀ a, (k0_off371 v133) a + S1x1x512.size a ≤ S1x8192x512.size a)
theorem k0_off371_inb : ∀ (i : grid0.Coords) (v133 : BitVec 32) (k0_hw124 : k0_chk124 i v133), ∀ (k0_h3 : k0_cond3 i = 1#1), ∀ a, (k0_off371 v133) a + S1x1x512.size a ≤ S1x8192x512.size a := fun i v133 k0_hw124 k0_h3 => k0_hw124 k0_h3

def k0_off372 (k0_t16 : Fin k0_t16_loop.trips) : Fin 3 → Nat :=
  let c96_i32 : BitVec 32 := 96#32
  let c1_i32_81 : BitVec 32 := 1#32
  let arg11 : BitVec 32 := Scf.iv c96_i32 c1_i32_81 k0_t16
  let v137 : Index := Scalar.indexCast arg11
  let c3 : Index := 3#32
  let c0_120 : Index := 0#32
  ![v137.toNat, 3, 0]
def k0_off373 (k0_t16 : Fin k0_t16_loop.trips) : Fin 3 → Nat :=
  let c0_122 : Index := 0#32
  let c0_123 : Index := 0#32
  let c96_i32 : BitVec 32 := 96#32
  let c1_i32_81 : BitVec 32 := 1#32
  let arg11 : BitVec 32 := Scf.iv c96_i32 c1_i32_81 k0_t16
  let c8_i32_121 : BitVec 32 := 8#32
  let v141 : BitVec 32 := Scalar.muli arg11 c8_i32_121
  let c4_i32 : BitVec 32 := 4#32
  let v142 : BitVec 32 := Scalar.addi v141 c4_i32
  let v143 : Index := Scalar.indexCast v142
  ![0, 0, v143.toNat]
def k0_off374 (v144 : BitVec 32) : Fin 3 → Nat :=
  let c0_124 : Index := 0#32
  let v145 : Index := Scalar.indexCast v144
  let c0_125 : Index := 0#32
  ![0, v145.toNat, 0]

def k0_chk125 (i : grid0.Coords) (v144 : BitVec 32) : Prop :=
  (∀ (k0_h3 : k0_cond3 i = 1#1), ∀ a, (k0_off374 v144) a + S1x1x512.size a ≤ S1x8192x512.size a)
theorem k0_off374_inb : ∀ (i : grid0.Coords) (v144 : BitVec 32) (k0_hw125 : k0_chk125 i v144), ∀ (k0_h3 : k0_cond3 i = 1#1), ∀ a, (k0_off374 v144) a + S1x1x512.size a ≤ S1x8192x512.size a := fun i v144 k0_hw125 k0_h3 => k0_hw125 k0_h3

def k0_off375 (k0_t16 : Fin k0_t16_loop.trips) : Fin 3 → Nat :=
  let c96_i32 : BitVec 32 := 96#32
  let c1_i32_81 : BitVec 32 := 1#32
  let arg11 : BitVec 32 := Scf.iv c96_i32 c1_i32_81 k0_t16
  let v148 : Index := Scalar.indexCast arg11
  let c4 : Index := 4#32
  let c0_126 : Index := 0#32
  ![v148.toNat, 4, 0]
def k0_off376 (k0_t16 : Fin k0_t16_loop.trips) : Fin 3 → Nat :=
  let c0_128 : Index := 0#32
  let c0_129 : Index := 0#32
  let c96_i32 : BitVec 32 := 96#32
  let c1_i32_81 : BitVec 32 := 1#32
  let arg11 : BitVec 32 := Scf.iv c96_i32 c1_i32_81 k0_t16
  let c8_i32_127 : BitVec 32 := 8#32
  let v152 : BitVec 32 := Scalar.muli arg11 c8_i32_127
  let c5_i32 : BitVec 32 := 5#32
  let v153 : BitVec 32 := Scalar.addi v152 c5_i32
  let v154 : Index := Scalar.indexCast v153
  ![0, 0, v154.toNat]
def k0_off377 (v155 : BitVec 32) : Fin 3 → Nat :=
  let c0_130 : Index := 0#32
  let v156 : Index := Scalar.indexCast v155
  let c0_131 : Index := 0#32
  ![0, v156.toNat, 0]

def k0_chk126 (i : grid0.Coords) (v155 : BitVec 32) : Prop :=
  (∀ (k0_h3 : k0_cond3 i = 1#1), ∀ a, (k0_off377 v155) a + S1x1x512.size a ≤ S1x8192x512.size a)
theorem k0_off377_inb : ∀ (i : grid0.Coords) (v155 : BitVec 32) (k0_hw126 : k0_chk126 i v155), ∀ (k0_h3 : k0_cond3 i = 1#1), ∀ a, (k0_off377 v155) a + S1x1x512.size a ≤ S1x8192x512.size a := fun i v155 k0_hw126 k0_h3 => k0_hw126 k0_h3

def k0_off378 (k0_t16 : Fin k0_t16_loop.trips) : Fin 3 → Nat :=
  let c96_i32 : BitVec 32 := 96#32
  let c1_i32_81 : BitVec 32 := 1#32
  let arg11 : BitVec 32 := Scf.iv c96_i32 c1_i32_81 k0_t16
  let v159 : Index := Scalar.indexCast arg11
  let c5 : Index := 5#32
  let c0_132 : Index := 0#32
  ![v159.toNat, 5, 0]
def k0_off379 (k0_t16 : Fin k0_t16_loop.trips) : Fin 3 → Nat :=
  let c0_134 : Index := 0#32
  let c0_135 : Index := 0#32
  let c96_i32 : BitVec 32 := 96#32
  let c1_i32_81 : BitVec 32 := 1#32
  let arg11 : BitVec 32 := Scf.iv c96_i32 c1_i32_81 k0_t16
  let c8_i32_133 : BitVec 32 := 8#32
  let v163 : BitVec 32 := Scalar.muli arg11 c8_i32_133
  let c6_i32 : BitVec 32 := 6#32
  let v164 : BitVec 32 := Scalar.addi v163 c6_i32
  let v165 : Index := Scalar.indexCast v164
  ![0, 0, v165.toNat]
def k0_off380 (v166 : BitVec 32) : Fin 3 → Nat :=
  let c0_136 : Index := 0#32
  let v167 : Index := Scalar.indexCast v166
  let c0_137 : Index := 0#32
  ![0, v167.toNat, 0]

def k0_chk127 (i : grid0.Coords) (v166 : BitVec 32) : Prop :=
  (∀ (k0_h3 : k0_cond3 i = 1#1), ∀ a, (k0_off380 v166) a + S1x1x512.size a ≤ S1x8192x512.size a)
theorem k0_off380_inb : ∀ (i : grid0.Coords) (v166 : BitVec 32) (k0_hw127 : k0_chk127 i v166), ∀ (k0_h3 : k0_cond3 i = 1#1), ∀ a, (k0_off380 v166) a + S1x1x512.size a ≤ S1x8192x512.size a := fun i v166 k0_hw127 k0_h3 => k0_hw127 k0_h3

def k0_off381 (k0_t16 : Fin k0_t16_loop.trips) : Fin 3 → Nat :=
  let c96_i32 : BitVec 32 := 96#32
  let c1_i32_81 : BitVec 32 := 1#32
  let arg11 : BitVec 32 := Scf.iv c96_i32 c1_i32_81 k0_t16
  let v170 : Index := Scalar.indexCast arg11
  let c6 : Index := 6#32
  let c0_138 : Index := 0#32
  ![v170.toNat, 6, 0]
def k0_off382 (k0_t16 : Fin k0_t16_loop.trips) : Fin 3 → Nat :=
  let c0_140 : Index := 0#32
  let c0_141 : Index := 0#32
  let c96_i32 : BitVec 32 := 96#32
  let c1_i32_81 : BitVec 32 := 1#32
  let arg11 : BitVec 32 := Scf.iv c96_i32 c1_i32_81 k0_t16
  let c8_i32_139 : BitVec 32 := 8#32
  let v174 : BitVec 32 := Scalar.muli arg11 c8_i32_139
  let c7_i32 : BitVec 32 := 7#32
  let v175 : BitVec 32 := Scalar.addi v174 c7_i32
  let v176 : Index := Scalar.indexCast v175
  ![0, 0, v176.toNat]
def k0_off383 (v177 : BitVec 32) : Fin 3 → Nat :=
  let c0_142 : Index := 0#32
  let v178 : Index := Scalar.indexCast v177
  let c0_143 : Index := 0#32
  ![0, v178.toNat, 0]

def k0_chk128 (i : grid0.Coords) (v177 : BitVec 32) : Prop :=
  (∀ (k0_h3 : k0_cond3 i = 1#1), ∀ a, (k0_off383 v177) a + S1x1x512.size a ≤ S1x8192x512.size a)
theorem k0_off383_inb : ∀ (i : grid0.Coords) (v177 : BitVec 32) (k0_hw128 : k0_chk128 i v177), ∀ (k0_h3 : k0_cond3 i = 1#1), ∀ a, (k0_off383 v177) a + S1x1x512.size a ≤ S1x8192x512.size a := fun i v177 k0_hw128 k0_h3 => k0_hw128 k0_h3

def k0_off384 (k0_t16 : Fin k0_t16_loop.trips) : Fin 3 → Nat :=
  let c96_i32 : BitVec 32 := 96#32
  let c1_i32_81 : BitVec 32 := 1#32
  let arg11 : BitVec 32 := Scf.iv c96_i32 c1_i32_81 k0_t16
  let v181 : Index := Scalar.indexCast arg11
  let c7 : Index := 7#32
  let c0_144 : Index := 0#32
  ![v181.toNat, 7, 0]
@[reducible] def k0_t17_loop : Scf.Loop 32 :=
  let c112_i32 : BitVec 32 := 112#32
  let c16_i32_91 : BitVec 32 := 16#32
  let v96 : BitVec 32 := Scalar.addi c112_i32 c16_i32_91
  let c1_i32_92 : BitVec 32 := 1#32
  ⟨c112_i32, v96, c1_i32_92⟩
def k0_off385 (k0_t17 : Fin k0_t17_loop.trips) : Fin 3 → Nat :=
  let c0_95 : Index := 0#32
  let c0_96 : Index := 0#32
  let c112_i32 : BitVec 32 := 112#32
  let c1_i32_92 : BitVec 32 := 1#32
  let arg11 : BitVec 32 := Scf.iv c112_i32 c1_i32_92 k0_t17
  let c8_i32 : BitVec 32 := 8#32
  let v97 : BitVec 32 := Scalar.muli arg11 c8_i32
  let c0_i32_94 : BitVec 32 := 0#32
  let v98 : BitVec 32 := Scalar.addi v97 c0_i32_94
  let v99 : Index := Scalar.indexCast v98
  ![0, 0, v99.toNat]
def k0_off386 (v100 : BitVec 32) : Fin 3 → Nat :=
  let c0_97 : Index := 0#32
  let v101 : Index := Scalar.indexCast v100
  let c0_98 : Index := 0#32
  ![0, v101.toNat, 0]

def k0_chk129 (i : grid0.Coords) (v100 : BitVec 32) : Prop :=
  (∀ (k0_h3 : k0_cond3 i = 1#1), ∀ a, (k0_off386 v100) a + S1x1x512.size a ≤ S1x8192x512.size a)
theorem k0_off386_inb : ∀ (i : grid0.Coords) (v100 : BitVec 32) (k0_hw129 : k0_chk129 i v100), ∀ (k0_h3 : k0_cond3 i = 1#1), ∀ a, (k0_off386 v100) a + S1x1x512.size a ≤ S1x8192x512.size a := fun i v100 k0_hw129 k0_h3 => k0_hw129 k0_h3

def k0_off387 (k0_t17 : Fin k0_t17_loop.trips) : Fin 3 → Nat :=
  let c112_i32 : BitVec 32 := 112#32
  let c1_i32_92 : BitVec 32 := 1#32
  let arg11 : BitVec 32 := Scf.iv c112_i32 c1_i32_92 k0_t17
  let v104 : Index := Scalar.indexCast arg11
  let c0_99 : Index := 0#32
  let c0_100 : Index := 0#32
  ![v104.toNat, 0, 0]
def k0_off388 (k0_t17 : Fin k0_t17_loop.trips) : Fin 3 → Nat :=
  let c0_103 : Index := 0#32
  let c0_104 : Index := 0#32
  let c112_i32 : BitVec 32 := 112#32
  let c1_i32_92 : BitVec 32 := 1#32
  let arg11 : BitVec 32 := Scf.iv c112_i32 c1_i32_92 k0_t17
  let c8_i32_101 : BitVec 32 := 8#32
  let v108 : BitVec 32 := Scalar.muli arg11 c8_i32_101
  let c1_i32_102 : BitVec 32 := 1#32
  let v109 : BitVec 32 := Scalar.addi v108 c1_i32_102
  let v110 : Index := Scalar.indexCast v109
  ![0, 0, v110.toNat]
def k0_off389 (v111 : BitVec 32) : Fin 3 → Nat :=
  let c0_105 : Index := 0#32
  let v112 : Index := Scalar.indexCast v111
  let c0_106 : Index := 0#32
  ![0, v112.toNat, 0]

def k0_chk130 (i : grid0.Coords) (v111 : BitVec 32) : Prop :=
  (∀ (k0_h3 : k0_cond3 i = 1#1), ∀ a, (k0_off389 v111) a + S1x1x512.size a ≤ S1x8192x512.size a)
theorem k0_off389_inb : ∀ (i : grid0.Coords) (v111 : BitVec 32) (k0_hw130 : k0_chk130 i v111), ∀ (k0_h3 : k0_cond3 i = 1#1), ∀ a, (k0_off389 v111) a + S1x1x512.size a ≤ S1x8192x512.size a := fun i v111 k0_hw130 k0_h3 => k0_hw130 k0_h3

def k0_off390 (k0_t17 : Fin k0_t17_loop.trips) : Fin 3 → Nat :=
  let c112_i32 : BitVec 32 := 112#32
  let c1_i32_92 : BitVec 32 := 1#32
  let arg11 : BitVec 32 := Scf.iv c112_i32 c1_i32_92 k0_t17
  let v115 : Index := Scalar.indexCast arg11
  let c1 : Index := 1#32
  let c0_107 : Index := 0#32
  ![v115.toNat, 1, 0]
def k0_off391 (k0_t17 : Fin k0_t17_loop.trips) : Fin 3 → Nat :=
  let c0_110 : Index := 0#32
  let c0_111 : Index := 0#32
  let c112_i32 : BitVec 32 := 112#32
  let c1_i32_92 : BitVec 32 := 1#32
  let arg11 : BitVec 32 := Scf.iv c112_i32 c1_i32_92 k0_t17
  let c8_i32_108 : BitVec 32 := 8#32
  let v119 : BitVec 32 := Scalar.muli arg11 c8_i32_108
  let c2_i32_109 : BitVec 32 := 2#32
  let v120 : BitVec 32 := Scalar.addi v119 c2_i32_109
  let v121 : Index := Scalar.indexCast v120
  ![0, 0, v121.toNat]
def k0_off392 (v122 : BitVec 32) : Fin 3 → Nat :=
  let c0_112 : Index := 0#32
  let v123 : Index := Scalar.indexCast v122
  let c0_113 : Index := 0#32
  ![0, v123.toNat, 0]

def k0_chk131 (i : grid0.Coords) (v122 : BitVec 32) : Prop :=
  (∀ (k0_h3 : k0_cond3 i = 1#1), ∀ a, (k0_off392 v122) a + S1x1x512.size a ≤ S1x8192x512.size a)
theorem k0_off392_inb : ∀ (i : grid0.Coords) (v122 : BitVec 32) (k0_hw131 : k0_chk131 i v122), ∀ (k0_h3 : k0_cond3 i = 1#1), ∀ a, (k0_off392 v122) a + S1x1x512.size a ≤ S1x8192x512.size a := fun i v122 k0_hw131 k0_h3 => k0_hw131 k0_h3

def k0_off393 (k0_t17 : Fin k0_t17_loop.trips) : Fin 3 → Nat :=
  let c112_i32 : BitVec 32 := 112#32
  let c1_i32_92 : BitVec 32 := 1#32
  let arg11 : BitVec 32 := Scf.iv c112_i32 c1_i32_92 k0_t17
  let v126 : Index := Scalar.indexCast arg11
  let c2 : Index := 2#32
  let c0_114 : Index := 0#32
  ![v126.toNat, 2, 0]
def k0_off394 (k0_t17 : Fin k0_t17_loop.trips) : Fin 3 → Nat :=
  let c0_116 : Index := 0#32
  let c0_117 : Index := 0#32
  let c112_i32 : BitVec 32 := 112#32
  let c1_i32_92 : BitVec 32 := 1#32
  let arg11 : BitVec 32 := Scf.iv c112_i32 c1_i32_92 k0_t17
  let c8_i32_115 : BitVec 32 := 8#32
  let v130 : BitVec 32 := Scalar.muli arg11 c8_i32_115
  let c3_i32 : BitVec 32 := 3#32
  let v131 : BitVec 32 := Scalar.addi v130 c3_i32
  let v132 : Index := Scalar.indexCast v131
  ![0, 0, v132.toNat]
def k0_off395 (v133 : BitVec 32) : Fin 3 → Nat :=
  let c0_118 : Index := 0#32
  let v134 : Index := Scalar.indexCast v133
  let c0_119 : Index := 0#32
  ![0, v134.toNat, 0]

def k0_chk132 (i : grid0.Coords) (v133 : BitVec 32) : Prop :=
  (∀ (k0_h3 : k0_cond3 i = 1#1), ∀ a, (k0_off395 v133) a + S1x1x512.size a ≤ S1x8192x512.size a)
theorem k0_off395_inb : ∀ (i : grid0.Coords) (v133 : BitVec 32) (k0_hw132 : k0_chk132 i v133), ∀ (k0_h3 : k0_cond3 i = 1#1), ∀ a, (k0_off395 v133) a + S1x1x512.size a ≤ S1x8192x512.size a := fun i v133 k0_hw132 k0_h3 => k0_hw132 k0_h3

def k0_off396 (k0_t17 : Fin k0_t17_loop.trips) : Fin 3 → Nat :=
  let c112_i32 : BitVec 32 := 112#32
  let c1_i32_92 : BitVec 32 := 1#32
  let arg11 : BitVec 32 := Scf.iv c112_i32 c1_i32_92 k0_t17
  let v137 : Index := Scalar.indexCast arg11
  let c3 : Index := 3#32
  let c0_120 : Index := 0#32
  ![v137.toNat, 3, 0]
def k0_off397 (k0_t17 : Fin k0_t17_loop.trips) : Fin 3 → Nat :=
  let c0_122 : Index := 0#32
  let c0_123 : Index := 0#32
  let c112_i32 : BitVec 32 := 112#32
  let c1_i32_92 : BitVec 32 := 1#32
  let arg11 : BitVec 32 := Scf.iv c112_i32 c1_i32_92 k0_t17
  let c8_i32_121 : BitVec 32 := 8#32
  let v141 : BitVec 32 := Scalar.muli arg11 c8_i32_121
  let c4_i32 : BitVec 32 := 4#32
  let v142 : BitVec 32 := Scalar.addi v141 c4_i32
  let v143 : Index := Scalar.indexCast v142
  ![0, 0, v143.toNat]
def k0_off398 (v144 : BitVec 32) : Fin 3 → Nat :=
  let c0_124 : Index := 0#32
  let v145 : Index := Scalar.indexCast v144
  let c0_125 : Index := 0#32
  ![0, v145.toNat, 0]

def k0_chk133 (i : grid0.Coords) (v144 : BitVec 32) : Prop :=
  (∀ (k0_h3 : k0_cond3 i = 1#1), ∀ a, (k0_off398 v144) a + S1x1x512.size a ≤ S1x8192x512.size a)
theorem k0_off398_inb : ∀ (i : grid0.Coords) (v144 : BitVec 32) (k0_hw133 : k0_chk133 i v144), ∀ (k0_h3 : k0_cond3 i = 1#1), ∀ a, (k0_off398 v144) a + S1x1x512.size a ≤ S1x8192x512.size a := fun i v144 k0_hw133 k0_h3 => k0_hw133 k0_h3

def k0_off399 (k0_t17 : Fin k0_t17_loop.trips) : Fin 3 → Nat :=
  let c112_i32 : BitVec 32 := 112#32
  let c1_i32_92 : BitVec 32 := 1#32
  let arg11 : BitVec 32 := Scf.iv c112_i32 c1_i32_92 k0_t17
  let v148 : Index := Scalar.indexCast arg11
  let c4 : Index := 4#32
  let c0_126 : Index := 0#32
  ![v148.toNat, 4, 0]
def k0_off400 (k0_t17 : Fin k0_t17_loop.trips) : Fin 3 → Nat :=
  let c0_128 : Index := 0#32
  let c0_129 : Index := 0#32
  let c112_i32 : BitVec 32 := 112#32
  let c1_i32_92 : BitVec 32 := 1#32
  let arg11 : BitVec 32 := Scf.iv c112_i32 c1_i32_92 k0_t17
  let c8_i32_127 : BitVec 32 := 8#32
  let v152 : BitVec 32 := Scalar.muli arg11 c8_i32_127
  let c5_i32 : BitVec 32 := 5#32
  let v153 : BitVec 32 := Scalar.addi v152 c5_i32
  let v154 : Index := Scalar.indexCast v153
  ![0, 0, v154.toNat]
def k0_off401 (v155 : BitVec 32) : Fin 3 → Nat :=
  let c0_130 : Index := 0#32
  let v156 : Index := Scalar.indexCast v155
  let c0_131 : Index := 0#32
  ![0, v156.toNat, 0]

def k0_chk134 (i : grid0.Coords) (v155 : BitVec 32) : Prop :=
  (∀ (k0_h3 : k0_cond3 i = 1#1), ∀ a, (k0_off401 v155) a + S1x1x512.size a ≤ S1x8192x512.size a)
theorem k0_off401_inb : ∀ (i : grid0.Coords) (v155 : BitVec 32) (k0_hw134 : k0_chk134 i v155), ∀ (k0_h3 : k0_cond3 i = 1#1), ∀ a, (k0_off401 v155) a + S1x1x512.size a ≤ S1x8192x512.size a := fun i v155 k0_hw134 k0_h3 => k0_hw134 k0_h3

def k0_off402 (k0_t17 : Fin k0_t17_loop.trips) : Fin 3 → Nat :=
  let c112_i32 : BitVec 32 := 112#32
  let c1_i32_92 : BitVec 32 := 1#32
  let arg11 : BitVec 32 := Scf.iv c112_i32 c1_i32_92 k0_t17
  let v159 : Index := Scalar.indexCast arg11
  let c5 : Index := 5#32
  let c0_132 : Index := 0#32
  ![v159.toNat, 5, 0]
def k0_off403 (k0_t17 : Fin k0_t17_loop.trips) : Fin 3 → Nat :=
  let c0_134 : Index := 0#32
  let c0_135 : Index := 0#32
  let c112_i32 : BitVec 32 := 112#32
  let c1_i32_92 : BitVec 32 := 1#32
  let arg11 : BitVec 32 := Scf.iv c112_i32 c1_i32_92 k0_t17
  let c8_i32_133 : BitVec 32 := 8#32
  let v163 : BitVec 32 := Scalar.muli arg11 c8_i32_133
  let c6_i32 : BitVec 32 := 6#32
  let v164 : BitVec 32 := Scalar.addi v163 c6_i32
  let v165 : Index := Scalar.indexCast v164
  ![0, 0, v165.toNat]
def k0_off404 (v166 : BitVec 32) : Fin 3 → Nat :=
  let c0_136 : Index := 0#32
  let v167 : Index := Scalar.indexCast v166
  let c0_137 : Index := 0#32
  ![0, v167.toNat, 0]

def k0_chk135 (i : grid0.Coords) (v166 : BitVec 32) : Prop :=
  (∀ (k0_h3 : k0_cond3 i = 1#1), ∀ a, (k0_off404 v166) a + S1x1x512.size a ≤ S1x8192x512.size a)
theorem k0_off404_inb : ∀ (i : grid0.Coords) (v166 : BitVec 32) (k0_hw135 : k0_chk135 i v166), ∀ (k0_h3 : k0_cond3 i = 1#1), ∀ a, (k0_off404 v166) a + S1x1x512.size a ≤ S1x8192x512.size a := fun i v166 k0_hw135 k0_h3 => k0_hw135 k0_h3

def k0_off405 (k0_t17 : Fin k0_t17_loop.trips) : Fin 3 → Nat :=
  let c112_i32 : BitVec 32 := 112#32
  let c1_i32_92 : BitVec 32 := 1#32
  let arg11 : BitVec 32 := Scf.iv c112_i32 c1_i32_92 k0_t17
  let v170 : Index := Scalar.indexCast arg11
  let c6 : Index := 6#32
  let c0_138 : Index := 0#32
  ![v170.toNat, 6, 0]
def k0_off406 (k0_t17 : Fin k0_t17_loop.trips) : Fin 3 → Nat :=
  let c0_140 : Index := 0#32
  let c0_141 : Index := 0#32
  let c112_i32 : BitVec 32 := 112#32
  let c1_i32_92 : BitVec 32 := 1#32
  let arg11 : BitVec 32 := Scf.iv c112_i32 c1_i32_92 k0_t17
  let c8_i32_139 : BitVec 32 := 8#32
  let v174 : BitVec 32 := Scalar.muli arg11 c8_i32_139
  let c7_i32 : BitVec 32 := 7#32
  let v175 : BitVec 32 := Scalar.addi v174 c7_i32
  let v176 : Index := Scalar.indexCast v175
  ![0, 0, v176.toNat]
def k0_off407 (v177 : BitVec 32) : Fin 3 → Nat :=
  let c0_142 : Index := 0#32
  let v178 : Index := Scalar.indexCast v177
  let c0_143 : Index := 0#32
  ![0, v178.toNat, 0]

def k0_chk136 (i : grid0.Coords) (v177 : BitVec 32) : Prop :=
  (∀ (k0_h3 : k0_cond3 i = 1#1), ∀ a, (k0_off407 v177) a + S1x1x512.size a ≤ S1x8192x512.size a)
theorem k0_off407_inb : ∀ (i : grid0.Coords) (v177 : BitVec 32) (k0_hw136 : k0_chk136 i v177), ∀ (k0_h3 : k0_cond3 i = 1#1), ∀ a, (k0_off407 v177) a + S1x1x512.size a ≤ S1x8192x512.size a := fun i v177 k0_hw136 k0_h3 => k0_hw136 k0_h3

def k0_off408 (k0_t17 : Fin k0_t17_loop.trips) : Fin 3 → Nat :=
  let c112_i32 : BitVec 32 := 112#32
  let c1_i32_92 : BitVec 32 := 1#32
  let arg11 : BitVec 32 := Scf.iv c112_i32 c1_i32_92 k0_t17
  let v181 : Index := Scalar.indexCast arg11
  let c7 : Index := 7#32
  let c0_144 : Index := 0#32
  ![v181.toNat, 7, 0]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c15_i32 : BitVec 32 := 15#32
  let v2 : BitVec 32 := Scalar.minsi v1 c15_i32
  let v3 : BitVec 32 := Scalar.addi v0 v2
  let c0_i32 : BitVec 32 := 0#32
  let c0_i32_0 : BitVec 32 := 0#32
  let c0_i32_1 : BitVec 32 := 0#32
  ![v3.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .smem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .smem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x8192x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x16x1024 : Shape := ⟨3, ![4, 16, 1024]⟩
abbrev S4x8192x512 : Shape := ⟨3, ![4, 8192, 512]⟩
abbrev S2x16x1024x512 : Shape := ⟨4, ![2, 16, 1024, 512]⟩
abbrev S2x16x512x1024 : Shape := ⟨4, ![2, 16, 512, 1024]⟩
abbrev S_ : Shape := ⟨0, ![]⟩
abbrev S4x8192x1024 : Shape := ⟨3, ![4, 8192, 1024]⟩
abbrev S4x16x1024x1 : Shape := ⟨4, ![4, 16, 1024, 1]⟩
abbrev S4x16x1024x1024 : Shape := ⟨4, ![4, 16, 1024, 1024]⟩
abbrev S1x16x1024x512 : Shape := ⟨4, ![1, 16, 1024, 512]⟩
abbrev S16x1024x512 : Shape := ⟨3, ![16, 1024, 512]⟩
abbrev S16x512x4x1024 : Shape := ⟨4, ![16, 512, 4, 1024]⟩
abbrev S4x16x1024x512 : Shape := ⟨4, ![4, 16, 1024, 512]⟩
abbrev S1x16x512x1024 : Shape := ⟨4, ![1, 16, 512, 1024]⟩
abbrev S16x512x1024 : Shape := ⟨3, ![16, 512, 1024]⟩
abbrev S16x1024x4x1024 : Shape := ⟨4, ![16, 1024, 4, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4x16x1024, .i32⟩
  | .hbm, ⟨1, _⟩ => ⟨S4x8192x512, .i32⟩
  | .hbm, ⟨2, _⟩ => ⟨S2x16x1024x512, .f32⟩
  | .hbm, ⟨3, _⟩ => ⟨S2x16x1024x512, .f32⟩
  | .hbm, ⟨4, _⟩ => ⟨S2x16x512x1024, .f32⟩
  | .hbm, ⟨5, _⟩ => ⟨S_, .i32⟩
  | .hbm, ⟨6, _⟩ => ⟨S4x8192x512, .i32⟩
  | .hbm, ⟨7, _⟩ => ⟨S4x8192x512, .i32⟩
  | .hbm, ⟨8, _⟩ => ⟨S4x8192x512, .f32⟩
  | .hbm, ⟨9, _⟩ => ⟨S_, .i32⟩
  | .hbm, ⟨10, _⟩ => ⟨S4x8192x512, .i32⟩
  | .hbm, ⟨11, _⟩ => ⟨S4x8192x512, .i32⟩
  | .hbm, ⟨12, _⟩ => ⟨S4x8192x512, .f32⟩
  | .hbm, ⟨13, _⟩ => ⟨S4x8192x1024, .f32⟩
  | .hbm, ⟨14, _⟩ => ⟨S_, .i32⟩
  | .hbm, ⟨15, _⟩ => ⟨S4x16x1024, .i32⟩
  | .hbm, ⟨16, _⟩ => ⟨S4x16x1024, .i1⟩
  | .hbm, ⟨17, _⟩ => ⟨S_, .i32⟩
  | .hbm, ⟨18, _⟩ => ⟨S4x16x1024, .i32⟩
  | .hbm, ⟨19, _⟩ => ⟨S4x16x1024, .i32⟩
  | .hbm, ⟨20, _⟩ => ⟨S4x16x1024, .i32⟩
  | .hbm, ⟨21, _⟩ => ⟨S4x16x1024x1, .i32⟩
  | .hbm, ⟨22, _⟩ => ⟨S4x16x1024x1024, .f32⟩
  | .hbm, ⟨23, _⟩ => ⟨S1x16x1024x512, .f32⟩
  | .hbm, ⟨24, _⟩ => ⟨S16x1024x512, .f32⟩
  | .hbm, ⟨25, _⟩ => ⟨S16x512x4x1024, .f32⟩
  | .hbm, ⟨26, _⟩ => ⟨S4x16x1024x512, .f32⟩
  | .hbm, ⟨27, _⟩ => ⟨S1x16x1024x512, .f32⟩
  | .hbm, ⟨28, _⟩ => ⟨S16x1024x512, .f32⟩
  | .hbm, ⟨29, _⟩ => ⟨S16x512x4x1024, .f32⟩
  | .hbm, ⟨30, _⟩ => ⟨S4x16x1024x512, .f32⟩
  | .hbm, ⟨31, _⟩ => ⟨S4x16x1024x512, .f32⟩
  | .hbm, ⟨32, _⟩ => ⟨S4x16x1024x512, .f32⟩
  | .hbm, ⟨33, _⟩ => ⟨S_, .f32⟩
  | .hbm, ⟨34, _⟩ => ⟨S4x16x1024x512, .f32⟩
  | .hbm, ⟨35, _⟩ => ⟨S4x16x1024x512, .f32⟩
  | .hbm, ⟨36, _⟩ => ⟨S_, .f32⟩
  | .hbm, ⟨37, _⟩ => ⟨S4x16x1024x512, .f32⟩
  | .hbm, ⟨38, _⟩ => ⟨S4x16x1024x512, .f32⟩
  | .hbm, ⟨39, _⟩ => ⟨S4x16x1024x512, .f32⟩
  | .hbm, ⟨40, _⟩ => ⟨S4x16x1024x512, .f32⟩
  | .hbm, ⟨41, _⟩ => ⟨S1x16x512x1024, .f32⟩
  | .hbm, ⟨42, _⟩ => ⟨S16x512x1024, .f32⟩
  | .hbm, ⟨43, _⟩ => ⟨S16x1024x4x1024, .f32⟩
  | .hbm, ⟨44, _⟩ => ⟨S4x16x1024x1024, .f32⟩
  | _, _ => ⟨S4x16x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Project.lean ====
abbrev S4x8192x1024 : Shape := ⟨3, ![4, 8192, 1024]⟩
abbrev S4x1x1024 : Shape := ⟨3, ![4, 1, 1024]⟩
abbrev S8192x16 : Shape := ⟨2, ![8192, 16]⟩
abbrev S1024x2560 : Shape := ⟨2, ![1024, 2560]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S4x8192x384 : Shape := ⟨3, ![4, 8192, 384]⟩
abbrev S4x8192x256 : Shape := ⟨3, ![4, 8192, 256]⟩
abbrev S4x8192x512 : Shape := ⟨3, ![4, 8192, 512]⟩
abbrev S4x8192x768 : Shape := ⟨3, ![4, 8192, 768]⟩
abbrev S1x1024x1024 : Shape := ⟨3, ![1, 1024, 1024]⟩
abbrev S1x1x1024 : Shape := ⟨3, ![1, 1, 1024]⟩
abbrev S1024x128 : Shape := ⟨2, ![1024, 128]⟩
abbrev S1x1024x384 : Shape := ⟨3, ![1, 1024, 384]⟩
abbrev S1x1024x256 : Shape := ⟨3, ![1, 1024, 256]⟩
abbrev S1x1024x512 : Shape := ⟨3, ![1, 1024, 512]⟩
abbrev S1x1024x768 : Shape := ⟨3, ![1, 1024, 768]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1024x512 : Shape := ⟨2, ![1024, 512]⟩
abbrev S1024x384 : Shape := ⟨2, ![1024, 384]⟩
abbrev S1024x256 : Shape := ⟨2, ![1024, 256]⟩
abbrev S1024x768 : Shape := ⟨2, ![1024, 768]⟩

abbrev nBuf : Space → Nat
  | .hbm => 28
  | .vmem => 21
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S8192x16, .f32⟩
  | .hbm, ⟨4, _⟩ => ⟨S8192x16, .f32⟩
  | .hbm, ⟨5, _⟩ => ⟨S8192x16, .f32⟩
  | .hbm, ⟨6, _⟩ => ⟨S8192x16, .f32⟩
  | .hbm, ⟨7, _⟩ => ⟨S1024x2560, .f32⟩
  | .hbm, ⟨8, _⟩ => ⟨S8192x32, .f32⟩
  | .hbm, ⟨9, _⟩ => ⟨S8192x16, .f32⟩
  | .hbm, ⟨10, _⟩ => ⟨S8192x32, .f32⟩
  | .hbm, ⟨11, _⟩ => ⟨S8192x32, .f32⟩
  | .hbm, ⟨12, _⟩ => ⟨S8192x16, .f32⟩
  | .hbm, ⟨13, _⟩ => ⟨S8192x32, .f32⟩
  | .hbm, ⟨14, _⟩ => ⟨S8192x64, .f32⟩
  | .hbm, ⟨15, _⟩ => ⟨S1x8192x1x64, .f32⟩
  | .hbm, ⟨16, _⟩ => ⟨S1x8192x2x64, .f32⟩
  | .hbm, ⟨17, _⟩ => ⟨S8192x128, .f32⟩
  | .hbm, ⟨18, _⟩ => ⟨S8192x64, .f32⟩
  | .hbm, ⟨19, _⟩ => ⟨S1x8192x1x64, .f32⟩
  | .hbm, ⟨20, _⟩ => ⟨S1x8192x2x64, .f32⟩
  | .hbm, ⟨21, _⟩ => ⟨S8192x128, .f32⟩
  | .hbm, ⟨22, _⟩ => ⟨S1024x2560, .bf16⟩
  | .hbm, ⟨23, _⟩ => ⟨S4x8192x384, .bf16⟩
  | .hbm, ⟨24, _⟩ => ⟨S4x8192x256, .bf16⟩
  | .hbm, ⟨25, _⟩ => ⟨S4x8192x512, .bf16⟩
  | .hbm, ⟨26, _⟩ => ⟨S4x8192x384, .bf16⟩
  | .hbm, ⟨27, _⟩ => ⟨S4x8192x768, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x2560, .bf16⟩
  | .local _ .vmem, ⟨11, _⟩ => ⟨S1x1024x384, .bf16⟩
  | .local _ .vmem, ⟨12, _⟩ => ⟨S1x1024x384, .bf16⟩
  | .local _ .vmem, ⟨13, _⟩ => ⟨S1x1024x256, .bf16⟩
  | .local _ .vmem, ⟨14, _⟩ => ⟨S1x1024x256, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x384, .bf16⟩
  | .local _ .vmem, ⟨18, _⟩ => ⟨S1x1024x384, .bf16⟩
  | .local _ .vmem, ⟨19, _⟩ => ⟨S1x1024x768, .bf16⟩
  | .local _ .vmem, ⟨20, _⟩ => ⟨S1x1024x768, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev main_v15_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ProjectReferenceIdeal.lean ====
abbrev S4x8192x1024 : Shape := ⟨3, ![4, 8192, 1024]⟩
abbrev S4x1x1024 : Shape := ⟨3, ![4, 1, 1024]⟩
abbrev S8192x16 : Shape := ⟨2, ![8192, 16]⟩
abbrev S1024x2560 : Shape := ⟨2, ![1024, 2560]⟩
abbrev S_ : Shape := ⟨0, ![]⟩
abbrev S4x8192 : Shape := ⟨2, ![4, 8192]⟩
abbrev S4x8192x1 : Shape := ⟨3, ![4, 8192, 1]⟩
abbrev S4x8192x2560 : Shape := ⟨3, ![4, 8192, 2560]⟩
abbrev S4x8192x384 : Shape := ⟨3, ![4, 8192, 384]⟩
abbrev S4x8192x6x64 : Shape := ⟨4, ![4, 8192, 6, 64]⟩
abbrev S4x8192x6x32 : Shape := ⟨4, ![4, 8192, 6, 32]⟩
abbrev S4x8192x6x16 : Shape := ⟨4, ![4, 8192, 6, 16]⟩
abbrev S1x8192x1x16 : Shape := ⟨4, ![1, 8192, 1, 16]⟩
abbrev S4x8192x128 : Shape := ⟨3, ![4, 8192, 128]⟩
abbrev S4x8192x2x64 : Shape := ⟨4, ![4, 8192, 2, 64]⟩
abbrev S4x8192x2x32 : Shape := ⟨4, ![4, 8192, 2, 32]⟩
abbrev S4x8192x2x16 : Shape := ⟨4, ![4, 8192, 2, 16]⟩
abbrev S4x8192x256 : Shape := ⟨3, ![4, 8192, 256]⟩
abbrev S4x8192x768 : Shape := ⟨3, ![4, 8192, 768]⟩
abbrev S4x8192x512 : Shape := ⟨3, ![4, 8192, 512]⟩

abbrev nBuf : Space → Nat
  | .hbm => 131
  | .vmem => 0
  | .smem => 0
  | _ => 0

abbrev hbmTy0_0 (i : Nat) : BufTy := match i % 128 with
  | 0 => ⟨S4x8192x1024, .f32⟩
  | 1 => ⟨S4x1x1024, .f32⟩
  | 2 => ⟨S4x1x1024, .f32⟩
  | 3 => ⟨S8192x16, .f32⟩
  | 4 => ⟨S8192x16, .f32⟩
  | 5 => ⟨S8192x16, .f32⟩
  | 6 => ⟨S8192x16, .f32⟩
  | 7 => ⟨S1024x2560, .f32⟩
  | 8 => ⟨S_, .f32⟩
  | 9 => ⟨S4x8192, .f32⟩
  | 10 => ⟨S4x8192x1, .f32⟩
  | 11 => ⟨S_, .f32⟩
  | 12 => ⟨S4x8192x1, .f32⟩
  | 13 => ⟨S4x8192x1, .f32⟩
  | 14 => ⟨S4x8192x1024, .f32⟩
  | 15 => ⟨S4x8192x1024, .f32⟩
  | 16 => ⟨S4x8192x1024, .f32⟩
  | 17 => ⟨S_, .f32⟩
  | 18 => ⟨S4x8192, .f32⟩
  | 19 => ⟨S4x8192x1, .f32⟩
  | 20 => ⟨S_, .f32⟩
  | 21 => ⟨S4x8192x1, .f32⟩
  | 22 => ⟨S4x8192x1, .f32⟩
  | 23 => ⟨S4x8192x1024, .f32⟩
  | 24 => ⟨S4x8192x1024, .f32⟩
  | 25 => ⟨S_, .f32⟩
  | 26 => ⟨S4x8192x1, .f32⟩
  | 27 => ⟨S4x8192x1, .f32⟩
  | 28 => ⟨S4x8192x1, .f32⟩
  | 29 => ⟨S4x8192x1024, .f32⟩
  | 30 => ⟨S4x8192x1024, .f32⟩
  | 31 => ⟨S_, .f32⟩
  | 32 => ⟨S4x1x1024, .f32⟩
  | 33 => ⟨S4x1x1024, .f32⟩
  | 34 => ⟨S4x8192x1024, .f32⟩
  | 35 => ⟨S4x8192x1024, .f32⟩
  | 36 => ⟨S4x8192x1024, .f32⟩
  | 37 => ⟨S4x8192x1024, .f32⟩
  | 38 => ⟨S4x8192x2560, .f32⟩
  | 39 => ⟨S4x8192x384, .f32⟩
  | 40 => ⟨S4x8192x6x64, .f32⟩
  | 41 => ⟨S4x8192x6x32, .f32⟩
  | 42 => ⟨S4x8192x6x16, .f32⟩
  | 43 => ⟨S4x8192x6x16, .f32⟩
  | 44 => ⟨S1x8192x1x16, .f32⟩
  | 45 => ⟨S1x8192x1x16, .f32⟩
  | 46 => ⟨S4x8192x6x16, .f32⟩
  | 47 => ⟨S4x8192x6x16, .f32⟩
  | 48 => ⟨S4x8192x6x16, .f32⟩
  | 49 => ⟨S4x8192x6x16, .f32⟩
  | 50 => ⟨S4x8192x6x16, .f32⟩
  | 51 => ⟨S4x8192x6x16, .f32⟩
  | 52 => ⟨S4x8192x6x16, .f32⟩
  | 53 => ⟨S4x8192x6x16, .f32⟩
  | 54 => ⟨S4x8192x6x16, .f32⟩
  | 55 => ⟨S4x8192x6x16, .f32⟩
  | 56 => ⟨S4x8192x6x32, .f32⟩
  | 57 => ⟨S4x8192x6x32, .f32⟩
  | 58 => ⟨S4x8192x6x16, .f32⟩
  | 59 => ⟨S4x8192x6x16, .f32⟩
  | 60 => ⟨S1x8192x1x16, .f32⟩
  | 61 => ⟨S1x8192x1x16, .f32⟩
  | 62 => ⟨S4x8192x6x16, .f32⟩
  | 63 => ⟨S4x8192x6x16, .f32⟩
  | 64 => ⟨S4x8192x6x16, .f32⟩
  | 65 => ⟨S4x8192x6x16, .f32⟩
  | 66 => ⟨S4x8192x6x16, .f32⟩
  | 67 => ⟨S4x8192x6x16, .f32⟩
  | 68 => ⟨S4x8192x6x16, .f32⟩
  | 69 => ⟨S4x8192x6x16, .f32⟩
  | 70 => ⟨S4x8192x6x16, .f32⟩
  | 71 => ⟨S4x8192x6x16, .f32⟩
  | 72 => ⟨S4x8192x6x32, .f32⟩
  | 73 => ⟨S4x8192x6x64, .f32⟩
  | 74 => ⟨S4x8192x384, .f32⟩
  | 75 => ⟨S4x8192x128, .f32⟩
  | 76 => ⟨S4x8192x2x64, .f32⟩
  | 77 => ⟨S4x8192x2x32, .f32⟩
  | 78 => ⟨S4x8192x2x16, .f32⟩
  | 79 => ⟨S4x8192x2x16, .f32⟩
  | 80 => ⟨S1x8192x1x16, .f32⟩
  | 81 => ⟨S1x8192x1x16, .f32⟩
  | 82 => ⟨S4x8192x2x16, .f32⟩
  | 83 => ⟨S4x8192x2x16, .f32⟩
  | 84 => ⟨S4x8192x2x16, .f32⟩
  | 85 => ⟨S4x8192x2x16, .f32⟩
  | 86 => ⟨S4x8192x2x16, .f32⟩
  | 87 => ⟨S4x8192x2x16, .f32⟩
  | 88 => ⟨S4x8192x2x16, .f32⟩
  | 89 => ⟨S4x8192x2x16, .f32⟩
  | 90 => ⟨S4x8192x2x16, .f32⟩
  | 91 => ⟨S4x8192x2x16, .f32⟩
  | 92 => ⟨S4x8192x2x32, .f32⟩
  | 93 => ⟨S4x8192x2x32, .f32⟩
  | 94 => ⟨S4x8192x2x16, .f32⟩
  | 95 => ⟨S4x8192x2x16, .f32⟩
  | 96 => ⟨S1x8192x1x16, .f32⟩
  | 97 => ⟨S1x8192x1x16, .f32⟩
  | 98 => ⟨S4x8192x2x16, .f32⟩
  | 99 => ⟨S4x8192x2x16, .f32⟩
  | 100 => ⟨S4x8192x2x16, .f32⟩
  | 101 => ⟨S4x8192x2x16, .f32⟩
  | 102 => ⟨S4x8192x2x16, .f32⟩
  | 103 => ⟨S4x8192x2x16, .f32⟩
  | 104 => ⟨S4x8192x2x16, .f32⟩
  | 105 => ⟨S4x8192x2x16, .f32⟩
  | 106 => ⟨S4x8192x2x16, .f32⟩
  | 107 => ⟨S4x8192x2x16, .f32⟩
  | 108 => ⟨S4x8192x2x32, .f32⟩
  | 109 => ⟨S4x8192x2x64, .f32⟩
  | 110 => ⟨S4x8192x128, .f32⟩
  | 111 => ⟨S4x8192x128, .f32⟩
  | 112 => ⟨S4x8192x256, .f32⟩
  | 113 => ⟨S4x8192x256, .f32⟩
  | 114 => ⟨S4x8192x256, .f32⟩
  | 115 => ⟨S4x8192x384, .f32⟩
  | 116 => ⟨S4x8192x768, .f32⟩
  | 117 => ⟨S_, .f32⟩
  | 118 => ⟨S4x8192x384, .f32⟩
  | 119 => ⟨S4x8192x384, .f32⟩
  | 120 => ⟨S4x8192x256, .f32⟩
  | 121 => ⟨S4x8192x256, .f32⟩
  | 122 => ⟨S4x8192x512, .f32⟩
  | 123 => ⟨S_, .f32⟩
  | 124 => ⟨S4x8192x384, .f32⟩
  | 125 => ⟨S4x8192x384, .f32⟩
  | 126 => ⟨S4x8192x384, .bf16⟩
  | 127 => ⟨S4x8192x256, .bf16⟩
  | _ => ⟨S4x8192x1024, .f32⟩

abbrev hbmTy0_1 (i : Nat) : BufTy := match i % 128 with
  | 0 => ⟨S4x8192x512, .bf16⟩
  | 1 => ⟨S4x8192x384, .bf16⟩
  | 2 => ⟨S4x8192x768, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_cst_5 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_cst_6 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩

abbrev nD : Nat := 1
abbrev τ : Topo := Topo.v7x

variable {F : FTy → Type} [FloatOps F]
-- ==== Close.lean ====
abbrev S4x8192x1024 : Shape := ⟨3, ![4, 8192, 1024]⟩
abbrev S4x1x1024 : Shape := ⟨3, ![4, 1, 1024]⟩
abbrev S1x1024 : Shape := ⟨2, ![1, 1024]⟩
abbrev S1024x1024 : Shape := ⟨2, ![1024, 1024]⟩
abbrev S1024x128 : Shape := ⟨2, ![1024, 128]⟩
abbrev S4x8192x512 : Shape := ⟨3, ![4, 8192, 512]⟩
abbrev S4x16x8192 : Shape := ⟨3, ![4, 16, 8192]⟩
abbrev S1x1024x1024 : Shape := ⟨3, ![1, 1024, 1024]⟩
abbrev S1x1x1024 : Shape := ⟨3, ![1, 1, 1024]⟩
abbrev S1x1024x512 : Shape := ⟨3, ![1, 1024, 512]⟩
abbrev S1x16x1024 : Shape := ⟨3, ![1, 16, 1024]⟩
abbrev S1024 : Shape := ⟨1, ![1024]⟩
abbrev S1024x1 : Shape := ⟨2, ![1024, 1]⟩
abbrev S1024x512 : Shape := ⟨2, ![1024, 512]⟩
abbrev S128x1024 : Shape := ⟨2, ![128, 1024]⟩
abbrev S16x1024 : Shape := ⟨2, ![16, 1024]⟩

abbrev nBuf : Space → Nat
  | .hbm => 12
  | .vmem => 20
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .f32⟩
  | .hbm, ⟨2, _⟩ => ⟨S4x1x1024, .f32⟩
  | .hbm, ⟨3, _⟩ => ⟨S1x1024, .f32⟩
  | .hbm, ⟨4, _⟩ => ⟨S1x1024, .f32⟩
  | .hbm, ⟨5, _⟩ => ⟨S4x1x1024, .f32⟩
  | .hbm, ⟨6, _⟩ => ⟨S4x1x1024, .f32⟩
  | .hbm, ⟨7, _⟩ => ⟨S1024x1024, .bf16⟩
  | .hbm, ⟨8, _⟩ => ⟨S1024x128, .bf16⟩
  | .hbm, ⟨9, _⟩ => ⟨S4x8192x1024, .f32⟩
  | .hbm, ⟨10, _⟩ => ⟨S4x8192x512, .i32⟩
  | .hbm, ⟨11, _⟩ => ⟨S4x16x8192, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x1024, .bf16⟩
  | .local _ .vmem, ⟨13, _⟩ => ⟨S1024x128, .bf16⟩
  | .local _ .vmem, ⟨14, _⟩ => ⟨S1x1024x1024, .f32⟩
  | .local _ .vmem, ⟨15, _⟩ => ⟨S1x1024x1024, .f32⟩
  | .local _ .vmem, ⟨16, _⟩ => ⟨S1x1024x512, .i32⟩
  | .local _ .vmem, ⟨17, _⟩ => ⟨S1x1024x512, .i32⟩
  | .local _ .vmem, ⟨18, _⟩ => ⟨S1x16x1024, .f32⟩
  | .local _ .vmem, ⟨19, _⟩ => ⟨S1x16x1024, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [BitOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Route.lean ====
abbrev S4x8192x1024 : Shape := ⟨3, ![4, 8192, 1024]⟩
abbrev S4x1x1024 : Shape := ⟨3, ![4, 1, 1024]⟩
abbrev S1x1024 : Shape := ⟨2, ![1, 1024]⟩
abbrev S1024x1024 : Shape := ⟨2, ![1024, 1024]⟩
abbrev S1024x128 : Shape := ⟨2, ![1024, 128]⟩
abbrev S4x16x8192 : Shape := ⟨3, ![4, 16, 8192]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024 : Shape := ⟨1, ![1024]⟩
abbrev S1024x1 : Shape := ⟨2, ![1024, 1]⟩
abbrev S128x1024 : Shape := ⟨2, ![128, 1024]⟩
abbrev S16x1024 : Shape := ⟨2, ![16, 1024]⟩

abbrev nBuf : Space → Nat
  | .hbm => 14
  | .vmem => 20
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .f32⟩
  | .hbm, ⟨2, _⟩ => ⟨S4x1x1024, .f32⟩
  | .hbm, ⟨3, _⟩ => ⟨S1x1024, .f32⟩
  | .hbm, ⟨4, _⟩ => ⟨S1x1024, .f32⟩
  | .hbm, ⟨5, _⟩ => ⟨S4x1x1024, .f32⟩
  | .hbm, ⟨6, _⟩ => ⟨S4x1x1024, .f32⟩
  | .hbm, ⟨7, _⟩ => ⟨S1024x1024, .f32⟩
  | .hbm, ⟨8, _⟩ => ⟨S1024x128, .f32⟩
  | .hbm, ⟨9, _⟩ => ⟨S1024x1024, .bf16⟩
  | .hbm, ⟨10, _⟩ => ⟨S1024x128, .bf16⟩
  | .hbm, ⟨11, _⟩ => ⟨S4x8192x1024, .f32⟩
  | .hbm, ⟨12, _⟩ => ⟨S4x8192x1024, .bf16⟩
  | .hbm, ⟨13, _⟩ => ⟨S4x16x8192, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x1024, .bf16⟩
  | .local _ .vmem, ⟨13, _⟩ => ⟨S1024x128, .bf16⟩
  | .local _ .vmem, ⟨14, _⟩ => ⟨S1x1024x1024, .f32⟩
  | .local _ .vmem, ⟨15, _⟩ => ⟨S1x1024x1024, .f32⟩
  | .local _ .vmem, ⟨16, _⟩ => ⟨S1x1024x1024, .bf16⟩
  | .local _ .vmem, ⟨17, _⟩ => ⟨S1x1024x1024, .bf16⟩
  | .local _ .vmem, ⟨18, _⟩ => ⟨S1x16x1024, .f32⟩
  | .local _ .vmem, ⟨19, _⟩ => ⟨S1x16x1024, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== RouteIdeal.lean ====
variable {F : FTy → Type} [FloatOps F] [Named F]
def κ : String → Option EReal := fun
  | "mask" => some ⊥
  | _ => none
-- ==== RouteReferenceIdeal.lean ====
abbrev S4x8192x1024 : Shape := ⟨3, ![4, 8192, 1024]⟩
abbrev S4x1x1024 : Shape := ⟨3, ![4, 1, 1024]⟩
abbrev S1x1024 : Shape := ⟨2, ![1, 1024]⟩
abbrev S1024x1024 : Shape := ⟨2, ![1024, 1024]⟩
abbrev S1024x128 : Shape := ⟨2, ![1024, 128]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x16 : Shape := ⟨2, ![1024, 16]⟩
abbrev S4x8192x16 : Shape := ⟨3, ![4, 8192, 16]⟩
abbrev S4x16x8192 : Shape := ⟨3, ![4, 16, 8192]⟩

abbrev nBuf : Space → Nat
  | .hbm => 94
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .f32⟩
  | .hbm, ⟨2, _⟩ => ⟨S4x1x1024, .f32⟩
  | .hbm, ⟨3, _⟩ => ⟨S1x1024, .f32⟩
  | .hbm, ⟨4, _⟩ => ⟨S1x1024, .f32⟩
  | .hbm, ⟨5, _⟩ => ⟨S4x1x1024, .f32⟩
  | .hbm, ⟨6, _⟩ => ⟨S4x1x1024, .f32⟩
  | .hbm, ⟨7, _⟩ => ⟨S1024x1024, .f32⟩
  | .hbm, ⟨8, _⟩ => ⟨S1024x128, .f32⟩
  | .hbm, ⟨9, _⟩ => ⟨S4x8192x1024, .f32⟩
  | .hbm, ⟨10, _⟩ => ⟨S4x8192x1024, .f32⟩
  | .hbm, ⟨11, _⟩ => ⟨S_, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S_, .f32⟩
  | .hbm, ⟨18, _⟩ => ⟨S4x8192, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x8192, .f32⟩
  | .hbm, ⟨28, _⟩ => ⟨S4x8192x1, .f32⟩
  | .hbm, ⟨29, _⟩ => ⟨S_, .f32⟩
  | .hbm, ⟨30, _⟩ => ⟨S4x8192x1, .f32⟩
  | .hbm, ⟨31, _⟩ => ⟨S4x8192x1, .f32⟩
  | .hbm, ⟨32, _⟩ => ⟨S4x8192x1024, .f32⟩
  | .hbm, ⟨33, _⟩ => ⟨S4x8192x1024, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S4x8192x1, .f32⟩
  | .hbm, ⟨38, _⟩ => ⟨S4x8192x1024, .f32⟩
  | .hbm, ⟨39, _⟩ => ⟨S4x8192x1024, .f32⟩
  | .hbm, ⟨40, _⟩ => ⟨S1x1x1024, .f32⟩
  | .hbm, ⟨41, _⟩ => ⟨S4x8192x1024, .f32⟩
  | .hbm, ⟨42, _⟩ => ⟨S4x8192x1024, .f32⟩
  | .hbm, ⟨43, _⟩ => ⟨S1x1x1024, .f32⟩
  | .hbm, ⟨44, _⟩ => ⟨S4x8192x1024, .f32⟩
  | .hbm, ⟨45, _⟩ => ⟨S4x8192x1024, .f32⟩
  | .hbm, ⟨46, _⟩ => ⟨S_, .f32⟩
  | .hbm, ⟨47, _⟩ => ⟨S4x8192, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S4x8192x1024, .f32⟩
  | .hbm, ⟨53, _⟩ => ⟨S4x8192x1024, .f32⟩
  | .hbm, ⟨54, _⟩ => ⟨S4x8192x1024, .f32⟩
  | .hbm, ⟨55, _⟩ => ⟨S_, .f32⟩
  | .hbm, ⟨56, _⟩ => ⟨S4x8192, .f32⟩
  | .hbm, ⟨57, _⟩ => ⟨S4x8192x1, .f32⟩
  | .hbm, ⟨58, _⟩ => ⟨S_, .f32⟩
  | .hbm, ⟨59, _⟩ => ⟨S4x8192x1, .f32⟩
  | .hbm, ⟨60, _⟩ => ⟨S4x8192x1, .f32⟩
  | .hbm, ⟨61, _⟩ => ⟨S4x8192x1024, .f32⟩
  | .hbm, ⟨62, _⟩ => ⟨S4x8192x1024, .f32⟩
  | .hbm, ⟨63, _⟩ => ⟨S_, .f32⟩
  | .hbm, ⟨64, _⟩ => ⟨S4x8192x1, .f32⟩
  | .hbm, ⟨65, _⟩ => ⟨S4x8192x1, .f32⟩
  | .hbm, ⟨66, _⟩ => ⟨S4x8192x1, .f32⟩
  | .hbm, ⟨67, _⟩ => ⟨S4x8192x1024, .f32⟩
  | .hbm, ⟨68, _⟩ => ⟨S4x8192x1024, .f32⟩
  | .hbm, ⟨69, _⟩ => ⟨S_, .f32⟩
  | .hbm, ⟨70, _⟩ => ⟨S4x1x1024, .f32⟩
  | .hbm, ⟨71, _⟩ => ⟨S4x1x1024, .f32⟩
  | .hbm, ⟨72, _⟩ => ⟨S4x8192x1024, .f32⟩
  | .hbm, ⟨73, _⟩ => ⟨S4x8192x1024, .f32⟩
  | .hbm, ⟨74, _⟩ => ⟨S4x8192x1024, .f32⟩
  | .hbm, ⟨75, _⟩ => ⟨S4x8192x1024, .f32⟩
  | .hbm, ⟨76, _⟩ => ⟨S1024x16, .f32⟩
  | .hbm, ⟨77, _⟩ => ⟨S4x8192x16, .f32⟩
  | .hbm, ⟨78, _⟩ => ⟨S_, .f32⟩
  | .hbm, ⟨79, _⟩ => ⟨S4x8192, .f32⟩
  | .hbm, ⟨80, _⟩ => ⟨S_, .f32⟩
  | .hbm, ⟨81, _⟩ => ⟨S4x8192, .f32⟩
  | .hbm, ⟨82, _⟩ => ⟨S4x8192, .f32⟩
  | .hbm, ⟨83, _⟩ => ⟨S4x8192x1, .f32⟩
  | .hbm, ⟨84, _⟩ => ⟨S4x8192x16, .f32⟩
  | .hbm, ⟨85, _⟩ => ⟨S4x8192x16, .f32⟩
  | .hbm, ⟨86, _⟩ => ⟨S4x8192x16, .f32⟩
  | .hbm, ⟨87, _⟩ => ⟨S_, .f32⟩
  | .hbm, ⟨88, _⟩ => ⟨S4x8192, .f32⟩
  | .hbm, ⟨89, _⟩ => ⟨S4x8192x1, .f32⟩
  | .hbm, ⟨90, _⟩ => ⟨S4x8192x16, .f32⟩
  | .hbm, ⟨91, _⟩ => ⟨S4x8192x16, .f32⟩
  | .hbm, ⟨92, _⟩ => ⟨S4x8192x1024, .bf16⟩
  | .hbm, ⟨93, _⟩ => ⟨S4x16x8192, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]
-- ==== Modulate.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S8x1024 : Shape := ⟨2, ![8, 1024]⟩
abbrev S1 : Shape := ⟨1, ![1]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 14
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S_, .f32⟩
  | .hbm, ⟨5, _⟩ => ⟨S8x1024, .f32⟩
  | .hbm, ⟨6, _⟩ => ⟨S_, .i32⟩
  | .hbm, ⟨7, _⟩ => ⟨S1, .i32⟩
  | .hbm, ⟨8, _⟩ => ⟨S8x1024, .f32⟩
  | .hbm, ⟨9, _⟩ => ⟨S_, .i32⟩
  | .hbm, ⟨10, _⟩ => ⟨S1, .i32⟩
  | .hbm, ⟨11, _⟩ => ⟨S8x1024, .f32⟩
  | .hbm, ⟨12, _⟩ => ⟨S2x1x6144, .f32⟩
  | .hbm, ⟨13, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulateReferenceIdeal.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S4x2x6144 : Shape := ⟨3, ![4, 2, 6144]⟩
abbrev S2x4x6144 : Shape := ⟨3, ![2, 4, 6144]⟩
abbrev S2x1x6144 : Shape := ⟨3, ![2, 1, 6144]⟩
abbrev S2x3x6144 : Shape := ⟨3, ![2, 3, 6144]⟩
abbrev S2x8x6144 : Shape := ⟨3, ![2, 8, 6144]⟩

abbrev nBuf : Space → Nat
  | .hbm => 33
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S4x1024, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x2x6144, .f32⟩
  | .hbm, ⟨14, _⟩ => ⟨S2x4x6144, .f32⟩
  | .hbm, ⟨15, _⟩ => ⟨S2x1x6144, .f32⟩
  | .hbm, ⟨16, _⟩ => ⟨S2x4x6144, .f32⟩
  | .hbm, ⟨17, _⟩ => ⟨S2x4x6144, .f32⟩
  | .hbm, ⟨18, _⟩ => ⟨S1024, .f32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S2x6144, .f32⟩
  | .hbm, ⟨28, _⟩ => ⟨S2x6144, .f32⟩
  | .hbm, ⟨29, _⟩ => ⟨S2x1x6144, .f32⟩
  | .hbm, ⟨30, _⟩ => ⟨S2x1x6144, .f32⟩
  | .hbm, ⟨31, _⟩ => ⟨S2x3x6144, .f32⟩
  | .hbm, ⟨32, _⟩ => ⟨S2x8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== Finish.lean ====
abbrev S1x1024x1024 : Shape := ⟨3, ![1, 1024, 1024]⟩
abbrev S1024x1024 : Shape := ⟨2, ![1024, 1024]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 7
  | .vmem => 6
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1x1024, .f32⟩
  | .hbm, ⟨3, _⟩ => ⟨S1x1024, .f32⟩
  | .hbm, ⟨4, _⟩ => ⟨S1x1024, .f32⟩
  | .hbm, ⟨5, _⟩ => ⟨S1x1024x1024, .f32⟩
  | .hbm, ⟨6, _⟩ => ⟨S1x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1024, .f32⟩
  | .local _ .vmem, ⟨4, _⟩ => ⟨S1x1024, .f32⟩
  | .local _ .vmem, ⟨5, _⟩ => ⟨S1x1024x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]
-- ==== FinishReferenceIdeal.lean ====
abbrev S1x1024x1024 : Shape := ⟨3, ![1, 1024, 1024]⟩
abbrev S1024x1024 : Shape := ⟨2, ![1024, 1024]⟩
abbrev S1x1x1024 : Shape := ⟨3, ![1, 1, 1024]⟩
abbrev S1x1024 : Shape := ⟨2, ![1, 1024]⟩
abbrev S_ : Shape := ⟨0, ![]⟩
abbrev S1x1024x1 : Shape := ⟨3, ![1, 1024, 1]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S1x1024x1024, .f32⟩
  | .hbm, ⟨10, _⟩ => ⟨S1x1024x1024, .f32⟩
  | .hbm, ⟨11, _⟩ => ⟨S1x1024x1024, .f32⟩
  | .hbm, ⟨12, _⟩ => ⟨S_, .f32⟩
  | .hbm, ⟨13, _⟩ => ⟨S1x1024, .f32⟩
  | .hbm, ⟨14, _⟩ => ⟨S1x1024x1, .f32⟩
  | .hbm, ⟨15, _⟩ => ⟨S_, .f32⟩
  | .hbm, ⟨16, _⟩ => ⟨S1x1024x1, .f32⟩
  | .hbm, ⟨17, _⟩ => ⟨S1x1024x1, .f32⟩
  | .hbm, ⟨18, _⟩ => ⟨S1x1024x1024, .f32⟩
  | .hbm, ⟨19, _⟩ => ⟨S1x1024x1024, .f32⟩
  | .hbm, ⟨20, _⟩ => ⟨S1x1024x1024, .f32⟩
  | .hbm, ⟨21, _⟩ => ⟨S_, .f32⟩
  | .hbm, ⟨22, _⟩ => ⟨S1x1024, .f32⟩
  | .hbm, ⟨23, _⟩ => ⟨S1x1024x1, .f32⟩
  | .hbm, ⟨24, _⟩ => ⟨S_, .f32⟩
  | .hbm, ⟨25, _⟩ => ⟨S1x1024x1, .f32⟩
  | .hbm, ⟨26, _⟩ => ⟨S1x1024x1, .f32⟩
  | .hbm, ⟨27, _⟩ => ⟨S1x1024x1024, .f32⟩
  | .hbm, ⟨28, _⟩ => ⟨S1x1024x1024, .f32⟩
  | .hbm, ⟨29, _⟩ => ⟨S_, .f32⟩
  | .hbm, ⟨30, _⟩ => ⟨S1x1024x1, .f32⟩
  | .hbm, ⟨31, _⟩ => ⟨S1x1024x1, .f32⟩
  | .hbm, ⟨32, _⟩ => ⟨S1x1024x1, .f32⟩
  | .hbm, ⟨33, _⟩ => ⟨S1x1024x1024, .f32⟩
  | .hbm, ⟨34, _⟩ => ⟨S1x1024x1024, .f32⟩
  | .hbm, ⟨35, _⟩ => ⟨S1x1x1024, .f32⟩
  | .hbm, ⟨36, _⟩ => ⟨S1x1024x1024, .f32⟩
  | .hbm, ⟨37, _⟩ => ⟨S1x1024x1024, .f32⟩
  | .hbm, ⟨38, _⟩ => ⟨S1x1x1024, .f32⟩
  | .hbm, ⟨39, _⟩ => ⟨S1x1024x1024, .f32⟩
  | .hbm, ⟨40, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Dense.lean ====
abbrev S1024x1024 : Shape := ⟨2, ![1024, 1024]⟩
abbrev S1024x16 : Shape := ⟨2, ![1024, 16]⟩
abbrev S2x16x1024x512 : Shape := ⟨4, ![2, 16, 1024, 512]⟩
abbrev S2x16x512x1024 : Shape := ⟨4, ![2, 16, 512, 1024]⟩
abbrev S1x1x1024x512 : Shape := ⟨4, ![1, 1, 1024, 512]⟩
abbrev S1x1x512x1024 : Shape := ⟨4, ![1, 1, 512, 1024]⟩
abbrev S1024 : Shape := ⟨1, ![1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 6
  | .vmem => 9
  | .smem => 0
  | _ => 0

abbrev bufTy : (tb : Table) → Fin (tcTables nBuf tb) → BufTy
  | .hbm, ⟨0, _⟩ => ⟨S1024x1024, .bf16⟩
  | .hbm, ⟨1, _⟩ => ⟨S1024x16, .f32⟩
  | .hbm, ⟨2, _⟩ => ⟨S2x16x1024x512, .f32⟩
  | .hbm, ⟨3, _⟩ => ⟨S2x16x1024x512, .f32⟩
  | .hbm, ⟨4, _⟩ => ⟨S2x16x512x1024, .f32⟩
  | .hbm, ⟨5, _⟩ => ⟨S1024x1024, .f32⟩
  | .local _ .vmem, ⟨0, _⟩ => ⟨S1024x1024, .bf16⟩
  | .local _ .vmem, ⟨1, _⟩ => ⟨S1024x16, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1024x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== DenseReferenceIdeal.lean ====
abbrev S1024x1024 : Shape := ⟨2, ![1024, 1024]⟩
abbrev S1024x16 : Shape := ⟨2, ![1024, 16]⟩
abbrev S2x16x1024x512 : Shape := ⟨4, ![2, 16, 1024, 512]⟩
abbrev S2x16x512x1024 : Shape := ⟨4, ![2, 16, 512, 1024]⟩
abbrev S1x16x1024x512 : Shape := ⟨4, ![1, 16, 1024, 512]⟩
abbrev S16x1024x512 : Shape := ⟨3, ![16, 1024, 512]⟩
abbrev S16x512x1024 : Shape := ⟨3, ![16, 512, 1024]⟩
abbrev S_ : Shape := ⟨0, ![]⟩
abbrev S1x16x512x1024 : Shape := ⟨4, ![1, 16, 512, 1024]⟩
abbrev S16x1024x1024 : Shape := ⟨3, ![16, 1024, 1024]⟩
abbrev S16x1024 : Shape := ⟨2, ![16, 1024]⟩
abbrev S16x1024x1 : Shape := ⟨3, ![16, 1024, 1]⟩

abbrev nBuf : Space → Nat
  | .hbm => 33
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x16, .f32⟩
  | .hbm, ⟨2, _⟩ => ⟨S2x16x1024x512, .f32⟩
  | .hbm, ⟨3, _⟩ => ⟨S2x16x1024x512, .f32⟩
  | .hbm, ⟨4, _⟩ => ⟨S2x16x512x1024, .f32⟩
  | .hbm, ⟨5, _⟩ => ⟨S1024x1024, .f32⟩
  | .hbm, ⟨6, _⟩ => ⟨S1x16x1024x512, .f32⟩
  | .hbm, ⟨7, _⟩ => ⟨S16x1024x512, .f32⟩
  | .hbm, ⟨8, _⟩ => ⟨S16x512x1024, .f32⟩
  | .hbm, ⟨9, _⟩ => ⟨S16x1024x512, .f32⟩
  | .hbm, ⟨10, _⟩ => ⟨S1x16x1024x512, .f32⟩
  | .hbm, ⟨11, _⟩ => ⟨S16x1024x512, .f32⟩
  | .hbm, ⟨12, _⟩ => ⟨S16x512x1024, .f32⟩
  | .hbm, ⟨13, _⟩ => ⟨S16x1024x512, .f32⟩
  | .hbm, ⟨14, _⟩ => ⟨S16x1024x512, .f32⟩
  | .hbm, ⟨15, _⟩ => ⟨S16x1024x512, .f32⟩
  | .hbm, ⟨16, _⟩ => ⟨S_, .f32⟩
  | .hbm, ⟨17, _⟩ => ⟨S16x1024x512, .f32⟩
  | .hbm, ⟨18, _⟩ => ⟨S16x1024x512, .f32⟩
  | .hbm, ⟨19, _⟩ => ⟨S_, .f32⟩
  | .hbm, ⟨20, _⟩ => ⟨S16x1024x512, .f32⟩
  | .hbm, ⟨21, _⟩ => ⟨S16x1024x512, .f32⟩
  | .hbm, ⟨22, _⟩ => ⟨S16x1024x512, .f32⟩
  | .hbm, ⟨23, _⟩ => ⟨S16x1024x512, .f32⟩
  | .hbm, ⟨24, _⟩ => ⟨S1x16x512x1024, .f32⟩
  | .hbm, ⟨25, _⟩ => ⟨S16x512x1024, .f32⟩
  | .hbm, ⟨26, _⟩ => ⟨S16x1024x1024, .f32⟩
  | .hbm, ⟨27, _⟩ => ⟨S16x1024, .f32⟩
  | .hbm, ⟨28, _⟩ => ⟨S16x1024x1, .f32⟩
  | .hbm, ⟨29, _⟩ => ⟨S16x1024x1024, .f32⟩
  | .hbm, ⟨30, _⟩ => ⟨S16x1024x1024, .f32⟩
  | .hbm, ⟨31, _⟩ => ⟨S_, .f32⟩
  | .hbm, ⟨32, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== Proof.Rows.lean ====
/- The gather of the expert feed-forward: one row copied, eight rows of a trip, and a counted loop of trips, as
   lemmas over any memrefs that the copy goes through. -/
module

public import proofs.«01_k».proof.Proof.Gen.KernelIdeal.Frame
public import proofs.«01_k».proof.Proof.Gen.KernelIdeal.Skeleton
public import Idealize.ShloMosaic.Lib.VecWindow
public import Idealize.ShloMosaic.Lib.Pipeline.TableIdle
public import Idealize.ShloMosaic.Lib.Pipeline.Value
public import Idealize.ShloMosaic.Lib.ValueIdxCore

@[expose] public section

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- No counted label is called inside the body. -/
abbrev 𝒱₀ : Variants := Variants.none

/-! ## The offsets of one copied row -/

/-- Where the index of row `j` of group `g` is read. -/
def idxOff (g j : BitVec 32) : Fin 3 → ℕ := ![0, 0, (Scalar.indexCast (Scalar.addi (Scalar.muli g 8#32) j)).toNat]

/-- Where the row that the index word `w` names begins. -/
def srcOff (w : BitVec 32) : Fin 3 → ℕ := ![0, (Scalar.indexCast w).toNat, 0]

/-- Where row `j` of group `g` is put. -/
def dstOff (g : BitVec 32) (j : ℕ) : Fin 3 → ℕ := ![(Scalar.indexCast g).toNat, j, 0]

/-- What the body assumes of an index word: under the condition of its branch, the row it names is one of the tokens. -/
def Chk (C : Prop) (w : BitVec 32) : Prop := ∀ (_ : C), ∀ a, srcOff w a + S1x1x512.size a ≤ S1x8192x512.size a

theorem idxOff_inb (g : BitVec 32) (j : ℕ) (hg : g.toNat < 128) (hj : j < 8) :
    ∀ a, idxOff g (BitVec.ofNat 32 j) a + S1x1x1.size a ≤ S1x1x1024.size a := by
  have e : (g * 8#32 + BitVec.ofNat 32 j).toNat = 8 * g.toNat + j := by
    rw [BitVec.toNat_add, BitVec.toNat_mul, BitVec.toNat_ofNat, BitVec.toNat_ofNat]; omega
  intro a
  fin_cases a
  · show 0 + 1 ≤ 1; omega
  · show 0 + 1 ≤ 1; omega
  · show (g * 8#32 + BitVec.ofNat 32 j).toNat + 1 ≤ 1024; omega

theorem dstOff_inb (g : BitVec 32) (j : ℕ) (hg : g.toNat < 128) (hj : j < 8) :
    ∀ a, dstOff g j a + S1x1x512.size a ≤ S128x8x512.size a := by
  intro a
  fin_cases a
  · show g.toNat + 1 ≤ 128; omega
  · show j + 1 ≤ 8; omega
  · show 0 + 512 ≤ 512; omega

theorem chk_of_lt (C : Prop) (w : BitVec 32) (h : w.toNat < 8192) : Chk C w := by
  intro _ a
  fin_cases a
  · show 0 + 1 ≤ 1; omega
  · show w.toNat + 1 ≤ 8192; omega
  · show 0 + 512 ≤ 512; omega

/-! ## The program of one copied row, and of the eight rows of a trip -/

section Prog

variable (ix : Memref sig .tc .smem S1x1x1024 .i32) (hp : Memref sig .tc .vmem S1x8192x512 .i32)
  (dst : Memref sig .tc .vmem S128x8x512 .i32)

/-- One row: the index word is read and assumed to name a token, that token's row is read, and put in its place. -/
def copyRow (C : Prop) (hC : C) (g : BitVec 32) (j : ℕ) (hg : g.toNat < 128) (hj : j < 8) (dec : ∀ w, Decidable (Chk C w)) :
    Prog (TpuEff nD τ sig (Elt F) Λ₀ .tc) PUnit := do
  let w : Elt F .i32 ← smemLoad ix (Rect.unit (s := S1x1x1024) (idxOff g (BitVec.ofNat 32 j)) S1x1x1.size (idxOff_inb g j hg hj)) numel1_S1x1x1 rfl
  have hw : Chk C w := (← Prog.lift (TpuEff.assume (Chk C w) (dec w))).down
  let v : Vec F S1x1x512 .i32 ← Prog.lift (.load hp (Rect.unit (s := S1x8192x512) (srcOff w) S1x1x512.size (hw hC)).toLoadRect (View.loadsAt_vmem h_S1x1x512))
  let _ : Vec F S1x1x512 .i32 ← Prog.lift (.load dst (Rect.unit (s := S128x8x512) (dstOff g j) S1x1x512.size (dstOff_inb g j hg hj)).toLoadRect (View.loadsAt_vmem h_S1x1x512))
  Prog.lift (.store dst (Rect.unit (s := S128x8x512) (dstOff g j) S1x1x512.size (dstOff_inb g j hg hj)) (shapeCast S1x1x512 (shapeCast S1x512 v shapeCasts_S1x1x512_S1x512) shapeCasts_S1x512_S1x1x512) Finset.univ (View.stores_vmem_bits_univ h_S1x1x512 rfl) (.inl rfl))

/-- The eight rows of group `g`, one after the other. -/
def copyGroup (C : Prop) (hC : C) (g : BitVec 32) (hg : g.toNat < 128)
    (d0 d1 d2 d3 d4 d5 d6 d7 : ∀ w, Decidable (Chk C w)) : Prog (TpuEff nD τ sig (Elt F) Λ₀ .tc) Unit := do
  copyRow ix hp dst C hC g 0 hg (by omega) d0
  copyRow ix hp dst C hC g 1 hg (by omega) d1
  copyRow ix hp dst C hC g 2 hg (by omega) d2
  copyRow ix hp dst C hC g 3 hg (by omega) d3
  copyRow ix hp dst C hC g 4 hg (by omega) d4
  copyRow ix hp dst C hC g 5 hg (by omega) d5
  copyRow ix hp dst C hC g 6 hg (by omega) d6
  copyRow ix hp dst C hC g 7 hg (by omega) d7
  pure ⟨⟩

end Prog

/-! ## Loads and stores of held memrefs -/

section Steps

variable (c : Dev nD)

/-- A load through a rectangle of a held memref reads its contents there, and leaves it held. -/
theorem load_owns {cs : CoreSpace} {s : Shape} {e : EltTy} (M : Memref sig .tc cs s e) (r : Rect s) (hl : M.view.LoadsAt r.toLoadRect)
    (q : PosShare TreeShare) (X : s.Idx → Elt F e) (Q : (r.shape.Idx → Elt F e) → sProp 𝕄) :
    owns (c : Thread nD τ) M q X ⊢ iprop((owns (c : Thread nD τ) M q X -∗ Q (View.ld X r))
      -∗ wp Idealize.ShloMosaic.frame (wpE defs₀ 𝒱₀ (c : Thread nD τ) none) Set.univ (Prog.lift (.load M r.toLoadRect hl) : Prog (TpuEff nD τ sig (Elt F) Λ₀ .tc) _) Q) := by
  have e1 : (M.access r).read (Elt F) (M.view.rep X) = View.ld X r := by
    have := congrFun (congrArg View.ld (View.read_rep (Val := Elt F) M.view X)) r
    exact this
  rw [owns_eq_rep]
  iintro HM HK
  iapply (wp_load_rect 𝒱₀ (c : Thread nD τ) none Set.univ (View.set_slice_subset M.view r)) $$ HM
  iintro HM
  iapply (le_wp_ret _ _ _ _ _)
  rw [e1]
  iapply HK
  iexact HM

/-- A store of a whole rectangle of a held memref lays the payload over its contents there. -/
theorem store_owns {cs : CoreSpace} {s : Shape} {e : EltTy} (M : Memref sig .tc cs s e) (r : Rect s) (w : r.shape.Idx → Elt F e)
    (hx : (M.access r).Stores Finset.univ) (hm : (Finset.univ : Finset r.shape.Idx) = Finset.univ ∨ ∀ a, r.stride a = 1)
    (X : s.Idx → Elt F e) (Q : PUnit → sProp 𝕄) :
    owns (c : Thread nD τ) M fullShare X ⊢ iprop((owns (c : Thread nD τ) M fullShare (r.overlay X w) -∗ Q ⟨⟩)
      -∗ wp Idealize.ShloMosaic.frame (wpE defs₀ 𝒱₀ (c : Thread nD τ) none) Set.univ (Prog.lift (.store M r w Finset.univ hx hm) : Prog (TpuEff nD τ sig (Elt F) Λ₀ .tc) _) Q) := by
  have e1 : M.view.read (Elt F) ((M.access r).write (Elt F) (M.view.rep X) w Finset.univ) = r.overlay X w := by
    funext y
    by_cases hy : y ∈ (Finset.univ : Finset r.shape.Idx).map r.emb
    · obtain ⟨x, -, rfl⟩ := Finset.mem_map.mp hy
      rw [Rect.overlay_emb]
      exact View.read_slice_write_emb _ _ _ (Finset.mem_univ x)
    · rw [Rect.overlay_of_not_mem _ _ _ (by rwa [Rect.map_emb_univ] at hy)]
      refine (View.read_slice_write_of_not_mem _ _ _ _ hy).trans ?_
      rw [View.read_rep]
  iintro HM HK
  ihave HM := (rep_of_owns _ _ _ _) $$ HM
  iapply (wp_store 𝒱₀ (c : Thread nD τ) none Set.univ ((View.setOn_subset_set _ _).trans (View.set_slice_subset M.view r))) $$ HM
  iintro HM
  iapply (le_wp_ret _ _ _ _ _)
  rw [← e1]
  iapply HK
  iapply (owns_intro _ _ _ _)
  iexact HM

/-- A read of one word of a held buffer of scalars. -/
theorem word_owns {s : Shape} (M : Memref sig .tc .smem s .i32) (r : Rect s) (h1 : r.shape.numel = 1)
    (q : PosShare TreeShare) (X : s.Idx → Elt F .i32) (Q : Elt F .i32 → sProp 𝕄) :
    owns (c : Thread nD τ) M q X ⊢ iprop((owns (c : Thread nD τ) M q X -∗ Q (X (r.idx (Shape.Idx.first (h1.symm ▸ Nat.one_pos)))))
      -∗ wp Idealize.ShloMosaic.frame (wpE defs₀ 𝒱₀ (c : Thread nD τ) none) Set.univ (smemLoad M r h1 rfl) Q) := by
  have e1 : (M.access r).read (Elt F) (M.view.rep X) = View.ld X r := by
    have := congrFun (congrArg View.ld (View.read_rep (Val := Elt F) M.view X)) r
    exact this
  rw [owns_eq_rep]
  iintro HM HK
  unfold smemLoad smemLoadElt
  iapply (wp_load_rect 𝒱₀ (c : Thread nD τ) none Set.univ (View.set_slice_subset M.view r)) $$ HM
  iintro HM
  iapply (le_wp_ret _ _ _ _ _)
  rw [e1]
  iapply HK
  iexact HM

/-- What a rectangle is assumed to satisfy, once it is known to. -/
theorem assume_of {P : Prop} (d : Decidable P) (h : P) (Q : PLift P → sProp 𝕄) :
    Q ⟨h⟩ ⊢ wp Idealize.ShloMosaic.frame (wpE defs₀ 𝒱₀ (c : Thread nD τ) none) Set.univ (Prog.lift (TpuEff.assume P d) : Prog (TpuEff nD τ sig (Elt F) Λ₀ .tc) _) Q :=
  (le_wp_ret _ _ _ _ _).trans (wp_assume 𝒱₀ (c : Thread nD τ) none Set.univ h)

end Steps

/-! ## What the copies leave -/

/-- The gathered rows: row `y 0 * 8 + y 1` is the token that the index word of that number names. -/
def rows (XI : S1x1x1024.Idx → BitVec 32) (XH : S1x8192x512.Idx → BitVec 32) : S128x8x512.Idx → BitVec 32 := fun y =>
  XH (ValueIdx.ix3 (n0 := 1) (n1 := 8192) (n2 := 512) 0
    ⟨(XI (ValueIdx.ix3 (n0 := 1) (n1 := 1) (n2 := 1024) 0 0
      ⟨8 * (y 0).val + (y 1).val, by have h0 : (y 0).val < 128 := (y 0).isLt; have h1 : (y 1).val < 8 := (y 1).isLt; omega⟩)).toNat % 8192,
      Nat.mod_lt _ (by omega)⟩ (y 2))

/-- The first `n` groups gathered, the others as they were. -/
def filled (n : ℕ) (R X : S128x8x512.Idx → BitVec 32) : S128x8x512.Idx → BitVec 32 := fun y => if (y 0).val < n then R y else X y

/-- Row `j` of group `g` gathered, the others as they were. -/
def put (g j : ℕ) (R X : S128x8x512.Idx → BitVec 32) : S128x8x512.Idx → BitVec 32 := fun y => if (y 0).val = g ∧ (y 1).val = j then R y else X y

theorem filled_zero (R X : S128x8x512.Idx → BitVec 32) : filled 0 R X = X := by
  funext y; exact if_neg (Nat.not_lt_zero _)

theorem filled_all (R X : S128x8x512.Idx → BitVec 32) : filled 128 R X = R := by
  funext y; exact if_pos (y 0).isLt

/-- The eight rows of the next group gathered are one more group gathered. -/
theorem put_group (g : ℕ) (R X : S128x8x512.Idx → BitVec 32) :
    put g 7 R (put g 6 R (put g 5 R (put g 4 R (put g 3 R (put g 2 R (put g 1 R (put g 0 R (filled g R X)))))))) = filled (g + 1) R X := by
  funext y
  have h1 : (y 1).val < 8 := (y 1).isLt
  unfold put filled
  by_cases hg : (y 0).val = g
  · have : (y 0).val < g + 1 := by omega
    rw [if_pos this]
    by_cases h7 : (y 1).val = 7; · rw [if_pos ⟨hg, h7⟩]
    rw [if_neg (by omega)]
    by_cases h6 : (y 1).val = 6; · rw [if_pos ⟨hg, h6⟩]
    rw [if_neg (by omega)]
    by_cases h5 : (y 1).val = 5; · rw [if_pos ⟨hg, h5⟩]
    rw [if_neg (by omega)]
    by_cases h4 : (y 1).val = 4; · rw [if_pos ⟨hg, h4⟩]
    rw [if_neg (by omega)]
    by_cases h3 : (y 1).val = 3; · rw [if_pos ⟨hg, h3⟩]
    rw [if_neg (by omega)]
    by_cases h2 : (y 1).val = 2; · rw [if_pos ⟨hg, h2⟩]
    rw [if_neg (by omega)]
    by_cases h1 : (y 1).val = 1; · rw [if_pos ⟨hg, h1⟩]
    rw [if_neg (by omega), if_pos ⟨hg, by omega⟩]
  · simp only [hg, false_and, if_false]
    by_cases h : (y 0).val < g
    · rw [if_pos h, if_pos (by omega)]
    · rw [if_neg h, if_neg (by omega)]

/-- Every index word names a token. -/
def InRange (XI : S1x1x1024.Idx → BitVec 32) : Prop := ∀ y, (XI y).toNat < 8192

/-- The store of one row's payload is the row gathered. -/
theorem overlay_row (XI : S1x1x1024.Idx → BitVec 32) (XH : S1x8192x512.Idx → BitVec 32) (X : S128x8x512.Idx → BitVec 32)
    (hI : InRange XI) (g : BitVec 32) (j : ℕ) (hg : g.toNat < 128) (hj : j < 8) (w : BitVec 32)
    (hw : w = XI ((Rect.unit (s := S1x1x1024) (idxOff g (BitVec.ofNat 32 j)) S1x1x1.size (idxOff_inb g j hg hj)).idx
      (Shape.Idx.first (numel1_S1x1x1.symm ▸ Nat.one_pos))))
    (hinb : ∀ a, srcOff w a + S1x1x512.size a ≤ S1x8192x512.size a) :
    (Rect.unit (s := S128x8x512) (dstOff g j) S1x1x512.size (dstOff_inb g j hg hj)).overlay X
      (View.ld (Val := Elt F) (e' := .i32) XH (Rect.unit (s := S1x8192x512) (srcOff w) S1x1x512.size hinb))
      = put g.toNat j (rows XI XH) X := by
  have e : (g * 8#32 + BitVec.ofNat 32 j).toNat = 8 * g.toNat + j := by
    rw [BitVec.toNat_add, BitVec.toNat_mul, BitVec.toNat_ofNat, BitVec.toNat_ofNat]; omega
  funext y
  by_cases hy : y ∈ (Rect.unit (s := S128x8x512) (dstOff g j) S1x1x512.size (dstOff_inb g j hg hj)).set
  · rw [← Rect.map_emb_univ] at hy
    obtain ⟨x, -, rfl⟩ := Finset.mem_map.mp hy
    have x0 : (x 0).val = 0 := by have : (x 0).val < 1 := (x 0).isLt; omega
    have x1 : (x 1).val = 0 := by have : (x 1).val < 1 := (x 1).isLt; omega
    rw [Rect.overlay_emb]
    unfold put
    have c0 : (((Rect.unit (s := S128x8x512) (dstOff g j) S1x1x512.size (dstOff_inb g j hg hj)).emb x) 0).val = g.toNat := by
      show g.toNat + 1 * (x 0).val = g.toNat; omega
    have c1 : (((Rect.unit (s := S128x8x512) (dstOff g j) S1x1x512.size (dstOff_inb g j hg hj)).emb x) 1).val = j := by
      show j + 1 * (x 1).val = j; omega
    rw [if_pos ⟨c0, c1⟩]
    unfold rows View.ld
    refine congrArg XH (funext fun a => Fin.ext ?_)
    fin_cases a
    · show 0 + 1 * (x 0).val = 0; omega
    · show w.toNat + 1 * (x 1).val = _ % 8192
      rw [x1, Nat.mul_zero, Nat.add_zero]
      rw [Nat.mod_eq_of_lt (hI _), hw]
      refine congrArg (fun z => (XI z).toNat) (funext fun a => Fin.ext ?_)
      fin_cases a
      · rfl
      · rfl
      · show (g * 8#32 + BitVec.ofNat 32 j).toNat + 1 * 0 = 8 * (g.toNat + 1 * (x 0).val) + (j + 1 * (x 1).val)
        omega
    · rfl
  · rw [Rect.overlay_of_not_mem _ _ _ hy]
    unfold put
    rw [if_neg]
    rintro ⟨h0, h1⟩
    refine hy (Rect.mem_set_unit.mpr fun a => ?_)
    fin_cases a
    · show g.toNat ≤ (y 0).val ∧ (y 0).val < g.toNat + 1; omega
    · show j ≤ (y 1).val ∧ (y 1).val < j + 1; omega
    · have := (y 2).isLt
      exact ⟨Nat.zero_le _, by show (y 2).val < 0 + 512; have h2 : (y 2).val < 512 := (y 2).isLt; omega⟩

/-! ## The triples -/

section Triples

variable (c : Dev nD) (ix : Memref sig .tc .smem S1x1x1024 .i32) (hp : Memref sig .tc .vmem S1x8192x512 .i32)
  (dst : Memref sig .tc .vmem S128x8x512 .i32) (qI qH : PosShare TreeShare)

/-- The indices and the tokens held to be read, the buffer of the gathered rows held to be written. -/
def held (XI : S1x1x1024.Idx → BitVec 32) (XH : S1x8192x512.Idx → BitVec 32) (X : S128x8x512.Idx → BitVec 32) : sProp 𝕄 :=
  iprop(owns (Val := Elt F) (e := .i32) (c : Thread nD τ) ix qI XI ∗ owns (Val := Elt F) (e := .i32) (c : Thread nD τ) hp qH XH
    ∗ owns (Val := Elt F) (e := .i32) (c : Thread nD τ) dst fullShare X)

/-- One row copied. -/
theorem copyRow_wp (C : Prop) (hC : C) (g : BitVec 32) (j : ℕ) (hg : g.toNat < 128) (hj : j < 8) (dec : ∀ w, Decidable (Chk C w))
    (XI : S1x1x1024.Idx → BitVec 32) (XH : S1x8192x512.Idx → BitVec 32) (X : S128x8x512.Idx → BitVec 32) (hI : InRange XI) :
    held (F := F) c ix hp dst qI qH XI XH X ⊢
      wp Idealize.ShloMosaic.frame (wpE defs₀ 𝒱₀ (c : Thread nD τ) none) Set.univ (copyRow ix hp dst C hC g j hg hj dec)
        fun _ => held (F := F) c ix hp dst qI qH XI XH (put g.toNat j (rows XI XH) X) := by
  unfold held copyRow
  iintro ⟨HI, HH, HD⟩
  rw [wp_bind]
  iapply (word_owns c _ _ _ _ _ _) $$ HI
  iintro HI
  rw [wp_bind]
  iapply (assume_of c _ (chk_of_lt C _ (hI _)) _)
  rw [wp_bind]
  iapply (load_owns c _ _ _ _ _ _) $$ HH
  iintro HH
  rw [wp_bind]
  iapply (load_owns c _ _ _ _ _ _) $$ HD
  iintro HD
  iapply (store_owns c _ _ _ _ _ _ _) $$ HD
  iintro HD
  rw [shapeCast_shapeCast, overlay_row (F := F) XI XH X hI g j hg hj _ rfl]
  isplitl [HI]; · iexact HI
  isplitl [HH]; · iexact HH
  iexact HD

/-- One group copied: one more group of the rows is gathered. -/
theorem copyGroup_wp (C : Prop) (hC : C) (g : BitVec 32) (hg : g.toNat < 128) (d0 d1 d2 d3 d4 d5 d6 d7 : ∀ w, Decidable (Chk C w))
    (XI : S1x1x1024.Idx → BitVec 32) (XH : S1x8192x512.Idx → BitVec 32) (X : S128x8x512.Idx → BitVec 32) (hI : InRange XI) :
    held (F := F) c ix hp dst qI qH XI XH (filled g.toNat (rows XI XH) X) ⊢
      wp Idealize.ShloMosaic.frame (wpE defs₀ 𝒱₀ (c : Thread nD τ) none) Set.univ (copyGroup ix hp dst C hC g hg d0 d1 d2 d3 d4 d5 d6 d7)
        fun _ => held (F := F) c ix hp dst qI qH XI XH (filled (g.toNat + 1) (rows XI XH) X) := by
  unfold copyGroup
  simp only [wp_bind]
  rw [← put_group]
  refine (copyRow_wp c ix hp dst qI qH C hC g 0 hg _ d0 XI XH _ hI).trans (wp_mono _ _ _ fun _ => ?_)
  refine (copyRow_wp c ix hp dst qI qH C hC g 1 hg _ d1 XI XH _ hI).trans (wp_mono _ _ _ fun _ => ?_)
  refine (copyRow_wp c ix hp dst qI qH C hC g 2 hg _ d2 XI XH _ hI).trans (wp_mono _ _ _ fun _ => ?_)
  refine (copyRow_wp c ix hp dst qI qH C hC g 3 hg _ d3 XI XH _ hI).trans (wp_mono _ _ _ fun _ => ?_)
  refine (copyRow_wp c ix hp dst qI qH C hC g 4 hg _ d4 XI XH _ hI).trans (wp_mono _ _ _ fun _ => ?_)
  refine (copyRow_wp c ix hp dst qI qH C hC g 5 hg _ d5 XI XH _ hI).trans (wp_mono _ _ _ fun _ => ?_)
  refine (copyRow_wp c ix hp dst qI qH C hC g 6 hg _ d6 XI XH _ hI).trans (wp_mono _ _ _ fun _ => ?_)
  refine (copyRow_wp c ix hp dst qI qH C hC g 7 hg _ d7 XI XH _ hI).trans (wp_mono _ _ _ fun _ => ?_)
  rw [wp_pure]
  exact fupd_intro

/-- A counted loop whose trips copy the groups from `base` on, one each: the groups up to ``n` = `base` plus the number of
    trips are gathered. -/
theorem loop_wp (base : ℕ) (lb ub : BitVec 32) (hok : Scf.OK lb ub 1#32)
    (body : Fin (Scf.trips lb ub 1#32) → Unit → Prog (TpuEff nD τ sig (Elt F) Λ₀ .tc) Unit)
    (XI : S1x1x1024.Idx → BitVec 32) (XH : S1x8192x512.Idx → BitVec 32) (X : S128x8x512.Idx → BitVec 32)
    (n : ℕ) (hlb : lb.toNat = base) (htr : base + Scf.trips lb ub 1#32 = n) (hn : n ≤ 128)
    (hbody : ∀ (k : Fin (Scf.trips lb ub 1#32)), (Scf.iv lb 1#32 k.val).toNat < 128 →
      held (F := F) c ix hp dst qI qH XI XH (filled (Scf.iv lb 1#32 k.val).toNat (rows XI XH) X) ⊢
        wp Idealize.ShloMosaic.frame (wpE defs₀ 𝒱₀ (c : Thread nD τ) none) Set.univ (body k ())
          fun _ => held (F := F) c ix hp dst qI qH XI XH (filled ((Scf.iv lb 1#32 k.val).toNat + 1) (rows XI XH) X))
    (Q : Unit → sProp 𝕄) :
    held (F := F) c ix hp dst qI qH XI XH (filled base (rows XI XH) X) ⊢
      iprop((held (F := F) c ix hp dst qI qH XI XH (filled n (rows XI XH) X) -∗ Q ())
        -∗ wp Idealize.ShloMosaic.frame (wpE defs₀ 𝒱₀ (c : Thread nD τ) none) Set.univ (Scf.for lb ub 1#32 hok () body) Q) := by
  subst htr
  have step : ∀ (k : Fin (Scf.trips lb ub 1#32)) (acc : Unit),
      held (F := F) c ix hp dst qI qH XI XH (filled (base + k.val) (rows XI XH) X) ⊢
        wp Idealize.ShloMosaic.frame (wpE defs₀ 𝒱₀ (c : Thread nD τ) none) Set.univ (body k acc)
          fun _ => held (F := F) c ix hp dst qI qH XI XH (filled (base + (k.val + 1)) (rows XI XH) X) := by
    intro k acc
    have hk := k.isLt
    have e : (Scf.iv lb 1#32 k.val).toNat = base + k.val := by
      unfold Scf.iv
      rw [BitVec.mul_one, BitVec.toNat_add, BitVec.toNat_ofNat, hlb]; omega
    have := hbody k (by omega)
    rw [e] at this
    exact this
  iintro H HK
  iapply (Scf.wp_for _ _ _ lb ub 1#32 hok () body
    (fun k _ => held (F := F) c ix hp dst qI qH XI XH (filled (base + k) (rows XI XH) X)) step)
  isplitl [H]
  · iexact H
  · iintro %acc H
    iapply HK
    iexact H

end Triples

end Cert.KernelIdeal.Rows
-- ==== Proof.Body.lean ====
/- One point of the expert feed-forward's grid: what the body leaves, over any memrefs of the windows' shapes. -/
module

public import proofs.«01_k».proof.Proof.Rows

@[expose] public section

noncomputable section

namespace Cert.KernelIdeal.Body

open Cert.KernelIdeal Cert.KernelIdeal.Gen Cert.KernelIdeal.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What a point leaves in its block of the result -/

/-- The rectangles of 256 columns. -/
abbrev rA (o : ℕ) (h : ∀ a, (![0, 0, 0, o] : Fin 4 → ℕ) a + S1x1x1024x256.size a ≤ S1x1x1024x512.size a) : Rect S1x1x1024x512 :=
  Rect.unit (s := S1x1x1024x512) ![0, 0, 0, o] S1x1x1024x256.size h
abbrev rW (o : ℕ) (h : ∀ a, (![0, 0, 0, o] : Fin 4 → ℕ) a + S1x1x512x256.size a ≤ S1x1x512x1024.size a) : Rect S1x1x512x1024 :=
  Rect.unit (s := S1x1x512x1024) ![0, 0, 0, o] S1x1x512x256.size h
abbrev rY (o : ℕ) (h : ∀ a, (![0, 0, 0, o] : Fin 4 → ℕ) a + S1x1x1024x256.size a ≤ S1x1x1024x1024.size a) : Rect S1x1x1024x1024 :=
  Rect.unit (s := S1x1x1024x1024) ![0, 0, 0, o] S1x1x1024x256.size h

variable (XC : S128x8x512.Idx → BitVec 32) (W5 W6 : S1x1x1024x512.Idx → Elt F .f32) (W7 : S1x1x512x1024.Idx → Elt F .f32)

/-- The gated activations of the rows that `XC` holds, under the gate and up weights. -/
def acts : FVec F S1024x512 .bf16 :=
  k0_pay104 (k0_pay89 XC)
    (k0_pay96 XC (View.ld (Val := Elt F) (e' := .f32) W5 (rA 0 inb_S1x1x1024x512_S1x1x1024x256_0_0_0_0)) (View.ld (Val := Elt F) (e' := .f32) W6 (rA 0 inb_S1x1x1024x512_S1x1x1024x256_0_0_0_0)))
    (k0_pay97 XC (View.ld (Val := Elt F) (e' := .f32) W5 (rA 256 inb_S1x1x1024x512_S1x1x1024x256_0_0_0_256)))
    (View.ld (Val := Elt F) (e' := .f32) W6 (rA 256 inb_S1x1x1024x512_S1x1x1024x256_0_0_0_256))

/-- 256 columns of the down projection of the activations. -/
def piece (o : ℕ) (h : ∀ a, (![0, 0, 0, o] : Fin 4 → ℕ) a + S1x1x512x256.size a ≤ S1x1x512x1024.size a) : FVec F S1x1x1024x256 .f32 :=
  k0_pay7 (acts XC W5 W6) (View.ld (Val := Elt F) (e' := .f32) W7 (rW o h))

/-- The point's block of the result: the down projection's four pieces side by side. -/
def yOut : S1x1x1024x1024.Idx → Elt F .f32 := fun y =>
  if h : (y 3).val < 256 then piece XC W5 W6 W7 0 inb_S1x1x512x1024_S1x1x512x256_0_0_0_0 (ValueIdx.ix4 0 0 (y 2) ⟨(y 3).val, h⟩)
  else if h : (y 3).val < 512 then piece XC W5 W6 W7 256 inb_S1x1x512x1024_S1x1x512x256_0_0_0_256 (ValueIdx.ix4 0 0 (y 2) ⟨(y 3).val - 256, by omega⟩)
  else if h : (y 3).val < 768 then piece XC W5 W6 W7 512 inb_S1x1x512x1024_S1x1x512x256_0_0_0_512 (ValueIdx.ix4 0 0 (y 2) ⟨(y 3).val - 512, by omega⟩)
  else piece XC W5 W6 W7 768 inb_S1x1x512x1024_S1x1x512x256_0_0_0_768 (ValueIdx.ix4 0 0 (y 2) ⟨(y 3).val - 768, by have h3 : (y 3).val < 1024 := (y 3).isLt; omega⟩)

omit [FloatOps F] in
/-- A store of 256 columns, read inside them. -/
theorem overlay_hit (o : ℕ) (h : ∀ a, (![0, 0, 0, o] : Fin 4 → ℕ) a + S1x1x1024x256.size a ≤ S1x1x1024x1024.size a)
    (X : S1x1x1024x1024.Idx → Elt F .f32) (w : S1x1x1024x256.Idx → Elt F .f32) (y : S1x1x1024x1024.Idx) (n : ℕ) (hn : n < 256)
    (hy : (y 3).val = o + n) : (rY o h).overlay X w y = w (ValueIdx.ix4 0 0 (y 2) ⟨n, hn⟩) := by
  have h0 : (y 0).val < 1 := (y 0).isLt
  have h1 : (y 1).val < 1 := (y 1).isLt
  have e : (rY o h).emb (ValueIdx.ix4 (n0 := 1) (n1 := 1) (n2 := 1024) (n3 := 256) 0 0 (y 2) ⟨n, hn⟩) = y := by
    funext a
    refine Fin.ext ?_
    fin_cases a
    · show 0 + 1 * 0 = (y 0).val; omega
    · show 0 + 1 * 0 = (y 1).val; omega
    · show 0 + 1 * (y 2).val = (y 2).val; omega
    · show o + 1 * n = (y 3).val; omega
  have := Rect.overlay_emb (rY o h) X w (ValueIdx.ix4 (n0 := 1) (n1 := 1) (n2 := 1024) (n3 := 256) 0 0 (y 2) ⟨n, hn⟩)
  rw [e] at this
  exact this

omit [FloatOps F] in
/-- A store of 256 columns, read outside them. -/
theorem overlay_miss (o : ℕ) (h : ∀ a, (![0, 0, 0, o] : Fin 4 → ℕ) a + S1x1x1024x256.size a ≤ S1x1x1024x1024.size a)
    (X : S1x1x1024x1024.Idx → Elt F .f32) (w : S1x1x1024x256.Idx → Elt F .f32) (y : S1x1x1024x1024.Idx)
    (hy : (y 3).val < o ∨ o + 256 ≤ (y 3).val) : (rY o h).overlay X w y = X y := by
  refine Rect.overlay_of_not_mem _ _ _ fun hm => ?_
  have h3 := Rect.mem_set_unit.mp hm 3
  have h3 : o ≤ (y 3).val ∧ (y 3).val < o + 256 := h3
  omega

/-- The four stores leave the point's block, whatever was there before. -/
theorem overlay_yOut (Y0 : S1x1x1024x1024.Idx → Elt F .f32) :
    (rY 768 inb_S1x1x1024x1024_S1x1x1024x256_0_0_0_768).overlay ((rY 512 inb_S1x1x1024x1024_S1x1x1024x256_0_0_0_512).overlay
      ((rY 256 inb_S1x1x1024x1024_S1x1x1024x256_0_0_0_256).overlay ((rY 0 inb_S1x1x1024x1024_S1x1x1024x256_0_0_0_0).overlay Y0
        (piece XC W5 W6 W7 0 inb_S1x1x512x1024_S1x1x512x256_0_0_0_0)) (piece XC W5 W6 W7 256 inb_S1x1x512x1024_S1x1x512x256_0_0_0_256))
        (piece XC W5 W6 W7 512 inb_S1x1x512x1024_S1x1x512x256_0_0_0_512)) (piece XC W5 W6 W7 768 inb_S1x1x512x1024_S1x1x512x256_0_0_0_768)
      = yOut XC W5 W6 W7 := by
  funext y
  have h3 : (y 3).val < 1024 := (y 3).isLt
  unfold yOut
  by_cases c0 : (y 3).val < 256
  · rw [overlay_miss _ _ _ _ _ (by omega), overlay_miss _ _ _ _ _ (by omega), overlay_miss _ _ _ _ _ (by omega),
      overlay_hit 0 _ _ _ y _ c0 (by omega), dif_pos c0]
  rw [dif_neg c0]
  by_cases c1 : (y 3).val < 512
  · rw [overlay_miss _ _ _ _ _ (by omega), overlay_miss _ _ _ _ _ (by omega),
      overlay_hit 256 _ _ _ y ((y 3).val - 256) (by omega) (by omega), dif_pos c1]
  rw [dif_neg c1]
  by_cases c2 : (y 3).val < 768
  · rw [overlay_miss _ _ _ _ _ (by omega),
      overlay_hit 512 _ _ _ y ((y 3).val - 512) (by omega) (by omega), dif_pos c2]
  rw [dif_neg c2, overlay_hit 768 _ _ _ y ((y 3).val - 768) (by omega) (by omega)]

/-! ## The feed-forward with the copies of the next expert's rows between its steps -/

section Ffn

variable (arg5 arg6 : Memref sig .tc .vmem S1x1x1024x512 .f32) (arg7 : Memref sig .tc .vmem S1x1x512x1024 .f32)
  (arg8 : Memref sig .tc .vmem S1x1x1024x1024 .f32) (cur : Memref sig .tc .vmem S128x8x512 .i32)
  (L0 L1 L2 L5 L6 L7 : Prog (TpuEff nD τ sig (Elt F) Λ₀ .tc) Unit)
  (L3 L4 : FVec F S1024x1024 .bf16 → FVec F S1024x256 .bf16 → FVec F S1024x256 .f32 → Prog (TpuEff nD τ sig (Elt F) Λ₀ .tc) Unit)

/-- The feed-forward of the rows in `cur`, with eight steps `L0 … L7` between its loads and stores. -/
def ffn : Prog (TpuEff nD τ sig (Elt F) Λ₀ .tc) PUnit := do
  let v29 : Vec F S128x8x512 .i32 ← Prog.lift (.load cur (Rect.unit (s := S128x8x512) ![0, 0, 0] S128x8x512.size inb_S128x8x512_S128x8x512_0_0_0).toLoadRect (View.loadsAt_vmem h_S128x8x512))
  let v36 : Vec F S1x1x1024x256 .f32 ← Prog.lift (.load arg5 (rA 0 inb_S1x1x1024x512_S1x1x1024x256_0_0_0_0).toLoadRect (View.loadsAt_vmem h_S1x1x1024x256))
  L0
  let v41 : Vec F S1x1x1024x256 .f32 ← Prog.lift (.load arg6 (rA 0 inb_S1x1x1024x512_S1x1x1024x256_0_0_0_0).toLoadRect (View.loadsAt_vmem h_S1x1x1024x256))
  L1
  let v50 : Vec F S1x1x1024x256 .f32 ← Prog.lift (.load arg5 (rA 256 inb_S1x1x1024x512_S1x1x1024x256_0_0_0_256).toLoadRect (View.loadsAt_vmem h_S1x1x1024x256))
  L2
  let v55 : Vec F S1x1x1024x256 .f32 ← Prog.lift (.load arg6 (rA 256 inb_S1x1x1024x512_S1x1x1024x256_0_0_0_256).toLoadRect (View.loadsAt_vmem h_S1x1x1024x256))
  L3 (k0_pay89 v29) (k0_pay96 v29 v36 v41) (k0_pay97 v29 v50)
  let v65 : Vec F S1x1x512x256 .f32 ← Prog.lift (.load arg7 (rW 0 inb_S1x1x512x1024_S1x1x512x256_0_0_0_0).toLoadRect (View.loadsAt_vmem h_S1x1x512x256))
  let _ : Vec F S1x1x1024x256 .f32 ← Prog.lift (.load arg8 (rY 0 inb_S1x1x1024x1024_S1x1x1024x256_0_0_0_0).toLoadRect (View.loadsAt_vmem h_S1x1x1024x256))
  Prog.lift (.store arg8 (rY 0 inb_S1x1x1024x1024_S1x1x1024x256_0_0_0_0) (k0_pay7 (k0_pay104 (k0_pay89 v29) (k0_pay96 v29 v36 v41) (k0_pay97 v29 v50) v55) v65) Finset.univ (View.stores_vmem_bits_univ h_S1x1x1024x256 rfl) (.inl rfl))
  L4 (k0_pay89 v29) (k0_pay96 v29 v36 v41) (k0_pay97 v29 v50)
  let v73 : Vec F S1x1x512x256 .f32 ← Prog.lift (.load arg7 (rW 256 inb_S1x1x512x1024_S1x1x512x256_0_0_0_256).toLoadRect (View.loadsAt_vmem h_S1x1x512x256))
  let _ : Vec F S1x1x1024x256 .f32 ← Prog.lift (.load arg8 (rY 256 inb_S1x1x1024x1024_S1x1x1024x256_0_0_0_256).toLoadRect (View.loadsAt_vmem h_S1x1x1024x256))
  Prog.lift (.store arg8 (rY 256 inb_S1x1x1024x1024_S1x1x1024x256_0_0_0_256) (k0_pay7 (k0_pay104 (k0_pay89 v29) (k0_pay96 v29 v36 v41) (k0_pay97 v29 v50) v55) v73) Finset.univ (View.stores_vmem_bits_univ h_S1x1x1024x256 rfl) (.inl rfl))
  L5
  let v81 : Vec F S1x1x512x256 .f32 ← Prog.lift (.load arg7 (rW 512 inb_S1x1x512x1024_S1x1x512x256_0_0_0_512).toLoadRect (View.loadsAt_vmem h_S1x1x512x256))
  let _ : Vec F S1x1x1024x256 .f32 ← Prog.lift (.load arg8 (rY 512 inb_S1x1x1024x1024_S1x1x1024x256_0_0_0_512).toLoadRect (View.loadsAt_vmem h_S1x1x1024x256))
  Prog.lift (.store arg8 (rY 512 inb_S1x1x1024x1024_S1x1x1024x256_0_0_0_512) (k0_pay7 (k0_pay104 (k0_pay89 v29) (k0_pay96 v29 v36 v41) (k0_pay97 v29 v50) v55) v81) Finset.univ (View.stores_vmem_bits_univ h_S1x1x1024x256 rfl) (.inl rfl))
  L6
  let v89 : Vec F S1x1x512x256 .f32 ← Prog.lift (.load arg7 (rW 768 inb_S1x1x512x1024_S1x1x512x256_0_0_0_768).toLoadRect (View.loadsAt_vmem h_S1x1x512x256))
  let _ : Vec F S1x1x1024x256 .f32 ← Prog.lift (.load arg8 (rY 768 inb_S1x1x1024x1024_S1x1x1024x256_0_0_0_768).toLoadRect (View.loadsAt_vmem h_S1x1x1024x256))
  Prog.lift (.store arg8 (rY 768 inb_S1x1x1024x1024_S1x1x1024x256_0_0_0_768) (k0_pay7 (k0_pay104 (k0_pay89 v29) (k0_pay96 v29 v36 v41) (k0_pay97 v29 v50) v55) v89) Finset.univ (View.stores_vmem_bits_univ h_S1x1x1024x256 rfl) (.inl rfl))
  L7
  pure ⟨⟩

variable (c : Dev nD)

/-- The weights and the block of the result, as a point holds them. -/
def blocks (Y : S1x1x1024x1024.Idx → Elt F .f32) : sProp 𝕄 :=
  iprop(owns (Val := Elt F) (e := .f32) (c : Thread nD τ) arg5 fullShare W5 ∗ owns (Val := Elt F) (e := .f32) (c : Thread nD τ) arg6 fullShare W6
    ∗ owns (Val := Elt F) (e := .f32) (c : Thread nD τ) arg7 fullShare W7 ∗ owns (Val := Elt F) (e := .f32) (c : Thread nD τ) arg8 fullShare Y)

omit [FloatOps F] in
theorem ld_whole (X : S128x8x512.Idx → BitVec 32) :
    View.ld (Val := Elt F) (e' := .i32) X (Rect.unit (s := S128x8x512) ![0, 0, 0] S128x8x512.size inb_S128x8x512_S128x8x512_0_0_0) = X := by
  funext y
  refine congrArg X (funext fun a => Fin.ext ?_)
  fin_cases a
  · show 0 + 1 * (y 0).val = (y 0).val; omega
  · show 0 + 1 * (y 1).val = (y 1).val; omega
  · show 0 + 1 * (y 2).val = (y 2).val; omega

/-- The feed-forward leaves the point's block of the result, given that each step between takes `I j` to `I (j + 1)`. -/
theorem ffn_wp (I : ℕ → sProp 𝕄)
    (h0 : ∀ Q : Unit → sProp 𝕄, I 0 ⊢ iprop((I 1 -∗ Q ()) -∗ wp Idealize.ShloMosaic.frame (wpE defs₀ 𝒱₀ (c : Thread nD τ) none) Set.univ L0 Q))
    (h1 : ∀ Q : Unit → sProp 𝕄, I 1 ⊢ iprop((I 2 -∗ Q ()) -∗ wp Idealize.ShloMosaic.frame (wpE defs₀ 𝒱₀ (c : Thread nD τ) none) Set.univ L1 Q))
    (h2 : ∀ Q : Unit → sProp 𝕄, I 2 ⊢ iprop((I 3 -∗ Q ()) -∗ wp Idealize.ShloMosaic.frame (wpE defs₀ 𝒱₀ (c : Thread nD τ) none) Set.univ L2 Q))
    (h3 : ∀ a b d, ∀ Q : Unit → sProp 𝕄, I 3 ⊢ iprop((I 4 -∗ Q ()) -∗ wp Idealize.ShloMosaic.frame (wpE defs₀ 𝒱₀ (c : Thread nD τ) none) Set.univ (L3 a b d) Q))
    (h4 : ∀ a b d, ∀ Q : Unit → sProp 𝕄, I 4 ⊢ iprop((I 5 -∗ Q ()) -∗ wp Idealize.ShloMosaic.frame (wpE defs₀ 𝒱₀ (c : Thread nD τ) none) Set.univ (L4 a b d) Q))
    (h5 : ∀ Q : Unit → sProp 𝕄, I 5 ⊢ iprop((I 6 -∗ Q ()) -∗ wp Idealize.ShloMosaic.frame (wpE defs₀ 𝒱₀ (c : Thread nD τ) none) Set.univ L5 Q))
    (h6 : ∀ Q : Unit → sProp 𝕄, I 6 ⊢ iprop((I 7 -∗ Q ()) -∗ wp Idealize.ShloMosaic.frame (wpE defs₀ 𝒱₀ (c : Thread nD τ) none) Set.univ L6 Q))
    (h7 : ∀ Q : Unit → sProp 𝕄, I 7 ⊢ iprop((I 8 -∗ Q ()) -∗ wp Idealize.ShloMosaic.frame (wpE defs₀ 𝒱₀ (c : Thread nD τ) none) Set.univ L7 Q))
    (Y0 : S1x1x1024x1024.Idx → Elt F .f32) :
    iprop(owns (Val := Elt F) (e := .i32) (c : Thread nD τ) cur fullShare XC ∗ blocks W5 W6 W7 arg5 arg6 arg7 arg8 c Y0 ∗ I 0) ⊢
      wp Idealize.ShloMosaic.frame (wpE defs₀ 𝒱₀ (c : Thread nD τ) none) Set.univ (ffn arg5 arg6 arg7 arg8 cur L0 L1 L2 L5 L6 L7 L3 L4)
        fun _ => iprop(owns (Val := Elt F) (e := .i32) (c : Thread nD τ) cur fullShare XC ∗ blocks W5 W6 W7 arg5 arg6 arg7 arg8 c (yOut XC W5 W6 W7) ∗ I 8) := by
  unfold blocks ffn
  iintro ⟨HC, ⟨H5, H6, H7, H8⟩, HI⟩
  rw [wp_bind]; iapply (load_owns c _ _ _ _ _ _) $$ HC; iintro HC; rw [ld_whole]
  rw [wp_bind]; iapply (load_owns c _ _ _ _ _ _) $$ H5; iintro H5
  rw [wp_bind]; iapply (h0 _) $$ HI; iintro HI
  rw [wp_bind]; iapply (load_owns c _ _ _ _ _ _) $$ H6; iintro H6
  rw [wp_bind]; iapply (h1 _) $$ HI; iintro HI
  rw [wp_bind]; iapply (load_owns c _ _ _ _ _ _) $$ H5; iintro H5
  rw [wp_bind]; iapply (h2 _) $$ HI; iintro HI
  rw [wp_bind]; iapply (load_owns c _ _ _ _ _ _) $$ H6; iintro H6
  rw [wp_bind]; iapply (h3 _ _ _ _) $$ HI; iintro HI
  rw [wp_bind]; iapply (load_owns c _ _ _ _ _ _) $$ H7; iintro H7
  rw [wp_bind]; iapply (load_owns c _ _ _ _ _ _) $$ H8; iintro H8
  rw [wp_bind]; iapply (store_owns c _ _ _ _ _ _ _) $$ H8; iintro H8
  rw [wp_bind]; iapply (h4 _ _ _ _) $$ HI; iintro HI
  rw [wp_bind]; iapply (load_owns c _ _ _ _ _ _) $$ H7; iintro H7
  rw [wp_bind]; iapply (load_owns c _ _ _ _ _ _) $$ H8; iintro H8
  rw [wp_bind]; iapply (store_owns c _ _ _ _ _ _ _) $$ H8; iintro H8
  rw [wp_bind]; iapply (h5 _) $$ HI; iintro HI
  rw [wp_bind]; iapply (load_owns c _ _ _ _ _ _) $$ H7; iintro H7
  rw [wp_bind]; iapply (load_owns c _ _ _ _ _ _) $$ H8; iintro H8
  rw [wp_bind]; iapply (store_owns c _ _ _ _ _ _ _) $$ H8; iintro H8
  rw [wp_bind]; iapply (h6 _) $$ HI; iintro HI
  rw [wp_bind]; iapply (load_owns c _ _ _ _ _ _) $$ H7; iintro H7
  rw [wp_bind]; iapply (load_owns c _ _ _ _ _ _) $$ H8; iintro H8
  rw [wp_bind]; iapply (store_owns c _ _ _ _ _ _ _) $$ H8; iintro H8
  rw [wp_bind]; iapply (h7 _) $$ HI; iintro HI
  iapply (le_wp_ret _ _ _ _ _)
  isplitl [HC]; · iexact HC
  isplitl [H5 H6 H7 H8]
  · isplitl [H5]; · iexact H5
    isplitl [H6]; · iexact H6
    isplitl [H7]; · iexact H7
    rw [← overlay_yOut XC W5 W6 W7 Y0]
    iexact H8
  · iexact HI

end Ffn

end Cert.KernelIdeal.Body
-- ==== Proof.Branch.lean ====
/- The two branches of the body: each does the feed-forward of one scratch's rows and fills the other scratch. -/
module

public import proofs.«01_k».proof.Proof.Body

@[expose] public section

set_option maxRecDepth 65536
set_option maxHeartbeats 4000000

noncomputable section

namespace Cert.KernelIdeal.Body

open Cert.KernelIdeal Cert.KernelIdeal.Gen Cert.KernelIdeal.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (i : grid0.Coords) (arg2 : Memref sig .tc .smem S1x1x1024 .i32) (harg2 : arg2.IsWhole) (arg3 : Memref sig .tc .smem S1x1x1024 .i32)
  (harg3 : arg3.IsWhole) (arg4 : Memref sig .tc .vmem S1x8192x512 .i32) (harg4 : arg4.IsWhole) (arg5 : Memref sig .tc .vmem S1x1x1024x512 .f32)
  (harg5 : arg5.IsWhole) (arg6 : Memref sig .tc .vmem S1x1x1024x512 .f32) (harg6 : arg6.IsWhole) (arg7 : Memref sig .tc .vmem S1x1x512x1024 .f32)
  (harg7 : arg7.IsWhole) (arg8 : Memref sig .tc .vmem S1x1x1024x1024 .f32) (harg8 : arg8.IsWhole) (arg9 : Memref sig .tc .vmem S128x8x512 .i32)
  (harg9 : arg9.IsWhole) (arg10 : Memref sig .tc .vmem S128x8x512 .i32) (harg10 : arg10.IsWhole)

variable (c : Dev nD) (XC : S128x8x512.Idx → BitVec 32) (W5 W6 : S1x1x1024x512.Idx → Elt F .f32) (W7 : S1x1x512x1024.Idx → Elt F .f32)
  (XN : S1x1x1024.Idx → BitVec 32) (XH : S1x8192x512.Idx → BitVec 32) (X : S128x8x512.Idx → BitVec 32)

/-- The branch of the even experts. -/
def evenBranch (k0_h2 : k0_cond2 i = 1#1) : Prog (TpuEff nD τ sig (Elt F) Λ₀ .tc) PUnit :=
  ffn arg5 arg6 arg7 arg8 arg9
    (Scf.Loop.for k0_t2_loop (k0_t2_ok i k0_h2) ⟨⟩ (k0_t2_body i arg2 harg2 arg3 harg3 arg4 harg4 arg5 harg5 arg6 harg6 arg7 harg7 arg8 harg8 arg9 harg9 arg10 harg10 k0_h2))
    (Scf.Loop.for k0_t3_loop (k0_t3_ok i k0_h2) ⟨⟩ (k0_t3_body i arg2 harg2 arg3 harg3 arg4 harg4 arg5 harg5 arg6 harg6 arg7 harg7 arg8 harg8 arg9 harg9 arg10 harg10 k0_h2))
    (Scf.Loop.for k0_t4_loop (k0_t4_ok i k0_h2) ⟨⟩ (k0_t4_body i arg2 harg2 arg3 harg3 arg4 harg4 arg5 harg5 arg6 harg6 arg7 harg7 arg8 harg8 arg9 harg9 arg10 harg10 k0_h2))
    (Scf.Loop.for k0_t7_loop (k0_t7_ok i k0_h2) ⟨⟩ (k0_t7_body i arg2 harg2 arg3 harg3 arg4 harg4 arg5 harg5 arg6 harg6 arg7 harg7 arg8 harg8 arg9 harg9 arg10 harg10 k0_h2 80#32))
    (Scf.Loop.for k0_t8_loop (k0_t8_ok i k0_h2) ⟨⟩ (k0_t8_body i arg2 harg2 arg3 harg3 arg4 harg4 arg5 harg5 arg6 harg6 arg7 harg7 arg8 harg8 arg9 harg9 arg10 harg10 k0_h2))
    (Scf.Loop.for k0_t9_loop (k0_t9_ok i k0_h2) ⟨⟩ (k0_t9_body i arg2 harg2 arg3 harg3 arg4 harg4 arg5 harg5 arg6 harg6 arg7 harg7 arg8 harg8 arg9 harg9 arg10 harg10 k0_h2))
    (fun v35 v49 v53 => Scf.Loop.for k0_t5_loop (k0_t5_ok i k0_h2) ⟨⟩ (k0_t5_body i arg2 harg2 arg3 harg3 arg4 harg4 arg5 harg5 arg6 harg6 arg7 harg7 arg8 harg8 arg9 harg9 arg10 harg10 k0_h2 v35 v49 v53))
    (fun v35 v49 v53 => Scf.Loop.for k0_t6_loop (k0_t6_ok i k0_h2) ⟨⟩ (k0_t6_body i arg2 harg2 arg3 harg3 arg4 harg4 arg5 harg5 arg6 harg6 arg7 harg7 arg8 harg8 arg9 harg9 arg10 harg10 k0_h2 v35 v49 v53))

/-- Groups 0 to 15 of the next expert's rows. -/
theorem evenBranch_t0 (hI : InRange XN) (k0_h2 : k0_cond2 i = 1#1) (Q : Unit → sProp 𝕄) :
    held (F := F) c arg3 arg4 arg10 fullShare fullShare XN XH (filled 0 (rows XN XH) X) ⊢
      iprop((held (F := F) c arg3 arg4 arg10 fullShare fullShare XN XH (filled 16 (rows XN XH) X) -∗ Q ())
        -∗ wp Idealize.ShloMosaic.frame (wpE defs₀ 𝒱₀ (c : Thread nD τ) none) Set.univ
          (Scf.Loop.for k0_t2_loop (k0_t2_ok i k0_h2) ⟨⟩ (k0_t2_body i arg2 harg2 arg3 harg3 arg4 harg4 arg5 harg5 arg6 harg6 arg7 harg7 arg8 harg8 arg9 harg9 arg10 harg10 k0_h2)) Q) :=
  loop_wp c arg3 arg4 arg10 fullShare fullShare 0 0#32 16#32 _ _ XN XH X 16 (by decide) (by decide) (by omega)
    (fun _ hk => copyGroup_wp c arg3 arg4 arg10 fullShare fullShare (k0_cond2 i = 1#1) k0_h2 _ hk (k0_chk9.dec i) (k0_chk10.dec i) (k0_chk11.dec i) (k0_chk12.dec i) (k0_chk13.dec i) (k0_chk14.dec i) (k0_chk15.dec i) (k0_chk16.dec i) XN XH X hI) Q

/-- Groups 16 to 31 of the next expert's rows. -/
theorem evenBranch_t1 (hI : InRange XN) (k0_h2 : k0_cond2 i = 1#1) (Q : Unit → sProp 𝕄) :
    held (F := F) c arg3 arg4 arg10 fullShare fullShare XN XH (filled 16 (rows XN XH) X) ⊢
      iprop((held (F := F) c arg3 arg4 arg10 fullShare fullShare XN XH (filled 32 (rows XN XH) X) -∗ Q ())
        -∗ wp Idealize.ShloMosaic.frame (wpE defs₀ 𝒱₀ (c : Thread nD τ) none) Set.univ
          (Scf.Loop.for k0_t3_loop (k0_t3_ok i k0_h2) ⟨⟩ (k0_t3_body i arg2 harg2 arg3 harg3 arg4 harg4 arg5 harg5 arg6 harg6 arg7 harg7 arg8 harg8 arg9 harg9 arg10 harg10 k0_h2)) Q) :=
  loop_wp c arg3 arg4 arg10 fullShare fullShare 16 16#32 32#32 _ _ XN XH X 32 (by decide) (by decide) (by omega)
    (fun _ hk => copyGroup_wp c arg3 arg4 arg10 fullShare fullShare (k0_cond2 i = 1#1) k0_h2 _ hk (k0_chk17.dec i) (k0_chk18.dec i) (k0_chk19.dec i) (k0_chk20.dec i) (k0_chk21.dec i) (k0_chk22.dec i) (k0_chk23.dec i) (k0_chk24.dec i) XN XH X hI) Q

/-- Groups 32 to 47 of the next expert's rows. -/
theorem evenBranch_t2 (hI : InRange XN) (k0_h2 : k0_cond2 i = 1#1) (Q : Unit → sProp 𝕄) :
    held (F := F) c arg3 arg4 arg10 fullShare fullShare XN XH (filled 32 (rows XN XH) X) ⊢
      iprop((held (F := F) c arg3 arg4 arg10 fullShare fullShare XN XH (filled 48 (rows XN XH) X) -∗ Q ())
        -∗ wp Idealize.ShloMosaic.frame (wpE defs₀ 𝒱₀ (c : Thread nD τ) none) Set.univ
          (Scf.Loop.for k0_t4_loop (k0_t4_ok i k0_h2) ⟨⟩ (k0_t4_body i arg2 harg2 arg3 harg3 arg4 harg4 arg5 harg5 arg6 harg6 arg7 harg7 arg8 harg8 arg9 harg9 arg10 harg10 k0_h2)) Q) :=
  loop_wp c arg3 arg4 arg10 fullShare fullShare 32 32#32 48#32 _ _ XN XH X 48 (by decide) (by decide) (by omega)
    (fun _ hk => copyGroup_wp c arg3 arg4 arg10 fullShare fullShare (k0_cond2 i = 1#1) k0_h2 _ hk (k0_chk25.dec i) (k0_chk26.dec i) (k0_chk27.dec i) (k0_chk28.dec i) (k0_chk29.dec i) (k0_chk30.dec i) (k0_chk31.dec i) (k0_chk32.dec i) XN XH X hI) Q

/-- Groups 48 to 63 of the next expert's rows. -/
theorem evenBranch_t3 (hI : InRange XN) (k0_h2 : k0_cond2 i = 1#1) (a : FVec F S1024x1024 .bf16) (b : FVec F S1024x256 .bf16) (d : FVec F S1024x256 .f32) (Q : Unit → sProp 𝕄) :
    held (F := F) c arg3 arg4 arg10 fullShare fullShare XN XH (filled 48 (rows XN XH) X) ⊢
      iprop((held (F := F) c arg3 arg4 arg10 fullShare fullShare XN XH (filled 64 (rows XN XH) X) -∗ Q ())
        -∗ wp Idealize.ShloMosaic.frame (wpE defs₀ 𝒱₀ (c : Thread nD τ) none) Set.univ
          (Scf.Loop.for k0_t5_loop (k0_t5_ok i k0_h2) ⟨⟩ (k0_t5_body i arg2 harg2 arg3 harg3 arg4 harg4 arg5 harg5 arg6 harg6 arg7 harg7 arg8 harg8 arg9 harg9 arg10 harg10 k0_h2 a b d)) Q) :=
  loop_wp c arg3 arg4 arg10 fullShare fullShare 48 48#32 64#32 _ _ XN XH X 64 (by decide) (by decide) (by omega)
    (fun _ hk => copyGroup_wp c arg3 arg4 arg10 fullShare fullShare (k0_cond2 i = 1#1) k0_h2 _ hk (k0_chk33.dec i) (k0_chk34.dec i) (k0_chk35.dec i) (k0_chk36.dec i) (k0_chk37.dec i) (k0_chk38.dec i) (k0_chk39.dec i) (k0_chk40.dec i) XN XH X hI) Q

/-- Groups 64 to 79 of the next expert's rows. -/
theorem evenBranch_t4 (hI : InRange XN) (k0_h2 : k0_cond2 i = 1#1) (a : FVec F S1024x1024 .bf16) (b : FVec F S1024x256 .bf16) (d : FVec F S1024x256 .f32) (Q : Unit → sProp 𝕄) :
    held (F := F) c arg3 arg4 arg10 fullShare fullShare XN XH (filled 64 (rows XN XH) X) ⊢
      iprop((held (F := F) c arg3 arg4 arg10 fullShare fullShare XN XH (filled 80 (rows XN XH) X) -∗ Q ())
        -∗ wp Idealize.ShloMosaic.frame (wpE defs₀ 𝒱₀ (c : Thread nD τ) none) Set.univ
          (Scf.Loop.for k0_t6_loop (k0_t6_ok i k0_h2) ⟨⟩ (k0_t6_body i arg2 harg2 arg3 harg3 arg4 harg4 arg5 harg5 arg6 harg6 arg7 harg7 arg8 harg8 arg9 harg9 arg10 harg10 k0_h2 a b d)) Q) :=
  loop_wp c arg3 arg4 arg10 fullShare fullShare 64 64#32 80#32 _ _ XN XH X 80 (by decide) (by decide) (by omega)
    (fun _ hk => copyGroup_wp c arg3 arg4 arg10 fullShare fullShare (k0_cond2 i = 1#1) k0_h2 _ hk (k0_chk41.dec i) (k0_chk42.dec i) (k0_chk43.dec i) (k0_chk44.dec i) (k0_chk45.dec i) (k0_chk46.dec i) (k0_chk47.dec i) (k0_chk48.dec i) XN XH X hI) Q

/-- Groups 80 to 95 of the next expert's rows. -/
theorem evenBranch_t5 (hI : InRange XN) (k0_h2 : k0_cond2 i = 1#1) (Q : Unit → sProp 𝕄) :
    held (F := F) c arg3 arg4 arg10 fullShare fullShare XN XH (filled 80 (rows XN XH) X) ⊢
      iprop((held (F := F) c arg3 arg4 arg10 fullShare fullShare XN XH (filled 96 (rows XN XH) X) -∗ Q ())
        -∗ wp Idealize.ShloMosaic.frame (wpE defs₀ 𝒱₀ (c : Thread nD τ) none) Set.univ
          (Scf.Loop.for k0_t7_loop (k0_t7_ok i k0_h2) ⟨⟩ (k0_t7_body i arg2 harg2 arg3 harg3 arg4 harg4 arg5 harg5 arg6 harg6 arg7 harg7 arg8 harg8 arg9 harg9 arg10 harg10 k0_h2 80#32)) Q) :=
  loop_wp c arg3 arg4 arg10 fullShare fullShare 80 80#32 96#32 _ _ XN XH X 96 (by decide) (by decide) (by omega)
    (fun _ hk => copyGroup_wp c arg3 arg4 arg10 fullShare fullShare (k0_cond2 i = 1#1) k0_h2 _ hk (k0_chk49.dec i) (k0_chk50.dec i) (k0_chk51.dec i) (k0_chk52.dec i) (k0_chk53.dec i) (k0_chk54.dec i) (k0_chk55.dec i) (k0_chk56.dec i) XN XH X hI) Q

/-- Groups 96 to 111 of the next expert's rows. -/
theorem evenBranch_t6 (hI : InRange XN) (k0_h2 : k0_cond2 i = 1#1) (Q : Unit → sProp 𝕄) :
    held (F := F) c arg3 arg4 arg10 fullShare fullShare XN XH (filled 96 (rows XN XH) X) ⊢
      iprop((held (F := F) c arg3 arg4 arg10 fullShare fullShare XN XH (filled 112 (rows XN XH) X) -∗ Q ())
        -∗ wp Idealize.ShloMosaic.frame (wpE defs₀ 𝒱₀ (c : Thread nD τ) none) Set.univ
          (Scf.Loop.for k0_t8_loop (k0_t8_ok i k0_h2) ⟨⟩ (k0_t8_body i arg2 harg2 arg3 harg3 arg4 harg4 arg5 harg5 arg6 harg6 arg7 harg7 arg8 harg8 arg9 harg9 arg10 harg10 k0_h2)) Q) :=
  loop_wp c arg3 arg4 arg10 fullShare fullShare 96 96#32 112#32 _ _ XN XH X 112 (by decide) (by decide) (by omega)
    (fun _ hk => copyGroup_wp c arg3 arg4 arg10 fullShare fullShare (k0_cond2 i = 1#1) k0_h2 _ hk (k0_chk57.dec i) (k0_chk58.dec i) (k0_chk59.dec i) (k0_chk60.dec i) (k0_chk61.dec i) (k0_chk62.dec i) (k0_chk63.dec i) (k0_chk64.dec i) XN XH X hI) Q

/-- Groups 112 to 127 of the next expert's rows. -/
theorem evenBranch_t7 (hI : InRange XN) (k0_h2 : k0_cond2 i = 1#1) (Q : Unit → sProp 𝕄) :
    held (F := F) c arg3 arg4 arg10 fullShare fullShare XN XH (filled 112 (rows XN XH) X) ⊢
      iprop((held (F := F) c arg3 arg4 arg10 fullShare fullShare XN XH (filled 128 (rows XN XH) X) -∗ Q ())
        -∗ wp Idealize.ShloMosaic.frame (wpE defs₀ 𝒱₀ (c : Thread nD τ) none) Set.univ
          (Scf.Loop.for k0_t9_loop (k0_t9_ok i k0_h2) ⟨⟩ (k0_t9_body i arg2 harg2 arg3 harg3 arg4 harg4 arg5 harg5 arg6 harg6 arg7 harg7 arg8 harg8 arg9 harg9 arg10 harg10 k0_h2)) Q) :=
  loop_wp c arg3 arg4 arg10 fullShare fullShare 112 112#32 128#32 _ _ XN XH X 128 (by decide) (by decide) (by omega)
    (fun _ hk => copyGroup_wp c arg3 arg4 arg10 fullShare fullShare (k0_cond2 i = 1#1) k0_h2 _ hk (k0_chk65.dec i) (k0_chk66.dec i) (k0_chk67.dec i) (k0_chk68.dec i) (k0_chk69.dec i) (k0_chk70.dec i) (k0_chk71.dec i) (k0_chk72.dec i) XN XH X hI) Q

/-- The branch leaves the point's block of the result from the rows it read, and the next expert's rows in the other scratch. -/
theorem evenBranch_wp (hI : InRange XN) (k0_h2 : k0_cond2 i = 1#1) (Y0 : S1x1x1024x1024.Idx → Elt F .f32) :
    iprop(owns (Val := Elt F) (e := .i32) (c : Thread nD τ) arg9 fullShare XC ∗ blocks W5 W6 W7 arg5 arg6 arg7 arg8 c Y0
        ∗ held (F := F) c arg3 arg4 arg10 fullShare fullShare XN XH X) ⊢
      wp Idealize.ShloMosaic.frame (wpE defs₀ 𝒱₀ (c : Thread nD τ) none) Set.univ (evenBranch i arg2 harg2 arg3 harg3 arg4 harg4 arg5 harg5 arg6 harg6 arg7 harg7 arg8 harg8 arg9 harg9 arg10 harg10 k0_h2)
        fun _ => iprop(owns (Val := Elt F) (e := .i32) (c : Thread nD τ) arg9 fullShare XC
          ∗ blocks W5 W6 W7 arg5 arg6 arg7 arg8 c (yOut XC W5 W6 W7)
          ∗ held (F := F) c arg3 arg4 arg10 fullShare fullShare XN XH (rows XN XH)) := by
  have e0 := filled_zero (rows XN XH) X
  have e8 := filled_all (rows XN XH) X
  have := ffn_wp XC W5 W6 W7 arg5 arg6 arg7 arg8 arg9 _ _ _ _ _ _ _ _ c
    (fun j => held (F := F) c arg3 arg4 arg10 fullShare fullShare XN XH (filled (16 * j) (rows XN XH) X))
    (evenBranch_t0 i arg2 harg2 arg3 harg3 arg4 harg4 arg5 harg5 arg6 harg6 arg7 harg7 arg8 harg8 arg9 harg9 arg10 harg10 c XN XH X hI k0_h2) (evenBranch_t1 i arg2 harg2 arg3 harg3 arg4 harg4 arg5 harg5 arg6 harg6 arg7 harg7 arg8 harg8 arg9 harg9 arg10 harg10 c XN XH X hI k0_h2) (evenBranch_t2 i arg2 harg2 arg3 harg3 arg4 harg4 arg5 harg5 arg6 harg6 arg7 harg7 arg8 harg8 arg9 harg9 arg10 harg10 c XN XH X hI k0_h2) (evenBranch_t3 i arg2 harg2 arg3 harg3 arg4 harg4 arg5 harg5 arg6 harg6 arg7 harg7 arg8 harg8 arg9 harg9 arg10 harg10 c XN XH X hI k0_h2) (evenBranch_t4 i arg2 harg2 arg3 harg3 arg4 harg4 arg5 harg5 arg6 harg6 arg7 harg7 arg8 harg8 arg9 harg9 arg10 harg10 c XN XH X hI k0_h2) (evenBranch_t5 i arg2 harg2 arg3 harg3 arg4 harg4 arg5 harg5 arg6 harg6 arg7 harg7 arg8 harg8 arg9 harg9 arg10 harg10 c XN XH X hI k0_h2) (evenBranch_t6 i arg2 harg2 arg3 harg3 arg4 harg4 arg5 harg5 arg6 harg6 arg7 harg7 arg8 harg8 arg9 harg9 arg10 harg10 c XN XH X hI k0_h2) (evenBranch_t7 i arg2 harg2 arg3 harg3 arg4 harg4 arg5 harg5 arg6 harg6 arg7 harg7 arg8 harg8 arg9 harg9 arg10 harg10 c XN XH X hI k0_h2) Y0
  simp only [Nat.mul_zero, Nat.reduceMul, e0, e8] at this
  exact this

/-- The branch of the odd experts. -/
def oddBranch (k0_h3 : k0_cond3 i = 1#1) : Prog (TpuEff nD τ sig (Elt F) Λ₀ .tc) PUnit :=
  ffn arg5 arg6 arg7 arg8 arg10
    (Scf.Loop.for k0_t10_loop (k0_t10_ok i k0_h3) ⟨⟩ (k0_t10_body i arg2 harg2 arg3 harg3 arg4 harg4 arg5 harg5 arg6 harg6 arg7 harg7 arg8 harg8 arg9 harg9 arg10 harg10 k0_h3))
    (Scf.Loop.for k0_t11_loop (k0_t11_ok i k0_h3) ⟨⟩ (k0_t11_body i arg2 harg2 arg3 harg3 arg4 harg4 arg5 harg5 arg6 harg6 arg7 harg7 arg8 harg8 arg9 harg9 arg10 harg10 k0_h3))
    (Scf.Loop.for k0_t12_loop (k0_t12_ok i k0_h3) ⟨⟩ (k0_t12_body i arg2 harg2 arg3 harg3 arg4 harg4 arg5 harg5 arg6 harg6 arg7 harg7 arg8 harg8 arg9 harg9 arg10 harg10 k0_h3))
    (Scf.Loop.for k0_t15_loop (k0_t15_ok i k0_h3) ⟨⟩ (k0_t15_body i arg2 harg2 arg3 harg3 arg4 harg4 arg5 harg5 arg6 harg6 arg7 harg7 arg8 harg8 arg9 harg9 arg10 harg10 k0_h3 80#32))
    (Scf.Loop.for k0_t16_loop (k0_t16_ok i k0_h3) ⟨⟩ (k0_t16_body i arg2 harg2 arg3 harg3 arg4 harg4 arg5 harg5 arg6 harg6 arg7 harg7 arg8 harg8 arg9 harg9 arg10 harg10 k0_h3))
    (Scf.Loop.for k0_t17_loop (k0_t17_ok i k0_h3) ⟨⟩ (k0_t17_body i arg2 harg2 arg3 harg3 arg4 harg4 arg5 harg5 arg6 harg6 arg7 harg7 arg8 harg8 arg9 harg9 arg10 harg10 k0_h3))
    (fun v35 v49 v53 => Scf.Loop.for k0_t13_loop (k0_t13_ok i k0_h3) ⟨⟩ (k0_t13_body i arg2 harg2 arg3 harg3 arg4 harg4 arg5 harg5 arg6 harg6 arg7 harg7 arg8 harg8 arg9 harg9 arg10 harg10 k0_h3 v35 v49 v53))
    (fun v35 v49 v53 => Scf.Loop.for k0_t14_loop (k0_t14_ok i k0_h3) ⟨⟩ (k0_t14_body i arg2 harg2 arg3 harg3 arg4 harg4 arg5 harg5 arg6 harg6 arg7 harg7 arg8 harg8 arg9 harg9 arg10 harg10 k0_h3 v35 v49 v53))

/-- Groups 0 to 15 of the next expert's rows. -/
theorem oddBranch_t0 (hI : InRange XN) (k0_h3 : k0_cond3 i = 1#1) (Q : Unit → sProp 𝕄) :
    held (F := F) c arg3 arg4 arg9 fullShare fullShare XN XH (filled 0 (rows XN XH) X) ⊢
      iprop((held (F := F) c arg3 arg4 arg9 fullShare fullShare XN XH (filled 16 (rows XN XH) X) -∗ Q ())
        -∗ wp Idealize.ShloMosaic.frame (wpE defs₀ 𝒱₀ (c : Thread nD τ) none) Set.univ
          (Scf.Loop.for k0_t10_loop (k0_t10_ok i k0_h3) ⟨⟩ (k0_t10_body i arg2 harg2 arg3 harg3 arg4 harg4 arg5 harg5 arg6 harg6 arg7 harg7 arg8 harg8 arg9 harg9 arg10 harg10 k0_h3)) Q) :=
  loop_wp c arg3 arg4 arg9 fullShare fullShare 0 0#32 16#32 _ _ XN XH X 16 (by decide) (by decide) (by omega)
    (fun _ hk => copyGroup_wp c arg3 arg4 arg9 fullShare fullShare (k0_cond3 i = 1#1) k0_h3 _ hk (k0_chk73.dec i) (k0_chk74.dec i) (k0_chk75.dec i) (k0_chk76.dec i) (k0_chk77.dec i) (k0_chk78.dec i) (k0_chk79.dec i) (k0_chk80.dec i) XN XH X hI) Q

/-- Groups 16 to 31 of the next expert's rows. -/
theorem oddBranch_t1 (hI : InRange XN) (k0_h3 : k0_cond3 i = 1#1) (Q : Unit → sProp 𝕄) :
    held (F := F) c arg3 arg4 arg9 fullShare fullShare XN XH (filled 16 (rows XN XH) X) ⊢
      iprop((held (F := F) c arg3 arg4 arg9 fullShare fullShare XN XH (filled 32 (rows XN XH) X) -∗ Q ())
        -∗ wp Idealize.ShloMosaic.frame (wpE defs₀ 𝒱₀ (c : Thread nD τ) none) Set.univ
          (Scf.Loop.for k0_t11_loop (k0_t11_ok i k0_h3) ⟨⟩ (k0_t11_body i arg2 harg2 arg3 harg3 arg4 harg4 arg5 harg5 arg6 harg6 arg7 harg7 arg8 harg8 arg9 harg9 arg10 harg10 k0_h3)) Q) :=
  loop_wp c arg3 arg4 arg9 fullShare fullShare 16 16#32 32#32 _ _ XN XH X 32 (by decide) (by decide) (by omega)
    (fun _ hk => copyGroup_wp c arg3 arg4 arg9 fullShare fullShare (k0_cond3 i = 1#1) k0_h3 _ hk (k0_chk81.dec i) (k0_chk82.dec i) (k0_chk83.dec i) (k0_chk84.dec i) (k0_chk85.dec i) (k0_chk86.dec i) (k0_chk87.dec i) (k0_chk88.dec i) XN XH X hI) Q

/-- Groups 32 to 47 of the next expert's rows. -/
theorem oddBranch_t2 (hI : InRange XN) (k0_h3 : k0_cond3 i = 1#1) (Q : Unit → sProp 𝕄) :
    held (F := F) c arg3 arg4 arg9 fullShare fullShare XN XH (filled 32 (rows XN XH) X) ⊢
      iprop((held (F := F) c arg3 arg4 arg9 fullShare fullShare XN XH (filled 48 (rows XN XH) X) -∗ Q ())
        -∗ wp Idealize.ShloMosaic.frame (wpE defs₀ 𝒱₀ (c : Thread nD τ) none) Set.univ
          (Scf.Loop.for k0_t12_loop (k0_t12_ok i k0_h3) ⟨⟩ (k0_t12_body i arg2 harg2 arg3 harg3 arg4 harg4 arg5 harg5 arg6 harg6 arg7 harg7 arg8 harg8 arg9 harg9 arg10 harg10 k0_h3)) Q) :=
  loop_wp c arg3 arg4 arg9 fullShare fullShare 32 32#32 48#32 _ _ XN XH X 48 (by decide) (by decide) (by omega)
    (fun _ hk => copyGroup_wp c arg3 arg4 arg9 fullShare fullShare (k0_cond3 i = 1#1) k0_h3 _ hk (k0_chk89.dec i) (k0_chk90.dec i) (k0_chk91.dec i) (k0_chk92.dec i) (k0_chk93.dec i) (k0_chk94.dec i) (k0_chk95.dec i) (k0_chk96.dec i) XN XH X hI) Q

/-- Groups 48 to 63 of the next expert's rows. -/
theorem oddBranch_t3 (hI : InRange XN) (k0_h3 : k0_cond3 i = 1#1) (a : FVec F S1024x1024 .bf16) (b : FVec F S1024x256 .bf16) (d : FVec F S1024x256 .f32) (Q : Unit → sProp 𝕄) :
    held (F := F) c arg3 arg4 arg9 fullShare fullShare XN XH (filled 48 (rows XN XH) X) ⊢
      iprop((held (F := F) c arg3 arg4 arg9 fullShare fullShare XN XH (filled 64 (rows XN XH) X) -∗ Q ())
        -∗ wp Idealize.ShloMosaic.frame (wpE defs₀ 𝒱₀ (c : Thread nD τ) none) Set.univ
          (Scf.Loop.for k0_t13_loop (k0_t13_ok i k0_h3) ⟨⟩ (k0_t13_body i arg2 harg2 arg3 harg3 arg4 harg4 arg5 harg5 arg6 harg6 arg7 harg7 arg8 harg8 arg9 harg9 arg10 harg10 k0_h3 a b d)) Q) :=
  loop_wp c arg3 arg4 arg9 fullShare fullShare 48 48#32 64#32 _ _ XN XH X 64 (by decide) (by decide) (by omega)
    (fun _ hk => copyGroup_wp c arg3 arg4 arg9 fullShare fullShare (k0_cond3 i = 1#1) k0_h3 _ hk (k0_chk97.dec i) (k0_chk98.dec i) (k0_chk99.dec i) (k0_chk100.dec i) (k0_chk101.dec i) (k0_chk102.dec i) (k0_chk103.dec i) (k0_chk104.dec i) XN XH X hI) Q

/-- Groups 64 to 79 of the next expert's rows. -/
theorem oddBranch_t4 (hI : InRange XN) (k0_h3 : k0_cond3 i = 1#1) (a : FVec F S1024x1024 .bf16) (b : FVec F S1024x256 .bf16) (d : FVec F S1024x256 .f32) (Q : Unit → sProp 𝕄) :
    held (F := F) c arg3 arg4 arg9 fullShare fullShare XN XH (filled 64 (rows XN XH) X) ⊢
      iprop((held (F := F) c arg3 arg4 arg9 fullShare fullShare XN XH (filled 80 (rows XN XH) X) -∗ Q ())
        -∗ wp Idealize.ShloMosaic.frame (wpE defs₀ 𝒱₀ (c : Thread nD τ) none) Set.univ
          (Scf.Loop.for k0_t14_loop (k0_t14_ok i k0_h3) ⟨⟩ (k0_t14_body i arg2 harg2 arg3 harg3 arg4 harg4 arg5 harg5 arg6 harg6 arg7 harg7 arg8 harg8 arg9 harg9 arg10 harg10 k0_h3 a b d)) Q) :=
  loop_wp c arg3 arg4 arg9 fullShare fullShare 64 64#32 80#32 _ _ XN XH X 80 (by decide) (by decide) (by omega)
    (fun _ hk => copyGroup_wp c arg3 arg4 arg9 fullShare fullShare (k0_cond3 i = 1#1) k0_h3 _ hk (k0_chk105.dec i) (k0_chk106.dec i) (k0_chk107.dec i) (k0_chk108.dec i) (k0_chk109.dec i) (k0_chk110.dec i) (k0_chk111.dec i) (k0_chk112.dec i) XN XH X hI) Q

/-- Groups 80 to 95 of the next expert's rows. -/
theorem oddBranch_t5 (hI : InRange XN) (k0_h3 : k0_cond3 i = 1#1) (Q : Unit → sProp 𝕄) :
    held (F := F) c arg3 arg4 arg9 fullShare fullShare XN XH (filled 80 (rows XN XH) X) ⊢
      iprop((held (F := F) c arg3 arg4 arg9 fullShare fullShare XN XH (filled 96 (rows XN XH) X) -∗ Q ())
        -∗ wp Idealize.ShloMosaic.frame (wpE defs₀ 𝒱₀ (c : Thread nD τ) none) Set.univ
          (Scf.Loop.for k0_t15_loop (k0_t15_ok i k0_h3) ⟨⟩ (k0_t15_body i arg2 harg2 arg3 harg3 arg4 harg4 arg5 harg5 arg6 harg6 arg7 harg7 arg8 harg8 arg9 harg9 arg10 harg10 k0_h3 80#32)) Q) :=
  loop_wp c arg3 arg4 arg9 fullShare fullShare 80 80#32 96#32 _ _ XN XH X 96 (by decide) (by decide) (by omega)
    (fun _ hk => copyGroup_wp c arg3 arg4 arg9 fullShare fullShare (k0_cond3 i = 1#1) k0_h3 _ hk (k0_chk113.dec i) (k0_chk114.dec i) (k0_chk115.dec i) (k0_chk116.dec i) (k0_chk117.dec i) (k0_chk118.dec i) (k0_chk119.dec i) (k0_chk120.dec i) XN XH X hI) Q

/-- Groups 96 to 111 of the next expert's rows. -/
theorem oddBranch_t6 (hI : InRange XN) (k0_h3 : k0_cond3 i = 1#1) (Q : Unit → sProp 𝕄) :
    held (F := F) c arg3 arg4 arg9 fullShare fullShare XN XH (filled 96 (rows XN XH) X) ⊢
      iprop((held (F := F) c arg3 arg4 arg9 fullShare fullShare XN XH (filled 112 (rows XN XH) X) -∗ Q ())
        -∗ wp Idealize.ShloMosaic.frame (wpE defs₀ 𝒱₀ (c : Thread nD τ) none) Set.univ
          (Scf.Loop.for k0_t16_loop (k0_t16_ok i k0_h3) ⟨⟩ (k0_t16_body i arg2 harg2 arg3 harg3 arg4 harg4 arg5 harg5 arg6 harg6 arg7 harg7 arg8 harg8 arg9 harg9 arg10 harg10 k0_h3)) Q) :=
  loop_wp c arg3 arg4 arg9 fullShare fullShare 96 96#32 112#32 _ _ XN XH X 112 (by decide) (by decide) (by omega)
    (fun _ hk => copyGroup_wp c arg3 arg4 arg9 fullShare fullShare (k0_cond3 i = 1#1) k0_h3 _ hk (k0_chk121.dec i) (k0_chk122.dec i) (k0_chk123.dec i) (k0_chk124.dec i) (k0_chk125.dec i) (k0_chk126.dec i) (k0_chk127.dec i) (k0_chk128.dec i) XN XH X hI) Q

/-- Groups 112 to 127 of the next expert's rows. -/
theorem oddBranch_t7 (hI : InRange XN) (k0_h3 : k0_cond3 i = 1#1) (Q : Unit → sProp 𝕄) :
    held (F := F) c arg3 arg4 arg9 fullShare fullShare XN XH (filled 112 (rows XN XH) X) ⊢
      iprop((held (F := F) c arg3 arg4 arg9 fullShare fullShare XN XH (filled 128 (rows XN XH) X) -∗ Q ())
        -∗ wp Idealize.ShloMosaic.frame (wpE defs₀ 𝒱₀ (c : Thread nD τ) none) Set.univ
          (Scf.Loop.for k0_t17_loop (k0_t17_ok i k0_h3) ⟨⟩ (k0_t17_body i arg2 harg2 arg3 harg3 arg4 harg4 arg5 harg5 arg6 harg6 arg7 harg7 arg8 harg8 arg9 harg9 arg10 harg10 k0_h3)) Q) :=
  loop_wp c arg3 arg4 arg9 fullShare fullShare 112 112#32 128#32 _ _ XN XH X 128 (by decide) (by decide) (by omega)
    (fun _ hk => copyGroup_wp c arg3 arg4 arg9 fullShare fullShare (k0_cond3 i = 1#1) k0_h3 _ hk (k0_chk129.dec i) (k0_chk130.dec i) (k0_chk131.dec i) (k0_chk132.dec i) (k0_chk133.dec i) (k0_chk134.dec i) (k0_chk135.dec i) (k0_chk136.dec i) XN XH X hI) Q

/-- The branch leaves the point's block of the result from the rows it read, and the next expert's rows in the other scratch. -/
theorem oddBranch_wp (hI : InRange XN) (k0_h3 : k0_cond3 i = 1#1) (Y0 : S1x1x1024x1024.Idx → Elt F .f32) :
    iprop(owns (Val := Elt F) (e := .i32) (c : Thread nD τ) arg10 fullShare XC ∗ blocks W5 W6 W7 arg5 arg6 arg7 arg8 c Y0
        ∗ held (F := F) c arg3 arg4 arg9 fullShare fullShare XN XH X) ⊢
      wp Idealize.ShloMosaic.frame (wpE defs₀ 𝒱₀ (c : Thread nD τ) none) Set.univ (oddBranch i arg2 harg2 arg3 harg3 arg4 harg4 arg5 harg5 arg6 harg6 arg7 harg7 arg8 harg8 arg9 harg9 arg10 harg10 k0_h3)
        fun _ => iprop(owns (Val := Elt F) (e := .i32) (c : Thread nD τ) arg10 fullShare XC
          ∗ blocks W5 W6 W7 arg5 arg6 arg7 arg8 c (yOut XC W5 W6 W7)
          ∗ held (F := F) c arg3 arg4 arg9 fullShare fullShare XN XH (rows XN XH)) := by
  have e0 := filled_zero (rows XN XH) X
  have e8 := filled_all (rows XN XH) X
  have := ffn_wp XC W5 W6 W7 arg5 arg6 arg7 arg8 arg10 _ _ _ _ _ _ _ _ c
    (fun j => held (F := F) c arg3 arg4 arg9 fullShare fullShare XN XH (filled (16 * j) (rows XN XH) X))
    (oddBranch_t0 i arg2 harg2 arg3 harg3 arg4 harg4 arg5 harg5 arg6 harg6 arg7 harg7 arg8 harg8 arg9 harg9 arg10 harg10 c XN XH X hI k0_h3) (oddBranch_t1 i arg2 harg2 arg3 harg3 arg4 harg4 arg5 harg5 arg6 harg6 arg7 harg7 arg8 harg8 arg9 harg9 arg10 harg10 c XN XH X hI k0_h3) (oddBranch_t2 i arg2 harg2 arg3 harg3 arg4 harg4 arg5 harg5 arg6 harg6 arg7 harg7 arg8 harg8 arg9 harg9 arg10 harg10 c XN XH X hI k0_h3) (oddBranch_t3 i arg2 harg2 arg3 harg3 arg4 harg4 arg5 harg5 arg6 harg6 arg7 harg7 arg8 harg8 arg9 harg9 arg10 harg10 c XN XH X hI k0_h3) (oddBranch_t4 i arg2 harg2 arg3 harg3 arg4 harg4 arg5 harg5 arg6 harg6 arg7 harg7 arg8 harg8 arg9 harg9 arg10 harg10 c XN XH X hI k0_h3) (oddBranch_t5 i arg2 harg2 arg3 harg3 arg4 harg4 arg5 harg5 arg6 harg6 arg7 harg7 arg8 harg8 arg9 harg9 arg10 harg10 c XN XH X hI k0_h3) (oddBranch_t6 i arg2 harg2 arg3 harg3 arg4 harg4 arg5 harg5 arg6 harg6 arg7 harg7 arg8 harg8 arg9 harg9 arg10 harg10 c XN XH X hI k0_h3) (oddBranch_t7 i arg2 harg2 arg3 harg3 arg4 harg4 arg5 harg5 arg6 harg6 arg7 harg7 arg8 harg8 arg9 harg9 arg10 harg10 c XN XH X hI k0_h3) Y0
  simp only [Nat.mul_zero, Nat.reduceMul, e0, e8] at this
  exact this

/-- The first expert of a batch row gathers its own rows first. -/
def firstGather (k0_h1 : k0_cond1 i = 1#1) : Prog (TpuEff nD τ sig (Elt F) Λ₀ .tc) Unit :=
  Scf.Loop.for k0_t1_loop (k0_t1_ok i k0_h1) ⟨⟩ (k0_t1_body i arg2 harg2 arg3 harg3 arg4 harg4 arg5 harg5 arg6 harg6 arg7 harg7 arg8 harg8 arg9 harg9 arg10 harg10 k0_h1)

theorem firstGather_wp (hI : InRange XN) (k0_h1 : k0_cond1 i = 1#1) (Q : Unit → sProp 𝕄) :
    held (F := F) c arg2 arg4 arg9 fullShare fullShare XN XH (filled 0 (rows XN XH) X) ⊢
      iprop((held (F := F) c arg2 arg4 arg9 fullShare fullShare XN XH (filled 128 (rows XN XH) X) -∗ Q ())
        -∗ wp Idealize.ShloMosaic.frame (wpE defs₀ 𝒱₀ (c : Thread nD τ) none) Set.univ
          (firstGather i arg2 harg2 arg3 harg3 arg4 harg4 arg5 harg5 arg6 harg6 arg7 harg7 arg8 harg8 arg9 harg9 arg10 harg10 k0_h1) Q) :=
  loop_wp c arg2 arg4 arg9 fullShare fullShare 0 0#32 128#32 _ _ XN XH X 128 (by decide) (by decide) (by omega)
    (fun _ hk => copyGroup_wp c arg2 arg4 arg9 fullShare fullShare (k0_cond1 i = 1#1) k0_h1 _ hk (k0_chk1.dec i) (k0_chk2.dec i) (k0_chk3.dec i) (k0_chk4.dec i) (k0_chk5.dec i) (k0_chk6.dec i) (k0_chk7.dec i) (k0_chk8.dec i) XN XH X hI) Q

omit [FloatOps F] in
/-- The steps of a program in sequence, under `pure`. -/
theorem pure_bind' {α β : Type} (a : α) (f : α → Prog (TpuEff nD τ sig (Elt F) Λ₀ .tc) β) : (pure a >>= f) = f a := rfl

/-- The body at an even expert other than the first. -/
theorem body_even (k0_h1 : ¬ k0_cond1 i = 1#1) (k0_h2 : k0_cond2 i = 1#1) (k0_h3 : ¬ k0_cond3 i = 1#1) :
    cc0_expert_gather (F := F) i arg2 harg2 arg3 harg3 arg4 harg4 arg5 harg5 arg6 harg6 arg7 harg7 arg8 harg8 arg9 harg9 arg10 harg10 = evenBranch i arg2 harg2 arg3 harg3 arg4 harg4 arg5 harg5 arg6 harg6 arg7 harg7 arg8 harg8 arg9 harg9 arg10 harg10 k0_h2 := by
  simp only [cc0_expert_gather_eq_skeleton, cc0_expert_gather_skel, dif_pos k0_h2, dif_neg k0_h1, dif_neg k0_h3,
    k0_part19_eq_skeleton, k0_part19_skel, k0_part20_eq_skeleton, k0_part20_skel, evenBranch, ffn, Prog.bind_assoc, pure_bind]
  rfl

/-- The body at the first expert of a batch row. -/
theorem body_first (k0_h1 : k0_cond1 i = 1#1) (k0_h2 : k0_cond2 i = 1#1) (k0_h3 : ¬ k0_cond3 i = 1#1) :
    cc0_expert_gather (F := F) i arg2 harg2 arg3 harg3 arg4 harg4 arg5 harg5 arg6 harg6 arg7 harg7 arg8 harg8 arg9 harg9 arg10 harg10 = (firstGather i arg2 harg2 arg3 harg3 arg4 harg4 arg5 harg5 arg6 harg6 arg7 harg7 arg8 harg8 arg9 harg9 arg10 harg10 k0_h1 >>= fun _ => evenBranch i arg2 harg2 arg3 harg3 arg4 harg4 arg5 harg5 arg6 harg6 arg7 harg7 arg8 harg8 arg9 harg9 arg10 harg10 k0_h2) := by
  simp only [cc0_expert_gather_eq_skeleton, cc0_expert_gather_skel, dif_pos k0_h2, dif_pos k0_h1, dif_neg k0_h3,
    k0_part19_eq_skeleton, k0_part19_skel, k0_part20_eq_skeleton, k0_part20_skel, evenBranch, ffn, Prog.bind_assoc, pure_bind]
  rfl

/-- The body at an odd expert. -/
theorem body_odd (k0_h1 : ¬ k0_cond1 i = 1#1) (k0_h2 : ¬ k0_cond2 i = 1#1) (k0_h3 : k0_cond3 i = 1#1) :
    cc0_expert_gather (F := F) i arg2 harg2 arg3 harg3 arg4 harg4 arg5 harg5 arg6 harg6 arg7 harg7 arg8 harg8 arg9 harg9 arg10 harg10 = oddBranch i arg2 harg2 arg3 harg3 arg4 harg4 arg5 harg5 arg6 harg6 arg7 harg7 arg8 harg8 arg9 harg9 arg10 harg10 k0_h3 := by
  simp only [cc0_expert_gather_eq_skeleton, cc0_expert_gather_skel, dif_neg k0_h2, dif_neg k0_h1, dif_pos k0_h3,
    k0_part37_eq_skeleton, k0_part37_skel, k0_part38_eq_skeleton, k0_part38_skel, oddBranch, ffn, Prog.bind_assoc, pure_bind]
  rfl

end Cert.KernelIdeal.Body
-- ==== Proof.Point.lean ====
/- The body at one point of the grid, over any memrefs: the three cases joined. -/
module

public import proofs.«01_k».proof.Proof.Branch

@[expose] public section

set_option maxRecDepth 16384
set_option maxHeartbeats 4000000

noncomputable section

namespace Cert.KernelIdeal.Body

open Cert.KernelIdeal Cert.KernelIdeal.Gen Cert.KernelIdeal.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (i : grid0.Coords) (arg2 : Memref sig .tc .smem S1x1x1024 .i32) (harg2 : arg2.IsWhole) (arg3 : Memref sig .tc .smem S1x1x1024 .i32)
  (harg3 : arg3.IsWhole) (arg4 : Memref sig .tc .vmem S1x8192x512 .i32) (harg4 : arg4.IsWhole) (arg5 : Memref sig .tc .vmem S1x1x1024x512 .f32)
  (harg5 : arg5.IsWhole) (arg6 : Memref sig .tc .vmem S1x1x1024x512 .f32) (harg6 : arg6.IsWhole) (arg7 : Memref sig .tc .vmem S1x1x512x1024 .f32)
  (harg7 : arg7.IsWhole) (arg8 : Memref sig .tc .vmem S1x1x1024x1024 .f32) (harg8 : arg8.IsWhole) (arg9 : Memref sig .tc .vmem S128x8x512 .i32)
  (harg9 : arg9.IsWhole) (arg10 : Memref sig .tc .vmem S128x8x512 .i32) (harg10 : arg10.IsWhole)

variable (c : Dev nD) (XI XN : S1x1x1024.Idx → BitVec 32) (XH : S1x8192x512.Idx → BitVec 32)
  (W5 W6 : S1x1x1024x512.Idx → Elt F .f32) (W7 : S1x1x512x1024.Idx → Elt F .f32) (A B : S128x8x512.Idx → BitVec 32)

/-- All a point reads and writes: the two rows of indices, the activations, the weights' and the result's blocks, the two scratches. -/
def state (Y : S1x1x1024x1024.Idx → Elt F .f32) : sProp 𝕄 :=
  iprop(owns (Val := Elt F) (e := .i32) (c : Thread nD τ) arg2 fullShare XI ∗ owns (Val := Elt F) (e := .i32) (c : Thread nD τ) arg3 fullShare XN
    ∗ owns (Val := Elt F) (e := .i32) (c : Thread nD τ) arg4 fullShare XH ∗ blocks W5 W6 W7 arg5 arg6 arg7 arg8 c Y
    ∗ owns (Val := Elt F) (e := .i32) (c : Thread nD τ) arg9 fullShare A ∗ owns (Val := Elt F) (e := .i32) (c : Thread nD τ) arg10 fullShare B)

/-- The even branch: the first scratch's rows through the feed-forward, the second scratch filled with the next expert's rows. -/
theorem evenState (hN : InRange XN) (h2 : k0_cond2 i = 1#1) (Y0 : S1x1x1024x1024.Idx → Elt F .f32) :
    state arg2 arg3 arg4 arg5 arg6 arg7 arg8 arg9 arg10 c XI XN XH W5 W6 W7 A B Y0 ⊢
      wp Idealize.ShloMosaic.frame (wpE defs₀ 𝒱₀ (c : Thread nD τ) none) Set.univ
        (evenBranch i arg2 harg2 arg3 harg3 arg4 harg4 arg5 harg5 arg6 harg6 arg7 harg7 arg8 harg8 arg9 harg9 arg10 harg10 h2)
        fun _ => state arg2 arg3 arg4 arg5 arg6 arg7 arg8 arg9 arg10 c XI XN XH W5 W6 W7 A (rows XN XH) (yOut A W5 W6 W7) := by
  have h := evenBranch_wp i arg2 harg2 arg3 harg3 arg4 harg4 arg5 harg5 arg6 harg6 arg7 harg7 arg8 harg8 arg9 harg9 arg10 harg10 c A W5 W6 W7 XN XH B hN h2 Y0
  refine BIBase.Entails.trans ?_ ((sep_mono h (.rfl (P := owns (Val := Elt F) (e := .i32) (c : Thread nD τ) arg2 fullShare XI))).trans
    ((wp_frame_r _ _ _).trans (wp_mono _ _ _ fun _ => ?_)))
  · unfold state held
    iintro ⟨H2, H3, H4, HB, H9, H10⟩
    isplitr [H2]; swap; · iexact H2
    isplitl [H9]; · iexact H9
    isplitl [HB]; · iexact HB
    isplitl [H3]; · iexact H3
    isplitl [H4]; · iexact H4
    iexact H10
  · unfold state held
    iintro ⟨⟨H9, HB, H3, H4, H10⟩, H2⟩
    isplitl [H2]; · iexact H2
    isplitl [H3]; · iexact H3
    isplitl [H4]; · iexact H4
    isplitl [HB]; · iexact HB
    isplitl [H9]; · iexact H9
    iexact H10

/-- The odd branch: the two scratches the other way around. -/
theorem oddState (hN : InRange XN) (h3 : k0_cond3 i = 1#1) (Y0 : S1x1x1024x1024.Idx → Elt F .f32) :
    state arg2 arg3 arg4 arg5 arg6 arg7 arg8 arg9 arg10 c XI XN XH W5 W6 W7 A B Y0 ⊢
      wp Idealize.ShloMosaic.frame (wpE defs₀ 𝒱₀ (c : Thread nD τ) none) Set.univ
        (oddBranch i arg2 harg2 arg3 harg3 arg4 harg4 arg5 harg5 arg6 harg6 arg7 harg7 arg8 harg8 arg9 harg9 arg10 harg10 h3)
        fun _ => state arg2 arg3 arg4 arg5 arg6 arg7 arg8 arg9 arg10 c XI XN XH W5 W6 W7 (rows XN XH) B (yOut B W5 W6 W7) := by
  have h := oddBranch_wp i arg2 harg2 arg3 harg3 arg4 harg4 arg5 harg5 arg6 harg6 arg7 harg7 arg8 harg8 arg9 harg9 arg10 harg10 c B W5 W6 W7 XN XH A hN h3 Y0
  refine BIBase.Entails.trans ?_ ((sep_mono h (.rfl (P := owns (Val := Elt F) (e := .i32) (c : Thread nD τ) arg2 fullShare XI))).trans
    ((wp_frame_r _ _ _).trans (wp_mono _ _ _ fun _ => ?_)))
  · unfold state held
    iintro ⟨H2, H3, H4, HB, H9, H10⟩
    isplitr [H2]; swap; · iexact H2
    isplitl [H10]; · iexact H10
    isplitl [HB]; · iexact HB
    isplitl [H3]; · iexact H3
    isplitl [H4]; · iexact H4
    iexact H9
  · unfold state held
    iintro ⟨⟨H10, HB, H3, H4, H9⟩, H2⟩
    isplitl [H2]; · iexact H2
    isplitl [H3]; · iexact H3
    isplitl [H4]; · iexact H4
    isplitl [HB]; · iexact HB
    isplitl [H9]; · iexact H9
    iexact H10

/-- The first gather: the first scratch filled with the point's own rows. -/
theorem firstState (hI : InRange XI) (h1 : k0_cond1 i = 1#1) (Y0 : S1x1x1024x1024.Idx → Elt F .f32) (Q : Unit → sProp 𝕄) :
    state arg2 arg3 arg4 arg5 arg6 arg7 arg8 arg9 arg10 c XI XN XH W5 W6 W7 A B Y0 ⊢
      iprop((state arg2 arg3 arg4 arg5 arg6 arg7 arg8 arg9 arg10 c XI XN XH W5 W6 W7 (rows XI XH) B Y0 -∗ Q ())
        -∗ wp Idealize.ShloMosaic.frame (wpE defs₀ 𝒱₀ (c : Thread nD τ) none) Set.univ
          (firstGather i arg2 harg2 arg3 harg3 arg4 harg4 arg5 harg5 arg6 harg6 arg7 harg7 arg8 harg8 arg9 harg9 arg10 harg10 h1) Q) := by
  have h := firstGather_wp i arg2 harg2 arg3 harg3 arg4 harg4 arg5 harg5 arg6 harg6 arg7 harg7 arg8 harg8 arg9 harg9 arg10 harg10 c XI XH A hI h1 Q
  rw [filled_zero, filled_all] at h
  unfold held at h
  unfold state
  iintro ⟨H2, H3, H4, HB, H9, H10⟩ HQ
  iapply h $$ [H2 H4 H9]
  · isplitl [H2]; · iexact H2
    isplitl [H4]; · iexact H4
    iexact H9
  iintro ⟨H2, H4, H9⟩
  iapply HQ
  isplitl [H2]; · iexact H2
  isplitl [H3]; · iexact H3
  isplitl [H4]; · iexact H4
  isplitl [HB]; · iexact HB
  isplitl [H9]; · iexact H9
  iexact H10

/-- A point: at the first expert of a batch row from any scratches, at the others from the point's own rows in the scratch of its
    parity, the body leaves the feed-forward of the point's own rows, and the rows it prefetches in the scratch of the other parity. -/
theorem point_wp (e : ℕ) (h1 : k0_cond1 i = 1#1 ↔ e = 0) (h2 : k0_cond2 i = 1#1 ↔ e % 2 = 0) (h3 : k0_cond3 i = 1#1 ↔ e % 2 = 1)
    (hI : InRange XI) (hN : InRange XN) (hAB : e ≠ 0 → (e % 2 = 0 → A = rows XI XH) ∧ (e % 2 = 1 → B = rows XI XH))
    (Y0 : S1x1x1024x1024.Idx → Elt F .f32) :
    state arg2 arg3 arg4 arg5 arg6 arg7 arg8 arg9 arg10 c XI XN XH W5 W6 W7 A B Y0 ⊢
      wp Idealize.ShloMosaic.frame (wpE defs₀ 𝒱₀ (c : Thread nD τ) none) Set.univ
        (cc0_expert_gather (F := F) i arg2 harg2 arg3 harg3 arg4 harg4 arg5 harg5 arg6 harg6 arg7 harg7 arg8 harg8 arg9 harg9 arg10 harg10)
        fun _ => iprop(∃ A' B', ⌜(e % 2 = 1 → A' = rows XN XH) ∧ (e % 2 = 0 → B' = rows XN XH)⌝
          ∗ state arg2 arg3 arg4 arg5 arg6 arg7 arg8 arg9 arg10 c XI XN XH W5 W6 W7 A' B' (yOut (rows XI XH) W5 W6 W7)) := by
  rcases Nat.mod_two_eq_zero_or_one e with he | he
  · have h3' : ¬ k0_cond3 i = 1#1 := fun h => by have := h3.mp h; omega
    have key := fun A => evenState i arg2 harg2 arg3 harg3 arg4 harg4 arg5 harg5 arg6 harg6 arg7 harg7 arg8 harg8 arg9 harg9 arg10 harg10 c XI XN XH W5 W6 W7 A B hN (h2.mpr he) Y0
    have fin : state arg2 arg3 arg4 arg5 arg6 arg7 arg8 arg9 arg10 c XI XN XH W5 W6 W7 (rows XI XH) (rows XN XH) (yOut (rows XI XH) W5 W6 W7)
        ⊢ iprop(∃ A' B', ⌜(e % 2 = 1 → A' = rows XN XH) ∧ (e % 2 = 0 → B' = rows XN XH)⌝
          ∗ state arg2 arg3 arg4 arg5 arg6 arg7 arg8 arg9 arg10 c XI XN XH W5 W6 W7 A' B' (yOut (rows XI XH) W5 W6 W7)) := by
      iintro H
      iexists rows XI XH, rows XN XH
      isplitr [H]; swap; · iexact H
      ipureintro
      exact ⟨fun h => by omega, fun _ => rfl⟩
    by_cases h0 : e = 0
    · rw [body_first i arg2 harg2 arg3 harg3 arg4 harg4 arg5 harg5 arg6 harg6 arg7 harg7 arg8 harg8 arg9 harg9 arg10 harg10 (h1.mpr h0) (h2.mpr he) h3', wp_bind]
      have f := firstState i arg2 harg2 arg3 harg3 arg4 harg4 arg5 harg5 arg6 harg6 arg7 harg7 arg8 harg8 arg9 harg9 arg10 harg10 c XI XN XH W5 W6 W7 A B hI (h1.mpr h0) Y0
      iintro H
      iapply (f _) $$ H
      iintro H
      have k := (key (rows XI XH)).trans (wp_mono _ _ _ fun _ => fin)
      iapply k $$ H
    · rw [body_even i arg2 harg2 arg3 harg3 arg4 harg4 arg5 harg5 arg6 harg6 arg7 harg7 arg8 harg8 arg9 harg9 arg10 harg10 (fun h => h0 (h1.mp h)) (h2.mpr he) h3', (hAB h0).1 he]
      exact (key _).trans (wp_mono _ _ _ fun _ => fin)
  · have h0 : e ≠ 0 := fun h => by omega
    rw [body_odd i arg2 harg2 arg3 harg3 arg4 harg4 arg5 harg5 arg6 harg6 arg7 harg7 arg8 harg8 arg9 harg9 arg10 harg10 (fun h => h0 (h1.mp h)) (fun h => by have := h2.mp h; omega) (h3.mpr he), (hAB h0).2 he]
    refine (oddState i arg2 harg2 arg3 harg3 arg4 harg4 arg5 harg5 arg6 harg6 arg7 harg7 arg8 harg8 arg9 harg9 arg10 harg10 c XI XN XH W5 W6 W7 A (rows XI XH) hN (h3.mpr he) Y0).trans
      (wp_mono _ _ _ fun _ => ?_)
    iintro H
    iexists rows XN XH, rows XI XH
    isplitr [H]; swap; · iexact H
    ipureintro
    exact ⟨fun _ => rfl, fun h => by omega⟩

/-- `point_wp` in front of any continuation, the scratches and the staging memrefs handed in and back one by one. -/
theorem point_run (e : ℕ) (h1 : k0_cond1 i = 1#1 ↔ e = 0) (h2 : k0_cond2 i = 1#1 ↔ e % 2 = 0) (h3 : k0_cond3 i = 1#1 ↔ e % 2 = 1)
    (hI : InRange XI) (hN : InRange XN) (hAB : e ≠ 0 → (e % 2 = 0 → A = rows XI XH) ∧ (e % 2 = 1 → B = rows XI XH))
    (Y0 : S1x1x1024x1024.Idx → Elt F .f32) (Q : Unit → sProp 𝕄) :
    iprop(state arg2 arg3 arg4 arg5 arg6 arg7 arg8 arg9 arg10 c XI XN XH W5 W6 W7 A B Y0
        ∗ (∀ A' B', ⌜(e % 2 = 1 → A' = rows XN XH) ∧ (e % 2 = 0 → B' = rows XN XH)⌝
          -∗ state arg2 arg3 arg4 arg5 arg6 arg7 arg8 arg9 arg10 c XI XN XH W5 W6 W7 A' B' (yOut (rows XI XH) W5 W6 W7) -∗ Q ())) ⊢
      wp Idealize.ShloMosaic.frame (wpE defs₀ 𝒱₀ (c : Thread nD τ) none) Set.univ
        (cc0_expert_gather (F := F) i arg2 harg2 arg3 harg3 arg4 harg4 arg5 harg5 arg6 harg6 arg7 harg7 arg8 harg8 arg9 harg9 arg10 harg10) Q := by
  refine (sep_mono (point_wp i arg2 harg2 arg3 harg3 arg4 harg4 arg5 harg5 arg6 harg6 arg7 harg7 arg8 harg8 arg9 harg9 arg10 harg10 c XI XN XH W5 W6 W7 A B e h1 h2 h3 hI hN hAB Y0) .rfl).trans
    ((wp_frame_r _ _ _).trans (wp_mono _ _ _ fun _ => ?_))
  iintro ⟨⟨%A', %B', %h, H⟩, HQ⟩
  ispecialize HQ $$ %A' %B' %h H
  iexact HQ

end Cert.KernelIdeal.Body
-- ==== Proof.Blocks.lean ====
/- The windows' blocks at a point of the grid, as parts of the argument arrays. -/
module

public import proofs.«01_k».proof.Proof.Branch
public import Idealize.ShloMosaic.Lib.ValueLayout

@[expose] public section

set_option maxRecDepth 16384

noncomputable section

namespace Cert.KernelIdeal.Blocks

open Cert.KernelIdeal Cert.KernelIdeal.Gen Cert.KernelIdeal.Rows
open Idealize.ShloMosaic Idealize.ShloMosaic.TcCoe Idealize.ShloMosaic.Tactic
open Idealize.SL Idealize.SL.RA Idealize.SL.BI

variable {F : FTy → Type} [FloatOps F]

variable (m : (ℓ : Loc nD τ sig) → Buf (Elt F) ℓ) (c : Dev nD)

/-- The two coordinates of a point: the batch row and the expert. -/
def bOf (t : Fin cfg0.N) : Fin 4 := ⟨t.val / 16, by have := t.isLt; have h : t.val < 64 := this; omega⟩
def eOf (t : Fin cfg0.N) : Fin 16 := ⟨t.val % 16, by omega⟩
/-- The expert whose rows the point prefetches. -/
def nOf (t : Fin cfg0.N) : Fin 16 := ⟨min (t.val % 16 + 1) 15, by omega⟩

/-- The argument arrays. -/
abbrev argI : S4x16x1024.Idx → BitVec 32 := m ((c : Thread nD τ).loc main_arg0)
abbrev argH : S4x8192x512.Idx → BitVec 32 := m ((c : Thread nD τ).loc main_arg1)
abbrev argG : S2x16x1024x512.Idx → Elt F .f32 := m ((c : Thread nD τ).loc main_arg2)
abbrev argU : S2x16x1024x512.Idx → Elt F .f32 := m ((c : Thread nD τ).loc main_arg3)
abbrev argD : S2x16x512x1024.Idx → Elt F .f32 := m ((c : Thread nD τ).loc main_arg4)

/-- The blocks at their own types. -/
abbrev blkI (t : Fin cfg0.N) : S1x1x1024.Idx → BitVec 32 := iblk m c 0 t
abbrev blkN (t : Fin cfg0.N) : S1x1x1024.Idx → BitVec 32 := iblk m c 1 t
abbrev blkH (t : Fin cfg0.N) : S1x8192x512.Idx → BitVec 32 := iblk m c 2 t
abbrev blkG (t : Fin cfg0.N) : S1x1x1024x512.Idx → Elt F .f32 := iblk m c 3 t
abbrev blkU (t : Fin cfg0.N) : S1x1x1024x512.Idx → Elt F .f32 := iblk m c 4 t
abbrev blkD (t : Fin cfg0.N) : S1x1x512x1024.Idx → Elt F .f32 := iblk m c 5 t

theorem V_v0 : V m c main_v0 = shapeCast S64x1x1024 (argI m c) shapeCasts_S4x16x1024_S64x1x1024 := by
  unfold V
  after_results
  rfl
theorem V_v1 : V m c main_v1 = shapeCast S64x1x1024 (argI m c) shapeCasts_S4x16x1024_S64x1x1024 := by
  unfold V
  after_results
  rfl

omit [FloatOps F] in
/-- The index array reshaped to one row per point, read at an index. -/
theorem reshaped_apply (x : S4x16x1024.Idx → BitVec 32) (y : S64x1x1024.Idx) (b : Fin 4) (e : Fin 16) (r : Fin 1024)
    (hy : (y 0).val = b.val * 16 + e.val) (hr : (y 2).val = r.val) :
    shapeCast S64x1x1024 x shapeCasts_S4x16x1024_S64x1x1024 y = x (ValueIdx.ix3 b e r) := by
  have h1 : (y 1).val < 1 := (y 1).isLt
  refine congrArg x (Shape.reshapeEquiv_eq_of_rowMajor _ ?_)
  rw [Shape.rowMajor_val_three, Shape.rowMajor_val_three]
  show (b.val * 16 + e.val) * 1024 + r.val = ((y 0).val * 1 + (y 1).val) * 1024 + (y 2).val
  rw [hy, hr]; omega

theorem idx0 : ∀ t : Fin grid0.N, win0_0.index t = ![t.val, 0, 0] := by decide +kernel
theorem idx1 : ∀ t : Fin grid0.N, win0_1.index t = ![t.val / 16 * 16 + min (t.val % 16 + 1) 15, 0, 0] := by decide +kernel
theorem idx2 : ∀ t : Fin grid0.N, win0_2.index t = ![t.val / 16, 0, 0] := by decide +kernel
theorem idx3 : ∀ t : Fin grid0.N, win0_3.index t = ![0, t.val % 16, 0, 0] := by decide +kernel
theorem idx4 : ∀ t : Fin grid0.N, win0_4.index t = ![0, t.val % 16, 0, 0] := by decide +kernel
theorem idx5 : ∀ t : Fin grid0.N, win0_5.index t = ![0, t.val % 16, 0, 0] := by decide +kernel
theorem idx6 : ∀ t : Fin grid0.N, win0_6.index t = ![t.val / 16, t.val % 16, 0, 0] := by decide +kernel

/-- The point's own row of indices. -/
theorem blkI_apply (t : Fin cfg0.N) (y : S1x1x1024.Idx) : blkI m c t y = argI m c (ValueIdx.ix3 (bOf t) (eOf t) (y 2)) := by
  have h0 : (y 0).val < 1 := (y 0).isLt
  unfold blkI iblk
  rw [View.read_apply, cast_eq]
  show V m c main_v0 _ = _
  rw [V_v0]
  refine reshaped_apply _ _ (bOf t) (eOf t) (y 2) ?_ ?_
  · show win0_0.index t 0 * 1 + 1 * (y 0).val = t.val / 16 * 16 + t.val % 16
    rw [idx0]; show t.val * 1 + 1 * (y 0).val = _; omega
  · show win0_0.index t 2 * 1024 + 1 * (y 2).val = (y 2).val
    rw [idx0]; show 0 * 1024 + 1 * (y 2).val = _; omega

/-- The row of indices the point prefetches by. -/
theorem blkN_apply (t : Fin cfg0.N) (y : S1x1x1024.Idx) : blkN m c t y = argI m c (ValueIdx.ix3 (bOf t) (nOf t) (y 2)) := by
  have h0 : (y 0).val < 1 := (y 0).isLt
  unfold blkN iblk
  rw [View.read_apply, cast_eq]
  show V m c main_v1 _ = _
  rw [V_v1]
  refine reshaped_apply _ _ (bOf t) (nOf t) (y 2) ?_ ?_
  · show win0_1.index t 0 * 1 + 1 * (y 0).val = t.val / 16 * 16 + min (t.val % 16 + 1) 15
    rw [idx1]; show (t.val / 16 * 16 + min (t.val % 16 + 1) 15) * 1 + 1 * (y 0).val = _; omega
  · show win0_1.index t 2 * 1024 + 1 * (y 2).val = (y 2).val
    rw [idx1]; show 0 * 1024 + 1 * (y 2).val = _; omega

/-- The packed activations of the point's batch row. -/
theorem blkH_apply (t : Fin cfg0.N) (y : S1x8192x512.Idx) : blkH m c t y = argH m c (ValueIdx.ix3 (bOf t) (y 1) (y 2)) := by
  have h0 : (y 0).val < 1 := (y 0).isLt
  unfold blkH iblk
  rw [View.read_apply, cast_eq]
  show V m c main_arg1 _ = _
  rw [V_main_arg1]
  refine congrArg (argH m c) (funext fun a => Fin.ext ?_)
  match a with
  | ⟨0, _⟩ => show win0_2.index t 0 * 1 + 1 * (y 0).val = t.val / 16
              rw [idx2]; show t.val / 16 * 1 + 1 * (y 0).val = _; omega
  | ⟨1, _⟩ => show win0_2.index t 1 * 8192 + 1 * (y 1).val = (y 1).val
              rw [idx2]; show 0 * 8192 + 1 * (y 1).val = _; omega
  | ⟨2, _⟩ => show win0_2.index t 2 * 512 + 1 * (y 2).val = (y 2).val
              rw [idx2]; show 0 * 512 + 1 * (y 2).val = _; omega

/-- The expert's gate weights. -/
theorem blkG_apply (t : Fin cfg0.N) (y : S1x1x1024x512.Idx) : blkG m c t y = argG m c (ValueIdx.ix4 0 (eOf t) (y 2) (y 3)) := by
  have h0 : (y 0).val < 1 := (y 0).isLt
  have h1 : (y 1).val < 1 := (y 1).isLt
  unfold blkG iblk
  rw [View.read_apply, cast_eq]
  show V m c main_arg2 _ = _
  rw [V_main_arg2]
  refine congrArg (argG m c) (funext fun a => Fin.ext ?_)
  match a with
  | ⟨0, _⟩ => show win0_3.index t 0 * 1 + 1 * (y 0).val = 0
              rw [idx3]; show 0 * 1 + 1 * (y 0).val = _; omega
  | ⟨1, _⟩ => show win0_3.index t 1 * 1 + 1 * (y 1).val = t.val % 16
              rw [idx3]; show t.val % 16 * 1 + 1 * (y 1).val = _; omega
  | ⟨2, _⟩ => show win0_3.index t 2 * 1024 + 1 * (y 2).val = (y 2).val
              rw [idx3]; show 0 * 1024 + 1 * (y 2).val = _; omega
  | ⟨3, _⟩ => show win0_3.index t 3 * 512 + 1 * (y 3).val = (y 3).val
              rw [idx3]; show 0 * 512 + 1 * (y 3).val = _; omega

/-- The expert's up weights. -/
theorem blkU_apply (t : Fin cfg0.N) (y : S1x1x1024x512.Idx) : blkU m c t y = argU m c (ValueIdx.ix4 0 (eOf t) (y 2) (y 3)) := by
  have h0 : (y 0).val < 1 := (y 0).isLt
  have h1 : (y 1).val < 1 := (y 1).isLt
  unfold blkU iblk
  rw [View.read_apply, cast_eq]
  show V m c main_arg3 _ = _
  rw [V_main_arg3]
  refine congrArg (argU m c) (funext fun a => Fin.ext ?_)
  match a with
  | ⟨0, _⟩ => show win0_4.index t 0 * 1 + 1 * (y 0).val = 0
              rw [idx4]; show 0 * 1 + 1 * (y 0).val = _; omega
  | ⟨1, _⟩ => show win0_4.index t 1 * 1 + 1 * (y 1).val = t.val % 16
              rw [idx4]; show t.val % 16 * 1 + 1 * (y 1).val = _; omega
  | ⟨2, _⟩ => show win0_4.index t 2 * 1024 + 1 * (y 2).val = (y 2).val
              rw [idx4]; show 0 * 1024 + 1 * (y 2).val = _; omega
  | ⟨3, _⟩ => show win0_4.index t 3 * 512 + 1 * (y 3).val = (y 3).val
              rw [idx4]; show 0 * 512 + 1 * (y 3).val = _; omega

/-- The expert's down weights. -/
theorem blkD_apply (t : Fin cfg0.N) (y : S1x1x512x1024.Idx) : blkD m c t y = argD m c (ValueIdx.ix4 0 (eOf t) (y 2) (y 3)) := by
  have h0 : (y 0).val < 1 := (y 0).isLt
  have h1 : (y 1).val < 1 := (y 1).isLt
  unfold blkD iblk
  rw [View.read_apply, cast_eq]
  show V m c main_arg4 _ = _
  rw [V_main_arg4]
  refine congrArg (argD m c) (funext fun a => Fin.ext ?_)
  match a with
  | ⟨0, _⟩ => show win0_5.index t 0 * 1 + 1 * (y 0).val = 0
              rw [idx5]; show 0 * 1 + 1 * (y 0).val = _; omega
  | ⟨1, _⟩ => show win0_5.index t 1 * 1 + 1 * (y 1).val = t.val % 16
              rw [idx5]; show t.val % 16 * 1 + 1 * (y 1).val = _; omega
  | ⟨2, _⟩ => show win0_5.index t 2 * 512 + 1 * (y 2).val = (y 2).val
              rw [idx5]; show 0 * 512 + 1 * (y 2).val = _; omega
  | ⟨3, _⟩ => show win0_5.index t 3 * 1024 + 1 * (y 3).val = (y 3).val
              rw [idx5]; show 0 * 1024 + 1 * (y 3).val = _; omega

/-- Every index names a row of the activations. -/
def InBounds : Prop := ∀ c y, (argI m c y).toNat < 8192

variable {m} in
theorem InBounds.blkI (h : InBounds m) (t : Fin cfg0.N) : InRange (blkI m c t) := fun y => by
  rw [blkI_apply]; exact h c _
variable {m} in
theorem InBounds.blkN (h : InBounds m) (t : Fin cfg0.N) : InRange (blkN m c t) := fun y => by
  rw [blkN_apply]; exact h c _

/-- The rows a point computes on: its own indices into its batch row's activations. -/
def rowsAt (t : Fin cfg0.N) : S128x8x512.Idx → BitVec 32 := rows (blkI m c t) (blkH m c t)

/-- What a point that is not the last of its batch row prefetches is what the next point computes on. -/
theorem rows_next (t u : Fin cfg0.N) (hu : u.val = t.val + 1) (h : u.val % 16 ≠ 0) : rows (blkN m c t) (blkH m c t) = rowsAt m c u := by
  have hb : bOf t = bOf u := Fin.ext (show t.val / 16 = u.val / 16 by omega)
  have hn : nOf t = eOf u := Fin.ext (show min (t.val % 16 + 1) 15 = u.val % 16 by omega)
  have e1 : blkN m c t = blkI m c u := funext fun y => by rw [blkN_apply, blkI_apply, hb, hn]
  have e2 : blkH m c t = blkH m c u := funext fun y => by rw [blkH_apply, blkH_apply, hb]
  unfold rowsAt
  rw [e1, e2]

end Cert.KernelIdeal.Blocks
-- ==== Proof.Run.lean ====
/- The run of the kernel: the proof data, the body at each point of the grid, and the launch. -/
module

public import proofs.«01_k».proof.Proof.Point
public import proofs.«01_k».proof.Proof.Blocks

@[expose] public section

set_option maxRecDepth 16384
set_option maxHeartbeats 4000000

noncomputable section

namespace Cert.KernelIdeal.Run

open Cert.KernelIdeal Cert.KernelIdeal.Gen Cert.KernelIdeal.Rows Cert.KernelIdeal.Body Cert.KernelIdeal.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before point `p`, unless it is the first of a batch row, the scratch of its parity holds the rows it computes on. -/
def keeps (c : Dev nD) (p : ℕ) (A B : S128x8x512.Idx → BitVec 32) : Prop :=
  ∀ t : Fin cfg0.N, t.val = p → p % 16 ≠ 0 → (p % 2 = 0 → A = rowsAt m c t) ∧ (p % 2 = 1 → B = rowsAt m c t)

/-- What holds between points: the two scratches at contents that `keeps`, the generator register at some state. -/
def inv (c : Dev nD) (p : ℕ) : sProp 𝕄 :=
  iprop(∃ A B, ⌜keeps m c p A B⌝ ∗ owns (Val := Elt F) (e := .i32) (c : Thread nD τ) (Memref.whole cc0_scratch0) fullShare A
    ∗ owns (Val := Elt F) (e := .i32) (c : Thread nD τ) (Memref.whole cc0_scratch1) fullShare B ∗ (∃ r, prngReg c r))

/-- What a point leaves in its block of the result. -/
def outAt (c : Dev nD) (t : Fin cfg0.N) : S1x1x1024x1024.Idx → Elt F .f32 :=
  yOut (rowsAt m c t) (blkG m c t) (blkU m c t) (blkD m c t)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ p := inv m c p.val
  q _ := fullShare
  owed _ := 0

theorem A_eq (c : Dev nD) (w : Fin cfg0.W) : (dats m 0 c).A w = V m c (Pipeline.arrRef spec0 w) := by dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out (c : Dev nD) (t : Fin cfg0.N) : (dats m 0 c).after 6 t = outAt m c t := by dsimp only [dats]

/-- The windows' staging memrefs at a point. -/
abbrev ms0 (t : Fin cfg0.N) : Memref sig .tc .smem S1x1x1024 .i32 := win0_0.stage (cfg0.slots t 0)
abbrev ms1 (t : Fin cfg0.N) : Memref sig .tc .smem S1x1x1024 .i32 := win0_1.stage (cfg0.slots t 1)
abbrev ms2 (t : Fin cfg0.N) : Memref sig .tc .vmem S1x8192x512 .i32 := win0_2.stage (cfg0.slots t 2)
abbrev ms3 (t : Fin cfg0.N) : Memref sig .tc .vmem S1x1x1024x512 .f32 := win0_3.stage (cfg0.slots t 3)
abbrev ms4 (t : Fin cfg0.N) : Memref sig .tc .vmem S1x1x1024x512 .f32 := win0_4.stage (cfg0.slots t 4)
abbrev ms5 (t : Fin cfg0.N) : Memref sig .tc .vmem S1x1x512x1024 .f32 := win0_5.stage (cfg0.slots t 5)
abbrev ms6 (t : Fin cfg0.N) : Memref sig .tc .vmem S1x1x1024x1024 .f32 := win0_6.stage (cfg0.slots t 6)

/-- The body's conditions at a point: the first expert of a batch row, an even expert, an odd expert. -/
theorem cond1_iff : ∀ t : Fin grid0.N, k0_cond1 (grid0.coords t) = 1#1 ↔ t.val % 16 = 0 := by decide +kernel
theorem cond2_iff : ∀ t : Fin grid0.N, k0_cond2 (grid0.coords t) = 1#1 ↔ t.val % 16 % 2 = 0 := by decide +kernel
theorem cond3_iff : ∀ t : Fin grid0.N, k0_cond3 (grid0.coords t) = 1#1 ↔ t.val % 16 % 2 = 1 := by decide +kernel

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d))
    ∗ (∃ d, owns (c : Thread nD τ) (ms2 t) fullShare ((dats m 0 c).before 2 t d)) ∗ (∃ d, owns (c : Thread nD τ) (ms3 t) fullShare ((dats m 0 c).before 3 t d))
    ∗ (∃ d, owns (c : Thread nD τ) (ms4 t) fullShare ((dats m 0 c).before 4 t d)) ∗ (∃ d, owns (c : Thread nD τ) (ms5 t) fullShare ((dats m 0 c).before 5 t d))
    ∗ (∃ d, owns (c : Thread nD τ) (ms6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t)
    ∗ owns (c : Thread nD τ) (ms2 t) fullShare ((dats m 0 c).after 2 t) ∗ owns (c : Thread nD τ) (ms3 t) fullShare ((dats m 0 c).after 3 t)
    ∗ owns (c : Thread nD τ) (ms4 t) fullShare ((dats m 0 c).after 4 t) ∗ owns (c : Thread nD τ) (ms5 t) fullShare ((dats m 0 c).after 5 t)
    ∗ owns (c : Thread nD τ) (ms6 t) fullShare ((dats m 0 c).after 6 t))

variable {m} in
/-- Contents that `keeps` before a point give the point its rows. -/
theorem keeps.now {c : Dev nD} {t : Fin cfg0.N} {A B : S128x8x512.Idx → BitVec 32} (h : keeps m c t.val A B) (h0 : t.val % 16 ≠ 0) :
    (t.val % 16 % 2 = 0 → A = rowsAt m c t) ∧ (t.val % 16 % 2 = 1 → B = rowsAt m c t) :=
  ⟨fun he => (h t rfl h0).1 (by omega), fun he => (h t rfl h0).2 (by omega)⟩

/-- What a point prefetches is what the next point is to find. -/
theorem keeps_next (c : Dev nD) (t : Fin cfg0.N) {A B : S128x8x512.Idx → BitVec 32}
    (h : (t.val % 16 % 2 = 1 → A = rows (blkN m c t) (blkH m c t)) ∧ (t.val % 16 % 2 = 0 → B = rows (blkN m c t) (blkH m c t))) :
    keeps m c (t.val + 1) A B := fun u hu h0 =>
  ⟨fun he => (h.1 (by omega)).trans (rows_next m c t u hu (by omega)), fun he => (h.2 (by omega)).trans (rows_next m c t u hu (by omega))⟩

/-- The body at a point. -/
theorem sound_body (hm : InBounds m) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = inv m c t.val from rfl, show (dats m 0 c).Φ t.succ = inv m c (t.val + 1) from rfl,
    after_in0, after_in1, after_in2, after_in3, after_in4, after_in5, after_out]
  simp only [fun d => before0_0_of m (dats m 0 c) (A_eq m c 0) (after_in0 m c) t d, fun d => before0_1_of m (dats m 0 c) (A_eq m c 1) (after_in1 m c) t d,
    fun d => before0_2_of m (dats m 0 c) (A_eq m c 2) (after_in2 m c) t d, fun d => before0_3_of m (dats m 0 c) (A_eq m c 3) (after_in3 m c) t d,
    fun d => before0_4_of m (dats m 0 c) (A_eq m c 4) (after_in4 m c) t d, fun d => before0_5_of m (dats m 0 c) (A_eq m c 5) (after_in5 m c) t d]
  unfold inv
  iintro ⟨⟨%A, %B, %hk, HA, HB, Hg⟩, HO, ⟨%d0, H0⟩, ⟨%d1, H1⟩, ⟨%d2, H2⟩, ⟨%d3, H3⟩, ⟨%d4, H4⟩, ⟨%d5, H5⟩, ⟨%d6, H6⟩⟩
  iapply (point_run (grid0.coords t) (ms0 t) (hstage0_0 ((cfg0.slots t 0).cast nbuf0_0)) (ms1 t) (hstage0_1 ((cfg0.slots t 1).cast nbuf0_1))
    (ms2 t) (hstage0_2 ((cfg0.slots t 2).cast nbuf0_2)) (ms3 t) (hstage0_3 ((cfg0.slots t 3).cast nbuf0_3)) (ms4 t) (hstage0_4 ((cfg0.slots t 4).cast nbuf0_4))
    (ms5 t) (hstage0_5 ((cfg0.slots t 5).cast nbuf0_5)) (ms6 t) (hstage0_6 ((cfg0.slots t 6).cast nbuf0_6)) (Memref.whole cc0_scratch0) (Memref.isWhole_whole _)
    (Memref.whole cc0_scratch1) (Memref.isWhole_whole _) c (blkI m c t) (blkN m c t) (blkH m c t) (blkG m c t) (blkU m c t) (blkD m c t) A B
    (t.val % 16) (cond1_iff t) (cond2_iff t) (cond3_iff t) (hm.blkI c t) (hm.blkN c t) (fun h0 => hk.now h0) ((dats m 0 c).before 6 t d6) _)
  unfold state blocks
  isplitl [HA HB H0 H1 H2 H3 H4 H5 H6]
  · isplitl [H0]; · iexact H0
    isplitl [H1]; · iexact H1
    isplitl [H2]; · iexact H2
    isplitl [H3 H4 H5 H6]
    · isplitl [H3]; · iexact H3
      isplitl [H4]; · iexact H4
      isplitl [H5]; · iexact H5
      iexact H6
    isplitl [HA]; · iexact HA
    iexact HB
  iintro %A' %B' %hk' ⟨H0, H1, H2, ⟨H3, H4, H5, H6⟩, HA, HB⟩
  isplitl [HA HB Hg]
  · iexists A', B'
    isplitr [HA HB Hg]
    · ipureintro; exact keeps_next m c t hk'
    isplitl [HA]; · iexact HA
    isplitl [HB]; · iexact HB
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The result's block is stored at every point. -/
theorem idle6 : ∀ t : Fin grid0.N, idle0 6 (grid0.coords t) = false := by decide +kernel

/-- The library's body obligation. -/
theorem body_obligation (hm : InBounds m) (c : Dev nD) :
    BodyObligation (dats (F := F) m 0 c) (defs₀ (F := F)) Variants.none () Set.univ := fun t => by
  rw [bigSep_W0, bigSep_W0, defs₀_row]
  refine triple_restated (sound_body m hm c t) rfl .rfl fun _ => ?_
  rw [show cfg0.idle 6 (cfg0.grid.coords t) = false from idle6 t]
  exact .rfl

/-- The launch hands the first point the scratches at any contents. -/
theorem inv_in (c : Dev nD) : Pipeline.ΦA spec0 c ⊢ inv m c 0 := by
  unfold Pipeline.ΦA inv
  rw [scopedRest0_eq]
  simp only [owns_whole]
  iintro ⟨⟨⟨%A, HA⟩, ⟨%B, HB⟩⟩, Hg⟩
  iexists A, B
  isplitr [HA HB Hg]
  · ipureintro; exact fun t ht h => absurd rfl h
  isplitl [HA]; · iexact HA
  isplitl [HB]; · iexact HB
  iexact Hg

/-- The last point hands them back. -/
theorem inv_out (c : Dev nD) (p : ℕ) : inv m c p ⊢ Pipeline.ΦA spec0 c := by
  unfold Pipeline.ΦA inv
  rw [scopedRest0_eq]
  simp only [owns_whole]
  iintro ⟨%A, %B, -, HA, HB, Hg⟩
  isplitr [Hg]
  · isplitl [HA]
    · iexists A; iexact HA
    · iexists B; iexact HB
  iexact Hg

set_option backward.isDefEq.respectTransparency.types false in
/-- At any float values, from any memory whose indices are in bounds: every weakly fair execution of @main terminates, each window's
    array ending at what the proof data say of it, every other buffer as launched, every semaphore counter at zero. -/
theorem run_main (hm : InBounds m) :
    θ_run defs (onTc (τ := τ) (main (F := F))) (s₀ m ρ)
      (fun r => Pipeline.FramePost cfgs (dats m) 0 (V m) r ∧ r.2.sem = fun _ => 0) :=
  Pipeline.θ_run_frame_track (Q' := fun r => Pipeline.FramePost cfgs (dats m) 0 (V m) r ∧ r.2.sem = fun _ => 0) cfgs (dats m) (0 : Fin 1) launch0 defs₀ Variants.none m ρ main
    (hbody := fun c => (body_obligation m hm c).loose) (hshare := fun c => (dats m 0 c).share_full fun _ => rfl)
    (howed := fun _ _ => rfl) (V := V m) (hmain := hmain m Variants.none) (hA := A_eq m)
    (hin := inv_in m) (hout := fun c => inv_out m c _) (hQ' := fun _ h => h)

variable {m} in
/-- The argument arrays after the run. -/
theorem args_of {r : PUnit × MemSt nD τ sig (Elt F)} (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).1 2).trans (((dats m 0 c).arrAt_in 2 rfl _).trans ((A_eq m c 2).trans (V_main_arg1 m c))),
    ((h c).1 3).trans (((dats m 0 c).arrAt_in 3 rfl _).trans ((A_eq m c 3).trans (V_main_arg2 m c))),
    ((h c).1 4).trans (((dats m 0 c).arrAt_in 4 rfl _).trans ((A_eq m c 4).trans (V_main_arg3 m c))),
    ((h c).1 5).trans (((dats m 0 c).arrAt_in 5 rfl _).trans ((A_eq m c 5).trans (V_main_arg4 m c)))⟩

/-- The frame, at any float values. -/
theorem frame_main (hm : InBounds m) :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨args_of h.1, h.2⟩) (run_main m ρ hm)

end Cert.KernelIdeal.Run
-- ==== Proof.Frames.lean ====
/- The precondition read as a bound on every index, and the two frames from the one run. -/
module

public import proofs.«01_k».proof.Defs
public import proofs.«01_k».proof.Proof.Gen.Kernel
public import proofs.«01_k».proof.Proof.Gen.Pre_in_range
public import proofs.«01_k».proof.Proof.Run
public import Idealize.ShloMosaic.Lib.ReduceAll
public import Idealize.ShloMosaic.Lib.WordCmp

@[expose] public section

noncomputable section

namespace Cert.Proof

open Idealize.ShloMosaic Idealize.SL.Sem

attribute [local instance] Cert.Kernel.Gen.facts Cert.KernelIdeal.Gen.facts Cert.Pre_in_range.Gen.facts

/-- The precondition bounds every index. -/
theorem lt_of_in_range {F : FTy → Type} [FloatOps F] (x0 : IVec Cert.Pre_in_range.S4x16x1024 32) (x1 : IVec Cert.Pre_in_range.S4x8192x512 32)
    (x2 x3 : FVec F Cert.Pre_in_range.S2x16x1024x512 .f32) (x4 : FVec F Cert.Pre_in_range.S2x16x512x1024 .f32)
    (h : Cert.Pre_in_range.fn x0 x1 x2 x3 x4 = fun _ => 1#1) (y : Cert.Pre_in_range.S4x16x1024.Idx) : (x0 y).toNat < 8192 := by
  have e := Host.reduce_andi_all _ _ _ _ (fun a => a.elim0) (congrFun h (fun a => a.elim0)) y
  have e' : IntOp.andi (IntOp.cmpi .sge (x0 y) 0#32) (IntOp.cmpi .slt (x0 y) 8192#32) = 1#1 := e
  word_cmp at e'

theorem frame_kernelIdeal : Cert.quiescent_KernelIdeal := fun m ρ hp =>
  Cert.KernelIdeal.Run.frame_main m ρ fun c => lt_of_in_range _ _ _ _ _ (hp c)

section
set_option maxHeartbeats 4000000

/-- The kernel and its idealised copy have one body text. -/
theorem body_eq {F : FTy → Type} [FloatOps F] : Cert.Kernel.cc0_expert_gather (F := F) = Cert.KernelIdeal.cc0_expert_gather := rfl

/-- So they have one table of bodies. -/
theorem defs₀_eq {F : FTy → Type} [FloatOps F] : Cert.Kernel.defs₀ (F := F) = Cert.KernelIdeal.defs₀ := by
  funext p l a
  cases p with
  | tc =>
    unfold Cert.Kernel.defs₀ Cert.KernelIdeal.defs₀
    rw [Defs.onTc_tc]
    refine Eq.trans ?_ (congrFun (congrFun (Defs.onTc_tc _).symm l) a)
    match l, a with
    | ⟨0, _⟩, (t, s) =>
      dsimp only
      rw [body_eq]
      rfl
  | scScalar => rfl
  | scVector => rfl

theorem defs_eq {F : FTy → Type} [FloatOps F] : Cert.Kernel.defs (F := F) = Cert.KernelIdeal.defs := by
  show Pipeline.defs Cert.KernelIdeal.pcfgs Cert.Kernel.defs₀ = Pipeline.defs Cert.KernelIdeal.pcfgs Cert.KernelIdeal.defs₀
  exact congrArg (Pipeline.defs Cert.KernelIdeal.pcfgs) defs₀_eq

/-- The kernel's frame at the machine's words is the same run's. -/
theorem frame_kernel : Cert.quiescent_Kernel := fun m ρ hp =>
  Eq.mpr (congrArg (fun d => θ_run d (onTc (τ := Cert.KernelIdeal.τ) (Cert.KernelIdeal.main (F := Bits))) ⟨m, fun _ => 0, ρ⟩ _) (defs_eq (F := Bits)))
    (Cert.KernelIdeal.Run.frame_main (F := Bits) m ρ fun c => lt_of_in_range _ _ _ _ _ (hp c))

end

end Cert.Proof

end
-- ==== Proof.Spec.lean ====
/- What the routed feed-forward computes, element by element over the extended reals, and how a word of packed activations is read. -/
module

public import Idealize.ShloMosaic.Lib.Pointwise
public import Idealize.ShloMosaic.PureOps.Ideal.Laws

@[expose] public section

noncomputable section

namespace Cert.Spec

open Idealize.ShloMosaic

/-- Channel `k` of a token whose 1024 channels lie two to a word: channels below 512 in the low halves, the others in the
    high halves, each half being the upper half of a 32-bit float. -/
def channel (w : Fin 512 → BitVec 32) (k : Fin 1024) : EReal :=
  if h : k.val < 512 then Ideal.ofBits .f32 (w ⟨k.val, h⟩ <<< 16)
  else Ideal.ofBits .f32 (w ⟨k.val - 512, by omega⟩ &&& 4294901760#32)

/-- One unit of the gated layer: `silu (x · g) * (x · u)`. -/
def unit (x g u : Fin 1024 → EReal) : EReal :=
  (∑ k, x k * g k) * Ideal.logistic (∑ k, x k * g k) * ∑ k, x k * u k

/-- The token an index names. -/
def token (i : BitVec 32) : Fin 8192 := ⟨i.toNat % 8192, Nat.mod_lt _ (by norm_num)⟩

section

variable (idx : (⟨3, ![4, 16, 1024]⟩ : Shape).Idx → BitVec 32) (hp : (⟨3, ![4, 8192, 512]⟩ : Shape).Idx → BitVec 32)
variable (wg wu : (⟨4, ![2, 16, 1024, 512]⟩ : Shape).Idx → EReal) (wd : (⟨4, ![2, 16, 512, 1024]⟩ : Shape).Idx → EReal)

/-- The channels of the token routed to place `r` of expert `e`. -/
def routed (b : Fin 4) (e : Fin 16) (r k : Fin 1024) : EReal :=
  channel (fun j => hp (ix3 b (token (idx (ix3 b e r))) j)) k

/-- Output `d` of expert `e` for its place `r`. -/
def out (b : Fin 4) (e : Fin 16) (r d : Fin 1024) : EReal :=
  ∑ f : Fin 512, unit (routed idx hp b e r) (fun k => wg (ix4 0 e k f)) (fun k => wu (ix4 0 e k f)) * wd (ix4 0 e f d)

end

/-- A 16-bit float denotes what the 32-bit float does whose upper half it is. -/
theorem ofBits_bf16 (b : BitVec 16) (w : BitVec 32) (hs : w.extractLsb' 31 1 = b.extractLsb' 15 1) (he : w.extractLsb' 23 8 = b.extractLsb' 7 8)
    (hf : (w.extractLsb' 0 23).toNat = 2 ^ 16 * (b.extractLsb' 0 7).toNat) : Ideal.ofBits .bf16 b = Ideal.ofBits .f32 w := by
  have e : ∀ n : ℕ, ((2 : ℝ) ^ ((n : ℤ) - (2 ^ (8 - 1) - 1) - 7)) = (2 : ℝ) ^ 16 * (2 : ℝ) ^ ((n : ℤ) - (2 ^ (8 - 1) - 1) - 23) := fun n => by
    rw [← zpow_natCast, ← zpow_add₀ (by norm_num)]
    congr 1
    push_cast
    ring
  simp only [Ideal.ofBits, Ideal.ieee]
  rw [show (8 + 23) = 31 from rfl, show (8 + 7) = 15 from rfl, hs, he, hf]
  by_cases h1 : (b.extractLsb' 7 8).toNat = 2 ^ 8 - 1
  · rw [if_pos h1, if_pos h1]
    simp
  · rw [if_neg h1, if_neg h1]
    by_cases h2 : (b.extractLsb' 7 8).toNat = 0
    · rw [if_pos h2, if_pos h2]
      have := e 1
      congr 1
      push_cast at this ⊢
      rw [this]
      ring
    · rw [if_neg h2, if_neg h2]
      have := e (b.extractLsb' 7 8).toNat
      congr 1
      push_cast at this ⊢
      rw [this]
      ring

theorem ofBits_low (w : BitVec 32) : Ideal.ofBits .bf16 (w.extractLsb' 0 16) = Ideal.ofBits .f32 (w <<< 16) := by
  refine ofBits_bf16 _ _ ?_ ?_ ?_
  · refine BitVec.eq_of_toNat_eq ?_
    simp only [BitVec.extractLsb'_toNat, BitVec.toNat_shiftLeft, Nat.shiftRight_eq_div_pow, Nat.shiftLeft_eq]
    omega
  · refine BitVec.eq_of_toNat_eq ?_
    simp only [BitVec.extractLsb'_toNat, BitVec.toNat_shiftLeft, Nat.shiftRight_eq_div_pow, Nat.shiftLeft_eq]
    omega
  · simp only [BitVec.extractLsb'_toNat, BitVec.toNat_shiftLeft, Nat.shiftRight_eq_div_pow, Nat.shiftLeft_eq]
    omega

theorem ofBits_high (w : BitVec 32) : Ideal.ofBits .bf16 (w.extractLsb' 16 16) = Ideal.ofBits .f32 (w &&& 4294901760#32) := by
  have hm : (w &&& 4294901760#32) = (w >>> 16) <<< 16 := by
    ext i hi
    interval_cases i <;> simp
  rw [hm, ← ofBits_low]
  congr 1

end Cert.Spec

end
-- ==== Proof.KValue.lean ====
/- The kernel's point, element by element over the extended reals. -/
module

public import proofs.«01_k».proof.Proof.Body
public import proofs.«01_k».proof.Proof.Spec

@[expose] public section

noncomputable section

namespace Cert.KernelIdeal.KValue

open Cert.KernelIdeal Cert.KernelIdeal.Gen Cert.KernelIdeal.Body
open Idealize.ShloMosaic Idealize.ShloMosaic.TcCoe

variable (XC : S128x8x512.Idx → BitVec 32) (W5 W6 : S1x1x1024x512.Idx → Elt Ideal .f32) (W7 : S1x1x512x1024.Idx → Elt Ideal .f32)

/-- The channels of the token in row `r` of the gathered rows. -/
def held (r k : Fin 1024) : EReal :=
  Spec.channel (fun j => XC (ix3 (⟨r.val / 8, by omega⟩ : Fin 128) (⟨r.val % 8, by omega⟩ : Fin 8) j)) k

/-- The body's unpacked rows. -/
theorem unpacked (r k : Fin 1024) : k0_pay89 (F := Ideal) XC (ix2 r k) = held XC r k := by
  unfold k0_pay89 held Spec.channel
  pointwise
  split
  · exact Spec.ofBits_low _
  · exact Spec.ofBits_high _

theorem acts_apply (r : Fin 1024) (f : Fin 512) : acts (F := Ideal) XC W5 W6 (ix2 r f)
    = Spec.unit (held XC r) (fun k => W5 (ix4 0 0 k f)) (fun k => W6 (ix4 0 0 k f)) := by
  have hu := unpacked XC
  unfold acts k0_pay104 k0_pay96 k0_pay97
  generalize k0_pay89 (F := Ideal) XC = x at hu ⊢
  pointwise [hu]
  have key : ∀ f' : Fin 512, f' = f → (∑ k, held XC r k * W5 (ix4 0 0 k f')) * Ideal.logistic (∑ k, held XC r k * W5 (ix4 0 0 k f')) *
      ∑ k, held XC r k * W6 (ix4 0 0 k f') = Spec.unit (held XC r) (fun k => W5 (ix4 0 0 k f)) (fun k => W6 (ix4 0 0 k f)) := by
    rintro _ rfl
    rfl
  split
  · rfl
  · rename_i hf
    have hf : ¬ f.val < 256 := hf
    exact key ⟨256 + (f.val - 256), by omega⟩ (Fin.ext (by show 256 + (f.val - 256) = f.val; omega))

theorem piece_apply (o : ℕ) (h : ∀ a, (![0, 0, 0, o] : Fin 4 → ℕ) a + S1x1x512x256.size a ≤ S1x1x512x1024.size a) (r : Fin 1024) (n : Fin 256)
    (hn : o + n.val < 1024) : Body.piece (F := Ideal) XC W5 W6 W7 o h (ix4 0 0 r n)
    = ∑ f : Fin 512, acts (F := Ideal) XC W5 W6 (ix2 r f) * W7 (ix4 0 0 f ⟨o + n.val, hn⟩) := by
  unfold Body.piece k0_pay7
  generalize acts (F := Ideal) XC W5 W6 = x
  pointwise

/-- The block a point leaves. -/
theorem yOut_apply (r d : Fin 1024) : yOut (F := Ideal) XC W5 W6 W7 (ix4 0 0 r d)
    = ∑ f : Fin 512, Spec.unit (held XC r) (fun k => W5 (ix4 0 0 k f)) (fun k => W6 (ix4 0 0 k f)) * W7 (ix4 0 0 f d) := by
  have h : ∀ (o : ℕ) (ho : ∀ a, (![0, 0, 0, o] : Fin 4 → ℕ) a + S1x1x512x256.size a ≤ S1x1x512x1024.size a) (n : Fin 256), o + n.val = d.val →
      Body.piece (F := Ideal) XC W5 W6 W7 o ho (ValueIdx.ix4 0 0 r n)
        = ∑ f : Fin 512, Spec.unit (held XC r) (fun k => W5 (ix4 0 0 k f)) (fun k => W6 (ix4 0 0 k f)) * W7 (ix4 0 0 f d) := by
    intro o ho n e
    rw [← ix4_eq_valueIdx, piece_apply XC W5 W6 W7 o ho r n (e ▸ d.isLt)]
    refine Finset.sum_congr rfl fun f _ => ?_
    rw [acts_apply, show (⟨o + n.val, e ▸ d.isLt⟩ : Fin 1024) = d from Fin.ext e]
  unfold yOut
  show (if h : d.val < 256 then _ else if h : d.val < 512 then _ else if h : d.val < 768 then _ else _) = _
  split_ifs with h1 h2 h3
  · exact h 0 _ _ (by show 0 + d.val = d.val; omega)
  · exact h 256 _ _ (by show 256 + (d.val - 256) = d.val; omega)
  · exact h 512 _ _ (by show 512 + (d.val - 512) = d.val; omega)
  · exact h 768 _ _ (by show 768 + (d.val - 768) = d.val; omega)

end Cert.KernelIdeal.KValue

end
-- ==== Proof.RValue.lean ====
/- The reference's result, element by element. -/
module

public import proofs.«01_k».proof.Proof.Gen.ReferenceIdeal.Read
public import proofs.«01_k».proof.Proof.Spec
public import Idealize.ShloMosaic.Lib.WordCmp

@[expose] public section

noncomputable section

namespace Cert.ReferenceIdeal.RValue

open Cert.ReferenceIdeal Cert.ReferenceIdeal.Gen Cert.ReferenceIdeal.Read
open Idealize.ShloMosaic Idealize.ShloMosaic.TcCoe

variable (x0 : S4x16x1024.Idx → BitVec 32) (x1 : S4x8192x512.Idx → BitVec 32)
variable (x2 x3 : S2x16x1024x512.Idx → EReal) (x4 : S2x16x512x1024.Idx → EReal)

/-- The unpacked activations. -/
theorem unpacked (b : Fin 4) (s : Fin 8192) (k : Fin 1024) :
    val_main_v6 (F := Ideal) x1 (ix3 b s k) = Spec.channel (fun j => x1 (ix3 b s j)) k := by
  unfold val_main_v6 Spec.channel
  pointwise
  split
  · rfl
  · rfl

/-- An index in range is gathered as it stands. -/
theorem start_index (hx : ∀ y, (x0 y).toNat < 8192) (b : Fin 4) (e : Fin 16) (r : Fin 1024) :
    val_main_v12 (F := Ideal) x0 (ix4 b e r 0) = x0 (ix3 b e r) := by
  unfold val_main_v12 val_main_v11 val_main_v8 val_main_v10 val_main_v7 val_main_v9
  pointwise
  show Scalar.select (IntOp.cmpi .slt (x0 (ix3 b e r)) 0#32) _ _ = _
  have h := hx (ix3 b e r)
  rw [WordCmp.cmpi_slt_zero, WordCmp.select_decide, if_neg (Nat.not_le.2 (by norm_num; omega))]

/-- The gather's dimension numbers: the token axis is looked up, batch by batch. -/
abbrev dims := gather_S4x8192x1024_S4x16x1024x1_S4x16x1024x1024_3_1_0_0_1_3_111024

section

variable (v : S4x16x1024x1.Idx → BitVec 32) (b : Fin 4) (e : Fin 16) (r k : Fin 1024)

theorem source0 : GatherDims.start dims (ix4 b e r k) v 0 + GatherDims.batchCoord dims (ix4 b e r k) 0 + GatherDims.offCoord dims (ix4 b e r k) 0 = b.val := by
  have hm : (0 : Fin 3) ∈ dims.operandBatchingDims := List.mem_singleton.mpr rfl
  rw [GatherDims.start_batching _ _ _ _ hm, GatherDims.offCoord_eq_zero _ _ _ (fun h => ((GatherDims.mem_sKept _ _).mp h).2 hm)]
  simp only [Nat.zero_add, Nat.add_zero]
  unfold GatherDims.batchCoord
  rw [dif_pos hm]
  rfl

theorem source1 : GatherDims.start dims (ix4 b e r k) v 1 + GatherDims.batchCoord dims (ix4 b e r k) 1 + GatherDims.offCoord dims (ix4 b e r k) 1
    = min (v (ix4 b e r 0)).toInt.toNat 8191 := by
  have hm : (1 : Fin 3) ∈ dims.startIndexMap := List.mem_singleton.mpr rfl
  have hn : (1 : Fin 3) ∉ dims.operandBatchingDims := fun h => absurd (List.mem_singleton.mp h) (by decide)
  have hc : (1 : Fin 3) ∈ dims.collapsedSliceDims := List.mem_singleton.mpr rfl
  rw [GatherDims.batchCoord_eq_zero _ _ _ hn, GatherDims.offCoord_eq_zero _ _ _ (fun h => ((GatherDims.mem_sKept _ _).mp h).1 hc)]
  simp only [Nat.add_zero]
  unfold GatherDims.start
  rw [dif_pos hm]
  have hsi : dims.siIdx (ix4 b e r k) ⟨List.idxOf (1 : Fin 3) dims.startIndexMap, List.idxOf_lt_length_iff.2 hm⟩ = ix4 b e r 0 := by
    funext c
    refine Fin.ext ?_
    match c with
    | ⟨0, _⟩ => rfl
    | ⟨1, _⟩ => rfl
    | ⟨2, _⟩ => rfl
    | ⟨3, _⟩ => rfl
  rw [hsi]
  rfl

theorem source2 : GatherDims.start dims (ix4 b e r k) v 2 + GatherDims.batchCoord dims (ix4 b e r k) 2 + GatherDims.offCoord dims (ix4 b e r k) 2 = k.val := by
  have hm : (2 : Fin 3) ∉ dims.startIndexMap := fun h => absurd (List.mem_singleton.mp h) (by decide)
  have hn : (2 : Fin 3) ∉ dims.operandBatchingDims := fun h => absurd (List.mem_singleton.mp h) (by decide)
  rw [GatherDims.batchCoord_eq_zero _ _ _ hn]
  unfold GatherDims.start
  rw [dif_neg hm]
  simp only [Nat.zero_add, Nat.add_zero]
  rfl

end

/-- The gather reads the channels of the token the index names, an index in range being within the array. -/
theorem gathered (hx : ∀ y, (x0 y).toNat < 8192) (b : Fin 4) (e : Fin 16) (r k : Fin 1024) :
    val_main_v13 (F := Ideal) x0 x1 (ix4 b e r k) = Spec.routed x0 x1 b e r k := by
  have hi := start_index x0 hx b e r
  unfold val_main_v13 Host.gather
  generalize val_main_v12 (F := Ideal) x0 = v at hi ⊢
  refine (congrArg (val_main_v6 (F := Ideal) x1) ?_).trans (unpacked x1 b (Spec.token (x0 (ix3 b e r))) k)
  funext a
  refine Fin.ext ?_
  show GatherDims.start dims (ix4 b e r k) v a + GatherDims.batchCoord dims (ix4 b e r k) a + GatherDims.offCoord dims (ix4 b e r k) a = _
  match a with
  | ⟨0, _⟩ => exact source0 v b e r k
  | ⟨1, _⟩ =>
    refine (source1 v b e r k).trans ?_
    have hr := hx (ix3 b e r)
    rw [hi]
    show _ = (x0 (ix3 b e r)).toNat % 8192
    rw [BitVec.toInt_eq_toNat_of_lt (by omega), Int.toNat_natCast]
    omega
  | ⟨2, _⟩ => exact source2 v b e r k

/-- The gated activations. -/
theorem acts (hx : ∀ y, (x0 y).toNat < 8192) (b : Fin 4) (e : Fin 16) (r : Fin 1024) (f : Fin 512) :
    val_main_v23 (F := Ideal) x0 x1 x2 x3 (ix4 b e r f)
      = Spec.unit (Spec.routed x0 x1 b e r) (fun k => x2 (ix4 0 e k f)) (fun k => x3 (ix4 0 e k f)) := by
  have hg := gathered x0 x1 hx
  have ha : val_main_v17 (F := Ideal) x0 x1 x2 (ix4 b e r f) = ∑ k, Spec.routed x0 x1 b e r k * x2 (ix4 0 e k f) := by
    unfold val_main_v17 val_main_v16 val_main_v15 val_main_v14
    generalize val_main_v13 (F := Ideal) x0 x1 = v at hg ⊢
    pointwise [hg]
    exact Finset.sum_congr rfl fun k _ => mul_comm _ _
  have hu : val_main_v21 (F := Ideal) x0 x1 x3 (ix4 b e r f) = ∑ k, Spec.routed x0 x1 b e r k * x3 (ix4 0 e k f) := by
    unfold val_main_v21 val_main_v20 val_main_v19 val_main_v18
    generalize val_main_v13 (F := Ideal) x0 x1 = v at hg ⊢
    pointwise [hg]
    exact Finset.sum_congr rfl fun k _ => mul_comm _ _
  unfold val_main_v23 val_main_v22 val_main_call0_v5 val_main_call0_v4 val_main_call0_v3 val_main_call0_v2 val_main_call0_v1 val_main_call0_v0
    val_main_call0_cst val_main_call0_cst_0
  pointwise [ha, hu]
  rfl

theorem result (hx : ∀ y, (x0 y).toNat < 8192) (b : Fin 4) (e : Fin 16) (r d : Fin 1024) :
    val_main_v27 (F := Ideal) x0 x1 x2 x3 x4 (ix4 b e r d) = Spec.out x0 x1 x2 x3 x4 b e r d := by
  have ha := acts x0 x1 x2 x3 hx
  unfold val_main_v27 val_main_v26 val_main_v25 val_main_v24 Spec.out
  generalize val_main_v23 (F := Ideal) x0 x1 x2 x3 = v at ha ⊢
  pointwise [ha]
  exact Finset.sum_congr rfl fun k _ => mul_comm _ _

end Cert.ReferenceIdeal.RValue

end
-- ==== Proof.Value.lean ====
/- The kernel's result array is the specification's, and so is the reference's. -/
module

public import proofs.«01_k».proof.Proof.Frames
public import proofs.«01_k».proof.Proof.KValue
public import proofs.«01_k».proof.Proof.RValue
public import proofs.«01_k».proof.Proof.Gen.ReferenceIdeal.Run
public import Idealize.ShloMosaic.Lib.Pipeline.ValueKit

@[expose] public section

set_option maxRecDepth 16384

noncomputable section

namespace Cert.KernelIdeal.Value

open Cert.KernelIdeal Cert.KernelIdeal.Gen Cert.KernelIdeal.Rows Cert.KernelIdeal.Body Cert.KernelIdeal.Blocks Cert.KernelIdeal.Run
open Idealize.ShloMosaic Idealize.ShloMosaic.TcCoe Idealize.ShloMosaic.Tactic Idealize.SL.Sem

variable (m : (ℓ : Loc nD τ sig) → Buf (Elt Ideal) ℓ) (c : Dev nD)

/-- The rows a point computes on hold the channels of the tokens routed to its expert. -/
theorem held_rowsAt (t : Fin cfg0.N) (r : Fin 1024) :
    KValue.held (rowsAt m c t) r = Spec.routed (argI m c) (argH m c) (bOf t) (eOf t) r := by
  funext k
  unfold KValue.held Spec.routed
  refine congrArg (fun w => Spec.channel w k) (funext fun j => ?_)
  unfold rowsAt rows
  rw [blkH_apply]
  refine congrArg (argH m c) (funext fun a => Fin.ext ?_)
  have hr : ∀ x : Fin 1024, x.val = 8 * (r.val / 8) + r.val % 8 → x = r := fun x hx => Fin.ext (by omega)
  match a with
  | ⟨0, _⟩ => rfl
  | ⟨1, _⟩ =>
    show (blkI m c t _).toNat % 8192 = (argI m c (ix3 (bOf t) (eOf t) r)).toNat % 8192
    rw [blkI_apply, ix3_eq_valueIdx]
    exact congrArg (fun x : Fin 1024 => (argI m c (ValueIdx.ix3 (bOf t) (eOf t) x)).toNat % 8192) (hr _ rfl)
  | ⟨2, _⟩ => rfl

/-- What a point leaves in its block is the specification's outputs for its expert. -/
theorem outAt_apply (t : Fin cfg0.N) (r d : Fin 1024) : outAt m c t (ix4 0 0 r d)
    = Spec.out (argI m c) (argH m c) (argG m c) (argU m c) (argD m c) (bOf t) (eOf t) r d := by
  unfold outAt Spec.out
  rw [KValue.yOut_apply, held_rowsAt]
  refine Finset.sum_congr rfl fun f _ => ?_
  rw [blkD_apply]
  simp only [blkG_apply, blkU_apply]
  rfl

/-- The result array. -/
def result : S4x16x1024x1024.Idx → EReal := fun i =>
  Spec.out (argI m c) (argH m c) (argG m c) (argU m c) (argD m c) (i 0) (i 1) (i 2) (i 3)

/-- Every point writes its block back and the blocks tile the array. -/
theorem array_eq : (dats m 0 c).arrAt 6 cfg0.N = result m c := by
  refine (dats m 0 c).arrAt_eq_of_covers 6 _ (by decide +kernel) fun t _ y => ?_
  rw [after_out]
  have h0 : (y 0).val < 1 := (y 0).isLt
  have h1 : (y 1).val < 1 := (y 1).isLt
  have hy : y = ix4 (0 : Fin 1) (0 : Fin 1) (⟨(y 2).val, (y 2).isLt⟩ : Fin 1024) (⟨(y 3).val, (y 3).isLt⟩ : Fin 1024) := by
    funext a
    refine Fin.ext ?_
    match a with
    | ⟨0, _⟩ => show (y 0).val = 0; omega
    | ⟨1, _⟩ => show (y 1).val = 0; omega
    | ⟨2, _⟩ => rfl
    | ⟨3, _⟩ => rfl
  have hi : ((cfg0.win 6).blk t).view.emb y = ix4 (bOf t) (eOf t) (⟨(y 2).val, (y 2).isLt⟩ : Fin 1024) (⟨(y 3).val, (y 3).isLt⟩ : Fin 1024) := by
    funext a
    refine Fin.ext ?_
    match a with
    | ⟨0, _⟩ => show win0_6.index t 0 * 1 + 1 * (y 0).val = t.val / 16
                rw [idx6]; show t.val / 16 * 1 + 1 * (y 0).val = _; omega
    | ⟨1, _⟩ => show win0_6.index t 1 * 1 + 1 * (y 1).val = t.val % 16
                rw [idx6]; show t.val % 16 * 1 + 1 * (y 1).val = _; omega
    | ⟨2, _⟩ => show win0_6.index t 2 * 1024 + 1 * (y 2).val = (y 2).val
                rw [idx6]; show 0 * 1024 + 1 * (y 2).val = _; omega
    | ⟨3, _⟩ => show win0_6.index t 3 * 1024 + 1 * (y 3).val = (y 3).val
                rw [idx6]; show 0 * 1024 + 1 * (y 3).val = _; omega
  rw [hi]
  refine Eq.trans ?_ (outAt_apply m c t (⟨(y 2).val, (y 2).isLt⟩ : Fin 1024) (⟨(y 3).val, (y 3).isLt⟩ : Fin 1024))
  exact congrArg (outAt m c t) hy

end Cert.KernelIdeal.Value

namespace Cert.Proof

open Idealize.ShloMosaic Idealize.SL.Sem

attribute [local instance] Cert.Kernel.Gen.facts Cert.KernelIdeal.Gen.facts Cert.ReferenceIdeal.Gen.facts Cert.Pre_in_range.Gen.facts

/-- The reference runs and leaves its arguments; it has no semaphores. -/
theorem frame_referenceIdeal : Cert.quiescent_ReferenceIdeal := fun m ρ _ =>
  (θ_run _ _ _).mono (fun r h => ⟨fun c => (h c).2, sem_eq_zero_of_no_sems (by decide) r.2⟩) (Cert.ReferenceIdeal.Value.run m ρ)

theorem frame_referenceIdeal_in_range : Cert.quiescent_ReferenceIdeal_pre_in_range := fun m ρ _ =>
  frame_referenceIdeal m ρ trivial

/-- The kernel and the reference end with one result. -/
theorem algebraic : Cert.algebraic_KernelIdeal_ReferenceIdeal := fun m ρ m' ρ' hp hargs => by
  have hx : ∀ c y, (Cert.KernelIdeal.Blocks.argI m c y).toNat < 8192 := fun c => lt_of_in_range _ _ _ _ _ (hp c)
  refine ⟨fun c => Cert.KernelIdeal.Value.result m c, ?_, ?_⟩
  · refine (θ_run _ _ _).mono (fun r h c => ⟨?_, Cert.KernelIdeal.Run.args_of h.1 c⟩) (Cert.KernelIdeal.Run.run_main m ρ hx)
    exact ((h.1 c).1 6).trans (Cert.KernelIdeal.Value.array_eq m c)
  · refine (θ_run _ _ _).mono (fun r h c => ⟨(h c).1.trans ?_, (h c).2⟩) (Cert.ReferenceIdeal.Value.run m' ρ')
    rw [Cert.ReferenceIdeal.Read.val_main_v27_eq]
    obtain ⟨e0, e1, e2, e3, e4⟩ := hargs c
    rw [e0, e1, e2, e3, e4]
    funext i
    have hi : i = ix4 (i 0) (i 1) (i 2) (i 3) := by
      funext a
      match a with
      | ⟨0, _⟩ => rfl
      | ⟨1, _⟩ => rfl
      | ⟨2, _⟩ => rfl
      | ⟨3, _⟩ => rfl
    rw [hi]
    exact Cert.ReferenceIdeal.RValue.result _ _ _ _ _ (hx c) (i 0) (i 1) (i 2) (i 3)

end Cert.Proof

end
-- ==== Proof.ProjectSpec.lean ====
/- The input projection of a block of tokens, as plain mathematics: layer normalisation, modulation by a scale and a shift,
   one matrix product, and what each of the five results takes from its columns. -/
module

public import Idealize.ShloMosaic.Lib.Pointwise

@[expose] public section

noncomputable section

namespace Cert.ProjectSpec

open Idealize.ShloMosaic

/-- The mean of a token's channels. -/
def mean (v : Fin 1024 → EReal) : EReal := Ideal.div (∑ k, v k) (Ideal.ofBits .f32 0x44800000#32)

/-- A token's channels normalised, then scaled and shifted. -/
def modulated (v scale shift : Fin 1024 → EReal) (k : Fin 1024) : EReal :=
  (v k - mean v) * Ideal.rsqrt (mean (fun j => (v j - mean v) * (v j - mean v)) + Ideal.ofBits .f32 0x358637BD#32) * (1 + scale k) + shift k

/-- Column `j` of the projection of a token (columns are numbered below 2560). -/
def column (h : Fin 1024 → EReal) (w : Fin 1024 → Fin 2560 → EReal) (j : ℕ) : EReal :=
  ∑ k, h k * w k ⟨j % 2560, Nat.mod_lt _ (by decide)⟩

theorem column_of_lt (h : Fin 1024 → EReal) (w : Fin 1024 → Fin 2560 → EReal) {j : ℕ} (hj : j < 2560) :
    column h w j = ∑ k, h k * w k ⟨j, hj⟩ :=
  Finset.sum_congr rfl fun k _ => congrArg (fun x => h k * w k x) (Fin.ext (Nat.mod_eq_of_lt hj))

/-- The cosine or sine at a lane: a head has 64 lanes, the first half turned by the row's angles and the second by the column's,
    16 angles each. -/
def angle (row col : Fin 16 → EReal) (l : ℕ) : EReal :=
  if l % 64 < 32 then row ⟨l % 16, Nat.mod_lt _ (by decide)⟩ else col ⟨l % 16, Nat.mod_lt _ (by decide)⟩

/-- Lane `l` of the columns from `o` on, turned: lanes 16 apart in a half head are a pair. -/
def turned (p c s : ℕ → EReal) (o l : ℕ) : EReal :=
  if l % 32 < 16 then p (o + l) * c l - p (o + l + 16) * s l else p (o + l) * c l + p (o + l - 16) * s l

/-- Turning is the same 128 lanes on, two heads on, when the angles are. -/
theorem turned_add (p c s : ℕ → EReal) (hc : ∀ l, c (l + 128) = c l) (hs : ∀ l, s (l + 128) = s l) (o l : ℕ) :
    turned p c s o (l + 128) = turned p c s (o + 128) l := by
  unfold turned
  rw [hc, hs, show (l + 128) % 32 = l % 32 by omega, show o + (l + 128) = o + 128 + l by omega]

/-- Two heads on, the angle is the same. -/
theorem angle_add (row col : Fin 16 → EReal) (l : ℕ) : angle row col (l + 128) = angle row col l := by
  unfold angle
  have h : ∀ h1 h2, (⟨(l + 128) % 16, h1⟩ : Fin 16) = ⟨l % 16, h2⟩ := fun _ _ => Fin.ext (by show (l + 128) % 16 = l % 16; omega)
  rw [show (l + 128) % 64 = l % 64 by omega, h _ (Nat.mod_lt _ (by decide))]

/-- Turning written head by head: the half head, then the half of the pair. -/
theorem turned_by_halves (p : ℕ → EReal) (cr sr cc sc : Fin 16 → EReal) (l : ℕ) :
    (if l % 64 < 32 then
      if l % 64 < 16 then
        p l * cr ⟨l % 64 % 16, Nat.mod_lt _ (by decide)⟩ - p (l / 64 * 64 + (16 + l % 64)) * sr ⟨l % 64 % 16, Nat.mod_lt _ (by decide)⟩
      else
        p (l / 64 * 64 + (16 + (l % 64 - 16))) * cr ⟨(l % 64 - 16) % 16, Nat.mod_lt _ (by decide)⟩
          + p (l / 64 * 64 + (l % 64 - 16)) * sr ⟨(l % 64 - 16) % 16, Nat.mod_lt _ (by decide)⟩
    else
      if l % 64 - 32 < 16 then
        p (l / 64 * 64 + (32 + (l % 64 - 32))) * cc ⟨(l % 64 - 32) % 16, Nat.mod_lt _ (by decide)⟩
          - p (l / 64 * 64 + (32 + (16 + (l % 64 - 32)))) * sc ⟨(l % 64 - 32) % 16, Nat.mod_lt _ (by decide)⟩
      else
        p (l / 64 * 64 + (32 + (16 + (l % 64 - 32 - 16)))) * cc ⟨(l % 64 - 32 - 16) % 16, Nat.mod_lt _ (by decide)⟩
          + p (l / 64 * 64 + (32 + (l % 64 - 32 - 16))) * sc ⟨(l % 64 - 32 - 16) % 16, Nat.mod_lt _ (by decide)⟩)
      = turned p (angle cr cc) (angle sr sc) 0 l := by
  have e : ∀ (f : Fin 16 → EReal) (n : ℕ), n % 16 = l % 16 →
      f ⟨n % 16, Nat.mod_lt _ (by decide)⟩ = f ⟨l % 16, Nat.mod_lt _ (by decide)⟩ := fun f n h => congrArg f (Fin.ext h)
  unfold turned angle
  by_cases h : l % 64 < 32
  · rw [if_pos h, if_pos h, if_pos h]
    by_cases h1 : l % 64 < 16
    · rw [if_pos h1, if_pos (show l % 32 < 16 by omega), e cr _ (by omega), e sr _ (by omega), Nat.zero_add,
        show l / 64 * 64 + (16 + l % 64) = l + 16 by omega]
    · rw [if_neg h1, if_neg (show ¬ l % 32 < 16 by omega), e cr _ (by omega), e sr _ (by omega), Nat.zero_add,
        show l / 64 * 64 + (16 + (l % 64 - 16)) = l by omega, show l / 64 * 64 + (l % 64 - 16) = l - 16 by omega]
  · rw [if_neg h, if_neg h, if_neg h]
    by_cases h1 : l % 64 - 32 < 16
    · rw [if_pos h1, if_pos (show l % 32 < 16 by omega), e cc _ (by omega), e sc _ (by omega), Nat.zero_add,
        show l / 64 * 64 + (32 + (l % 64 - 32)) = l by omega, show l / 64 * 64 + (32 + (16 + (l % 64 - 32))) = l + 16 by omega]
    · rw [if_neg h1, if_neg (show ¬ l % 32 < 16 by omega), e cc _ (by omega), e sc _ (by omega), Nat.zero_add,
        show l / 64 * 64 + (32 + (16 + (l % 64 - 32 - 16))) = l by omega, show l / 64 * 64 + (32 + (l % 64 - 32 - 16)) = l - 16 by omega]

/-- Turning the columns from `o` on is turning the columns renumbered from `o`. -/
theorem turned_from (p c s : ℕ → EReal) (o l : ℕ) :
    turned (fun j => p (o + j)) c s 0 l = turned p c s o l := by
  unfold turned
  rw [Nat.zero_add]
  by_cases h1 : l % 32 < 16
  · rw [if_pos h1, if_pos h1, ← show o + (l + 16) = o + l + 16 by omega]
  · rw [if_neg h1, if_neg h1, ← show o + (l - 16) = o + l - 16 by omega]

/-- The attention queries: turned and scaled by one eighth. -/
def qa (p c s : ℕ → EReal) (l : ℕ) : EReal := turned p c s 0 l * Ideal.ofBits .f32 0x3E000000#32

/-- The attention keys, turned, and the values. -/
def kva (p c s : ℕ → EReal) (l : ℕ) : EReal := if l < 128 then turned p c s 384 l else p (384 + l)

/-- The gated input and the gate of the convolution. -/
def ub (p : ℕ → EReal) (l : ℕ) : EReal := if l < 256 then p (1152 + l) * p (640 + l) else p (640 + l)

/-- The queries of the second attention, scaled by one eighth. -/
def qn (p : ℕ → EReal) (l : ℕ) : EReal := p (1408 + l) * Ideal.ofBits .f32 0x3E000000#32

/-- Its keys and values. -/
def kvn (p : ℕ → EReal) (l : ℕ) : EReal := p (1792 + l)

end Cert.ProjectSpec

end
-- ==== Proof.ProjectKernel.lean ====
/- What one grid point of the input projection computes, read at the extended reals. -/
module

public import proofs.«01_k».proof.Proof.ProjectSpec
public import proofs.«01_k».proof.Proof.Gen.ProjectIdeal.Frame
public import Idealize.ShloMosaic.Lib.Pipeline.ValueKit

@[expose] public section

noncomputable section

namespace Cert.ProjectIdeal.KValue

open Cert.ProjectIdeal Cert.ProjectIdeal.Gen
open Idealize.ShloMosaic Idealize.ShloMosaic.TcCoe

/-- The lanes whose partner is 16 lanes up. -/
theorem lane_apply (r : Fin 1024) (l : Fin 128) : k0_pay7 (ix2 r l) = if l.val % 32 < 16 then 1#1 else 0#1 := by
  unfold k0_pay7
  pointwise
  revert l
  decide +kernel

/-- The normalised and modulated tokens of the point. -/
theorem hidden_apply (v0 : S1x1024x1024.Idx → EReal) (v18 v24 : S1x1x1024.Idx → EReal) (r k : Fin 1024) :
    k0_pay3 (F := Ideal) v0 v18 v24 (ix2 r k)
      = ProjectSpec.modulated (fun j => v0 (ix3 0 r j)) (fun j => v18 (ix3 0 0 j)) (fun j => v24 (ix3 0 0 j)) k := by
  unfold k0_pay3
  pointwise
  rfl

section turn
variable (r : Fin 1024) (v31 : S1024x512.Idx → EReal) (cos sin : S1024x128.Idx → EReal) (p c s : ℕ → EReal)

/-- The kernel's turn of a lane: the lane times its cosine plus its partner times the signed sine. -/
theorem turn (h31 : ∀ j (h : j < 512), v31 (ix2 r ⟨j, h⟩) = p j) (hc : ∀ l : Fin 128, cos (ix2 r l) = c l.val)
    (hs : ∀ l : Fin 128, sin (ix2 r l) = if l.val % 32 < 16 then -s l.val else s l.val)
    (o : ℕ) (ho : o + 128 ≤ 512) (l : Fin 128) (a b d : Fin 512) (ha : a.val = o + l.val)
    (hb : b.val = o + (l.val + 128 - 112) % 128) (hd : d.val = o + (l.val + 128 - 16) % 128) :
    v31 (ix2 r a) * cos (ix2 r l) + Scalar.select (k0_pay7 (ix2 r l)) (v31 (ix2 r b)) (v31 (ix2 r d)) * sin (ix2 r l)
      = ProjectSpec.turned p c s o l.val := by
  have hl := l.isLt
  have e : ∀ x : Fin 512, v31 (ix2 r x) = p x.val := fun x => h31 x.val x.isLt
  rw [e, e, e, hc, hs, lane_apply, ha, hb, hd]
  unfold ProjectSpec.turned
  by_cases h : l.val % 32 < 16
  · rw [if_pos h, if_pos h, if_pos h]
    show p (o + l.val) * c l.val + p (o + (l.val + 128 - 112) % 128) * -s l.val = _
    rw [mul_neg, ← sub_eq_add_neg, show o + (l.val + 128 - 112) % 128 = o + l.val + 16 by omega]
  · rw [if_neg h, if_neg h, if_neg h]
    show p (o + l.val) * c l.val + p (o + (l.val + 128 - 16) % 128) * s l.val = _
    rw [show o + (l.val + 128 - 16) % 128 = o + l.val - 16 by omega]

end turn

section point
variable (x0 : S1x1024x1024.Idx → EReal) (x1 x2 : S1x1x1024.Idx → EReal) (x3 x4 : S1024x128.Idx → EReal) (x5 : S1024x2560.Idx → EReal)

/-- The columns of token `r` of the point. -/
def col (r : Fin 1024) : ℕ → EReal :=
  ProjectSpec.column (ProjectSpec.modulated (fun j => x0 (ix3 0 r j)) (fun j => x2 (ix3 0 0 j)) (fun j => x1 (ix3 0 0 j)))
    (fun k j => x5 (ix2 k j))

/-- A sum the kernel forms is one of the columns. -/
theorem sum_eq_col (r : Fin 1024) (j : ℕ) (a : Fin 2560) (ha : a.val = j) :
    ∑ k, k0_pay3 (F := Ideal) x0 x2 x1 (ix2 r k) * x5 (ix2 k a) = col x0 x1 x2 x5 r j := by
  subst ha
  unfold col
  rw [ProjectSpec.column_of_lt _ _ a.isLt]
  exact Finset.sum_congr rfl fun k _ => by rw [hidden_apply]

theorem zero3 : (![0, 0, 0] : Fin 3 → ℕ) = fun _ => 0 := by funext a; fin_cases a <;> rfl
theorem zero2 : (![0, 0] : Fin 2 → ℕ) = fun _ => 0 := by funext a; fin_cases a <;> rfl

theorem pay18_eq : k0_pay18 (F := Ideal) x0 x1 x2 x3 x4 x5 = k0_pay3 (F := Ideal) x0 x2 x1 := by
  unfold k0_pay18
  rw [View.ld_unit_zero zero3, View.ld_unit_zero zero3, View.ld_unit_zero zero3]

theorem pay19_apply (r : Fin 1024) (j : ℕ) (h : j < 512) : k0_pay19 (F := Ideal) x0 x1 x2 x3 x4 x5 (ix2 r ⟨j, h⟩) = col x0 x1 x2 x5 r j := by
  unfold k0_pay19
  rw [View.ld_unit_zero zero3, View.ld_unit_zero zero3, View.ld_unit_zero zero3]
  unfold k0_pay4
  have e := sum_eq_col x0 x1 x2 x5 r j ⟨j, by omega⟩ rfl
  generalize k0_pay3 (F := Ideal) x0 x2 x1 = v at e ⊢
  rw [← e]
  pointwise

theorem pay20_eq : k0_pay20 (F := Ideal) x0 x1 x2 x3 x4 x5 = x3 := by
  unfold k0_pay20 k0_pay5
  rw [View.ld_unit_zero zero2]
  funext y
  pointwise

theorem pay21_eq : k0_pay21 (F := Ideal) x0 x1 x2 x3 x4 x5 = x4 := by
  unfold k0_pay21 k0_pay6
  rw [View.ld_unit_zero zero2]
  funext y
  pointwise

/-- The block of the second attention's queries. -/
theorem out9_apply (r : Fin 1024) (l : Fin 384) :
    out0_9 (F := Ideal) x0 x1 x2 x3 x4 x5 (ix3 0 r l) = ProjectSpec.qn (col x0 x1 x2 x5 r) l.val := by
  unfold out0_9 ProjectSpec.qn
  rw [View.canon_unit_zero zero3, pay18_eq]
  have e := sum_eq_col x0 x1 x2 x5 r (1408 + l.val) ⟨1408 + l.val, by omega⟩ rfl
  generalize k0_pay3 (F := Ideal) x0 x2 x1 = v at e ⊢
  rw [← e]
  unfold k0_pay1 k0_pay17
  pointwise

/-- The block of its keys and values. -/
theorem out10_apply (r : Fin 1024) (l : Fin 768) :
    out0_10 (F := Ideal) x0 x1 x2 x3 x4 x5 (ix3 0 r l) = ProjectSpec.kvn (col x0 x1 x2 x5 r) l.val := by
  unfold out0_10 ProjectSpec.kvn
  rw [View.canon_unit_zero zero3, pay18_eq]
  have e := sum_eq_col x0 x1 x2 x5 r (1792 + l.val) ⟨1792 + l.val, by omega⟩ rfl
  generalize k0_pay3 (F := Ideal) x0 x2 x1 = v at e ⊢
  rw [← e]
  unfold k0_pay2
  pointwise

/-- The block of the gated input and the gate. -/
theorem out8_apply (r : Fin 1024) (l : Fin 512) :
    out0_8 (F := Ideal) x0 x1 x2 x3 x4 x5 (ix3 0 r l) = ProjectSpec.ub (col x0 x1 x2 x5 r) l.val := by
  have hl := l.isLt
  unfold out0_8 ProjectSpec.ub
  rw [View.canon_unit_zero zero3, pay18_eq]
  have e := fun j a => sum_eq_col x0 x1 x2 x5 r j a
  generalize k0_pay3 (F := Ideal) x0 x2 x1 = v at e ⊢
  unfold k0_pay16
  pointwise
  by_cases h : l.val < 256
  · rw [dif_pos h, if_pos h]
    refine congrArg₂ (· * ·) (e _ _ ?_) (e _ _ ?_)
    · show 640 + (512 + l.val) = _; omega
    · rfl
  · rw [dif_neg h, if_neg h]
    refine e _ _ ?_
    show 640 + (256 + (l.val - 256)) = _; omega

variable (c s : ℕ → EReal) (r : Fin 1024) (hc : ∀ l : Fin 128, x3 (ix2 r l) = c l.val)
  (hs : ∀ l : Fin 128, x4 (ix2 r l) = if l.val % 32 < 16 then -s l.val else s l.val)
include hc hs

/-- The block of the attention's keys and values. -/
theorem out7_apply (l : Fin 256) :
    out0_7 (F := Ideal) x0 x1 x2 x3 x4 x5 (ix3 0 r l) = ProjectSpec.kva (col x0 x1 x2 x5 r) c s l.val := by
  have hl := l.isLt
  unfold out0_7 ProjectSpec.kva
  rw [View.canon_unit_zero zero3, pay18_eq, pay20_eq, pay21_eq]
  have e := fun j a => sum_eq_col x0 x1 x2 x5 r j a
  have t := turn r _ x3 x4 _ c s (pay19_apply x0 x1 x2 x3 x4 x5 r) hc hs
  generalize k0_pay3 (F := Ideal) x0 x2 x1 = v at e ⊢
  generalize k0_pay19 (F := Ideal) x0 x1 x2 x3 x4 x5 = v31 at t ⊢
  unfold k0_pay15 k0_pay12 k0_pay13 k0_pay11
  pointwise
  by_cases h : l.val < 128
  · rw [dif_pos h, if_pos h]
    exact t 384 (by omega) ⟨l.val, h⟩ _ _ _ rfl rfl rfl
  · rw [dif_neg h, if_neg h]
    refine e _ _ ?_
    show 512 + (l.val - 128) = _; omega

/-- The block of the attention's queries: two heads at a time, on one table of angles. -/
theorem out6_apply (hc' : ∀ l, c (l + 128) = c l) (hs' : ∀ l, s (l + 128) = s l) (l : Fin 384) :
    out0_6 (F := Ideal) x0 x1 x2 x3 x4 x5 (ix3 0 r l) = ProjectSpec.qa (col x0 x1 x2 x5 r) c s l.val := by
  have hl := l.isLt
  unfold out0_6 ProjectSpec.qa
  rw [View.canon_unit_zero zero3, pay20_eq, pay21_eq]
  have t := turn r _ x3 x4 _ c s (pay19_apply x0 x1 x2 x3 x4 x5 r) hc hs
  generalize k0_pay19 (F := Ideal) x0 x1 x2 x3 x4 x5 = v31 at t ⊢
  unfold k0_pay14 k0_pay8 k0_pay9 k0_pay10
  pointwise
  refine congrArg (· * Ideal.ofBits FTy.f32 1040187392#32) ?_
  have hz : ∀ n : ℕ, n = 0 + n := fun n => (Nat.zero_add n).symm
  by_cases h : l.val < 128
  · rw [dif_pos h]
    exact t 0 (by omega) ⟨l.val, h⟩ _ _ _ (hz _) (hz _) (hz _)
  · rw [dif_neg h]
    by_cases h' : l.val - 128 < 128
    · rw [dif_pos h']
      refine (t 128 (by omega) ⟨l.val - 128, h'⟩ _ _ _ rfl rfl rfl).trans ?_
      rw [← ProjectSpec.turned_add _ c s hc' hs' 0, show (⟨l.val - 128, h'⟩ : Fin 128).val + 128 = l.val from Nat.sub_add_cancel (by omega)]
    · rw [dif_neg h']
      refine (t 256 (by omega) ⟨l.val - 128 - 128, by omega⟩ _ _ _ rfl rfl rfl).trans ?_
      rw [← ProjectSpec.turned_add _ c s hc' hs' 128, ← ProjectSpec.turned_add _ c s hc' hs' 0]
      exact congrArg _ (show l.val - 128 - 128 + 128 + 128 = l.val by omega)

end point

end Cert.ProjectIdeal.KValue

end
-- ==== Proof.ProjectBlocks.lean ====
/- The blocks the input projection's points read, in terms of its arguments. -/
module

public import proofs.«01_k».proof.Proof.ProjectKernel

@[expose] public section

set_option maxRecDepth 16384

noncomputable section

namespace Cert.ProjectIdeal.Blocks

open Cert.ProjectIdeal Cert.ProjectIdeal.Gen
open Idealize.ShloMosaic Idealize.ShloMosaic.TcCoe Idealize.ShloMosaic.Tactic Idealize.SL.Sem

variable (m : (ℓ : Loc nD τ sig) → Buf (Elt Ideal) ℓ) (c : Dev nD)

abbrev argX : S4x8192x1024.Idx → EReal := m ((c : Thread nD τ).loc main_arg0)
abbrev argShift : S4x1x1024.Idx → EReal := m ((c : Thread nD τ).loc main_arg1)
abbrev argScale : S4x1x1024.Idx → EReal := m ((c : Thread nD τ).loc main_arg2)
abbrev argCosRow : S8192x16.Idx → EReal := m ((c : Thread nD τ).loc main_arg3)
abbrev argSinRow : S8192x16.Idx → EReal := m ((c : Thread nD τ).loc main_arg4)
abbrev argCosCol : S8192x16.Idx → EReal := m ((c : Thread nD τ).loc main_arg5)
abbrev argSinCol : S8192x16.Idx → EReal := m ((c : Thread nD τ).loc main_arg6)
abbrev argW : S1024x2560.Idx → EReal := m ((c : Thread nD τ).loc main_arg7)

/-- A point's batch row. -/
def bOf (t : Fin cfg0.N) : Fin 4 := ⟨t.val / 8, by have h : t.val < 32 := t.isLt; omega⟩
/-- A point's token: 1024 to a point. -/
def sOf (t : Fin cfg0.N) (r : Fin 1024) : Fin 8192 := ⟨t.val % 8 * 1024 + r.val, by omega⟩

/-- A table of 64 lanes to a token, one 32 for the row and one for the column, laid twice over. -/
def table (a1 a2 b1 b2 : S8192x16.Idx → EReal) : S8192x128.Idx → EReal :=
  shapeCast S8192x128 (broadcastInDim S1x8192x2x64 ![0, 1, 2, 3] bcast_S1x8192x1x64_S1x8192x2x64_0_1_2_3
    (shapeCast S1x8192x1x64 (concatenate S8192x64 1 [⟨S8192x32, concatenate S8192x32 1 [⟨S8192x16, a1⟩, ⟨S8192x16, a2⟩] concatenates_S8192x16_S8192x16_S8192x32_d1⟩,
      ⟨S8192x32, concatenate S8192x32 1 [⟨S8192x16, b1⟩, ⟨S8192x16, b2⟩] concatenates_S8192x16_S8192x16_S8192x32_d1⟩] concatenates_S8192x32_S8192x32_S8192x64_d1)
      shapeCasts_S8192x64_S1x8192x1x64)) shapeCasts_S1x8192x2x64_S8192x128

/-- The table read at a lane: the first array of its half in the half's first 16 lanes, the second in the others. -/
theorem table_apply (a1 a2 b1 b2 : S8192x16.Idx → EReal) (s : Fin 8192) (l : Fin 128) :
    table a1 a2 b1 b2 (ix2 s l) = if l.val % 32 < 16 then ProjectSpec.angle (fun k => a1 (ix2 s k)) (fun k => b1 (ix2 s k)) l.val
      else ProjectSpec.angle (fun k => a2 (ix2 s k)) (fun k => b2 (ix2 s k)) l.val := by
  have e : ∀ (f : S8192x16.Idx → EReal) (n : ℕ) (h : n < 16), n = l.val % 16 →
      f (ix2 s ⟨n, h⟩) = f (ix2 s ⟨l.val % 16, Nat.mod_lt _ (by decide)⟩) :=
    fun f n h hn => congrArg (fun k => f (ix2 s k)) (Fin.ext hn)
  unfold table ProjectSpec.angle
  pointwise
  by_cases h : l.val % 64 < 32
  · rw [dif_pos h, if_pos h, if_pos h]
    by_cases h1 : l.val % 64 < 16
    · rw [dif_pos h1, if_pos (show l.val % 32 < 16 by omega)]
      exact e a1 _ _ (by omega)
    · rw [dif_neg h1, if_neg (show ¬ l.val % 32 < 16 by omega)]
      exact e a2 _ _ (by omega)
  · rw [dif_neg h, if_neg h, if_neg h]
    by_cases h1 : l.val % 64 - 32 < 16
    · rw [dif_pos h1, if_pos (show l.val % 32 < 16 by omega)]
      exact e b1 _ _ (by omega)
    · rw [dif_neg h1, if_neg (show ¬ l.val % 32 < 16 by omega)]
      exact e b2 _ _ (by omega)

/-- The tables and the weights the host lays out. -/
theorem V_v9 : V m c main_v9 = table (argCosRow m c) (argCosRow m c) (argCosCol m c) (argCosCol m c) := by
  unfold V; after_results; rfl
theorem V_v13 : V m c main_v13 = table (Host.negf (F := Ideal) (φ := .f32) (argSinRow m c)) (argSinRow m c) (Host.negf (F := Ideal) (φ := .f32) (argSinCol m c)) (argSinCol m c) := by
  unfold V; after_results; rfl
theorem V_v14 : V m c main_v14 = argW m c := by
  unfold V; after_results; rfl

theorem idx0 : ∀ t : Fin grid0.N, win0_0.index t = ![t.val / 8, t.val % 8, 0] := by decide +kernel
theorem idx1 : ∀ t : Fin grid0.N, win0_1.index t = ![t.val / 8, 0, 0] := by decide +kernel
theorem idx2 : ∀ t : Fin grid0.N, win0_2.index t = ![t.val / 8, 0, 0] := by decide +kernel
theorem idx3 : ∀ t : Fin grid0.N, win0_3.index t = ![t.val % 8, 0] := by decide +kernel
theorem idx4 : ∀ t : Fin grid0.N, win0_4.index t = ![t.val % 8, 0] := by decide +kernel
theorem idx5 : ∀ t : Fin grid0.N, win0_5.index t = ![0, 0] := by decide +kernel

/-- The point's tokens. -/
theorem blk0_apply (t : Fin cfg0.N) (r k : Fin 1024) :
    (iblk m c 0 t : S1x1024x1024.Idx → EReal) (ix3 0 r k) = argX m c (ix3 (bOf t) (sOf t r) k) := by
  unfold iblk
  rw [View.read_apply, cast_eq]
  show V m c main_arg0 _ = _
  rw [V_main_arg0]
  refine congrArg (argX m c) (funext fun a => Fin.ext ?_)
  match a with
  | ⟨0, _⟩ => show win0_0.index t 0 * 1 + 1 * 0 = t.val / 8
              rw [idx0]; show t.val / 8 * 1 + 1 * 0 = _; omega
  | ⟨1, _⟩ => show win0_0.index t 1 * 1024 + 1 * r.val = t.val % 8 * 1024 + r.val
              rw [idx0]; show t.val % 8 * 1024 + 1 * r.val = _; omega
  | ⟨2, _⟩ => show win0_0.index t 2 * 1024 + 1 * k.val = k.val
              rw [idx0]; show 0 * 1024 + 1 * k.val = _; omega

/-- The shift of the point's batch row. -/
theorem blk1_apply (t : Fin cfg0.N) (k : Fin 1024) :
    (iblk m c 1 t : S1x1x1024.Idx → EReal) (ix3 0 0 k) = argShift m c (ix3 (bOf t) 0 k) := by
  unfold iblk
  rw [View.read_apply, cast_eq]
  show V m c main_arg1 _ = _
  rw [V_main_arg1]
  refine congrArg (argShift m c) (funext fun a => Fin.ext ?_)
  match a with
  | ⟨0, _⟩ => show win0_1.index t 0 * 1 + 1 * 0 = t.val / 8
              rw [idx1]; show t.val / 8 * 1 + 1 * 0 = _; omega
  | ⟨1, _⟩ => rfl
  | ⟨2, _⟩ => show win0_1.index t 2 * 1024 + 1 * k.val = k.val
              rw [idx1]; show 0 * 1024 + 1 * k.val = _; omega

/-- The scale of the point's batch row. -/
theorem blk2_apply (t : Fin cfg0.N) (k : Fin 1024) :
    (iblk m c 2 t : S1x1x1024.Idx → EReal) (ix3 0 0 k) = argScale m c (ix3 (bOf t) 0 k) := by
  unfold iblk
  rw [View.read_apply, cast_eq]
  show V m c main_arg2 _ = _
  rw [V_main_arg2]
  refine congrArg (argScale m c) (funext fun a => Fin.ext ?_)
  match a with
  | ⟨0, _⟩ => show win0_2.index t 0 * 1 + 1 * 0 = t.val / 8
              rw [idx2]; show t.val / 8 * 1 + 1 * 0 = _; omega
  | ⟨1, _⟩ => rfl
  | ⟨2, _⟩ => show win0_2.index t 2 * 1024 + 1 * k.val = k.val
              rw [idx2]; show 0 * 1024 + 1 * k.val = _; omega

/-- The cosines and sines of a token of the point, lane by lane. -/
def cosAt (s : Fin 8192) : ℕ → EReal :=
  ProjectSpec.angle (fun k => argCosRow m c (ix2 s k)) (fun k => argCosCol m c (ix2 s k))
def sinAt (s : Fin 8192) : ℕ → EReal :=
  ProjectSpec.angle (fun k => argSinRow m c (ix2 s k)) (fun k => argSinCol m c (ix2 s k))

theorem blk3_apply (t : Fin cfg0.N) (r : Fin 1024) (l : Fin 128) :
    (iblk m c 3 t : S1024x128.Idx → EReal) (ix2 r l) = cosAt m c (sOf t r) l.val := by
  unfold iblk
  rw [View.read_apply, cast_eq]
  show V m c main_v9 _ = _
  rw [V_v9]
  refine Eq.trans (congrArg _ (?_ : _ = ix2 (sOf t r) l)) ((table_apply _ _ _ _ _ _).trans (ite_self _))
  funext a
  refine Fin.ext ?_
  match a with
  | ⟨0, _⟩ => show win0_3.index t 0 * 1024 + 1 * r.val = t.val % 8 * 1024 + r.val
              rw [idx3]; show t.val % 8 * 1024 + 1 * r.val = _; omega
  | ⟨1, _⟩ => show win0_3.index t 1 * 128 + 1 * l.val = l.val
              rw [idx3]; show 0 * 128 + 1 * l.val = _; omega

theorem angle_neg (a b : Fin 16 → EReal) (l : ℕ) : ProjectSpec.angle (fun k => -a k) (fun k => -b k) l = -ProjectSpec.angle a b l := by
  unfold ProjectSpec.angle
  split <;> rfl

theorem blk4_apply (t : Fin cfg0.N) (r : Fin 1024) (l : Fin 128) :
    (iblk m c 4 t : S1024x128.Idx → EReal) (ix2 r l)
      = if l.val % 32 < 16 then -sinAt m c (sOf t r) l.val else sinAt m c (sOf t r) l.val := by
  unfold iblk
  rw [View.read_apply, cast_eq]
  show V m c main_v13 _ = _
  rw [V_v13]
  unfold sinAt
  rw [← angle_neg]
  refine Eq.trans (congrArg _ (?_ : _ = ix2 (sOf t r) l)) (table_apply _ _ _ _ _ _)
  funext a
  refine Fin.ext ?_
  match a with
  | ⟨0, _⟩ => show win0_4.index t 0 * 1024 + 1 * r.val = t.val % 8 * 1024 + r.val
              rw [idx4]; show t.val % 8 * 1024 + 1 * r.val = _; omega
  | ⟨1, _⟩ => show win0_4.index t 1 * 128 + 1 * l.val = l.val
              rw [idx4]; show 0 * 128 + 1 * l.val = _; omega

/-- The weights. -/
theorem blk5_apply (t : Fin cfg0.N) (k : Fin 1024) (j : Fin 2560) :
    (iblk m c 5 t : S1024x2560.Idx → EReal) (ix2 k j) = argW m c (ix2 k j) := by
  unfold iblk
  rw [View.read_apply, cast_eq]
  show V m c main_v14 _ = _
  rw [V_v14]
  refine congrArg (argW m c) (funext fun a => Fin.ext ?_)
  match a with
  | ⟨0, _⟩ => show win0_5.index t 0 * 1024 + 1 * k.val = k.val
              rw [idx5]; show 0 * 1024 + 1 * k.val = _; omega
  | ⟨1, _⟩ => show win0_5.index t 1 * 2560 + 1 * j.val = j.val
              rw [idx5]; show 0 * 2560 + 1 * j.val = _; omega

/-- The columns of a token. -/
def colAt (b : Fin 4) (s : Fin 8192) : ℕ → EReal :=
  ProjectSpec.column (ProjectSpec.modulated (fun j => argX m c (ix3 b s j)) (fun j => argScale m c (ix3 b 0 j)) (fun j => argShift m c (ix3 b 0 j)))
    (fun k j => argW m c (ix2 k j))

theorem col_eq (t : Fin cfg0.N) (r : Fin 1024) :
    KValue.col (iblk m c 0 t) (iblk m c 1 t) (iblk m c 2 t) (iblk m c 5 t) r = colAt m c (bOf t) (sOf t r) := by
  unfold KValue.col colAt
  congr 1
  · congr 1
    · exact funext fun j => blk0_apply m c t r j
    · exact funext fun j => blk2_apply m c t j
    · exact funext fun j => blk1_apply m c t j
  · exact funext fun k => funext fun j => blk5_apply m c t k j

end Cert.ProjectIdeal.Blocks

end
-- ==== Proof.ProjectFrames.lean ====
/- The frames of the input projection, of its reference and of the closing mix. -/
module

public import proofs.«01_k».proof.Defs
public import proofs.«01_k».proof.Proof.Gen.Project
public import proofs.«01_k».proof.Proof.Gen.Project.Frame
public import proofs.«01_k».proof.Proof.Gen.ProjectIdeal
public import proofs.«01_k».proof.Proof.Gen.ProjectIdeal.Frame
public import proofs.«01_k».proof.Proof.Gen.ProjectReferenceIdeal
public import proofs.«01_k».proof.Proof.Gen.ProjectReferenceIdeal.Run
public import proofs.«01_k».proof.Proof.Gen.Close
public import proofs.«01_k».proof.Proof.Gen.Close.Frame

@[expose] public section

noncomputable section

namespace Cert.Proof

open Idealize.ShloMosaic Idealize.SL.Sem

attribute [local instance] Cert.Project.Gen.facts Cert.ProjectIdeal.Gen.facts Cert.ProjectReferenceIdeal.Gen.facts Cert.Close.Gen.facts

theorem frame_project : Cert.quiescent_Project := fun m ρ _ => Cert.Project.Gen.frame m ρ

theorem frame_projectIdeal : Cert.quiescent_ProjectIdeal := fun m ρ _ => Cert.ProjectIdeal.Gen.frame m ρ

/-- The reference runs and leaves its arguments; it has no semaphores. -/
theorem frame_projectReferenceIdeal : Cert.quiescent_ProjectReferenceIdeal := fun m ρ _ =>
  (θ_run _ _ _).mono (fun r h => ⟨fun c => (h c).2.2.2.2.2, sem_eq_zero_of_no_sems (by decide) r.2⟩) (Cert.ProjectReferenceIdeal.Value.run m ρ)

theorem frame_close : Cert.quiescent_Close := fun m ρ _ => Cert.Close.Gen.frame m ρ

end Cert.Proof

end
-- ==== Proof.ProjectReference.lean ====
/- The reference projection's results, element by element. -/
module

public import proofs.«01_k».proof.Proof.ProjectSpec
public import proofs.«01_k».proof.Proof.Gen.ProjectReferenceIdeal.Read

@[expose] public section

noncomputable section

namespace Cert.ProjectReferenceIdeal.RValue

open Cert.ProjectReferenceIdeal Cert.ProjectReferenceIdeal.Gen Cert.ProjectReferenceIdeal.Read
open Idealize.ShloMosaic Idealize.ShloMosaic.TcCoe

variable (x : S4x8192x1024.Idx → EReal) (sh sc : S4x1x1024.Idx → EReal) (cr sr cc sn : S8192x16.Idx → EReal) (w : S1024x2560.Idx → EReal)

/-- The normalised and modulated tokens. -/
theorem hidden (b : Fin 4) (s : Fin 8192) (k : Fin 1024) : val_main_v23 (F := Ideal) x sh sc (ix3 b s k)
    = ProjectSpec.modulated (fun j => x (ix3 b s j)) (fun j => sc (ix3 b 0 j)) (fun j => sh (ix3 b 0 j)) k := by
  unfold val_main_v23 val_main_v22 val_main_v21 val_main_v20 val_main_v19 val_main_v18 val_main_v17 val_main_v16 val_main_v15 val_main_v14
    val_main_v13 val_main_v12 val_main_v11 val_main_v10 val_main_v9 val_main_v8 val_main_v7 val_main_v6 val_main_v5 val_main_v4 val_main_v3
    val_main_v2 val_main_v1 val_main_v0 val_main_cst val_main_cst_0 val_main_cst_1 val_main_cst_2 val_main_cst_3 val_main_cst_4
  pointwise
  rfl

/-- The columns of a token. -/
def col (b : Fin 4) (s : Fin 8192) : ℕ → EReal :=
  ProjectSpec.column (ProjectSpec.modulated (fun j => x (ix3 b s j)) (fun j => sc (ix3 b 0 j)) (fun j => sh (ix3 b 0 j))) (fun k j => w (ix2 k j))

theorem projected (b : Fin 4) (s : Fin 8192) (j : ℕ) (h : j < 2560) :
    val_main_v24 (F := Ideal) x sh sc w (ix3 b s ⟨j, h⟩) = col x sh sc w b s j := by
  unfold val_main_v24 col
  rw [ProjectSpec.column_of_lt _ _ h]
  have e := hidden x sh sc b s
  generalize val_main_v23 (F := Ideal) x sh sc = v at e ⊢
  pointwise [e]

/-- The cosines or sines of a token's position along one axis. -/
def row (v : S8192x16.Idx → EReal) (s : Fin 8192) : Fin 16 → EReal := fun k => v (ix2 s k)

/-- A table read within its bounds, the position written to be in them whatever it is. -/
theorem row_apply (v : S8192x16.Idx → EReal) (s : Fin 8192) (n : ℕ) (h : n < 16) :
    v (ix2 s ⟨n, h⟩) = row v s ⟨n % 16, Nat.mod_lt _ (by decide)⟩ :=
  congrArg (row v s) (Fin.ext (Nat.mod_eq_of_lt h).symm)

/-- The queries, turned. -/
theorem queries (b : Fin 4) (s : Fin 8192) (l : Fin 384) : val_main_v60 (F := Ideal) x sh sc cr sr cc sn w (ix3 b s l)
    = ProjectSpec.turned (col x sh sc w b s) (ProjectSpec.angle (row cr s) (row cc s)) (ProjectSpec.angle (row sr s) (row sn s)) 0 l.val := by
  rw [← ProjectSpec.turned_by_halves]
  unfold val_main_v60 val_main_v59 val_main_v58 val_main_v57 val_main_v56 val_main_v55 val_main_v54 val_main_v53 val_main_v52 val_main_v51
    val_main_v50 val_main_v49 val_main_v48 val_main_v47 val_main_v46 val_main_v45 val_main_v44 val_main_v43 val_main_v42 val_main_v41
    val_main_v40 val_main_v39 val_main_v38 val_main_v37 val_main_v36 val_main_v35 val_main_v34 val_main_v33 val_main_v32 val_main_v31
    val_main_v30 val_main_v29 val_main_v28 val_main_v27 val_main_v26 val_main_v25
  have e := projected x sh sc w b s
  generalize val_main_v24 (F := Ideal) x sh sc w = g at e ⊢
  pointwise
  simp only [e, row_apply cr, row_apply sr, row_apply cc, row_apply sn, dite_eq_ite]

/-- The keys, turned. -/
theorem keys (b : Fin 4) (s : Fin 8192) (l : Fin 128) : val_main_v96 (F := Ideal) x sh sc cr sr cc sn w (ix3 b s l)
    = ProjectSpec.turned (col x sh sc w b s) (ProjectSpec.angle (row cr s) (row cc s)) (ProjectSpec.angle (row sr s) (row sn s)) 384 l.val := by
  rw [← ProjectSpec.turned_from, ← ProjectSpec.turned_by_halves]
  unfold val_main_v96 val_main_v95 val_main_v94 val_main_v93 val_main_v92 val_main_v91 val_main_v90 val_main_v89 val_main_v88 val_main_v87
    val_main_v86 val_main_v85 val_main_v84 val_main_v83 val_main_v82 val_main_v81 val_main_v80 val_main_v79 val_main_v78 val_main_v77
    val_main_v76 val_main_v75 val_main_v74 val_main_v73 val_main_v72 val_main_v71 val_main_v70 val_main_v69 val_main_v68 val_main_v67
    val_main_v66 val_main_v65 val_main_v64 val_main_v63 val_main_v62 val_main_v61
  have e := projected x sh sc w b s
  generalize val_main_v24 (F := Ideal) x sh sc w = g at e ⊢
  pointwise
  simp only [e, row_apply cr, row_apply sr, row_apply cc, row_apply sn, dite_eq_ite]

/-- The five results. -/
theorem result0 (b : Fin 4) (s : Fin 8192) (l : Fin 384) : val_main_v110 (F := Ideal) x sh sc cr sr cc sn w (ix3 b s l)
    = ProjectSpec.qa (col x sh sc w b s) (ProjectSpec.angle (row cr s) (row cc s)) (ProjectSpec.angle (row sr s) (row sn s)) l.val := by
  unfold ProjectSpec.qa
  rw [val_main_v110_apply, val_main_v104_apply, val_main_v103_apply, queries, val_main_cst_5_apply]
  exact rfl

theorem result1 (b : Fin 4) (s : Fin 8192) (l : Fin 256) : val_main_v111 (F := Ideal) x sh sc cr sr cc sn w (ix3 b s l)
    = ProjectSpec.kva (col x sh sc w b s) (ProjectSpec.angle (row cr s) (row cc s)) (ProjectSpec.angle (row sr s) (row sn s)) l.val := by
  have hl := l.isLt
  unfold val_main_v111 val_main_v105 val_main_v97 ProjectSpec.kva
  have k := keys x sh sc cr sr cc sn w b s
  have e := projected x sh sc w b s
  generalize val_main_v96 (F := Ideal) x sh sc cr sr cc sn w = g at k ⊢
  generalize val_main_v24 (F := Ideal) x sh sc w = v at e ⊢
  pointwise [k, e]
  by_cases h : l.val < 128
  · rw [dif_pos h, if_pos h]
  · rw [dif_neg h, if_neg h]
    exact congrArg _ (show 512 + (l.val - 128) = 384 + l.val by omega)

theorem result2 (b : Fin 4) (s : Fin 8192) (l : Fin 512) : val_main_v112 (F := Ideal) x sh sc w (ix3 b s l)
    = ProjectSpec.ub (col x sh sc w b s) l.val := by
  have hl := l.isLt
  unfold val_main_v112 val_main_v107 val_main_v106 val_main_v100 val_main_v99 val_main_v98 ProjectSpec.ub
  have e := projected x sh sc w b s
  generalize val_main_v24 (F := Ideal) x sh sc w = v at e ⊢
  pointwise [e]
  by_cases h : l.val < 256
  · rw [dif_pos h, if_pos h]
  · rw [dif_neg h, if_neg h]
    exact congrArg _ (show 896 + (l.val - 256) = 640 + l.val by omega)

theorem result3 (b : Fin 4) (s : Fin 8192) (l : Fin 384) : val_main_v113 (F := Ideal) x sh sc w (ix3 b s l)
    = ProjectSpec.qn (col x sh sc w b s) l.val := by
  unfold val_main_v113 val_main_v109 val_main_v108 val_main_v101 val_main_cst_6 ProjectSpec.qn
  have e := projected x sh sc w b s
  generalize val_main_v24 (F := Ideal) x sh sc w = v at e ⊢
  pointwise [e]

theorem result4 (b : Fin 4) (s : Fin 8192) (l : Fin 768) : val_main_v114 (F := Ideal) x sh sc w (ix3 b s l)
    = ProjectSpec.kvn (col x sh sc w b s) l.val := by
  unfold val_main_v114 val_main_v102 ProjectSpec.kvn
  have e := projected x sh sc w b s
  generalize val_main_v24 (F := Ideal) x sh sc w = v at e ⊢
  pointwise [e]

end Cert.ProjectReferenceIdeal.RValue

end
-- ==== Proof.ProjectValue.lean ====
/- The input projection's five result arrays, and the reference's. -/
module

public import proofs.«01_k».proof.Proof.ProjectBlocks
public import proofs.«01_k».proof.Proof.ProjectFrames
public import proofs.«01_k».proof.Proof.ProjectReference
public import proofs.«01_k».proof.Proof.Gen.ProjectIdeal.Value

@[expose] public section

set_option maxRecDepth 16384

noncomputable section

namespace Cert.ProjectIdeal.Arrays

open Cert.ProjectIdeal Cert.ProjectIdeal.Gen Cert.ProjectIdeal.Blocks
open Idealize.ShloMosaic Idealize.ShloMosaic.TcCoe Idealize.ShloMosaic.Tactic Idealize.SL.Sem

variable (m : (ℓ : Loc nD τ sig) → Buf (Elt Ideal) ℓ) (c : Dev nD)

theorem idx6 : ∀ t : Fin grid0.N, win0_6.index t = ![t.val / 8, t.val % 8, 0] := by decide +kernel
theorem idx7 : ∀ t : Fin grid0.N, win0_7.index t = ![t.val / 8, t.val % 8, 0] := by decide +kernel
theorem idx8 : ∀ t : Fin grid0.N, win0_8.index t = ![t.val / 8, t.val % 8, 0] := by decide +kernel
theorem idx9 : ∀ t : Fin grid0.N, win0_9.index t = ![t.val / 8, t.val % 8, 0] := by decide +kernel
theorem idx10 : ∀ t : Fin grid0.N, win0_10.index t = ![t.val / 8, t.val % 8, 0] := by decide +kernel

/-- An index of a block of one batch row and 1024 tokens, by its coordinates. -/
theorem block_idx {n : ℕ} (y : Shape.Idx (⟨3, ![1, 1024, n]⟩ : Shape)) :
    y = ix3 (0 : Fin 1) (⟨(y 1).val, (y 1).isLt⟩ : Fin 1024) (⟨(y 2).val, (y 2).isLt⟩ : Fin n) := by
  have h0 : (y 0).val < 1 := (y 0).isLt
  funext a
  refine Fin.ext ?_
  match a with
  | ⟨0, _⟩ => show (y 0).val = 0; omega
  | ⟨1, _⟩ => rfl
  | ⟨2, _⟩ => rfl

/-- Where a point's block stands in a result array: block row `i 0`, tokens 1024 to a block. -/
theorem array_idx {n : ℕ} (t : Fin cfg0.N) (y : Shape.Idx (⟨3, ![1, 1024, n]⟩ : Shape)) (e : Shape.Idx (⟨3, ![4, 8192, n]⟩ : Shape)) (i : Fin 3 → ℕ)
    (hi : i = ![t.val / 8, t.val % 8, 0])
    (h0 : (e 0).val = i 0 * 1 + 1 * (y 0).val) (h1 : (e 1).val = i 1 * 1024 + 1 * (y 1).val) (h2 : (e 2).val = i 2 * n + 1 * (y 2).val) :
    e = ix3 (bOf t) (sOf t (⟨(y 1).val, (y 1).isLt⟩ : Fin 1024)) (⟨(y 2).val, (y 2).isLt⟩ : Fin n) := by
  have hy : (y 0).val < 1 := (y 0).isLt
  subst hi
  funext a
  refine Fin.ext ?_
  match a with
  | ⟨0, _⟩ => refine h0.trans ?_; show t.val / 8 * 1 + 1 * (y 0).val = t.val / 8; omega
  | ⟨1, _⟩ => refine h1.trans ?_; show t.val % 8 * 1024 + 1 * (y 1).val = t.val % 8 * 1024 + (y 1).val; omega
  | ⟨2, _⟩ => refine h2.trans ?_; show 0 * n + 1 * (y 2).val = (y 2).val; omega

/-- The five results. -/
def result0 : S4x8192x384.Idx → EReal := fun i => ProjectSpec.qa (colAt m c (i 0) (i 1)) (cosAt m c (i 1)) (sinAt m c (i 1)) (i 2).val
def result1 : S4x8192x256.Idx → EReal := fun i => ProjectSpec.kva (colAt m c (i 0) (i 1)) (cosAt m c (i 1)) (sinAt m c (i 1)) (i 2).val
def result2 : S4x8192x512.Idx → EReal := fun i => ProjectSpec.ub (colAt m c (i 0) (i 1)) (i 2).val
def result3 : S4x8192x384.Idx → EReal := fun i => ProjectSpec.qn (colAt m c (i 0) (i 1)) (i 2).val
def result4 : S4x8192x768.Idx → EReal := fun i => ProjectSpec.kvn (colAt m c (i 0) (i 1)) (i 2).val

/-- Where each result's blocks stand, what a point leaves in them, and so the whole arrays. -/
theorem emb6 (t : Fin cfg0.N) (y : Shape.Idx (⟨3, ![1, 1024, 384]⟩ : Shape)) :
    ((cfg0.win 6).blk t).view.emb y = ix3 (bOf t) (sOf t (⟨(y 1).val, (y 1).isLt⟩ : Fin 1024)) (⟨(y 2).val, (y 2).isLt⟩ : Fin 384) :=
  array_idx t y _ _ (idx6 t) rfl rfl rfl

theorem after6 (t : Fin cfg0.N) (r : Fin 1024) (l : Fin 384) :
    ((dats m 0 c).after 6 t : S1x1024x384.Idx → EReal) (ix3 (0 : Fin 1) r l) = result0 m c (ix3 (bOf t) (sOf t r) l) := by
  rw [after0_6]
  refine (KValue.out6_apply _ _ _ _ _ _ _ _ r (blk3_apply m c t r) (blk4_apply m c t r) (fun l => ProjectSpec.angle_add _ _ l) (fun l => ProjectSpec.angle_add _ _ l) l).trans ?_
  rw [col_eq]
  rfl

theorem array6 : (dats m 0 c).arrAt 6 cfg0.N = result0 m c := by
  refine (dats m 0 c).arrAt_eq_of_covers 6 _ (by decide +kernel) fun t _ y => ?_
  rw [emb6 t y]
  refine Eq.trans ?_ (after6 m c t _ _)
  exact congrArg ((dats m 0 c).after 6 t) (block_idx y)

theorem emb7 (t : Fin cfg0.N) (y : Shape.Idx (⟨3, ![1, 1024, 256]⟩ : Shape)) :
    ((cfg0.win 7).blk t).view.emb y = ix3 (bOf t) (sOf t (⟨(y 1).val, (y 1).isLt⟩ : Fin 1024)) (⟨(y 2).val, (y 2).isLt⟩ : Fin 256) :=
  array_idx t y _ _ (idx7 t) rfl rfl rfl

theorem after7 (t : Fin cfg0.N) (r : Fin 1024) (l : Fin 256) :
    ((dats m 0 c).after 7 t : S1x1024x256.Idx → EReal) (ix3 (0 : Fin 1) r l) = result1 m c (ix3 (bOf t) (sOf t r) l) := by
  rw [after0_7]
  refine (KValue.out7_apply _ _ _ _ _ _ _ _ r (blk3_apply m c t r) (blk4_apply m c t r) l).trans ?_
  rw [col_eq]
  rfl

theorem array7 : (dats m 0 c).arrAt 7 cfg0.N = result1 m c := by
  refine (dats m 0 c).arrAt_eq_of_covers 7 _ (by decide +kernel) fun t _ y => ?_
  rw [emb7 t y]
  refine Eq.trans ?_ (after7 m c t _ _)
  exact congrArg ((dats m 0 c).after 7 t) (block_idx y)

theorem emb8 (t : Fin cfg0.N) (y : Shape.Idx (⟨3, ![1, 1024, 512]⟩ : Shape)) :
    ((cfg0.win 8).blk t).view.emb y = ix3 (bOf t) (sOf t (⟨(y 1).val, (y 1).isLt⟩ : Fin 1024)) (⟨(y 2).val, (y 2).isLt⟩ : Fin 512) :=
  array_idx t y _ _ (idx8 t) rfl rfl rfl

theorem after8 (t : Fin cfg0.N) (r : Fin 1024) (l : Fin 512) :
    ((dats m 0 c).after 8 t : S1x1024x512.Idx → EReal) (ix3 (0 : Fin 1) r l) = result2 m c (ix3 (bOf t) (sOf t r) l) := by
  rw [after0_8]
  refine (KValue.out8_apply _ _ _ _ _ _ r l).trans ?_
  rw [col_eq]
  rfl

theorem array8 : (dats m 0 c).arrAt 8 cfg0.N = result2 m c := by
  refine (dats m 0 c).arrAt_eq_of_covers 8 _ (by decide +kernel) fun t _ y => ?_
  rw [emb8 t y]
  refine Eq.trans ?_ (after8 m c t _ _)
  exact congrArg ((dats m 0 c).after 8 t) (block_idx y)

theorem emb9 (t : Fin cfg0.N) (y : Shape.Idx (⟨3, ![1, 1024, 384]⟩ : Shape)) :
    ((cfg0.win 9).blk t).view.emb y = ix3 (bOf t) (sOf t (⟨(y 1).val, (y 1).isLt⟩ : Fin 1024)) (⟨(y 2).val, (y 2).isLt⟩ : Fin 384) :=
  array_idx t y _ _ (idx9 t) rfl rfl rfl

theorem after9 (t : Fin cfg0.N) (r : Fin 1024) (l : Fin 384) :
    ((dats m 0 c).after 9 t : S1x1024x384.Idx → EReal) (ix3 (0 : Fin 1) r l) = result3 m c (ix3 (bOf t) (sOf t r) l) := by
  rw [after0_9]
  refine (KValue.out9_apply _ _ _ _ _ _ r l).trans ?_
  rw [col_eq]
  rfl

theorem array9 : (dats m 0 c).arrAt 9 cfg0.N = result3 m c := by
  refine (dats m 0 c).arrAt_eq_of_covers 9 _ (by decide +kernel) fun t _ y => ?_
  rw [emb9 t y]
  refine Eq.trans ?_ (after9 m c t _ _)
  exact congrArg ((dats m 0 c).after 9 t) (block_idx y)

theorem emb10 (t : Fin cfg0.N) (y : Shape.Idx (⟨3, ![1, 1024, 768]⟩ : Shape)) :
    ((cfg0.win 10).blk t).view.emb y = ix3 (bOf t) (sOf t (⟨(y 1).val, (y 1).isLt⟩ : Fin 1024)) (⟨(y 2).val, (y 2).isLt⟩ : Fin 768) :=
  array_idx t y _ _ (idx10 t) rfl rfl rfl

theorem after10 (t : Fin cfg0.N) (r : Fin 1024) (l : Fin 768) :
    ((dats m 0 c).after 10 t : S1x1024x768.Idx → EReal) (ix3 (0 : Fin 1) r l) = result4 m c (ix3 (bOf t) (sOf t r) l) := by
  rw [after0_10]
  refine (KValue.out10_apply _ _ _ _ _ _ r l).trans ?_
  rw [col_eq]
  rfl

theorem array10 : (dats m 0 c).arrAt 10 cfg0.N = result4 m c := by
  refine (dats m 0 c).arrAt_eq_of_covers 10 _ (by decide +kernel) fun t _ y => ?_
  rw [emb10 t y]
  refine Eq.trans ?_ (after10 m c t _ _)
  exact congrArg ((dats m 0 c).after 10 t) (block_idx y)

end Cert.ProjectIdeal.Arrays

namespace Cert.Proof

open Idealize.ShloMosaic Idealize.SL.Sem

attribute [local instance] Cert.Project.Gen.facts Cert.ProjectIdeal.Gen.facts Cert.ProjectReferenceIdeal.Gen.facts

/-- An index of a result array by its coordinates. -/
theorem result_idx {n : ℕ} (i : Shape.Idx (⟨3, ![4, 8192, n]⟩ : Shape)) : i = ix3 (i 0) (i 1) (i 2) := by
  funext a
  match a with
  | ⟨0, _⟩ => rfl
  | ⟨1, _⟩ => rfl
  | ⟨2, _⟩ => rfl

/-- The projection and its reference end with the same five results. -/
theorem algebraic_project : Cert.algebraic_ProjectIdeal_ProjectReferenceIdeal := fun m ρ m' ρ' hp hargs => by
  refine ⟨fun c => Cert.ProjectIdeal.Arrays.result0 m c, fun c => Cert.ProjectIdeal.Arrays.result1 m c, fun c => Cert.ProjectIdeal.Arrays.result2 m c,
    fun c => Cert.ProjectIdeal.Arrays.result3 m c, fun c => Cert.ProjectIdeal.Arrays.result4 m c, ?_, ?_⟩
  · refine (θ_run _ _ _).mono (fun r h c => ?_) (Cert.ProjectIdeal.Gen.run_main m ρ)
    exact ⟨(Cert.ProjectIdeal.Value.post6 m r h c).trans (Cert.ProjectIdeal.Arrays.array6 m c),
      (Cert.ProjectIdeal.Value.post7 m r h c).trans (Cert.ProjectIdeal.Arrays.array7 m c),
      (Cert.ProjectIdeal.Value.post8 m r h c).trans (Cert.ProjectIdeal.Arrays.array8 m c),
      (Cert.ProjectIdeal.Value.post9 m r h c).trans (Cert.ProjectIdeal.Arrays.array9 m c),
      (Cert.ProjectIdeal.Value.post10 m r h c).trans (Cert.ProjectIdeal.Arrays.array10 m c),
      Cert.ProjectIdeal.Value.kept_main_arg0 m r h c, Cert.ProjectIdeal.Value.kept_main_arg1 m r h c,
      Cert.ProjectIdeal.Value.kept_main_arg2 m r h c, Cert.ProjectIdeal.Value.kept_main_arg3 m r h c,
      Cert.ProjectIdeal.Value.kept_main_arg4 m r h c, Cert.ProjectIdeal.Value.kept_main_arg5 m r h c,
      Cert.ProjectIdeal.Value.kept_main_arg6 m r h c, Cert.ProjectIdeal.Value.kept_main_arg7 m r h c⟩
  · refine (θ_run _ _ _).mono (fun r h c => ?_) (Cert.ProjectReferenceIdeal.Value.run m' ρ')
    obtain ⟨h0, h1, h2, h3, h4, hk⟩ := h c
    obtain ⟨e0, e1, e2, e3, e4, e5, e6, e7⟩ := hargs c
    refine ⟨h0.trans ?_, h1.trans ?_, h2.trans ?_, h3.trans ?_, h4.trans ?_, hk⟩
    · rw [Cert.ProjectReferenceIdeal.Read.val_main_v110_eq, e0, e1, e2, e3, e4, e5, e6, e7]
      funext i
      rw [result_idx i]
      exact Cert.ProjectReferenceIdeal.RValue.result0 _ _ _ _ _ _ _ _ (i 0) (i 1) (i 2)
    · rw [Cert.ProjectReferenceIdeal.Read.val_main_v111_eq, e0, e1, e2, e3, e4, e5, e6, e7]
      funext i
      rw [result_idx i]
      exact Cert.ProjectReferenceIdeal.RValue.result1 _ _ _ _ _ _ _ _ (i 0) (i 1) (i 2)
    · rw [Cert.ProjectReferenceIdeal.Read.val_main_v112_eq, e0, e1, e2, e7]
      funext i
      rw [result_idx i]
      exact Cert.ProjectReferenceIdeal.RValue.result2 _ _ _ _ (i 0) (i 1) (i 2)
    · refine (Cert.ProjectReferenceIdeal.Read.val_main_v113_eq _ _ _ _).trans ?_
      rw [e0, e1, e2, e7]
      funext i
      rw [result_idx i]
      exact Cert.ProjectReferenceIdeal.RValue.result3 _ _ _ _ (i 0) (i 1) (i 2)
    · refine (Cert.ProjectReferenceIdeal.Read.val_main_v114_eq _ _ _ _).trans ?_
      rw [e0, e1, e2, e7]
      funext i
      rw [result_idx i]
      exact Cert.ProjectReferenceIdeal.RValue.result4 _ _ _ _ (i 0) (i 1) (i 2)

end Cert.Proof

end
-- ==== Proof.RouteSpec.lean ====
/- The close of the mixing of a token and the routing of it, as plain mathematics: the output projection, the gated residual and its
   layer norm, the feed-forward's modulated layer norm, and the softmax of the router's logits over the experts. -/
module

public import proofs.«01_k».proof.Proof.ProjectSpec

@[expose] public section

noncomputable section

namespace Cert.RouteSpec

open Idealize.ShloMosaic

/-- The residual plus the gated projection of the mixers' outputs; the residual's weight is the fourth root of 4. -/
def mixed (o x g : Fin 1024 → EReal) (w : Fin 1024 → Fin 1024 → EReal) (k : Fin 1024) : EReal :=
  Ideal.ofBits .f32 0x3FB504F3#32 * x k + g k * ∑ j, o j * w j k

/-- Layer normalisation with a gain and an offset. -/
def normed (z g b : Fin 1024 → EReal) (k : Fin 1024) : EReal :=
  (z k - ProjectSpec.mean z) * Ideal.rsqrt (ProjectSpec.mean (fun j => (z j - ProjectSpec.mean z) * (z j - ProjectSpec.mean z)) + Ideal.ofBits .f32 0x358637BD#32)
    * g k + b k

/-- The router's logit of an expert. -/
def logit (h : Fin 1024 → EReal) (w : Fin 1024 → Fin 16 → EReal) (e : Fin 16) : EReal := ∑ k, h k * w k e

/-- The softmax of the logits. -/
def top (a : Fin 16 → EReal) : EReal := Finset.univ.sup a
def affinity (a : Fin 16 → EReal) (e : Fin 16) : EReal :=
  Ideal.div (Ideal.exp (a e - top a)) (∑ j, Ideal.exp (a j - top a))

/-- The pattern of minus infinity. -/
theorem minus_infinity : Ideal.ofBits .f32 0xFF800000#32 = ⊥ := by simp [Ideal.ofBits, Ideal.ieee]

/-- Logits on 128 lanes, minus infinity beyond the experts. -/
def padded (a : Fin 16 → EReal) (l : Fin 128) : EReal := if h : l.val < 16 then a ⟨l.val, h⟩ else ⊥

theorem padded_castAdd (a : Fin 16 → EReal) (e : Fin 16) : padded a (Fin.castAdd 112 e) = a e :=
  dif_pos e.isLt

theorem padded_natAdd (a : Fin 16 → EReal) (e : Fin 112) : padded a (Fin.natAdd 16 e) = ⊥ :=
  dif_neg (Nat.not_lt.2 (Nat.le_add_right 16 e.val))

/-- The lanes beyond the experts do not move the maximum, -/
theorem sup_padded (a : Fin 16 → EReal) : Finset.univ.sup (padded a) = top a := by
  refine le_antisymm (Finset.sup_le fun l _ => ?_) (Finset.sup_le fun e _ => ?_)
  · unfold padded
    split
    · exact Finset.le_sup (f := a) (Finset.mem_univ _)
    · exact bot_le
  · rw [← padded_castAdd a e]
    exact Finset.le_sup (f := padded a) (Finset.mem_univ _)

/-- nor the sum of the exponentials. -/
theorem sum_padded (a : Fin 16 → EReal) (x : EReal) :
    ∑ l, Ideal.exp (padded a l - x) = ∑ e, Ideal.exp (a e - x) := by
  refine (Fin.sum_univ_add (a := 16) (b := 112) fun l => Ideal.exp (padded a l - x)).trans ?_
  rw [Finset.sum_eq_zero (s := (Finset.univ : Finset (Fin 112))) fun e _ => ?_, add_zero]
  · exact Finset.sum_congr rfl fun e _ => by rw [padded_castAdd]
  · rw [padded_natAdd, EReal.bot_sub]
    rfl

end Cert.RouteSpec

end
-- ==== Proof.RouteKernel.lean ====
/- What one grid point of the close of the mixing and the routing computes, read at the extended reals. -/
module

public import proofs.«01_k».proof.Proof.RouteSpec
public import proofs.«01_k».proof.Proof.Gen.RouteIdeal.Frame
public import Idealize.ShloMosaic.Lib.Pipeline.ValueKit

@[expose] public section

noncomputable section

namespace Cert.RouteIdeal.KValue

open Cert.RouteIdeal Cert.RouteIdeal.Gen
open Idealize.ShloMosaic Idealize.ShloMosaic.TcCoe

/-- The tokens after the mixing. -/
theorem middle_apply (v0 v5 : S1x1024x1024.Idx → EReal) (v2 : S1024x1024.Idx → EReal) (v9 : S1x1x1024.Idx → EReal)
    (v30 v33 : S1x1024.Idx → EReal) (r k : Fin 1024) :
    k0_pay4 (F := Ideal) v0 v2 v5 v9 v30 v33 (ix2 r k)
      = RouteSpec.normed (RouteSpec.mixed (fun j => v0 (ix3 0 r j)) (fun j => v5 (ix3 0 r j)) (fun j => v9 (ix3 0 0 j)) (fun j i => v2 (ix2 j i)))
          (fun j => v30 (ix2 0 j)) (fun j => v33 (ix2 0 j)) k := by
  unfold k0_pay4
  pointwise
  rfl

/-- The tokens normalised and modulated for the feed-forward. -/
theorem hidden_apply (v35 : S1024x1024.Idx → EReal) (v52 v58 : S1x1x1024.Idx → EReal) (r k : Fin 1024) :
    k0_pay5 (F := Ideal) v35 v52 v58 (ix2 r k)
      = ProjectSpec.modulated (fun j => v35 (ix2 r j)) (fun j => v52 (ix3 0 0 j)) (fun j => v58 (ix3 0 0 j)) k := by
  unfold k0_pay5
  pointwise
  rfl

/-- The lanes of the experts. -/
theorem lane_apply (l : Fin 128) : IntOp.cmpi .slt (BitVec.ofNat 32 l.val) 16#32 = if l.val < 16 then 1#1 else 0#1 := by
  revert l
  decide +kernel

/-- The mask is minus infinity. -/
theorem mask_apply : Named.named (F := Ideal) (φ := .f32) κ "mask" 0xF149F2CA#32 = (⊥ : EReal) :=
  IdealRules.named_const.ideal_named_scalar _ _ _ _ rfl

/-- A masked row of logits is the experts' logits padded with minus infinity. -/
theorem masked_apply (p : Fin 128 → EReal) (a : Fin 16 → EReal) (h : ∀ e : Fin 16, p ⟨e.val, by omega⟩ = a e) (l : Fin 128) :
    Scalar.select (IntOp.cmpi .slt (BitVec.ofNat 32 l.val) 16#32) (p l) (Named.named (F := Ideal) (φ := .f32) κ "mask" 0xF149F2CA#32)
      = RouteSpec.padded a l := by
  rw [lane_apply, mask_apply]
  unfold RouteSpec.padded
  by_cases hl : l.val < 16
  · rw [if_pos hl, dif_pos hl]
    exact h ⟨l.val, hl⟩
  · rw [if_neg hl, dif_neg hl]
    rfl

/-- The logits of a token: those of the first 16 columns of the router's matrix. -/
def logits (h : Fin 1024 → EReal) (w : S1024x128.Idx → EReal) : Fin 16 → EReal :=
  RouteSpec.logit h (fun k e => w (ix2 k ⟨e.val, by omega⟩))

/-- The exponentials under the softmax, on all lanes. -/
theorem weight_apply (v35 : S1024x1024.Idx → EReal) (v52 v58 : S1x1x1024.Idx → EReal) (v63 : S1024x128.Idx → EReal) (r : Fin 1024) (a : Fin 16 → EReal)
    (ha : a = logits (ProjectSpec.modulated (fun j => v35 (ix2 r j)) (fun j => v52 (ix3 0 0 j)) (fun j => v58 (ix3 0 0 j))) v63) (l : Fin 128) :
    k0_pay6 (F := Ideal) v35 v52 v58 v63 (ix2 r l) = Ideal.exp (RouteSpec.padded a l - RouteSpec.top a) := by
  unfold k0_pay6
  have e := hidden_apply v35 v52 v58 r
  generalize k0_pay5 (F := Ideal) v35 v52 v58 = h at e ⊢
  have p := masked_apply (fun l => ∑ x, h (ix2 r x) * v63 (ix2 x l)) a (fun i => by
    rw [ha]
    unfold logits RouteSpec.logit
    exact Finset.sum_congr rfl fun k _ => by rw [e])
  pointwise
  simp only [p]
  rw [← RouteSpec.sup_padded, RouteSpec.minus_infinity]
  rfl

/-- The affinities. -/
theorem affinity_apply (v35 : S1024x1024.Idx → EReal) (v52 v58 : S1x1x1024.Idx → EReal) (v63 : S1024x128.Idx → EReal) (r : Fin 1024) (a : Fin 16 → EReal)
    (ha : a = logits (ProjectSpec.modulated (fun j => v35 (ix2 r j)) (fun j => v52 (ix3 0 0 j)) (fun j => v58 (ix3 0 0 j))) v63) (i : Fin 16) :
    k0_pay3 (F := Ideal) (k0_pay6 v35 v52 v58 v63) (k0_pay7 v35 v52 v58 v63) (ix3 0 i r) = RouteSpec.affinity a i := by
  unfold k0_pay3 k0_pay7
  have e := weight_apply v35 v52 v58 v63 r a ha
  generalize k0_pay6 (F := Ideal) v35 v52 v58 v63 = h at e ⊢
  pointwise [e]
  rw [RouteSpec.sum_padded]
  refine congrArg (fun x => Ideal.div (Ideal.exp (x - RouteSpec.top a)) _) ?_
  exact RouteSpec.padded_castAdd a i

section point
variable (x0 x1 : S1x1024x1024.Idx → EReal) (x2 : S1x1x1024.Idx → EReal) (x3 x4 : S1x1024.Idx → EReal) (x5 x6 : S1x1x1024.Idx → EReal)
  (x7 : S1024x1024.Idx → EReal) (x8 : S1024x128.Idx → EReal)

/-- Token `r` of the point after the mixing, and as the feed-forward takes it. -/
def mid (r : Fin 1024) : Fin 1024 → EReal :=
  RouteSpec.normed (RouteSpec.mixed (fun j => x0 (ix3 0 r j)) (fun j => x1 (ix3 0 r j)) (fun j => x2 (ix3 0 0 j)) (fun j i => x7 (ix2 j i)))
    (fun j => x3 (ix2 0 j)) (fun j => x4 (ix2 0 j))

def hid (r : Fin 1024) : Fin 1024 → EReal :=
  ProjectSpec.modulated (mid x0 x1 x2 x3 x4 x7 r) (fun j => x6 (ix3 0 0 j)) (fun j => x5 (ix3 0 0 j))

theorem zero3 : (![0, 0, 0] : Fin 3 → ℕ) = fun _ => 0 := by funext a; fin_cases a <;> rfl
theorem zero2 : (![0, 0] : Fin 2 → ℕ) = fun _ => 0 := by funext a; fin_cases a <;> rfl

theorem pay8_apply (r k : Fin 1024) : k0_pay8 (F := Ideal) x0 x1 x2 x3 x4 x5 x6 x7 x8 (ix2 r k) = mid x0 x1 x2 x3 x4 x7 r k := by
  unfold k0_pay8
  rw [View.ld_unit_zero zero3, View.ld_unit_zero zero2, View.ld_unit_zero zero3, View.ld_unit_zero zero3, View.ld_unit_zero zero2,
    View.ld_unit_zero zero2]
  exact middle_apply x0 x1 x7 x2 x3 x4 r k

/-- The block of the tokens after the mixing. -/
theorem out9_apply (r k : Fin 1024) :
    out0_9 (F := Ideal) x0 x1 x2 x3 x4 x5 x6 x7 x8 (ix3 0 r k) = mid x0 x1 x2 x3 x4 x7 r k := by
  unfold out0_9
  rw [View.canon_unit_zero zero3]
  have e := pay8_apply x0 x1 x2 x3 x4 x5 x6 x7 x8
  generalize k0_pay8 (F := Ideal) x0 x1 x2 x3 x4 x5 x6 x7 x8 = v at e ⊢
  unfold k0_pay1
  pointwise [e]

/-- The block of the tokens the feed-forward takes. -/
theorem out10_apply (r k : Fin 1024) :
    out0_10 (F := Ideal) x0 x1 x2 x3 x4 x5 x6 x7 x8 (ix3 0 r k) = hid x0 x1 x2 x3 x4 x5 x6 x7 r k := by
  unfold out0_10
  rw [View.canon_unit_zero zero3, View.ld_unit_zero zero3, View.ld_unit_zero zero3]
  have e := pay8_apply x0 x1 x2 x3 x4 x5 x6 x7 x8
  generalize k0_pay8 (F := Ideal) x0 x1 x2 x3 x4 x5 x6 x7 x8 = v at e ⊢
  have h := hidden_apply v x6 x5
  generalize k0_pay5 (F := Ideal) v x6 x5 = g at h ⊢
  unfold k0_pay2
  pointwise [h]
  unfold hid
  simp only [e]

/-- The block of the affinities. -/
theorem out11_apply (i : Fin 16) (r : Fin 1024) :
    out0_11 (F := Ideal) x0 x1 x2 x3 x4 x5 x6 x7 x8 (ix3 0 i r) = RouteSpec.affinity (logits (hid x0 x1 x2 x3 x4 x5 x6 x7 r) x8) i := by
  unfold out0_11
  rw [View.canon_unit_zero zero3, View.ld_unit_zero zero3, View.ld_unit_zero zero3, View.ld_unit_zero zero2]
  have e := pay8_apply x0 x1 x2 x3 x4 x5 x6 x7 x8
  generalize k0_pay8 (F := Ideal) x0 x1 x2 x3 x4 x5 x6 x7 x8 = v at e ⊢
  refine affinity_apply v x6 x5 x8 r _ ?_ i
  unfold hid
  simp only [e]

end point

end Cert.RouteIdeal.KValue

end
-- ==== Proof.RouteBlocks.lean ====
/- The blocks the points of the close of the mixing read, in terms of its arguments. -/
module

public import proofs.«01_k».proof.Proof.RouteKernel

@[expose] public section

set_option maxRecDepth 16384

noncomputable section

namespace Cert.RouteIdeal.Blocks

open Cert.RouteIdeal Cert.RouteIdeal.Gen
open Idealize.ShloMosaic Idealize.ShloMosaic.TcCoe Idealize.ShloMosaic.Tactic Idealize.SL.Sem

variable (m : (ℓ : Loc nD τ sig) → Buf (Elt Ideal) ℓ) (c : Dev nD)

abbrev argO : S4x8192x1024.Idx → EReal := m ((c : Thread nD τ).loc main_arg0)
abbrev argX : S4x8192x1024.Idx → EReal := m ((c : Thread nD τ).loc main_arg1)
abbrev argGate : S4x1x1024.Idx → EReal := m ((c : Thread nD τ).loc main_arg2)
abbrev argGain : S1x1024.Idx → EReal := m ((c : Thread nD τ).loc main_arg3)
abbrev argOffset : S1x1024.Idx → EReal := m ((c : Thread nD τ).loc main_arg4)
abbrev argShift : S4x1x1024.Idx → EReal := m ((c : Thread nD τ).loc main_arg5)
abbrev argScale : S4x1x1024.Idx → EReal := m ((c : Thread nD τ).loc main_arg6)
abbrev argWo : S1024x1024.Idx → EReal := m ((c : Thread nD τ).loc main_arg7)
abbrev argWr : S1024x128.Idx → EReal := m ((c : Thread nD τ).loc main_arg8)

/-- A point's batch row. -/
def bOf (t : Fin cfg0.N) : Fin 4 := ⟨t.val / 8, by have h : t.val < 32 := t.isLt; omega⟩
/-- A point's token: 1024 to a point. -/
def sOf (t : Fin cfg0.N) (r : Fin 1024) : Fin 8192 := ⟨t.val % 8 * 1024 + r.val, by omega⟩

/-- The weights as the host hands them over: at the extended reals, as they are. -/
theorem V_v0 : V m c main_v0 = argWo m c := by unfold V; after_results; rfl
theorem V_v1 : V m c main_v1 = argWr m c := by unfold V; after_results; rfl

theorem idx0 : ∀ t : Fin grid0.N, win0_0.index t = ![t.val / 8, t.val % 8, 0] := by decide +kernel
theorem idx1 : ∀ t : Fin grid0.N, win0_1.index t = ![t.val / 8, t.val % 8, 0] := by decide +kernel
theorem idx2 : ∀ t : Fin grid0.N, win0_2.index t = ![t.val / 8, 0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![t.val / 8, 0, 0] := by decide +kernel
theorem idx6 : ∀ t : Fin grid0.N, win0_6.index t = ![t.val / 8, 0, 0] := by decide +kernel
theorem idx7 : ∀ t : Fin grid0.N, win0_7.index t = ![0, 0] := by decide +kernel
theorem idx8 : ∀ t : Fin grid0.N, win0_8.index t = ![0, 0] := by decide +kernel

/-- Where channel `k` of token `r` of a point's block stands in the array of all tokens. -/
theorem token_idx (t : Fin cfg0.N) (r k : Fin 1024) (e : S4x8192x1024.Idx) (i : Fin 3 → ℕ) (hi : i = ![t.val / 8, t.val % 8, 0])
    (h0 : (e 0).val = i 0 * 1 + 1 * 0) (h1 : (e 1).val = i 1 * 1024 + 1 * r.val) (h2 : (e 2).val = i 2 * 1024 + 1 * k.val) :
    e = ix3 (bOf t) (sOf t r) k := by
  subst hi
  funext a
  refine Fin.ext ?_
  match a with
  | ⟨0, _⟩ => refine h0.trans ?_; show t.val / 8 * 1 + 1 * 0 = t.val / 8; omega
  | ⟨1, _⟩ => refine h1.trans ?_; show t.val % 8 * 1024 + 1 * r.val = t.val % 8 * 1024 + r.val; omega
  | ⟨2, _⟩ => refine h2.trans ?_; show 0 * 1024 + 1 * k.val = k.val; omega

/-- Where channel `k` of a point's modulation vector stands among those of all batch rows. -/
theorem row_idx (t : Fin cfg0.N) (k : Fin 1024) (e : S4x1x1024.Idx) (i : Fin 3 → ℕ) (hi : i = ![t.val / 8, 0, 0])
    (h0 : (e 0).val = i 0 * 1 + 1 * 0) (h2 : (e 2).val = i 2 * 1024 + 1 * k.val) : e = ix3 (bOf t) 0 k := by
  subst hi
  have h1 : (e 1).val < 1 := (e 1).isLt
  funext a
  refine Fin.ext ?_
  match a with
  | ⟨0, _⟩ => refine h0.trans ?_; show t.val / 8 * 1 + 1 * 0 = t.val / 8; omega
  | ⟨1, _⟩ => show (e 1).val = 0; omega
  | ⟨2, _⟩ => refine h2.trans ?_; show 0 * 1024 + 1 * k.val = k.val; omega

/-- A matrix read whole is read where it stands. -/
theorem whole_idx {p q : ℕ} (x : Fin p) (y : Fin q) (e : Shape.Idx (⟨2, ![p, q]⟩ : Shape)) (i : Fin 2 → ℕ) (hi : i = ![0, 0])
    (h0 : (e 0).val = i 0 * p + 1 * x.val) (h1 : (e 1).val = i 1 * q + 1 * y.val) : e = ix2 x y := by
  subst hi
  funext a
  refine Fin.ext ?_
  match a with
  | ⟨0, _⟩ => refine h0.trans ?_; show 0 * p + 1 * x.val = x.val; omega
  | ⟨1, _⟩ => refine h1.trans ?_; show 0 * q + 1 * y.val = y.val; omega

/-- The point's tokens: what the mixers give, and the residual. -/
theorem blk0_apply (t : Fin cfg0.N) (r k : Fin 1024) :
    (iblk m c 0 t : S1x1024x1024.Idx → EReal) (ix3 0 r k) = argO m c (ix3 (bOf t) (sOf t r) k) := by
  unfold iblk
  rw [View.read_apply, cast_eq]
  show V m c main_arg0 _ = _
  rw [V_main_arg0]
  exact congrArg (argO m c) (token_idx t r k _ _ (idx0 t) rfl rfl rfl)

theorem blk1_apply (t : Fin cfg0.N) (r k : Fin 1024) :
    (iblk m c 1 t : S1x1024x1024.Idx → EReal) (ix3 0 r k) = argX m c (ix3 (bOf t) (sOf t r) k) := by
  unfold iblk
  rw [View.read_apply, cast_eq]
  show V m c main_arg1 _ = _
  rw [V_main_arg1]
  exact congrArg (argX m c) (token_idx t r k _ _ (idx1 t) rfl rfl rfl)

/-- The gate, shift and scale of the point's batch row. -/
theorem blk2_apply (t : Fin cfg0.N) (k : Fin 1024) :
    (iblk m c 2 t : S1x1x1024.Idx → EReal) (ix3 0 0 k) = argGate m c (ix3 (bOf t) 0 k) := by
  unfold iblk
  rw [View.read_apply, cast_eq]
  show V m c main_arg2 _ = _
  rw [V_main_arg2]
  exact congrArg (argGate m c) (row_idx t k _ _ (idx2 t) rfl rfl)

theorem blk5_apply (t : Fin cfg0.N) (k : Fin 1024) :
    (iblk m c 5 t : S1x1x1024.Idx → EReal) (ix3 0 0 k) = argShift m c (ix3 (bOf t) 0 k) := by
  unfold iblk
  rw [View.read_apply, cast_eq]
  show V m c main_arg5 _ = _
  rw [V_main_arg5]
  exact congrArg (argShift m c) (row_idx t k _ _ (idx5 t) rfl rfl)

theorem blk6_apply (t : Fin cfg0.N) (k : Fin 1024) :
    (iblk m c 6 t : S1x1x1024.Idx → EReal) (ix3 0 0 k) = argScale m c (ix3 (bOf t) 0 k) := by
  unfold iblk
  rw [View.read_apply, cast_eq]
  show V m c main_arg6 _ = _
  rw [V_main_arg6]
  exact congrArg (argScale m c) (row_idx t k _ _ (idx6 t) rfl rfl)

/-- The layer norm's gain and offset, and the two matrices. -/
theorem blk3_apply (t : Fin cfg0.N) (k : Fin 1024) : (iblk m c 3 t : S1x1024.Idx → EReal) (ix2 0 k) = argGain m c (ix2 0 k) := by
  unfold iblk
  rw [View.read_apply, cast_eq]
  show V m c main_arg3 _ = _
  rw [V_main_arg3]
  exact congrArg (argGain m c) (whole_idx 0 k _ _ (idx3 t) rfl rfl)

theorem blk4_apply (t : Fin cfg0.N) (k : Fin 1024) : (iblk m c 4 t : S1x1024.Idx → EReal) (ix2 0 k) = argOffset m c (ix2 0 k) := by
  unfold iblk
  rw [View.read_apply, cast_eq]
  show V m c main_arg4 _ = _
  rw [V_main_arg4]
  exact congrArg (argOffset m c) (whole_idx 0 k _ _ (idx4 t) rfl rfl)

theorem blk7_apply (t : Fin cfg0.N) (j k : Fin 1024) : (iblk m c 7 t : S1024x1024.Idx → EReal) (ix2 j k) = argWo m c (ix2 j k) := by
  unfold iblk
  rw [View.read_apply, cast_eq]
  show V m c main_v0 _ = _
  rw [V_v0]
  exact congrArg (argWo m c) (whole_idx j k _ _ (idx7 t) rfl rfl)

theorem blk8_apply (t : Fin cfg0.N) (j : Fin 1024) (k : Fin 128) : (iblk m c 8 t : S1024x128.Idx → EReal) (ix2 j k) = argWr m c (ix2 j k) := by
  unfold iblk
  rw [View.read_apply, cast_eq]
  show V m c main_v1 _ = _
  rw [V_v1]
  exact congrArg (argWr m c) (whole_idx j k _ _ (idx8 t) rfl rfl)

/-- A token after the mixing, as the feed-forward takes it, and its logits. -/
def midAt (b : Fin 4) (s : Fin 8192) : Fin 1024 → EReal :=
  RouteSpec.normed (RouteSpec.mixed (fun j => argO m c (ix3 b s j)) (fun j => argX m c (ix3 b s j)) (fun j => argGate m c (ix3 b 0 j)) (fun j i => argWo m c (ix2 j i)))
    (fun j => argGain m c (ix2 0 j)) (fun j => argOffset m c (ix2 0 j))

def hidAt (b : Fin 4) (s : Fin 8192) : Fin 1024 → EReal :=
  ProjectSpec.modulated (midAt m c b s) (fun j => argScale m c (ix3 b 0 j)) (fun j => argShift m c (ix3 b 0 j))

def logitsAt (b : Fin 4) (s : Fin 8192) : Fin 16 → EReal :=
  RouteSpec.logit (hidAt m c b s) (fun k e => argWr m c (ix2 k ⟨e.val, by omega⟩))

theorem mid_eq (t : Fin cfg0.N) (r : Fin 1024) :
    KValue.mid (iblk m c 0 t) (iblk m c 1 t) (iblk m c 2 t) (iblk m c 3 t) (iblk m c 4 t) (iblk m c 7 t) r = midAt m c (bOf t) (sOf t r) := by
  unfold KValue.mid midAt
  congr 1
  · congr 1
    · exact funext fun j => blk0_apply m c t r j
    · exact funext fun j => blk1_apply m c t r j
    · exact funext fun j => blk2_apply m c t j
    · exact funext fun j => funext fun i => blk7_apply m c t j i
  · exact funext fun j => blk3_apply m c t j
  · exact funext fun j => blk4_apply m c t j

theorem hid_eq (t : Fin cfg0.N) (r : Fin 1024) :
    KValue.hid (iblk m c 0 t) (iblk m c 1 t) (iblk m c 2 t) (iblk m c 3 t) (iblk m c 4 t) (iblk m c 5 t) (iblk m c 6 t) (iblk m c 7 t) r
      = hidAt m c (bOf t) (sOf t r) := by
  unfold KValue.hid hidAt
  congr 1
  · exact mid_eq m c t r
  · exact funext fun j => blk6_apply m c t j
  · exact funext fun j => blk5_apply m c t j

theorem logits_eq (t : Fin cfg0.N) (h : Fin 1024 → EReal) :
    KValue.logits h (iblk m c 8 t) = RouteSpec.logit h (fun k e => argWr m c (ix2 k ⟨e.val, by omega⟩)) :=
  congrArg (RouteSpec.logit h) (funext fun k => funext fun e => blk8_apply m c t k ⟨e.val, by omega⟩)

end Cert.RouteIdeal.Blocks

end
-- ==== Proof.RouteFrames.lean ====
/- The frames of the routing close and of its reference, and what idealizing it keeps. -/
module

public import proofs.«01_k».proof.Defs
public import proofs.«01_k».proof.Proof.Gen.Route
public import proofs.«01_k».proof.Proof.Gen.Route.Frame
public import proofs.«01_k».proof.Proof.Gen.RouteIdeal
public import proofs.«01_k».proof.Proof.Gen.RouteIdeal.Frame
public import proofs.«01_k».proof.Proof.Gen.RouteReferenceIdeal
public import proofs.«01_k».proof.Proof.Gen.RouteReferenceIdeal.Run

@[expose] public section

noncomputable section

namespace Cert.Proof

open Idealize.ShloMosaic Idealize.SL.Sem

attribute [local instance] Cert.Route.Gen.facts Cert.RouteIdeal.Gen.facts Cert.RouteReferenceIdeal.Gen.facts

theorem frame_route : Cert.quiescent_Route := fun m ρ _ => Cert.Route.Gen.frame m ρ

theorem frame_routeIdeal : Cert.quiescent_RouteIdeal := fun m ρ _ => Cert.RouteIdeal.Gen.frame m ρ

/-- The reference runs and leaves its arguments; it has no semaphores. -/
theorem frame_routeReferenceIdeal : Cert.quiescent_RouteReferenceIdeal := fun m ρ _ =>
  (θ_run _ _ _).mono (fun r h => ⟨fun c => (h c).2.2.2, sem_eq_zero_of_no_sems (by decide) r.2⟩) (Cert.RouteReferenceIdeal.Value.run m ρ)

/-- The router's mask is the one constant that is given a name; its value at the extended reals is minus infinity. -/
theorem preserves_route : Cert.preserves_Route_RouteIdeal :=
  IdealRules.named_const.statement Cert.RouteIdeal.κ "mask" .f32 0xF149F2CA#32 ⊥ rfl

end Cert.Proof

end
-- ==== Proof.RouteReference.lean ====
/- The results of the reference's close of the mixing and routing, element by element. -/
module

public import proofs.«01_k».proof.Proof.RouteSpec
public import proofs.«01_k».proof.Proof.Gen.RouteReferenceIdeal.Read

@[expose] public section

noncomputable section

namespace Cert.RouteReferenceIdeal.RValue

open Cert.RouteReferenceIdeal Cert.RouteReferenceIdeal.Gen Cert.RouteReferenceIdeal.Read
open Idealize.ShloMosaic Idealize.ShloMosaic.TcCoe

variable (o x : S4x8192x1024.Idx → EReal) (g : S4x1x1024.Idx → EReal) (lg lb : S1x1024.Idx → EReal) (sh sc : S4x1x1024.Idx → EReal)
  (wo : S1024x1024.Idx → EReal) (wr : S1024x128.Idx → EReal) (b : Fin 4) (s : Fin 8192)

/-- A token after the mixing, and as the feed-forward takes it. -/
def mid : Fin 1024 → EReal :=
  RouteSpec.normed (RouteSpec.mixed (fun j => o (ix3 b s j)) (fun j => x (ix3 b s j)) (fun j => g (ix3 b 0 j)) (fun j i => wo (ix2 j i)))
    (fun j => lg (ix2 0 j)) (fun j => lb (ix2 0 j))

def hid : Fin 1024 → EReal :=
  ProjectSpec.modulated (mid o x g lg lb wo b s) (fun j => sc (ix3 b 0 j)) (fun j => sh (ix3 b 0 j))

/-- Its logits. -/
def logits : Fin 16 → EReal :=
  RouteSpec.logit (hid o x g lg lb sh sc wo b s) (fun k e => wr (ix2 k ⟨e.val, by omega⟩))

theorem sum_apply (k : Fin 1024) : val_main_v6 (F := Ideal) o x g wo (ix3 b s k)
    = RouteSpec.mixed (fun j => o (ix3 b s j)) (fun j => x (ix3 b s j)) (fun j => g (ix3 b 0 j)) (fun j i => wo (ix2 j i)) k := by
  unfold val_main_v6 val_main_v5 val_main_v4 val_main_v3 val_main_v2 val_main_v1 val_main_v0 val_main_cst
  pointwise
  rfl

/-- The tokens after the mixing. -/
theorem result0 (k : Fin 1024) : val_main_v30 (F := Ideal) o x g lg lb wo (ix3 b s k) = mid o x g lg lb wo b s k := by
  unfold mid val_main_v30 val_main_v29 val_main_v28 val_main_v27 val_main_v26 val_main_v25 val_main_v24 val_main_v23 val_main_v22 val_main_v21
    val_main_v20 val_main_v19 val_main_v18 val_main_v17 val_main_v16 val_main_v15 val_main_v14 val_main_v13 val_main_v12 val_main_v11
    val_main_v10 val_main_v9 val_main_v8 val_main_v7 val_main_cst_0 val_main_cst_1 val_main_cst_2 val_main_cst_3 val_main_cst_4
  have e := sum_apply o x g wo b s
  generalize val_main_v6 (F := Ideal) o x g wo = v at e ⊢
  pointwise [e]
  rfl

/-- The tokens the feed-forward takes. -/
theorem hidden (k : Fin 1024) : val_main_v54 (F := Ideal) o x g lg lb sh sc wo (ix3 b s k) = hid o x g lg lb sh sc wo b s k := by
  unfold hid val_main_v54 val_main_v53 val_main_v52 val_main_v51 val_main_v50 val_main_v49 val_main_v48 val_main_v47 val_main_v46 val_main_v45
    val_main_v44 val_main_v43 val_main_v42 val_main_v41 val_main_v40 val_main_v39 val_main_v38 val_main_v37 val_main_v36 val_main_v35
    val_main_v34 val_main_v33 val_main_v32 val_main_v31 val_main_cst_5 val_main_cst_6 val_main_cst_7 val_main_cst_8 val_main_cst_9 val_main_cst_10
  have e := result0 o x g lg lb wo b s
  generalize val_main_v30 (F := Ideal) o x g lg lb wo = v at e ⊢
  pointwise [e]
  rfl

theorem result1 (k : Fin 1024) : val_main_v68 (F := Ideal) o x g lg lb sh sc wo (ix3 b s k) = hid o x g lg lb sh sc wo b s k :=
  hidden o x g lg lb sh sc wo b s k

theorem routed (e : Fin 16) : val_main_v56 (F := Ideal) o x g lg lb sh sc wo wr (ix3 b s e) = logits o x g lg lb sh sc wo wr b s e := by
  unfold logits RouteSpec.logit val_main_v56 val_main_v55
  have h := hidden o x g lg lb sh sc wo b s
  generalize val_main_v54 (F := Ideal) o x g lg lb sh sc wo = v at h ⊢
  pointwise [h]

/-- The exponentials under the softmax. -/
theorem weight (e : Fin 16) : val_main_v63 (F := Ideal) o x g lg lb sh sc wo wr (ix3 b s e)
    = Ideal.exp (logits o x g lg lb sh sc wo wr b s e - RouteSpec.top (logits o x g lg lb sh sc wo wr b s)) := by
  unfold val_main_v63 val_main_v62 val_main_v61 val_main_v60 val_main_v59 val_main_v58 val_main_v57 val_main_cst_11 val_main_cst_12
  have h := routed o x g lg lb sh sc wo wr b s
  generalize val_main_v56 (F := Ideal) o x g lg lb sh sc wo wr = v at h ⊢
  pointwise [h]
  rw [RouteSpec.minus_infinity]
  exact congrArg (fun t => Ideal.exp (_ - t)) (bot_sup_eq _)

/-- The affinities. -/
theorem result2 (e : Fin 16) : val_main_v69 (F := Ideal) o x g lg lb sh sc wo wr (ix3 b e s)
    = RouteSpec.affinity (logits o x g lg lb sh sc wo wr b s) e := by
  unfold RouteSpec.affinity val_main_v69 val_main_v67 val_main_v66 val_main_v65 val_main_v64 val_main_cst_13
  have h := weight o x g lg lb sh sc wo wr b s
  generalize val_main_v63 (F := Ideal) o x g lg lb sh sc wo wr = v at h ⊢
  pointwise [h]

end Cert.RouteReferenceIdeal.RValue

end
-- ==== Proof.RouteValue.lean ====
/- The three result arrays of the close of the mixing, and the reference's. -/
module

public import proofs.«01_k».proof.Proof.RouteBlocks
public import proofs.«01_k».proof.Proof.RouteFrames
public import proofs.«01_k».proof.Proof.RouteReference
public import proofs.«01_k».proof.Proof.Gen.RouteIdeal.Value

@[expose] public section

set_option maxRecDepth 16384

noncomputable section

namespace Cert.RouteIdeal.Arrays

open Cert.RouteIdeal Cert.RouteIdeal.Gen Cert.RouteIdeal.Blocks
open Idealize.ShloMosaic Idealize.ShloMosaic.TcCoe Idealize.ShloMosaic.Tactic Idealize.SL.Sem

variable (m : (ℓ : Loc nD τ sig) → Buf (Elt Ideal) ℓ) (c : Dev nD)

theorem idx9 : ∀ t : Fin grid0.N, win0_9.index t = ![t.val / 8, t.val % 8, 0] := by decide +kernel
theorem idx10 : ∀ t : Fin grid0.N, win0_10.index t = ![t.val / 8, t.val % 8, 0] := by decide +kernel
theorem idx11 : ∀ t : Fin grid0.N, win0_11.index t = ![t.val / 8, 0, t.val % 8] := by decide +kernel

/-- An index by its coordinates, the first of which can only be 0. -/
theorem block_idx {p q : ℕ} (y : Shape.Idx (⟨3, ![1, p, q]⟩ : Shape)) :
    y = ix3 (0 : Fin 1) (⟨(y 1).val, (y 1).isLt⟩ : Fin p) (⟨(y 2).val, (y 2).isLt⟩ : Fin q) := by
  have h0 : (y 0).val < 1 := (y 0).isLt
  funext a
  refine Fin.ext ?_
  match a with
  | ⟨0, _⟩ => show (y 0).val = 0; omega
  | ⟨1, _⟩ => rfl
  | ⟨2, _⟩ => rfl

/-- Where a point's block of tokens stands in a result array. -/
theorem array_idx (t : Fin cfg0.N) (y : S1x1024x1024.Idx) (e : S4x8192x1024.Idx) (i : Fin 3 → ℕ) (hi : i = ![t.val / 8, t.val % 8, 0])
    (h0 : (e 0).val = i 0 * 1 + 1 * (y 0).val) (h1 : (e 1).val = i 1 * 1024 + 1 * (y 1).val) (h2 : (e 2).val = i 2 * 1024 + 1 * (y 2).val) :
    e = ix3 (bOf t) (sOf t (⟨(y 1).val, (y 1).isLt⟩ : Fin 1024)) (⟨(y 2).val, (y 2).isLt⟩ : Fin 1024) := by
  have hy : (y 0).val < 1 := (y 0).isLt
  refine token_idx t _ _ e i hi (h0.trans ?_) h1 h2
  rw [show (y 0).val = 0 by omega]

/-- The affinities stand with the experts before the tokens. -/
theorem expert_idx (t : Fin cfg0.N) (y : S1x16x1024.Idx) (e : S4x16x8192.Idx) (i : Fin 3 → ℕ) (hi : i = ![t.val / 8, 0, t.val % 8])
    (h0 : (e 0).val = i 0 * 1 + 1 * (y 0).val) (h1 : (e 1).val = i 1 * 16 + 1 * (y 1).val) (h2 : (e 2).val = i 2 * 1024 + 1 * (y 2).val) :
    e = ix3 (bOf t) (⟨(y 1).val, (y 1).isLt⟩ : Fin 16) (sOf t (⟨(y 2).val, (y 2).isLt⟩ : Fin 1024)) := by
  have hy : (y 0).val < 1 := (y 0).isLt
  subst hi
  funext a
  refine Fin.ext ?_
  match a with
  | ⟨0, _⟩ => refine h0.trans ?_; show t.val / 8 * 1 + 1 * (y 0).val = t.val / 8; omega
  | ⟨1, _⟩ => refine h1.trans ?_; show 0 * 16 + 1 * (y 1).val = (y 1).val; omega
  | ⟨2, _⟩ => refine h2.trans ?_; show t.val % 8 * 1024 + 1 * (y 2).val = t.val % 8 * 1024 + (y 2).val; omega

/-- The three results: the tokens after the mixing, those the feed-forward takes, and the affinities. -/
def result0 : S4x8192x1024.Idx → EReal := fun i => midAt m c (i 0) (i 1) (i 2)
def result1 : S4x8192x1024.Idx → EReal := fun i => hidAt m c (i 0) (i 1) (i 2)
def result2 : S4x16x8192.Idx → EReal := fun i => RouteSpec.affinity (logitsAt m c (i 0) (i 2)) (i 1)

/-- Where each result's blocks stand, what a point leaves in them, and so the whole arrays. -/
theorem emb9 (t : Fin cfg0.N) (y : S1x1024x1024.Idx) : ((cfg0.win 9).blk t).view.emb y
    = ix3 (bOf t) (sOf t (⟨(y 1).val, (y 1).isLt⟩ : Fin 1024)) (⟨(y 2).val, (y 2).isLt⟩ : Fin 1024) :=
  array_idx t y _ _ (idx9 t) rfl rfl rfl

theorem after9 (t : Fin cfg0.N) (r k : Fin 1024) :
    ((dats m 0 c).after 9 t : S1x1024x1024.Idx → EReal) (ix3 (0 : Fin 1) r k) = result0 m c (ix3 (bOf t) (sOf t r) k) := by
  rw [after0_9]
  refine (KValue.out9_apply _ _ _ _ _ _ _ _ _ r k).trans ?_
  rw [mid_eq]
  rfl

theorem array9 : (dats m 0 c).arrAt 9 cfg0.N = result0 m c := by
  refine (dats m 0 c).arrAt_eq_of_covers 9 _ (by decide +kernel) fun t _ y => ?_
  rw [emb9 t y]
  refine Eq.trans ?_ (after9 m c t _ _)
  exact congrArg ((dats m 0 c).after 9 t) (block_idx y)

theorem emb10 (t : Fin cfg0.N) (y : S1x1024x1024.Idx) : ((cfg0.win 10).blk t).view.emb y
    = ix3 (bOf t) (sOf t (⟨(y 1).val, (y 1).isLt⟩ : Fin 1024)) (⟨(y 2).val, (y 2).isLt⟩ : Fin 1024) :=
  array_idx t y _ _ (idx10 t) rfl rfl rfl

theorem after10 (t : Fin cfg0.N) (r k : Fin 1024) :
    ((dats m 0 c).after 10 t : S1x1024x1024.Idx → EReal) (ix3 (0 : Fin 1) r k) = result1 m c (ix3 (bOf t) (sOf t r) k) := by
  rw [after0_10]
  refine (KValue.out10_apply _ _ _ _ _ _ _ _ _ r k).trans ?_
  rw [hid_eq]
  rfl

theorem array10 : (dats m 0 c).arrAt 10 cfg0.N = result1 m c := by
  refine (dats m 0 c).arrAt_eq_of_covers 10 _ (by decide +kernel) fun t _ y => ?_
  rw [emb10 t y]
  refine Eq.trans ?_ (after10 m c t _ _)
  exact congrArg ((dats m 0 c).after 10 t) (block_idx y)

theorem emb11 (t : Fin cfg0.N) (y : S1x16x1024.Idx) : ((cfg0.win 11).blk t).view.emb y
    = ix3 (bOf t) (⟨(y 1).val, (y 1).isLt⟩ : Fin 16) (sOf t (⟨(y 2).val, (y 2).isLt⟩ : Fin 1024)) :=
  expert_idx t y _ _ (idx11 t) rfl rfl rfl

theorem after11 (t : Fin cfg0.N) (i : Fin 16) (r : Fin 1024) :
    ((dats m 0 c).after 11 t : S1x16x1024.Idx → EReal) (ix3 (0 : Fin 1) i r) = result2 m c (ix3 (bOf t) i (sOf t r)) := by
  rw [after0_11]
  refine (KValue.out11_apply _ _ _ _ _ _ _ _ _ i r).trans ?_
  rw [hid_eq, logits_eq]
  rfl

theorem array11 : (dats m 0 c).arrAt 11 cfg0.N = result2 m c := by
  refine (dats m 0 c).arrAt_eq_of_covers 11 _ (by decide +kernel) fun t _ y => ?_
  rw [emb11 t y]
  refine Eq.trans ?_ (after11 m c t _ _)
  exact congrArg ((dats m 0 c).after 11 t) (block_idx y)

end Cert.RouteIdeal.Arrays

namespace Cert.Proof

open Idealize.ShloMosaic Idealize.SL.Sem

attribute [local instance] Cert.Route.Gen.facts Cert.RouteIdeal.Gen.facts Cert.RouteReferenceIdeal.Gen.facts

/-- An index by its coordinates. -/
theorem route_idx {p q r : ℕ} (i : Shape.Idx (⟨3, ![p, q, r]⟩ : Shape)) : i = ix3 (i 0) (i 1) (i 2) := by
  funext a
  match a with
  | ⟨0, _⟩ => rfl
  | ⟨1, _⟩ => rfl
  | ⟨2, _⟩ => rfl

/-- The close of the mixing with its routing, and its reference, end with the same three results. -/
theorem algebraic_route : Cert.algebraic_RouteIdeal_RouteReferenceIdeal := fun m ρ m' ρ' hp hargs => by
  refine ⟨fun c => Cert.RouteIdeal.Arrays.result0 m c, fun c => Cert.RouteIdeal.Arrays.result1 m c, fun c => Cert.RouteIdeal.Arrays.result2 m c, ?_, ?_⟩
  · refine (θ_run _ _ _).mono (fun r h c => ?_) (Cert.RouteIdeal.Gen.run_main m ρ)
    exact ⟨(Cert.RouteIdeal.Value.post9 m r h c).trans (Cert.RouteIdeal.Arrays.array9 m c),
      (Cert.RouteIdeal.Value.post10 m r h c).trans (Cert.RouteIdeal.Arrays.array10 m c),
      (Cert.RouteIdeal.Value.post11 m r h c).trans (Cert.RouteIdeal.Arrays.array11 m c),
      Cert.RouteIdeal.Value.kept_main_arg0 m r h c, Cert.RouteIdeal.Value.kept_main_arg1 m r h c,
      Cert.RouteIdeal.Value.kept_main_arg2 m r h c, Cert.RouteIdeal.Value.kept_main_arg3 m r h c,
      Cert.RouteIdeal.Value.kept_main_arg4 m r h c, Cert.RouteIdeal.Value.kept_main_arg5 m r h c,
      Cert.RouteIdeal.Value.kept_main_arg6 m r h c, Cert.RouteIdeal.Value.kept_main_arg7 m r h c,
      Cert.RouteIdeal.Value.kept_main_arg8 m r h c⟩
  · refine (θ_run _ _ _).mono (fun r h c => ?_) (Cert.RouteReferenceIdeal.Value.run m' ρ')
    obtain ⟨h0, h1, h2, hk⟩ := h c
    obtain ⟨e0, e1, e2, e3, e4, e5, e6, e7, e8⟩ := hargs c
    refine ⟨h0.trans ?_, h1.trans ?_, h2.trans ?_, hk⟩
    · refine (Cert.RouteReferenceIdeal.Read.val_main_v30_eq _).trans ?_
      dsimp only [StableHlo.launchContents]
      rw [e0, e1, e2, e3, e4, e7]
      funext i
      rw [route_idx i]
      exact Cert.RouteReferenceIdeal.RValue.result0 _ _ _ _ _ _ (i 0) (i 1) (i 2)
    · refine (Cert.RouteReferenceIdeal.Read.val_main_v68_eq _).trans ?_
      dsimp only [StableHlo.launchContents]
      rw [e0, e1, e2, e3, e4, e5, e6, e7]
      funext i
      rw [route_idx i]
      exact Cert.RouteReferenceIdeal.RValue.result1 _ _ _ _ _ _ _ _ (i 0) (i 1) (i 2)
    · refine (Cert.RouteReferenceIdeal.Read.val_main_v69_eq _).trans ?_
      dsimp only [StableHlo.launchContents]
      rw [e0, e1, e2, e3, e4, e5, e6, e7, e8]
      funext i
      rw [route_idx i]
      exact Cert.RouteReferenceIdeal.RValue.result2 _ _ _ _ _ _ _ _ _ (i 0) (i 2) (i 1)

end Cert.Proof

end
-- ==== Proof.ModulateSpec.lean ====
/- The modulation vectors of a layer, as plain mathematics: a condition through SiLU and a linear map. -/
module

public import Idealize.ShloMosaic.Lib.Pointwise

@[expose] public section

noncomputable section

namespace Cert.ModulateSpec

open Idealize.ShloMosaic

/-- One channel of the modulation: the condition through SiLU, times a column of the matrix, plus the bias. -/
def modulation (c w : Fin 1024 → EReal) (b : EReal) : EReal := (∑ k, c k * Ideal.logistic (c k) * w k) + b

/-- The rows of the condition tile: the samples, then the context, then zeros. -/
def condition (c : Fin 4 → Fin 1024 → EReal) (x : Fin 1024 → EReal) (r : Fin 8) (k : Fin 1024) : EReal :=
  if h : r.val < 4 then c ⟨r.val, h⟩ k else if r.val = 4 then x k else 0

theorem condition_sample (c : Fin 4 → Fin 1024 → EReal) (x : Fin 1024 → EReal) (r : Fin 8) (h : r.val < 4) :
    condition c x r = c ⟨r.val, h⟩ := funext fun _ => dif_pos h

theorem condition_context (c : Fin 4 → Fin 1024 → EReal) (x : Fin 1024 → EReal) (r : Fin 8) (h : r.val = 4) : condition c x r = x :=
  funext fun _ => (dif_neg (by omega)).trans (if_pos h)

theorem condition_rest (c : Fin 4 → Fin 1024 → EReal) (x : Fin 1024 → EReal) (r : Fin 8) (h : 4 < r.val) : condition c x r = fun _ => 0 :=
  funext fun _ => (dif_neg (by omega)).trans (if_neg (by omega))

/-- The zero condition gives the bias alone. -/
theorem modulation_zero (w : Fin 1024 → EReal) (b : EReal) : modulation (fun _ => 0) w b = b := by
  unfold modulation
  simp only [zero_mul, Finset.sum_const_zero, zero_add]

end Cert.ModulateSpec

end
-- ==== Proof.ModulateKernel.lean ====
/- What one grid point of the modulation call computes, read at the extended reals, and the blocks it reads. -/
module

public import proofs.«01_k».proof.Proof.ModulateSpec
public import proofs.«01_k».proof.Proof.Gen.ModulateIdeal.Frame
public import Idealize.ShloMosaic.Lib.Pipeline.ValueKit
public import Idealize.ShloMosaic.Lib.Routing.OpsSet

@[expose] public section

set_option maxRecDepth 16384

noncomputable section

namespace Cert.ModulateIdeal.KValue

open Cert.ModulateIdeal Cert.ModulateIdeal.Gen
open Idealize.ShloMosaic Idealize.ShloMosaic.TcCoe Idealize.ShloMosaic.Tactic Idealize.SL.Sem

theorem zero3 : (![0, 0, 0] : Fin 3 → ℕ) = fun _ => 0 := by funext a; fin_cases a <;> rfl
theorem zero2 : (![0, 0] : Fin 2 → ℕ) = fun _ => 0 := by funext a; fin_cases a <;> rfl

/-- The block a point leaves. -/
theorem out_apply (x0 : S8x1024.Idx → EReal) (x1 : S1x1024x1536.Idx → EReal) (x2 : S1x1x1536.Idx → EReal) (r : Fin 8) (j : Fin 1536) :
    out0_3 (F := Ideal) x0 x1 x2 (ix3 0 r j)
      = ModulateSpec.modulation (fun k => x0 (ix2 r k)) (fun k => x1 (ix3 0 k j)) (x2 (ix3 0 0 j)) := by
  unfold out0_3
  rw [View.canon_unit_zero zero3, View.ld_unit_zero zero2, View.ld_unit_zero zero3, View.ld_unit_zero zero3]
  unfold k0_pay1
  pointwise
  rfl

/-! The condition tile: two rectangles of rows set in a tile of zeros. -/

/-- Row `r` of the samples lands at row `r`. -/
theorem lands_sample (i : S1.Idx → BitVec 32) (hi : ∀ a, i a = 0#32) (r : Fin 4) (k : Fin 1024) :
    scatter_S8x1024_S1_S4x1024_01_n_0_0.resultIdx? (ix2 r k) i = some (ix2 (⟨r.val, by omega⟩ : Fin 8) k) := by
  have hs : ∀ a, scatter_S8x1024_S1_S4x1024_01_n_0_0.start (ix2 r k) i a = 0 := fun a => by
    unfold ScatterDims.start
    by_cases ha : a ∈ scatter_S8x1024_S1_S4x1024_01_n_0_0.scatterDimsToOperandDims
    · rw [dif_pos ha, hi]; rfl
    · rw [dif_neg ha]
  have hw : ∀ a, scatter_S8x1024_S1_S4x1024_01_n_0_0.window (ix2 r k) a = ((ix2 (⟨r.val, by omega⟩ : Fin 8) k : S8x1024.Idx) a).val := fun a =>
    match a with
    | ⟨0, _⟩ => rfl
    | ⟨1, _⟩ => rfl
  unfold ScatterDims.resultIdx?
  rw [dif_pos fun a => by rw [hs, hw]; exact ⟨by omega, by rw [zero_add]; exact Int.ofNat_lt.2 (Fin.isLt _)⟩]
  refine congrArg some (funext fun a => Fin.ext ?_)
  show (_ + _ : ℤ).toNat = _
  rw [hs, hw]
  omega

/-- The context lands at row 4. -/
theorem lands_context (i : S1.Idx → BitVec 32) (hi : ∀ a, i a = 4#32) (k : Fin 1024) :
    scatter_S8x1024_S1_S1024_0_0_0_0.resultIdx? (ix1 k) i = some (ix2 (4 : Fin 8) k) := by
  have hs : ∀ a, scatter_S8x1024_S1_S1024_0_0_0_0.start (ix1 k) i a = if a = 0 then 4 else 0 := fun a => by
    unfold ScatterDims.start
    by_cases ha : a ∈ scatter_S8x1024_S1_S1024_0_0_0_0.scatterDimsToOperandDims
    · rw [dif_pos ha, hi, if_pos (show a = 0 from List.mem_singleton.1 ha)]; rfl
    · rw [dif_neg ha, if_neg fun h => ha (List.mem_singleton.2 h)]
  have hw : ∀ a, scatter_S8x1024_S1_S1024_0_0_0_0.window (ix1 k) a = if a = 0 then 0 else k.val := fun a =>
    match a with
    | ⟨0, _⟩ => rfl
    | ⟨1, _⟩ => rfl
  have hb : ∀ a : Fin 2, (if a = 0 then 4 else 0 : ℤ) + ((if a = 0 then 0 else k.val : ℕ) : ℤ) = (((ix2 (4 : Fin 8) k : S8x1024.Idx) a).val : ℤ) := fun a =>
    match a with
    | ⟨0, _⟩ => rfl
    | ⟨1, _⟩ => zero_add _
  unfold ScatterDims.resultIdx?
  rw [dif_pos fun a => by rw [hs, hw]; refine (hb a).symm ▸ ?_; exact ⟨by omega, Int.ofNat_lt.2 (Fin.isLt _)⟩]
  refine congrArg some (funext fun a => Fin.ext ?_)
  show (_ + _ : ℤ).toNat = _
  rw [hs, hw]
  refine (congrArg Int.toNat (hb a)).trans ?_
  omega

/-- An index by its coordinates. -/
theorem sample_idx (i : S4x1024.Idx) : ∃ (r : Fin 4) (k : Fin 1024), i = ix2 r k :=
  ⟨i 0, i 1, funext fun a => match a with | ⟨0, _⟩ => rfl | ⟨1, _⟩ => rfl⟩

theorem context_idx (i : S1024.Idx) : ∃ k : Fin 1024, i = ix1 k :=
  ⟨i 0, funext fun a => match a with | ⟨0, _⟩ => rfl⟩

/-- The tile with both set. -/
def tile (z : S8x1024.Idx → EReal) (i0 i4 : S1.Idx → BitVec 32) (c : S4x1024.Idx → EReal) (x : S1024.Idx → EReal) : S8x1024.Idx → EReal :=
  Host.scatter scatter_S8x1024_S1_S1024_0_0_0_0 (fun _ b => b)
    (Host.scatter scatter_S8x1024_S1_S4x1024_01_n_0_0 (fun _ b => b) z i0 c) i4 x

theorem tile_apply (z : S8x1024.Idx → EReal) (hz : ∀ i, z i = 0) (i0 i4 : S1.Idx → BitVec 32) (h0 : ∀ a, i0 a = 0#32) (h4 : ∀ a, i4 a = 4#32)
    (c : S4x1024.Idx → EReal) (x : S1024.Idx → EReal) (r : Fin 8) (k : Fin 1024) :
    tile z i0 i4 c x (ix2 r k) = ModulateSpec.condition (fun r k => c (ix2 r k)) (fun k => x (ix1 k)) r k := by
  have outer : ∀ (j : S1024.Idx), scatter_S8x1024_S1_S1024_0_0_0_0.resultIdx? j i4 = some (ix2 r k) → r.val = 4 ∧ j = ix1 k := fun j h => by
    obtain ⟨q, rfl⟩ := context_idx j
    rw [lands_context i4 h4 q] at h
    have e := Option.some.inj h
    have e0 : (4 : Fin 8) = r := congrFun e 0
    have e1 : q = k := congrFun e 1
    exact ⟨by rw [← e0]; rfl, by rw [e1]⟩
  have inner : ∀ (j : S4x1024.Idx), scatter_S8x1024_S1_S4x1024_01_n_0_0.resultIdx? j i0 = some (ix2 r k) → ∃ h : r.val < 4, j = ix2 ⟨r.val, h⟩ k := fun j h => by
    obtain ⟨p, q, rfl⟩ := sample_idx j
    rw [lands_sample i0 h0 p q] at h
    have e := Option.some.inj h
    have e0 : (⟨p.val, by omega⟩ : Fin 8) = r := congrFun e 0
    have e1 : q = k := congrFun e 1
    subst e0 e1
    exact ⟨p.isLt, rfl⟩
  unfold tile
  by_cases hr : r.val = 4
  · rw [ModulateSpec.condition_context _ _ r hr]
    refine Routing.scatter_set_hit _ _ _ _ _ _ (fun j h => by rw [(outer j h).2]) (ix1 k) ?_
    rw [lands_context i4 h4 k, show r = 4 from Fin.ext hr]
  · rw [Routing.scatter_set_miss _ _ _ _ _ fun j h => hr (outer j h).1]
    by_cases hl : r.val < 4
    · rw [ModulateSpec.condition_sample _ _ r hl]
      exact Routing.scatter_set_hit _ _ _ _ _ _ (fun j h => by rw [(inner j h).2]) (ix2 ⟨r.val, hl⟩ k) (lands_sample i0 h0 _ k)
    · rw [Routing.scatter_set_miss _ _ _ _ _ fun j h => hl (inner j h).1, hz, ModulateSpec.condition_rest _ _ r (by omega)]

end Cert.ModulateIdeal.KValue

end
-- ==== Proof.ModulateFrames.lean ====
/- The frames of the modulation call and of its reference. -/
module

public import proofs.«01_k».proof.Defs
public import proofs.«01_k».proof.Proof.Gen.Modulate
public import proofs.«01_k».proof.Proof.Gen.Modulate.Frame
public import proofs.«01_k».proof.Proof.Gen.ModulateIdeal
public import proofs.«01_k».proof.Proof.Gen.ModulateIdeal.Frame
public import proofs.«01_k».proof.Proof.Gen.ModulateReferenceIdeal
public import proofs.«01_k».proof.Proof.Gen.ModulateReferenceIdeal.Run

@[expose] public section

noncomputable section

namespace Cert.Proof

open Idealize.ShloMosaic Idealize.SL.Sem

attribute [local instance] Cert.Modulate.Gen.facts Cert.ModulateIdeal.Gen.facts Cert.ModulateReferenceIdeal.Gen.facts

theorem frame_modulate : Cert.quiescent_Modulate := fun m ρ _ => Cert.Modulate.Gen.frame m ρ

theorem frame_modulateIdeal : Cert.quiescent_ModulateIdeal := fun m ρ _ => Cert.ModulateIdeal.Gen.frame m ρ

/-- The reference runs and leaves its arguments; it has no semaphores. -/
theorem frame_modulateReferenceIdeal : Cert.quiescent_ModulateReferenceIdeal := fun m ρ _ =>
  (θ_run _ _ _).mono (fun r h => ⟨fun c => (h c).2, sem_eq_zero_of_no_sems (by decide) r.2⟩) (Cert.ModulateReferenceIdeal.Value.run m ρ)

end Cert.Proof

end
-- ==== Proof.ModulateReference.lean ====
/- The reference's modulation vectors, element by element. -/
module

public import proofs.«01_k».proof.Proof.ModulateSpec
public import proofs.«01_k».proof.Proof.Gen.ModulateReferenceIdeal.Read

@[expose] public section

noncomputable section

namespace Cert.ModulateReferenceIdeal.RValue

open Cert.ModulateReferenceIdeal Cert.ModulateReferenceIdeal.Gen Cert.ModulateReferenceIdeal.Read
open Idealize.ShloMosaic Idealize.ShloMosaic.TcCoe

variable (c : S4x1024.Idx → EReal) (x : S1024.Idx → EReal) (w : S2x1024x6144.Idx → EReal) (b : S2x6144.Idx → EReal) (l : Fin 2) (j : Fin 6144)

/-- The rows of the samples. -/
theorem sample_apply (r : Fin 4) : val_main_v5 (F := Ideal) c w b (ix3 l r j)
    = ModulateSpec.modulation (fun k => c (ix2 r k)) (fun k => w (ix3 l k j)) (b (ix2 l j)) := by
  unfold val_main_v5 val_main_v4 val_main_v3 val_main_v2 val_main_v1 val_main_v0 val_main_call0_v5 val_main_call0_v4 val_main_call0_cst_0
    val_main_call0_v3 val_main_call0_v2 val_main_call0_cst val_main_call0_v1 val_main_call0_v0
  pointwise
  rfl

/-- The row of the context. -/
theorem context_apply : val_main_v9 (F := Ideal) x w b (ix3 l 0 j)
    = ModulateSpec.modulation (fun k => x (ix1 k)) (fun k => w (ix3 l k j)) (b (ix2 l j)) := by
  unfold val_main_v9 val_main_v8 val_main_v7 val_main_v6 val_main_call1_v5 val_main_call1_v4 val_main_call1_cst_0
    val_main_call1_v3 val_main_call1_v2 val_main_call1_cst val_main_call1_v1 val_main_call1_v0
  pointwise
  rfl

/-- The rows that fill up the tile. -/
theorem rest_apply (r : Fin 3) : val_main_v11 (F := Ideal) b (ix3 l r j) = b (ix2 l j) := by
  unfold val_main_v11 val_main_v10
  pointwise

/-- All rows. -/
theorem result (r : Fin 8) : val_main_v12 (F := Ideal) c x w b (ix3 l r j)
    = ModulateSpec.modulation (ModulateSpec.condition (fun r k => c (ix2 r k)) (fun k => x (ix1 k)) r) (fun k => w (ix3 l k j)) (b (ix2 l j)) := by
  unfold val_main_v12
  have e5 := sample_apply c w b l j
  have e9 := context_apply x w b l j
  have e11 := rest_apply b l j
  generalize val_main_v5 (F := Ideal) c w b = u at e5 ⊢
  generalize val_main_v9 (F := Ideal) x w b = v at e9 ⊢
  generalize val_main_v11 (F := Ideal) b = y at e11 ⊢
  pointwise
  by_cases h : r.val < 4
  · rw [ModulateSpec.condition_sample _ _ r h, dif_pos h]
    exact e5 ⟨r.val, h⟩
  · rw [dif_neg h]
    by_cases h4 : r.val = 4
    · rw [ModulateSpec.condition_context _ _ r h4, dif_pos (by omega)]
      refine Eq.trans (congrArg v ?_) e9
      exact congrArg (fun q => ix3 l q j) (Subsingleton.elim _ _)
    · rw [ModulateSpec.condition_rest _ _ r (by omega), ModulateSpec.modulation_zero, dif_neg (by omega)]
      exact e11 _

end Cert.ModulateReferenceIdeal.RValue

end
-- ==== Proof.ModulateValue.lean ====
/- The result array of the modulation call, and the reference's. -/
module

public import proofs.«01_k».proof.Proof.ModulateKernel
public import proofs.«01_k».proof.Proof.ModulateFrames
public import proofs.«01_k».proof.Proof.ModulateReference
public import proofs.«01_k».proof.Proof.Gen.ModulateIdeal.Value

@[expose] public section

set_option maxRecDepth 16384

noncomputable section

namespace Cert.ModulateIdeal.Arrays

open Cert.ModulateIdeal Cert.ModulateIdeal.Gen
open Idealize.ShloMosaic Idealize.ShloMosaic.TcCoe Idealize.ShloMosaic.Tactic Idealize.SL.Sem

variable (m : (ℓ : Loc nD τ sig) → Buf (Elt Ideal) ℓ) (c : Dev nD)

abbrev argC : S4x1024.Idx → EReal := m ((c : Thread nD τ).loc main_arg0)
abbrev argX : S1024.Idx → EReal := m ((c : Thread nD τ).loc main_arg1)
abbrev argW : S2x1024x6144.Idx → EReal := m ((c : Thread nD τ).loc main_arg2)
abbrev argB : S2x6144.Idx → EReal := m ((c : Thread nD τ).loc main_arg3)

/-- A point's layer, and its channels: 1536 to a point. -/
def lOf (t : Fin cfg0.N) : Fin 2 := ⟨t.val / 4, by have h : t.val < 8 := t.isLt; omega⟩
def jOf (t : Fin cfg0.N) (j : Fin 1536) : Fin 6144 := ⟨t.val % 4 * 1536 + j.val, by omega⟩

/-- The condition tile and the bias as the host hands them over. -/
theorem V_v4 : V m c main_v4 = KValue.tile (broadcastInDim S8x1024 ![] bcast_S_S8x1024 (constant (F := Ideal) S_ .f32 0x00000000#32))
    (broadcastInDim S1 ![] bcast_S_S1 (constantI S_ 32 0#32)) (broadcastInDim S1 ![] bcast_S_S1 (constantI S_ 32 4#32)) (argC m c) (argX m c) := by
  unfold V
  after_results
  rfl

theorem V_v5 : V m c main_v5 = shapeCast S2x1x6144 (argB m c) shapeCasts_S2x6144_S2x1x6144 := by
  unfold V
  after_results
  rfl

theorem condition_apply (r : Fin 8) (k : Fin 1024) : (V m c main_v4 : S8x1024.Idx → EReal) (ix2 r k)
    = ModulateSpec.condition (fun r k => argC m c (ix2 r k)) (fun k => argX m c (ix1 k)) r k := by
  rw [V_v4]
  exact KValue.tile_apply _ (fun i => Ideal.ofBits_zero_f32) _ _ (fun _ => rfl) (fun _ => rfl) _ _ r k

theorem bias_apply (l : Fin 2) (j : Fin 6144) : (V m c main_v5 : S2x1x6144.Idx → EReal) (ix3 l 0 j) = argB m c (ix2 l j) := by
  rw [V_v5]
  generalize argB m c = b
  pointwise

theorem idx0 : ∀ t : Fin grid0.N, win0_0.index t = ![0, 0] := by decide +kernel
theorem idx1 : ∀ t : Fin grid0.N, win0_1.index t = ![t.val / 4, 0, t.val % 4] := by decide +kernel
theorem idx2 : ∀ t : Fin grid0.N, win0_2.index t = ![t.val / 4, 0, t.val % 4] := by decide +kernel
theorem idx3 : ∀ t : Fin grid0.N, win0_3.index t = ![t.val / 4, 0, t.val % 4] := by decide +kernel

/-- Where channel `j` of row `r` of a point's block stands among all layers and channels, for blocks of `n` rows. -/
theorem channel_idx {n : ℕ} (t : Fin cfg0.N) (r : Fin n) (j : Fin 1536) (e : Shape.Idx (⟨3, ![2, n, 6144]⟩ : Shape)) (i : Fin 3 → ℕ)
    (hi : i = ![t.val / 4, 0, t.val % 4]) (h0 : (e 0).val = i 0 * 1 + 1 * 0) (h1 : (e 1).val = i 1 * n + 1 * r.val)
    (h2 : (e 2).val = i 2 * 1536 + 1 * j.val) : e = ix3 (lOf t) r (jOf t j) := by
  subst hi
  funext a
  refine Fin.ext ?_
  match a with
  | ⟨0, _⟩ => refine h0.trans ?_; show t.val / 4 * 1 + 1 * 0 = t.val / 4; omega
  | ⟨1, _⟩ => refine h1.trans ?_; show 0 * n + 1 * r.val = r.val; omega
  | ⟨2, _⟩ => refine h2.trans ?_; show t.val % 4 * 1536 + 1 * j.val = t.val % 4 * 1536 + j.val; omega

/-- The condition tile is read whole at every point. -/
theorem tile_idx (r : Fin 8) (k : Fin 1024) (e : S8x1024.Idx) (i : Fin 2 → ℕ) (hi : i = ![0, 0])
    (h0 : (e 0).val = i 0 * 8 + 1 * r.val) (h1 : (e 1).val = i 1 * 1024 + 1 * k.val) : e = ix2 r k := by
  subst hi
  funext a
  refine Fin.ext ?_
  match a with
  | ⟨0, _⟩ => refine h0.trans ?_; show 0 * 8 + 1 * r.val = r.val; omega
  | ⟨1, _⟩ => refine h1.trans ?_; show 0 * 1024 + 1 * k.val = k.val; omega

/-- The blocks a point reads. -/
theorem blk0_apply (t : Fin cfg0.N) (r : Fin 8) (k : Fin 1024) : (iblk m c 0 t : S8x1024.Idx → EReal) (ix2 r k)
    = ModulateSpec.condition (fun r k => argC m c (ix2 r k)) (fun k => argX m c (ix1 k)) r k := by
  rw [← condition_apply]
  unfold iblk
  rw [View.read_apply, cast_eq]
  exact congrArg (V m c main_v4) (tile_idx r k _ _ (idx0 t) rfl rfl)

theorem blk1_apply (t : Fin cfg0.N) (k : Fin 1024) (j : Fin 1536) :
    (iblk m c 1 t : S1x1024x1536.Idx → EReal) (ix3 0 k j) = argW m c (ix3 (lOf t) k (jOf t j)) := by
  unfold iblk
  rw [View.read_apply, cast_eq]
  show V m c main_arg2 _ = _
  rw [V_main_arg2]
  exact congrArg (argW m c) (channel_idx t k j _ _ (idx1 t) rfl rfl rfl)

theorem blk2_apply (t : Fin cfg0.N) (j : Fin 1536) :
    (iblk m c 2 t : S1x1x1536.Idx → EReal) (ix3 0 0 j) = argB m c (ix2 (lOf t) (jOf t j)) := by
  rw [← bias_apply]
  unfold iblk
  rw [View.read_apply, cast_eq]
  exact congrArg (V m c main_v5) (channel_idx t 0 j _ _ (idx2 t) rfl rfl rfl)

/-- The result: the modulation of every row of the condition tile, for every layer. -/
def result : S2x8x6144.Idx → EReal := fun i =>
  ModulateSpec.modulation (ModulateSpec.condition (fun r k => argC m c (ix2 r k)) (fun k => argX m c (ix1 k)) (i 1))
    (fun k => argW m c (ix3 (i 0) k (i 2))) (argB m c (ix2 (i 0) (i 2)))

theorem block_idx (y : S1x8x1536.Idx) : y = ix3 (0 : Fin 1) (⟨(y 1).val, (y 1).isLt⟩ : Fin 8) (⟨(y 2).val, (y 2).isLt⟩ : Fin 1536) := by
  have h0 : (y 0).val < 1 := (y 0).isLt
  funext a
  refine Fin.ext ?_
  match a with
  | ⟨0, _⟩ => show (y 0).val = 0; omega
  | ⟨1, _⟩ => rfl
  | ⟨2, _⟩ => rfl

theorem array_idx (t : Fin cfg0.N) (y : S1x8x1536.Idx) (e : S2x8x6144.Idx) (i : Fin 3 → ℕ) (hi : i = ![t.val / 4, 0, t.val % 4])
    (h0 : (e 0).val = i 0 * 1 + 1 * (y 0).val) (h1 : (e 1).val = i 1 * 8 + 1 * (y 1).val) (h2 : (e 2).val = i 2 * 1536 + 1 * (y 2).val) :
    e = ix3 (lOf t) (⟨(y 1).val, (y 1).isLt⟩ : Fin 8) (jOf t (⟨(y 2).val, (y 2).isLt⟩ : Fin 1536)) := by
  have hy : (y 0).val < 1 := (y 0).isLt
  refine channel_idx t _ _ e i hi (h0.trans ?_) h1 h2
  rw [show (y 0).val = 0 by omega]

theorem emb3 (t : Fin cfg0.N) (y : S1x8x1536.Idx) : ((cfg0.win 3).blk t).view.emb y
    = ix3 (lOf t) (⟨(y 1).val, (y 1).isLt⟩ : Fin 8) (jOf t (⟨(y 2).val, (y 2).isLt⟩ : Fin 1536)) :=
  array_idx t y _ _ (idx3 t) rfl rfl rfl

theorem after3 (t : Fin cfg0.N) (r : Fin 8) (j : Fin 1536) :
    ((dats m 0 c).after 3 t : S1x8x1536.Idx → EReal) (ix3 (0 : Fin 1) r j) = result m c (ix3 (lOf t) r (jOf t j)) := by
  rw [after0_3]
  refine (KValue.out_apply _ _ _ r j).trans ?_
  rw [blk2_apply, funext fun k => blk0_apply m c t r k, funext fun k => blk1_apply m c t k j]
  rfl

theorem array3 : (dats m 0 c).arrAt 3 cfg0.N = result m c := by
  refine (dats m 0 c).arrAt_eq_of_covers 3 _ (by decide +kernel) fun t _ y => ?_
  rw [emb3 t y]
  refine Eq.trans ?_ (after3 m c t _ _)
  exact congrArg ((dats m 0 c).after 3 t) (block_idx y)

end Cert.ModulateIdeal.Arrays

namespace Cert.Proof

open Idealize.ShloMosaic Idealize.SL.Sem

attribute [local instance] Cert.Modulate.Gen.facts Cert.ModulateIdeal.Gen.facts Cert.ModulateReferenceIdeal.Gen.facts

/-- An index by its three coordinates. -/
theorem modulate_idx {p q r : ℕ} (i : Shape.Idx (⟨3, ![p, q, r]⟩ : Shape)) : i = ix3 (i 0) (i 1) (i 2) := by
  funext a
  match a with
  | ⟨0, _⟩ => rfl
  | ⟨1, _⟩ => rfl
  | ⟨2, _⟩ => rfl

/-- The modulation call and its reference end with the same vectors. -/
theorem algebraic_modulate : Cert.algebraic_ModulateIdeal_ModulateReferenceIdeal := fun m ρ m' ρ' hp hargs => by
  refine ⟨fun c => Cert.ModulateIdeal.Arrays.result m c, ?_, ?_⟩
  · refine (θ_run _ _ _).mono (fun r h c => ?_) (Cert.ModulateIdeal.Gen.run_main m ρ)
    exact ⟨(Cert.ModulateIdeal.Value.post3 m r h c).trans (Cert.ModulateIdeal.Arrays.array3 m c),
      Cert.ModulateIdeal.Value.kept_main_arg0 m r h c, Cert.ModulateIdeal.Value.kept_main_arg1 m r h c,
      Cert.ModulateIdeal.Value.kept_main_arg2 m r h c, Cert.ModulateIdeal.Value.kept_main_arg3 m r h c⟩
  · refine (θ_run _ _ _).mono (fun r h c => ?_) (Cert.ModulateReferenceIdeal.Value.run m' ρ')
    obtain ⟨h0, hk⟩ := h c
    obtain ⟨e0, e1, e2, e3⟩ := hargs c
    refine ⟨h0.trans ?_, hk⟩
    refine (Cert.ModulateReferenceIdeal.Read.val_main_v12_eq _ _ _ _).trans ?_
    dsimp only [StableHlo.launchContents]
    rw [e0, e1, e2, e3]
    funext i
    rw [modulate_idx i]
    exact Cert.ModulateReferenceIdeal.RValue.result _ _ _ _ (i 0) (i 2) (i 1)

end Cert.Proof

end
-- ==== Proof.FinishSpec.lean ====
/- The close of the context's feed-forward for one token, as plain mathematics: the gated residual and its layer norm. -/
module

public import proofs.«01_k».proof.Proof.RouteSpec

@[expose] public section

noncomputable section

namespace Cert.FinishSpec

open Idealize.ShloMosaic

/-- The residual plus the gated feed-forward; the residual's weight is the fourth root of 4. -/
def gated (x f g : Fin 1024 → EReal) (k : Fin 1024) : EReal := Ideal.ofBits .f32 0x3FB504F3#32 * x k + g k * f k

/-- The token after the feed-forward. -/
def finished (x f g gain offset : Fin 1024 → EReal) : Fin 1024 → EReal := RouteSpec.normed (gated x f g) gain offset

end Cert.FinishSpec

end
-- ==== Proof.FinishKernel.lean ====
/- What the one grid point of the close of the context's feed-forward computes, read at the extended reals. -/
module

public import proofs.«01_k».proof.Proof.FinishSpec
public import proofs.«01_k».proof.Proof.Gen.FinishIdeal.Frame
public import Idealize.ShloMosaic.Lib.Pipeline.ValueKit

@[expose] public section

noncomputable section

namespace Cert.FinishIdeal.KValue

open Cert.FinishIdeal Cert.FinishIdeal.Gen
open Idealize.ShloMosaic Idealize.ShloMosaic.TcCoe

theorem zero3 : (![0, 0, 0] : Fin 3 → ℕ) = fun _ => 0 := by funext a; fin_cases a <;> rfl
theorem zero2 : (![0, 0] : Fin 2 → ℕ) = fun _ => 0 := by funext a; fin_cases a <;> rfl

variable (x f : S1x1024x1024.Idx → EReal) (g : S1x1x1024.Idx → EReal) (lg lb : S1x1024.Idx → EReal)

/-- A token after the feed-forward. -/
theorem pay_apply (r k : Fin 1024) : k0_pay1 (F := Ideal) x g f lg lb (ix3 0 r k)
    = FinishSpec.finished (fun j => x (ix3 0 r j)) (fun j => f (ix3 0 r j)) (fun j => g (ix3 0 0 j)) (fun j => lg (ix2 0 j)) (fun j => lb (ix2 0 j)) k := by
  unfold k0_pay1
  pointwise
  rfl

theorem out_apply (r k : Fin 1024) : out0_5 (F := Ideal) x f g lg lb (ix3 0 r k)
    = FinishSpec.finished (fun j => x (ix3 0 r j)) (fun j => f (ix3 0 r j)) (fun j => g (ix3 0 0 j)) (fun j => lg (ix2 0 j)) (fun j => lb (ix2 0 j)) k := by
  unfold out0_5
  rw [View.canon_unit_zero zero3, View.ld_unit_zero zero3, View.ld_unit_zero zero3, View.ld_unit_zero zero3, View.ld_unit_zero zero2,
    View.ld_unit_zero zero2]
  exact pay_apply x f g lg lb r k

end Cert.FinishIdeal.KValue

end
-- ==== Proof.FinishFrames.lean ====
/- The frames of the close of the context's feed-forward and of its reference. -/
module

public import proofs.«01_k».proof.Defs
public import proofs.«01_k».proof.Proof.Gen.Finish
public import proofs.«01_k».proof.Proof.Gen.Finish.Frame
public import proofs.«01_k».proof.Proof.Gen.FinishIdeal
public import proofs.«01_k».proof.Proof.Gen.FinishIdeal.Frame
public import proofs.«01_k».proof.Proof.Gen.FinishReferenceIdeal
public import proofs.«01_k».proof.Proof.Gen.FinishReferenceIdeal.Run

@[expose] public section

noncomputable section

namespace Cert.Proof

open Idealize.ShloMosaic Idealize.SL.Sem

attribute [local instance] Cert.Finish.Gen.facts Cert.FinishIdeal.Gen.facts Cert.FinishReferenceIdeal.Gen.facts

theorem frame_finish : Cert.quiescent_Finish := fun m ρ _ => Cert.Finish.Gen.frame m ρ

theorem frame_finishIdeal : Cert.quiescent_FinishIdeal := fun m ρ _ => Cert.FinishIdeal.Gen.frame m ρ

/-- The reference runs and leaves its arguments; it has no semaphores. -/
theorem frame_finishReferenceIdeal : Cert.quiescent_FinishReferenceIdeal := fun m ρ _ =>
  (θ_run _ _ _).mono (fun r h => ⟨fun c => (h c).2, sem_eq_zero_of_no_sems (by decide) r.2⟩) (Cert.FinishReferenceIdeal.Value.run m ρ)

end Cert.Proof

end
-- ==== Proof.FinishReference.lean ====
/- The reference's close of the context's feed-forward, element by element. -/
module

public import proofs.«01_k».proof.Proof.FinishSpec
public import proofs.«01_k».proof.Proof.Gen.FinishReferenceIdeal.Read

@[expose] public section

noncomputable section

namespace Cert.FinishReferenceIdeal.RValue

open Cert.FinishReferenceIdeal Cert.FinishReferenceIdeal.Gen Cert.FinishReferenceIdeal.Read
open Idealize.ShloMosaic Idealize.ShloMosaic.TcCoe

variable (x : S1x1024x1024.Idx → EReal) (f : S1024x1024.Idx → EReal) (g : S1x1x1024.Idx → EReal) (lg lb : S1x1024.Idx → EReal) (r : Fin 1024)

theorem sum_apply (k : Fin 1024) : val_main_v5 (F := Ideal) x f g (ix3 0 r k)
    = FinishSpec.gated (fun j => x (ix3 0 r j)) (fun j => f (ix2 r j)) (fun j => g (ix3 0 0 j)) k := by
  unfold val_main_v5 val_main_v4 val_main_v3 val_main_v2 val_main_v1 val_main_v0 val_main_cst
  pointwise
  rfl

theorem result (k : Fin 1024) : val_main_v29 (F := Ideal) x f g lg lb (ix3 0 r k)
    = FinishSpec.finished (fun j => x (ix3 0 r j)) (fun j => f (ix2 r j)) (fun j => g (ix3 0 0 j)) (fun j => lg (ix2 0 j)) (fun j => lb (ix2 0 j)) k := by
  unfold val_main_v29 val_main_v28 val_main_v27 val_main_v26 val_main_v25 val_main_v24 val_main_v23 val_main_v22 val_main_v21
    val_main_v20 val_main_v19 val_main_v18 val_main_v17 val_main_v16 val_main_v15 val_main_v14 val_main_v13 val_main_v12 val_main_v11
    val_main_v10 val_main_v9 val_main_v8 val_main_v7 val_main_v6 val_main_cst_0 val_main_cst_1 val_main_cst_2 val_main_cst_3 val_main_cst_4
  have e := sum_apply x f g r
  generalize val_main_v5 (F := Ideal) x f g = v at e ⊢
  pointwise [e]
  rfl

end Cert.FinishReferenceIdeal.RValue

end
-- ==== Proof.FinishValue.lean ====
/- The result array of the close of the context's feed-forward, and the reference's. -/
module

public import proofs.«01_k».proof.Proof.FinishKernel
public import proofs.«01_k».proof.Proof.FinishFrames
public import proofs.«01_k».proof.Proof.FinishReference
public import proofs.«01_k».proof.Proof.Gen.FinishIdeal.Value

@[expose] public section

set_option maxRecDepth 16384

noncomputable section

namespace Cert.FinishIdeal.Arrays

open Cert.FinishIdeal Cert.FinishIdeal.Gen
open Idealize.ShloMosaic Idealize.ShloMosaic.TcCoe Idealize.ShloMosaic.Tactic Idealize.SL.Sem

variable (m : (ℓ : Loc nD τ sig) → Buf (Elt Ideal) ℓ) (c : Dev nD)

abbrev argX : S1x1024x1024.Idx → EReal := m ((c : Thread nD τ).loc main_arg0)
abbrev argF : S1024x1024.Idx → EReal := m ((c : Thread nD τ).loc main_arg1)
abbrev argG : S1x1x1024.Idx → EReal := m ((c : Thread nD τ).loc main_arg2)
abbrev argGain : S1x1024.Idx → EReal := m ((c : Thread nD τ).loc main_arg3)
abbrev argOffset : S1x1024.Idx → EReal := m ((c : Thread nD τ).loc main_arg4)

/-- The feed-forward's output as the host hands it over. -/
theorem V_v0 : V m c main_v0 = broadcastInDim S1x1024x1024 ![1, 2] bcast_S1024x1024_S1x1024x1024_1_2 (argF m c) := by
  unfold V
  after_results

theorem output_apply (r k : Fin 1024) : (V m c main_v0 : S1x1024x1024.Idx → EReal) (ix3 0 r k) = argF m c (ix2 r k) := by
  rw [V_v0]
  generalize argF m c = f
  pointwise

theorem idx0 : ∀ t : Fin grid0.N, win0_0.index t = ![0, 0, 0] := by decide +kernel
theorem idx1 : ∀ t : Fin grid0.N, win0_1.index t = ![0, 0, 0] := by decide +kernel
theorem idx2 : ∀ t : Fin grid0.N, win0_2.index t = ![0, 0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0, 0] := by decide +kernel

/-- Every array is read whole: places in a block are places in the array. -/
theorem whole3 {n : ℕ} (r : Fin n) (k : Fin 1024) (e : Shape.Idx (⟨3, ![1, n, 1024]⟩ : Shape)) (i : Fin 3 → ℕ) (hi : i = ![0, 0, 0])
    (h0 : (e 0).val = i 0 * 1 + 1 * 0) (h1 : (e 1).val = i 1 * n + 1 * r.val) (h2 : (e 2).val = i 2 * 1024 + 1 * k.val) : e = ix3 0 r k := by
  subst hi
  funext a
  refine Fin.ext ?_
  match a with
  | ⟨0, _⟩ => exact h0
  | ⟨1, _⟩ => refine h1.trans ?_; show 0 * n + 1 * r.val = r.val; omega
  | ⟨2, _⟩ => refine h2.trans ?_; show 0 * 1024 + 1 * k.val = k.val; omega

theorem whole2 (k : Fin 1024) (e : S1x1024.Idx) (i : Fin 2 → ℕ) (hi : i = ![0, 0])
    (h0 : (e 0).val = i 0 * 1 + 1 * 0) (h1 : (e 1).val = i 1 * 1024 + 1 * k.val) : e = ix2 0 k := by
  subst hi
  funext a
  refine Fin.ext ?_
  match a with
  | ⟨0, _⟩ => exact h0
  | ⟨1, _⟩ => refine h1.trans ?_; show 0 * 1024 + 1 * k.val = k.val; omega

/-- The blocks the point reads. -/
theorem blk0_apply (t : Fin cfg0.N) (r k : Fin 1024) : (iblk m c 0 t : S1x1024x1024.Idx → EReal) (ix3 0 r k) = argX m c (ix3 0 r k) := by
  unfold iblk
  rw [View.read_apply, cast_eq]
  show V m c main_arg0 _ = _
  rw [V_main_arg0]
  exact congrArg (argX m c) (whole3 r k _ _ (idx0 t) rfl rfl rfl)

theorem blk1_apply (t : Fin cfg0.N) (r k : Fin 1024) : (iblk m c 1 t : S1x1024x1024.Idx → EReal) (ix3 0 r k) = argF m c (ix2 r k) := by
  rw [← output_apply]
  unfold iblk
  rw [View.read_apply, cast_eq]
  exact congrArg (V m c main_v0) (whole3 r k _ _ (idx1 t) rfl rfl rfl)

theorem blk2_apply (t : Fin cfg0.N) (k : Fin 1024) : (iblk m c 2 t : S1x1x1024.Idx → EReal) (ix3 0 0 k) = argG m c (ix3 0 0 k) := by
  unfold iblk
  rw [View.read_apply, cast_eq]
  show V m c main_arg2 _ = _
  rw [V_main_arg2]
  exact congrArg (argG m c) (whole3 0 k _ _ (idx2 t) rfl rfl rfl)

theorem blk3_apply (t : Fin cfg0.N) (k : Fin 1024) : (iblk m c 3 t : S1x1024.Idx → EReal) (ix2 0 k) = argGain m c (ix2 0 k) := by
  unfold iblk
  rw [View.read_apply, cast_eq]
  show V m c main_arg3 _ = _
  rw [V_main_arg3]
  exact congrArg (argGain m c) (whole2 k _ _ (idx3 t) rfl rfl)

theorem blk4_apply (t : Fin cfg0.N) (k : Fin 1024) : (iblk m c 4 t : S1x1024.Idx → EReal) (ix2 0 k) = argOffset m c (ix2 0 k) := by
  unfold iblk
  rw [View.read_apply, cast_eq]
  show V m c main_arg4 _ = _
  rw [V_main_arg4]
  exact congrArg (argOffset m c) (whole2 k _ _ (idx4 t) rfl rfl)

/-- The result: the context's tokens after the feed-forward. -/
def result : S1x1024x1024.Idx → EReal := fun i =>
  FinishSpec.finished (fun j => argX m c (ix3 0 (i 1) j)) (fun j => argF m c (ix2 (i 1) j)) (fun j => argG m c (ix3 0 0 j))
    (fun j => argGain m c (ix2 0 j)) (fun j => argOffset m c (ix2 0 j)) (i 2)

theorem block_idx (y : S1x1024x1024.Idx) : y = ix3 (0 : Fin 1) (⟨(y 1).val, (y 1).isLt⟩ : Fin 1024) (⟨(y 2).val, (y 2).isLt⟩ : Fin 1024) := by
  have h0 : (y 0).val < 1 := (y 0).isLt
  funext a
  refine Fin.ext ?_
  match a with
  | ⟨0, _⟩ => show (y 0).val = 0; omega
  | ⟨1, _⟩ => rfl
  | ⟨2, _⟩ => rfl

theorem array_idx (y e : S1x1024x1024.Idx) (i : Fin 3 → ℕ) (hi : i = ![0, 0, 0])
    (h0 : (e 0).val = i 0 * 1 + 1 * (y 0).val) (h1 : (e 1).val = i 1 * 1024 + 1 * (y 1).val) (h2 : (e 2).val = i 2 * 1024 + 1 * (y 2).val) :
    e = ix3 0 (⟨(y 1).val, (y 1).isLt⟩ : Fin 1024) (⟨(y 2).val, (y 2).isLt⟩ : Fin 1024) := by
  have hy : (y 0).val < 1 := (y 0).isLt
  refine whole3 _ _ e i hi (h0.trans ?_) h1 h2
  rw [show (y 0).val = 0 by omega]

theorem emb5 (t : Fin cfg0.N) (y : S1x1024x1024.Idx) : ((cfg0.win 5).blk t).view.emb y
    = ix3 0 (⟨(y 1).val, (y 1).isLt⟩ : Fin 1024) (⟨(y 2).val, (y 2).isLt⟩ : Fin 1024) :=
  array_idx y _ _ (idx5 t) rfl rfl rfl

theorem after5 (t : Fin cfg0.N) (r k : Fin 1024) :
    ((dats m 0 c).after 5 t : S1x1024x1024.Idx → EReal) (ix3 (0 : Fin 1) r k) = result m c (ix3 0 r k) := by
  rw [after0_5]
  refine (KValue.out_apply _ _ _ _ _ r k).trans ?_
  rw [funext fun k => blk0_apply m c t r k, funext fun k => blk1_apply m c t r k, funext fun k => blk2_apply m c t k,
    funext fun k => blk3_apply m c t k, funext fun k => blk4_apply m c t k]
  rfl

theorem array5 : (dats m 0 c).arrAt 5 cfg0.N = result m c := by
  refine (dats m 0 c).arrAt_eq_of_covers 5 _ (by decide +kernel) fun t _ y => ?_
  rw [emb5 t y]
  refine Eq.trans ?_ (after5 m c t _ _)
  exact congrArg ((dats m 0 c).after 5 t) (block_idx y)

end Cert.FinishIdeal.Arrays

namespace Cert.Proof

open Idealize.ShloMosaic Idealize.SL.Sem

attribute [local instance] Cert.Finish.Gen.facts Cert.FinishIdeal.Gen.facts Cert.FinishReferenceIdeal.Gen.facts

/-- The close of the context's feed-forward and its reference end with the same tokens. -/
theorem algebraic_finish : Cert.algebraic_FinishIdeal_FinishReferenceIdeal := fun m ρ m' ρ' hp hargs => by
  refine ⟨fun c => Cert.FinishIdeal.Arrays.result m c, ?_, ?_⟩
  · refine (θ_run _ _ _).mono (fun r h c => ?_) (Cert.FinishIdeal.Gen.run_main m ρ)
    exact ⟨(Cert.FinishIdeal.Value.post5 m r h c).trans (Cert.FinishIdeal.Arrays.array5 m c),
      Cert.FinishIdeal.Value.kept_main_arg0 m r h c, Cert.FinishIdeal.Value.kept_main_arg1 m r h c,
      Cert.FinishIdeal.Value.kept_main_arg2 m r h c, Cert.FinishIdeal.Value.kept_main_arg3 m r h c,
      Cert.FinishIdeal.Value.kept_main_arg4 m r h c⟩
  · refine (θ_run _ _ _).mono (fun r h c => ?_) (Cert.FinishReferenceIdeal.Value.run m' ρ')
    obtain ⟨h0, hk⟩ := h c
    obtain ⟨e0, e1, e2, e3, e4⟩ := hargs c
    refine ⟨h0.trans ?_, hk⟩
    refine (Cert.FinishReferenceIdeal.Read.val_main_v29_eq _ _).trans ?_
    rw [e0, e1, e2, e3, e4]
    funext i
    rw [Cert.FinishIdeal.Arrays.block_idx i]
    exact Cert.FinishReferenceIdeal.RValue.result _ _ _ _ _ _ _

end Cert.Proof

end
-- ==== Proof.DenseSpec.lean ====
/- The context's feed-forward for one token, as plain mathematics: every expert's output, weighted by the token's gates and summed. -/
module

public import proofs.«01_k».proof.Proof.Spec

@[expose] public section

noncomputable section

namespace Cert.DenseSpec

open Idealize.ShloMosaic

section

variable (wg wu : (⟨4, ![2, 16, 1024, 512]⟩ : Shape).Idx → EReal) (wd : (⟨4, ![2, 16, 512, 1024]⟩ : Shape).Idx → EReal)

/-- Output `d` of expert `e` of the first layer for a token. -/
def expert (x : Fin 1024 → EReal) (e : Fin 16) (d : Fin 1024) : EReal :=
  ∑ f : Fin 512, Spec.unit x (fun k => wg (ix4 0 e k f)) (fun k => wu (ix4 0 e k f)) * wd (ix4 0 e f d)

/-- The experts' outputs under the token's gates. -/
def combined (x : Fin 1024 → EReal) (w : Fin 16 → EReal) (d : Fin 1024) : EReal := ∑ e, expert wg wu wd x e d * w e

end

/-- The lane of an expert is found by comparing lane numbers. -/
theorem lane_apply (l e : Fin 16) : IntOp.cmpi .eq (BitVec.ofNat 32 l.val) (BitVec.ofNat 32 e.val) = if l = e then 1#1 else 0#1 := by
  revert l e
  decide +kernel

/-- The sum over the lanes of what stands in one of them, zero elsewhere. -/
theorem sum_lane (w : Fin 16 → EReal) (e : Fin 16) :
    ∑ l : Fin 16, Scalar.select (IntOp.cmpi .eq (BitVec.ofNat 32 l.val) (BitVec.ofNat 32 e.val)) (w l) 0 = w e := by
  refine (Finset.sum_eq_single e (fun l _ hl => ?_) fun h => absurd (Finset.mem_univ e) h).trans ?_
  · rw [lane_apply, if_neg hl]
    rfl
  · rw [lane_apply, if_pos rfl]
    rfl

end Cert.DenseSpec

end
-- ==== Proof.DenseKernel.lean ====
/- What one grid point of the context's feed-forward adds to the tokens, read at the extended reals. -/
module

public import proofs.«01_k».proof.Proof.DenseSpec
public import proofs.«01_k».proof.Proof.Gen.DenseIdeal.Skeleton
public import Idealize.ShloMosaic.Lib.Pipeline.ValueKit

@[expose] public section

noncomputable section

namespace Cert.DenseIdeal.KValue

open Cert.DenseIdeal Cert.DenseIdeal.Gen
open Idealize.ShloMosaic Idealize.ShloMosaic.TcCoe

/-- The sum starts at zero. -/
theorem start_apply (r d : Fin 1024) : k0_pay1 (F := Ideal) (ix2 r d) = 0 := by
  unfold k0_pay1
  pointwise

/-- A point adds its expert's output under the token's gate. -/
theorem step_apply (i : grid0.Coords) (e : Fin 16) (he : (i 0).val = e.val) (w : S1024x16.Idx → EReal) (acc x : S1024x1024.Idx → EReal)
    (g u : S1x1x1024x512.Idx → EReal) (n : S1x1x512x1024.Idx → EReal) (r d : Fin 1024) :
    k0_pay2 (F := Ideal) i w acc x g u n (ix2 r d)
      = acc (ix2 r d) + (∑ f : Fin 512, Spec.unit (fun k => x (ix2 r k)) (fun k => g (ix4 0 0 k f)) (fun k => u (ix4 0 0 k f)) * n (ix4 0 0 f d)) * w (ix2 r e) := by
  unfold k0_pay2
  rw [he]
  pointwise
  rw [DenseSpec.sum_lane (fun l => w (ix2 r l)) e]
  rfl

end Cert.DenseIdeal.KValue

end
-- ==== Proof.DenseFrames.lean ====
/- The frames of the context's feed-forward and of its reference. -/
module

public import proofs.«01_k».proof.Defs
public import proofs.«01_k».proof.Proof.Gen.Dense
public import proofs.«01_k».proof.Proof.Gen.Dense.Frame
public import proofs.«01_k».proof.Proof.Gen.DenseIdeal
public import proofs.«01_k».proof.Proof.Gen.DenseIdeal.Frame
public import proofs.«01_k».proof.Proof.Gen.DenseReferenceIdeal
public import proofs.«01_k».proof.Proof.Gen.DenseReferenceIdeal.Run

@[expose] public section

noncomputable section

namespace Cert.Proof

open Idealize.ShloMosaic Idealize.SL.Sem

attribute [local instance] Cert.Dense.Gen.facts Cert.DenseIdeal.Gen.facts Cert.DenseReferenceIdeal.Gen.facts

theorem frame_dense : Cert.quiescent_Dense := fun m ρ _ => Cert.Dense.Gen.frame m ρ

theorem frame_denseIdeal : Cert.quiescent_DenseIdeal := fun m ρ _ => Cert.DenseIdeal.Gen.frame m ρ

/-- The reference runs and leaves its arguments; it has no semaphores. -/
theorem frame_denseReferenceIdeal : Cert.quiescent_DenseReferenceIdeal := fun m ρ _ =>
  (θ_run _ _ _).mono (fun r h => ⟨fun c => (h c).2, sem_eq_zero_of_no_sems (by decide) r.2⟩) (Cert.DenseReferenceIdeal.Value.run m ρ)

end Cert.Proof

end
-- ==== Proof.DenseReference.lean ====
/- The reference's feed-forward of the context, element by element. -/
module

public import proofs.«01_k».proof.Proof.DenseSpec
public import proofs.«01_k».proof.Proof.Gen.DenseReferenceIdeal.Read

@[expose] public section

noncomputable section

namespace Cert.DenseReferenceIdeal.RValue

open Cert.DenseReferenceIdeal Cert.DenseReferenceIdeal.Gen Cert.DenseReferenceIdeal.Read
open Idealize.ShloMosaic Idealize.ShloMosaic.TcCoe

variable (x : S1024x1024.Idx → EReal) (w : S1024x16.Idx → EReal) (wg wu : S2x16x1024x512.Idx → EReal) (wd : S2x16x512x1024.Idx → EReal)
  (e : Fin 16) (r : Fin 1024)

/-- The two projections into an expert's units. -/
theorem gate_apply (f : Fin 512) : val_main_v4 (F := Ideal) x wg (ix3 e r f) = ∑ k, x (ix2 r k) * wg (ix4 0 e k f) := by
  unfold val_main_v4 val_main_v3 val_main_v2 val_main_v1 val_main_v0
  pointwise
  exact Finset.sum_congr rfl fun k _ => mul_comm _ _

theorem up_apply (f : Fin 512) : val_main_v8 (F := Ideal) x wu (ix3 e r f) = ∑ k, x (ix2 r k) * wu (ix4 0 e k f) := by
  unfold val_main_v8 val_main_v7 val_main_v6 val_main_v5 val_main_v0
  pointwise
  exact Finset.sum_congr rfl fun k _ => mul_comm _ _

/-- A unit. -/
theorem unit_apply (f : Fin 512) : val_main_v10 (F := Ideal) x wg wu (ix3 e r f)
    = Spec.unit (fun k => x (ix2 r k)) (fun k => wg (ix4 0 e k f)) (fun k => wu (ix4 0 e k f)) := by
  unfold Spec.unit val_main_v10 val_main_v9 val_main_call0_v5 val_main_call0_v4 val_main_call0_cst_0 val_main_call0_v3 val_main_call0_v2
    val_main_call0_cst val_main_call0_v1 val_main_call0_v0
  have a := gate_apply x wg e r f
  have b := up_apply x wu e r f
  generalize val_main_v4 (F := Ideal) x wg = p at a ⊢
  generalize val_main_v8 (F := Ideal) x wu = q at b ⊢
  pointwise [a, b]
  rfl

/-- An expert's output. -/
theorem expert_apply (d : Fin 1024) : val_main_v13 (F := Ideal) x wg wu wd (ix3 e r d)
    = DenseSpec.expert wg wu wd (fun k => x (ix2 r k)) e d := by
  unfold DenseSpec.expert val_main_v13 val_main_v12 val_main_v11
  have a := unit_apply x wg wu e r
  generalize val_main_v10 (F := Ideal) x wg wu = p at a ⊢
  pointwise [a]

/-- The gated sum. -/
theorem result (d : Fin 1024) : val_main_v18 (F := Ideal) x w wg wu wd (ix2 r d)
    = DenseSpec.combined wg wu wd (fun k => x (ix2 r k)) (fun e => w (ix2 r e)) d := by
  unfold DenseSpec.combined val_main_v18 val_main_v17 val_main_v16 val_main_v15 val_main_v14 val_main_cst
  have a := fun e => expert_apply x wg wu wd e r d
  generalize val_main_v13 (F := Ideal) x wg wu wd = p at a ⊢
  pointwise [a]

end Cert.DenseReferenceIdeal.RValue

end
-- ==== Proof.DenseValue.lean ====
/- The result array of the context's feed-forward, and the reference's. -/
module

public import proofs.«01_k».proof.Proof.DenseKernel
public import proofs.«01_k».proof.Proof.DenseFrames
public import proofs.«01_k».proof.Proof.DenseReference
public import proofs.«01_k».proof.Proof.Gen.DenseIdeal.Value

@[expose] public section

set_option maxRecDepth 16384

noncomputable section

namespace Cert.DenseIdeal.Arrays

open Cert.DenseIdeal Cert.DenseIdeal.Gen
open Idealize.ShloMosaic Idealize.ShloMosaic.TcCoe Idealize.SL.Sem

variable (m : (ℓ : Loc nD τ sig) → Buf (Elt Ideal) ℓ) (c : Dev nD)

abbrev argX : S1024x1024.Idx → EReal := m ((c : Thread nD τ).loc main_arg0)
abbrev argW : S1024x16.Idx → EReal := m ((c : Thread nD τ).loc main_arg1)
abbrev argGate : S2x16x1024x512.Idx → EReal := m ((c : Thread nD τ).loc main_arg2)
abbrev argUp : S2x16x1024x512.Idx → EReal := m ((c : Thread nD τ).loc main_arg3)
abbrev argDown : S2x16x512x1024.Idx → EReal := m ((c : Thread nD τ).loc main_arg4)

/-- A point's expert. -/
def eOf (t : Fin cfg0.N) : Fin 16 := ⟨t.val, t.isLt⟩

theorem coord : ∀ t : Fin grid0.N, (grid0.coords t 0).val = t.val := by decide +kernel

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, t.val, 0, 0] := by decide +kernel
theorem idx3 : ∀ t : Fin grid0.N, win0_3.index t = ![0, t.val, 0, 0] := by decide +kernel
theorem idx4 : ∀ t : Fin grid0.N, win0_4.index t = ![0, t.val, 0, 0] := by decide +kernel

/-- The tokens and their gates are read whole at every point. -/
theorem whole_idx {p q : ℕ} (r : Fin p) (k : Fin q) (e : Shape.Idx (⟨2, ![p, q]⟩ : Shape)) (i : Fin 2 → ℕ) (hi : i = ![0, 0])
    (h0 : (e 0).val = i 0 * p + 1 * r.val) (h1 : (e 1).val = i 1 * q + 1 * k.val) : e = ix2 r k := by
  subst hi
  funext a
  refine Fin.ext ?_
  match a with
  | ⟨0, _⟩ => refine h0.trans ?_; show 0 * p + 1 * r.val = r.val; omega
  | ⟨1, _⟩ => refine h1.trans ?_; show 0 * q + 1 * k.val = k.val; omega

/-- A point's block of an array of weights is its expert's matrix of the first layer. -/
theorem matrix_idx {p q : ℕ} (t : Fin cfg0.N) (r : Fin p) (k : Fin q) (e : Shape.Idx (⟨4, ![2, 16, p, q]⟩ : Shape)) (i : Fin 4 → ℕ)
    (hi : i = ![0, t.val, 0, 0]) (h0 : (e 0).val = i 0 * 1 + 1 * 0) (h1 : (e 1).val = i 1 * 1 + 1 * 0)
    (h2 : (e 2).val = i 2 * p + 1 * r.val) (h3 : (e 3).val = i 3 * q + 1 * k.val) : e = ix4 0 (eOf t) r k := by
  subst hi
  funext a
  refine Fin.ext ?_
  match a with
  | ⟨0, _⟩ => exact h0
  | ⟨1, _⟩ => refine h1.trans ?_; show t.val * 1 + 1 * 0 = t.val; omega
  | ⟨2, _⟩ => refine h2.trans ?_; show 0 * p + 1 * r.val = r.val; omega
  | ⟨3, _⟩ => refine h3.trans ?_; show 0 * q + 1 * k.val = k.val; omega

/-- The blocks a point reads. -/
theorem blk0_apply (t : Fin cfg0.N) (r k : Fin 1024) : (iblk m c 0 t : S1024x1024.Idx → EReal) (ix2 r k) = argX m c (ix2 r k) := by
  unfold iblk
  rw [View.read_apply, cast_eq]
  show V m c main_arg0 _ = _
  rw [V_main_arg0]
  exact congrArg (argX m c) (whole_idx r k _ _ (idx0 t) rfl rfl)

theorem blk1_apply (t : Fin cfg0.N) (r : Fin 1024) (e : Fin 16) : (iblk m c 1 t : S1024x16.Idx → EReal) (ix2 r e) = argW m c (ix2 r e) := by
  unfold iblk
  rw [View.read_apply, cast_eq]
  show V m c main_arg1 _ = _
  rw [V_main_arg1]
  exact congrArg (argW m c) (whole_idx r e _ _ (idx1 t) rfl rfl)

theorem blk2_apply (t : Fin cfg0.N) (k : Fin 1024) (f : Fin 512) :
    (iblk m c 2 t : S1x1x1024x512.Idx → EReal) (ix4 0 0 k f) = argGate m c (ix4 0 (eOf t) k f) := by
  unfold iblk
  rw [View.read_apply, cast_eq]
  show V m c main_arg2 _ = _
  rw [V_main_arg2]
  exact congrArg (argGate m c) (matrix_idx t k f _ _ (idx2 t) rfl rfl rfl rfl)

theorem blk3_apply (t : Fin cfg0.N) (k : Fin 1024) (f : Fin 512) :
    (iblk m c 3 t : S1x1x1024x512.Idx → EReal) (ix4 0 0 k f) = argUp m c (ix4 0 (eOf t) k f) := by
  unfold iblk
  rw [View.read_apply, cast_eq]
  show V m c main_arg3 _ = _
  rw [V_main_arg3]
  exact congrArg (argUp m c) (matrix_idx t k f _ _ (idx3 t) rfl rfl rfl rfl)

theorem blk4_apply (t : Fin cfg0.N) (f : Fin 512) (d : Fin 1024) :
    (iblk m c 4 t : S1x1x512x1024.Idx → EReal) (ix4 0 0 f d) = argDown m c (ix4 0 (eOf t) f d) := by
  unfold iblk
  rw [View.read_apply, cast_eq]
  show V m c main_arg4 _ = _
  rw [V_main_arg4]
  exact congrArg (argDown m c) (matrix_idx t f d _ _ (idx4 t) rfl rfl rfl rfl)

/-- What point `n` adds at a place: its expert's output under the token's gate. -/
def term (n : ℕ) (i : S1024x1024.Idx) : EReal :=
  if h : n < 16 then
    DenseSpec.expert (argGate m c) (argUp m c) (argDown m c) (fun k => argX m c (ix2 (i 0) k)) ⟨n, h⟩ (i 1) * argW m c (ix2 (i 0) ⟨n, h⟩)
  else 0

/-- An index by its coordinates. -/
theorem place_idx {p q : ℕ} (i : Shape.Idx (⟨2, ![p, q]⟩ : Shape)) : i = ix2 (⟨(i 0).val, (i 0).isLt⟩ : Fin p) (⟨(i 1).val, (i 1).isLt⟩ : Fin q) := by
  funext a
  match a with
  | ⟨0, _⟩ => rfl
  | ⟨1, _⟩ => rfl

/-- A point adds its term to what stands at a place. -/
theorem step_eq (n : ℕ) (h : n < cfg0.N) (acc : S1024x1024.Idx → EReal) (i : S1024x1024.Idx) :
    Value.step5 m c n h acc i = acc i + term m c n i := by
  have hn : n < 16 := h
  rw [place_idx i]
  generalize (⟨(i 0).val, (i 0).isLt⟩ : Fin 1024) = r
  generalize (⟨(i 1).val, (i 1).isLt⟩ : Fin 1024) = d
  refine (KValue.step_apply (grid0.coords ⟨n, h⟩) ⟨n, hn⟩ (coord ⟨n, h⟩) _ acc _ _ _ _ r d).trans ?_
  refine congrArg (fun y => acc (ix2 r d) + y) ?_
  unfold term
  rw [dif_pos hn, blk1_apply]
  refine congrArg (fun y => y * argW m c (ix2 r ⟨n, hn⟩)) (Finset.sum_congr rfl fun f _ => ?_)
  rw [blk4_apply, funext fun k => blk0_apply m c ⟨n, h⟩ r k, funext fun k => blk2_apply m c ⟨n, h⟩ k f, funext fun k => blk3_apply m c ⟨n, h⟩ k f]
  rfl

/-- The first point starts from zero. -/
theorem reset_eq (n : ℕ) (h : n < cfg0.N) (i : S1024x1024.Idx) : Value.reset5 m c n h i = 0 + term m c n i := by
  refine (step_eq m c n h (k0_pay1 (F := Ideal)) i).trans ?_
  rw [show k0_pay1 (F := Ideal) i = (0 : EReal) by rw [place_idx i]; exact KValue.start_apply _ _]

/-- The result: every token's experts under its gates. -/
def result : S1024x1024.Idx → EReal := fun i =>
  DenseSpec.combined (argGate m c) (argUp m c) (argDown m c) (fun k => argX m c (ix2 (i 0) k)) (fun e => argW m c (ix2 (i 0) e)) (i 1)

theorem array5 : (dats m 0 c).arrAt 5 cfg0.N = result m c := by
  rw [Value.final5]
  funext i
  have h0 : (i 0).val < 1024 := (i 0).isLt
  have h1 : (i 1).val < 1024 := (i 1).isLt
  have hr : Value.run5Of i = 0 := by unfold Value.run5Of; omega
  have hl : Value.loc5Of i = i := by
    funext a
    refine Fin.ext ?_
    match a with
    | ⟨0, _⟩ => exact Nat.mod_eq_of_lt h0
    | ⟨1, _⟩ => exact Nat.mod_eq_of_lt h1
  unfold Value.G5
  rw [dif_pos (by rw [hr]; decide), hl]
  refine (Pipeline.accAt_add_apply (ι := S1024x1024.Idx) (β := EReal) (Value.reset5 m c) (Value.step5 m c) (fun _ => (0 : EReal)) (term m c) (16 * Value.run5Of i) 15
    (fun h j => reset_eq m c _ h j) (fun n h acc j _ _ => step_eq m c n h acc j) 15 le_rfl _ i).trans ?_
  rw [zero_add, hr]
  have h : ∑ e : Fin 16, term m c (16 * 0 + e.val) i = result m c i := by
    unfold result DenseSpec.combined
    refine Finset.sum_congr rfl fun e _ => ?_
    rw [show 16 * 0 + e.val = e.val by omega]
    unfold term
    rw [dif_pos e.isLt]
  exact (Finset.sum_range fun s => term m c (16 * 0 + s) i).trans h

end Cert.DenseIdeal.Arrays

namespace Cert.Proof

open Idealize.ShloMosaic Idealize.SL.Sem

attribute [local instance] Cert.Dense.Gen.facts Cert.DenseIdeal.Gen.facts Cert.DenseReferenceIdeal.Gen.facts

/-- The context's feed-forward and its reference end with the same array. -/
theorem algebraic_dense : Cert.algebraic_DenseIdeal_DenseReferenceIdeal := fun m ρ m' ρ' hp hargs => by
  refine ⟨fun c => Cert.DenseIdeal.Arrays.result m c, ?_, ?_⟩
  · refine (θ_run _ _ _).mono (fun r h c => ?_) (Cert.DenseIdeal.Gen.run_main m ρ)
    exact ⟨(Cert.DenseIdeal.Value.post5 m r h c).trans (Cert.DenseIdeal.Arrays.array5 m c),
      Cert.DenseIdeal.Value.kept_main_arg0 m r h c, Cert.DenseIdeal.Value.kept_main_arg1 m r h c,
      Cert.DenseIdeal.Value.kept_main_arg2 m r h c, Cert.DenseIdeal.Value.kept_main_arg3 m r h c,
      Cert.DenseIdeal.Value.kept_main_arg4 m r h c⟩
  · refine (θ_run _ _ _).mono (fun r h c => ?_) (Cert.DenseReferenceIdeal.Value.run m' ρ')
    obtain ⟨h0, hk⟩ := h c
    obtain ⟨e0, e1, e2, e3, e4⟩ := hargs c
    refine ⟨h0.trans ?_, hk⟩
    refine (Cert.DenseReferenceIdeal.Read.val_main_v18_eq _ _ _ _ _).trans ?_
    dsimp only [StableHlo.launchContents]
    rw [e0, e1, e2, e3, e4]
    funext i
    rw [Cert.DenseIdeal.Arrays.place_idx i]
    exact Cert.DenseReferenceIdeal.RValue.result _ _ _ _ _ _ _

end Cert.Proof

end
-- ==== Proof.lean ====
module

public import proofs.«01_k».proof.Defs
public import proofs.«01_k».proof.Proof.Value
public import proofs.«01_k».proof.Proof.ProjectValue
public import proofs.«01_k».proof.Proof.RouteValue
public import proofs.«01_k».proof.Proof.ModulateValue
public import proofs.«01_k».proof.Proof.FinishValue
public import proofs.«01_k».proof.Proof.DenseValue
public import proofs.«01_k».proof.Proof.Gen.Project
public import proofs.«01_k».proof.Proof.Gen.Project.Frame
public import proofs.«01_k».proof.Proof.Gen.Project.Value
public import proofs.«01_k».proof.Proof.Gen.ProjectIdeal
public import proofs.«01_k».proof.Proof.Gen.ProjectIdeal.Frame
public import proofs.«01_k».proof.Proof.Gen.ProjectIdeal.Value
public import proofs.«01_k».proof.Proof.Gen.ProjectReferenceIdeal
public import proofs.«01_k».proof.Proof.Gen.ProjectReferenceIdeal.Run
public import proofs.«01_k».proof.Proof.Gen.ProjectReferenceIdeal.Read
public import proofs.«01_k».proof.Proof.Gen.Close
public import proofs.«01_k».proof.Proof.Gen.Close.Frame
public import proofs.«01_k».proof.Proof.Gen.Route
public import proofs.«01_k».proof.Proof.Gen.Route.Frame
public import proofs.«01_k».proof.Proof.Gen.RouteIdeal
public import proofs.«01_k».proof.Proof.Gen.RouteIdeal.Frame
public import proofs.«01_k».proof.Proof.Gen.RouteIdeal.Value
public import proofs.«01_k».proof.Proof.Gen.RouteReferenceIdeal
public import proofs.«01_k».proof.Proof.Gen.RouteReferenceIdeal.Run
public import proofs.«01_k».proof.Proof.Gen.RouteReferenceIdeal.Read
public import proofs.«01_k».proof.Proof.Gen.Modulate
public import proofs.«01_k».proof.Proof.Gen.Modulate.Frame
public import proofs.«01_k».proof.Proof.Gen.ModulateIdeal
public import proofs.«01_k».proof.Proof.Gen.ModulateIdeal.Frame
public import proofs.«01_k».proof.Proof.Gen.ModulateIdeal.Value
public import proofs.«01_k».proof.Proof.Gen.ModulateReferenceIdeal
public import proofs.«01_k».proof.Proof.Gen.ModulateReferenceIdeal.Run
public import proofs.«01_k».proof.Proof.Gen.ModulateReferenceIdeal.Read
public import proofs.«01_k».proof.Proof.Gen.Finish
public import proofs.«01_k».proof.Proof.Gen.Finish.Frame
public import proofs.«01_k».proof.Proof.Gen.FinishIdeal
public import proofs.«01_k».proof.Proof.Gen.FinishIdeal.Frame
public import proofs.«01_k».proof.Proof.Gen.FinishIdeal.Value
public import proofs.«01_k».proof.Proof.Gen.FinishReferenceIdeal
public import proofs.«01_k».proof.Proof.Gen.FinishReferenceIdeal.Run
public import proofs.«01_k».proof.Proof.Gen.FinishReferenceIdeal.Read
public import proofs.«01_k».proof.Proof.Gen.Dense
public import proofs.«01_k».proof.Proof.Gen.Dense.Frame
public import proofs.«01_k».proof.Proof.Gen.DenseIdeal
public import proofs.«01_k».proof.Proof.Gen.DenseIdeal.Frame
public import proofs.«01_k».proof.Proof.Gen.DenseIdeal.Value
public import proofs.«01_k».proof.Proof.Gen.DenseReferenceIdeal
public import proofs.«01_k».proof.Proof.Gen.DenseReferenceIdeal.Run
public import proofs.«01_k».proof.Proof.Gen.DenseReferenceIdeal.Read

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Project.Gen.facts, Cert.ProjectIdeal.Gen.facts, Cert.ProjectReferenceIdeal.Gen.facts, Cert.Close.Gen.facts,
  Cert.Route.Gen.facts, Cert.RouteIdeal.Gen.facts, Cert.RouteReferenceIdeal.Gen.facts,
  Cert.Modulate.Gen.facts, Cert.ModulateIdeal.Gen.facts, Cert.ModulateReferenceIdeal.Gen.facts,
  Cert.Finish.Gen.facts, Cert.FinishIdeal.Gen.facts, Cert.FinishReferenceIdeal.Gen.facts,
  Cert.Dense.Gen.facts, Cert.DenseIdeal.Gen.facts, Cert.DenseReferenceIdeal.Gen.facts, Cert.Pre_in_range.Gen.facts,
  frame_kernel, frame_kernelIdeal, frame_referenceIdeal, frame_referenceIdeal_in_range,
  frame_project, frame_projectIdeal, frame_projectReferenceIdeal, frame_close,
  frame_route, frame_routeIdeal, frame_routeReferenceIdeal,
  frame_modulate, frame_modulateIdeal, frame_modulateReferenceIdeal,
  frame_finish, frame_finishIdeal, frame_finishReferenceIdeal,
  frame_dense, frame_denseIdeal, frame_denseReferenceIdeal,
  trivial, algebraic, trivial, algebraic_project, preserves_route, algebraic_route, trivial, algebraic_modulate,
  trivial, algebraic_finish, trivial, algebraic_dense⟩

end Cert.Proof

end
